-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_scores [hPre_finite_scores : Cert.Pre_finite_scores.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_scores.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_scores [hPre_finite_scores : Cert.Pre_finite_scores.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_scores.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite_scores [hKernel19Ideal : Cert.Kernel19Ideal.Facts] [hPre_finite_scores : Cert.Pre_finite_scores.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_scores m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite_scores [hReference19Ideal : Cert.Reference19Ideal.Facts] [hPre_finite_scores : Cert.Pre_finite_scores.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_scores m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  IdealRules.named_const.Statement Cert.Kernel19Ideal.κ "mask" .f32 0xF149F2CA#32 ⊥

def algebraic_Kernel19Ideal_Reference19Ideal_pre_finite_scores [hKernel19Ideal : Cert.Kernel19Ideal.Facts] [hReference19Ideal : Cert.Reference19Ideal.Facts] [hPre_finite_scores : Cert.Pre_finite_scores.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_scores m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v43) = v0 c
          ∧ r.2.mem ((c.tc : Thread Cert.Reference19Ideal.nD Cert.Reference19Ideal.τ).loc Cert.Reference19Ideal.main_v42) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v11) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_v28) = v1 c
          ∧ r.2.mem ((c.tc : Thread Cert.Reference25Ideal.nD Cert.Reference25Ideal.τ).loc Cert.Reference25Ideal.main_v9) = v2 c
          ∧ r.2.mem ((c.tc : Thread Cert.Reference25Ideal.nD Cert.Reference25Ideal.τ).loc Cert.Reference25Ideal.main_v15) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v9) = v2 c
          ∧ r.2.mem ((c.tc : Thread Cert.Reference26Ideal.nD Cert.Reference26Ideal.τ).loc Cert.Reference26Ideal.main_v15) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_scores (hKernel19Ideal := hKernel19Ideal) (hPre_finite_scores := hPre_finite_scores)
    ∧ quiescent_Reference19Ideal (hReference19Ideal := hReference19Ideal)
    ∧ quiescent_Reference19Ideal_pre_finite_scores (hReference19Ideal := hReference19Ideal) (hPre_finite_scores := hPre_finite_scores)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_scores (hKernel19Ideal := hKernel19Ideal) (hReference19Ideal := hReference19Ideal) (hPre_finite_scores := hPre_finite_scores)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S16x4096x256 : Shape := ⟨3, ![16, 4096, 256]⟩
abbrev S16x4096x128 : Shape := ⟨3, ![16, 4096, 128]⟩
abbrev S4096x2048 : Shape := ⟨2, ![4096, 2048]⟩
abbrev S_ : Shape := ⟨0, ![]⟩

class Facts : Prop where
  bitsLt_bf16_f32 : FTy.bits .bf16 < FTy.bits .f32
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x4096x128 : S_.BroadcastsInDim S16x4096x128 (![] : Fin 0 → Fin S16x4096x128.rank)
  reducesTo_S16x4096x128_S_d0_1_2 : S16x4096x128.ReducesTo [0, 1, 2] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S16x4096x256 .bf16) (main_arg1 : FVec F S16x4096x256 .bf16) (main_arg2 : FVec F S16x4096x128 .bf16) (main_arg3 : FVec F S4096x2048 .bf16) : IVec S_ 1 :=
  let main_v0 : FVec F S16x4096x256 .f32 := (extf .f32 · bitsLt_bf16_f32) main_arg0
  let main_v1 : FVec F S16x4096x256 .f32 := Host.absf main_v0
  let main_cst : FVec F S_ .f32 := constant S_ .f32 0x7F800000#32
  let main_v2 : FVec F S16x4096x256 .f32 := broadcastInDim S16x4096x256 ![] bcast_S_S16x4096x256 main_cst
  let main_v3 : IVec S16x4096x256 1 := cmpf .olt main_v1 main_v2
  let main_c : IVec S_ 1 := constantI S_ 1 1#1
  let main_v4 : IVec S_ 1 := (fun x v => Host.reduce IntOp.andi x v reducesTo_S16x4096x256_S_d0_1_2 h_S_) main_v3 main_c
  let main_v5 : FVec F S16x4096x256 .f32 := (extf .f32 · bitsLt_bf16_f32) main_arg1
  let main_v6 : FVec F S16x4096x256 .f32 := Host.absf main_v5
  let main_cst_0 : FVec F S_ .f32 := constant S_ .f32 0x7F800000#32
  let main_v7 : FVec F S16x4096x256 .f32 := broadcastInDim S16x4096x256 ![] bcast_S_S16x4096x256 main_cst_0
  let main_v8 : IVec S16x4096x256 1 := cmpf .olt main_v6 main_v7
  let main_c_1 : IVec S_ 1 := constantI S_ 1 1#1
  let main_v9 : IVec S_ 1 := (fun x v => Host.reduce IntOp.andi x v reducesTo_S16x4096x256_S_d0_1_2 h_S_) main_v8 main_c_1
  let main_v10 : IVec S_ 1 := andi main_v4 main_v9
  let main_v11 : FVec F S16x4096x128 .f32 := (extf .f32 · bitsLt_bf16_f32) main_arg2
  let main_v12 : FVec F S16x4096x128 .f32 := Host.absf main_v11
  let main_cst_2 : FVec F S_ .f32 := constant S_ .f32 0x7F800000#32
  let main_v13 : FVec F S16x4096x128 .f32 := broadcastInDim S16x4096x128 ![] bcast_S_S16x4096x128 main_cst_2
  let main_v14 : IVec S16x4096x128 1 := cmpf .olt main_v12 main_v13
  let main_c_3 : IVec S_ 1 := constantI S_ 1 1#1
  let main_v15 : IVec S_ 1 := (fun x v => Host.reduce IntOp.andi x v reducesTo_S16x4096x128_S_d0_1_2 h_S_) main_v14 main_c_3
  let main_v16 : IVec S_ 1 := andi main_v10 main_v15
  let main_v17 : FVec F S4096x2048 .f32 := (extf .f32 · bitsLt_bf16_f32) main_arg3
  fn_part1 (F := F) main_v16 main_v17
-- ==== Pre_finite_scores.lean ====
abbrev S16x4096x256 : Shape := ⟨3, ![16, 4096, 256]⟩
abbrev S16x4096x128 : Shape := ⟨3, ![16, 4096, 128]⟩
abbrev S_ : Shape := ⟨0, ![]⟩

class Facts : Prop where
  bitsLt_bf16_f32 : FTy.bits .bf16 < FTy.bits .f32
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel

variable [Facts]

def fn {F : FTy → Type} [FloatOps F] (main_arg0 : FVec F S16x4096x256 .bf16) (main_arg1 : FVec F S16x4096x256 .bf16) (main_arg2 : FVec F S16x4096x128 .bf16) : IVec S_ 1 :=
  let main_v0 : FVec F S16x4096x256 .f32 := (extf .f32 · bitsLt_bf16_f32) main_arg0
  let main_v1 : FVec F S16x4096x256 .f32 := Host.absf main_v0
  let main_cst : FVec F S_ .f32 := constant S_ .f32 0x7F800000#32
  let main_v2 : FVec F S16x4096x256 .f32 := broadcastInDim S16x4096x256 ![] bcast_S_S16x4096x256 main_cst
  let main_v3 : IVec S16x4096x256 1 := cmpf .olt main_v1 main_v2
  let main_c : IVec S_ 1 := constantI S_ 1 1#1
  let main_v4 : IVec S_ 1 := (fun x v => Host.reduce IntOp.andi x v reducesTo_S16x4096x256_S_d0_1_2 h_S_) main_v3 main_c
  let main_v5 : FVec F S16x4096x256 .f32 := (extf .f32 · bitsLt_bf16_f32) main_arg1
  let main_v6 : FVec F S16x4096x256 .f32 := Host.absf main_v5
  let main_cst_0 : FVec F S_ .f32 := constant S_ .f32 0x7F800000#32
  let main_v7 : FVec F S16x4096x256 .f32 := broadcastInDim S16x4096x256 ![] bcast_S_S16x4096x256 main_cst_0
  let main_v8 : IVec S16x4096x256 1 := cmpf .olt main_v6 main_v7
  let main_c_1 : IVec S_ 1 := constantI S_ 1 1#1
  let main_v9 : IVec S_ 1 := (fun x v => Host.reduce IntOp.andi x v reducesTo_S16x4096x256_S_d0_1_2 h_S_) main_v8 main_c_1
  let main_v10 : IVec S_ 1 := andi main_v4 main_v9
  main_v10
-- ==== Kernel.lean ====
abbrev S16x4096x256 : Shape := ⟨3, ![16, 4096, 256]⟩
abbrev S16x4096x128 : Shape := ⟨3, ![16, 4096, 128]⟩
abbrev S4096x2048 : Shape := ⟨2, ![4096, 2048]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S4096x16x128 : Shape := ⟨3, ![4096, 16, 128]⟩
abbrev S2x1024x256 : Shape := ⟨3, ![2, 1024, 256]⟩
abbrev S2x1024x128 : Shape := ⟨3, ![2, 1024, 128]⟩
abbrev S1024x256 : Shape := ⟨2, ![1024, 256]⟩
abbrev S2x4096x256 : Shape := ⟨3, ![2, 4096, 256]⟩
abbrev S1024x128 : Shape := ⟨2, ![1024, 128]⟩
abbrev S1024 : Shape := ⟨1, ![1024]⟩
abbrev S1024x1 : Shape := ⟨2, ![1024, 1]⟩
abbrev S1x1024x256 : Shape := ⟨3, ![1, 1024, 256]⟩
abbrev S1024x1024 : Shape := ⟨2, ![1024, 1024]⟩
abbrev S1x1024x1 : Shape := ⟨3, ![1, 1024, 1]⟩
abbrev S1x1024x128 : Shape := ⟨3, ![1, 1024, 128]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S1x768x256 : Shape := ⟨3, ![1, 768, 256]⟩
abbrev S768x256 : Shape := ⟨2, ![768, 256]⟩
abbrev S1x768x1 : Shape := ⟨3, ![1, 768, 1]⟩
abbrev S768x1 : Shape := ⟨2, ![768, 1]⟩
abbrev S768x128 : Shape := ⟨2, ![768, 128]⟩
abbrev S1x512x256 : Shape := ⟨3, ![1, 512, 256]⟩
abbrev S512x256 : Shape := ⟨2, ![512, 256]⟩
abbrev S1x512x1 : Shape := ⟨3, ![1, 512, 1]⟩
abbrev S512x1 : Shape := ⟨2, ![512, 1]⟩
abbrev S512x128 : Shape := ⟨2, ![512, 128]⟩
abbrev S1x256x1 : Shape := ⟨3, ![1, 256, 1]⟩
abbrev S256x1 : Shape := ⟨2, ![256, 1]⟩

abbrev nBuf : Space → Nat
  | .hbm => 64
  | .vmem => 21
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S4096x2048, .bf16⟩
  | .hbm, ⟨4, _⟩ => ⟨S16x4096x256, .f32⟩
  | .hbm, ⟨5, _⟩ => ⟨S16x4096x256, .f32⟩
  | .hbm, ⟨6, _⟩ => ⟨S16x4096x128, .f32⟩
  | .hbm, ⟨7, _⟩ => ⟨S16x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S16x4096x4096, .i1⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096, .f32⟩
  | .hbm, ⟨21, _⟩ => ⟨S16x4096x1, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S_, .f32⟩
  | .hbm, ⟨26, _⟩ => ⟨S16x4096, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x4096, .f32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x128x4096, .f32⟩
  | .hbm, ⟨57, _⟩ => ⟨S4096x16x128, .f32⟩
  | .hbm, ⟨58, _⟩ => ⟨S4096x2048, .f32⟩
  | .hbm, ⟨59, _⟩ => ⟨S16x4096x128, .f32⟩
  | .hbm, ⟨60, _⟩ => ⟨S4096x2048, .bf16⟩
  | .hbm, ⟨61, _⟩ => ⟨S16x4096x256, .bf16⟩
  | .hbm, ⟨62, _⟩ => ⟨S16x4096x256, .bf16⟩
  | .hbm, ⟨63, _⟩ => ⟨S16x4096x128, .bf16⟩
  | .local _ .vmem, ⟨0, _⟩ => ⟨S2x1024x256, .bf16⟩
  | .local _ .vmem, ⟨1, _⟩ => ⟨S2x1024x256, .bf16⟩
  | .local _ .vmem, ⟨2, _⟩ => ⟨S2x1024x256, .bf16⟩
  | .local _ .vmem, ⟨3, _⟩ => ⟨S2x1024x256, .bf16⟩
  | .local _ .vmem, ⟨4, _⟩ => ⟨S2x1024x128, .bf16⟩
  | .local _ .vmem, ⟨5, _⟩ => ⟨S2x1024x128, .bf16⟩
  | .local _ .vmem, ⟨6, _⟩ => ⟨S1024x256, .bf16⟩
  | .local _ .vmem, ⟨7, _⟩ => ⟨S1024x256, .bf16⟩
  | .local _ .vmem, ⟨8, _⟩ => ⟨S2x1024x128, .f32⟩
  | .local _ .vmem, ⟨9, _⟩ => ⟨S2x1024x128, .f32⟩
  | .local _ .vmem, ⟨10, _⟩ => ⟨S1024x256, .bf16⟩
  | .local _ .vmem, ⟨11, _⟩ => ⟨S1024x256, .bf16⟩
  | .local _ .vmem, ⟨12, _⟩ => ⟨S2x4096x256, .bf16⟩
  | .local _ .vmem, ⟨13, _⟩ => ⟨S2x4096x256, .bf16⟩
  | .local _ .vmem, ⟨14, _⟩ => ⟨S2x1024x256, .bf16⟩
  | .local _ .vmem, ⟨15, _⟩ => ⟨S2x1024x256, .bf16⟩
  | .local _ .vmem, ⟨16, _⟩ => ⟨S2x1024x128, .bf16⟩
  | .local _ .vmem, ⟨17, _⟩ => ⟨S2x1024x128, .bf16⟩
  | .local _ .vmem, ⟨18, _⟩ => ⟨S2x4096x256, .f32⟩
  | .local _ .vmem, ⟨19, _⟩ => ⟨S2x1024x256, .f32⟩
  | .local _ .vmem, ⟨20, _⟩ => ⟨S2x1024x128, .f32⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_v44_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c1024_i32 : BitVec 32 := 1024#32
  let v72 : BitVec 32 := Scalar.muli arg2 c1024_i32
  v72
def k0_off1 (i : grid0.Coords) : Fin 3 → Nat :=
  let c0_62 : Index := 0#32
  let arg2 : BitVec 32 := BitVec.ofNat 32 (i 2).val
  let c1024_i32 : BitVec 32 := 1024#32
  let v72 : BitVec 32 := Scalar.muli arg2 c1024_i32
  let v73 : BitVec 32 := v72
  let c0_i32_44 : BitVec 32 := 0#32
  let v74 : BitVec 32 := Scalar.addi v73 c0_i32_44
  let v92 : Index := Scalar.indexCast v74
  let c0_63 : Index := 0#32
  ![0, v92.toNat, 0]
def k0_off2 (i : grid0.Coords) : Fin 3 → Nat :=
  let c1_87 : Index := 1#32
  let arg2 : BitVec 32 := BitVec.ofNat 32 (i 2).val
  let c1024_i32 : BitVec 32 := 1024#32
  let v72 : BitVec 32 := Scalar.muli arg2 c1024_i32
  let v73 : BitVec 32 := v72
  let c0_i32_44 : BitVec 32 := 0#32
  let v74 : BitVec 32 := Scalar.addi v73 c0_i32_44
  let v120 : Index := Scalar.indexCast v74
  let c0_88 : Index := 0#32
  ![1, v120.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c1024_i32 : BitVec 32 := 1024#32
  let v82 : BitVec 32 := Scalar.muli arg2 c1024_i32
  v82
def k0_off3 (i : grid0.Coords) : Fin 3 → Nat :=
  let c0_64 : Index := 0#32
  let arg2 : BitVec 32 := BitVec.ofNat 32 (i 2).val
  let c1024_i32 : BitVec 32 := 1024#32
  let v82 : BitVec 32 := Scalar.muli arg2 c1024_i32
  let v83 : BitVec 32 := v82
  let c0_i32_46 : BitVec 32 := 0#32
  let v84 : BitVec 32 := Scalar.addi v83 c0_i32_46
  let v102 : Index := Scalar.indexCast v84
  let c0_65 : Index := 0#32
  ![0, v102.toNat, 0]
def k0_off4 (i : grid0.Coords) : Fin 3 → Nat :=
  let c1_89 : Index := 1#32
  let arg2 : BitVec 32 := BitVec.ofNat 32 (i 2).val
  let c1024_i32 : BitVec 32 := 1024#32
  let v82 : BitVec 32 := Scalar.muli arg2 c1024_i32
  let v83 : BitVec 32 := v82
  let c0_i32_46 : BitVec 32 := 0#32
  let v84 : BitVec 32 := Scalar.addi v83 c0_i32_46
  let v130 : Index := Scalar.indexCast v84
  let c0_90 : Index := 0#32
  ![1, v130.toNat, 0]
def k0_mult3 (i : grid0.Coords) : BitVec 32 :=
  let arg2 : BitVec 32 := BitVec.ofNat 32 (i 2).val
  let c1024_i32_126 : BitVec 32 := 1024#32
  let v189 : BitVec 32 := Scalar.muli arg2 c1024_i32_126
  v189
def k0_off5 (i : grid0.Coords) : Fin 3 → Nat :=
  let c0_144 : Index := 0#32
  let arg2 : BitVec 32 := BitVec.ofNat 32 (i 2).val
  let c1024_i32_126 : BitVec 32 := 1024#32
  let v189 : BitVec 32 := Scalar.muli arg2 c1024_i32_126
  let v190 : BitVec 32 := v189
  let c256_i32 : BitVec 32 := 256#32
  let v191 : BitVec 32 := Scalar.addi v190 c256_i32
  let v210 : Index := Scalar.indexCast v191
  let c0_145 : Index := 0#32
  ![0, v210.toNat, 0]
def k0_off6 (i : grid0.Coords) : Fin 3 → Nat :=
  let c1_169 : Index := 1#32
  let arg2 : BitVec 32 := BitVec.ofNat 32 (i 2).val
  let c1024_i32_126 : BitVec 32 := 1024#32
  let v189 : BitVec 32 := Scalar.muli arg2 c1024_i32_126
  let v190 : BitVec 32 := v189
  let c256_i32 : BitVec 32 := 256#32
  let v191 : BitVec 32 := Scalar.addi v190 c256_i32
  let v239 : Index := Scalar.indexCast v191
  let c0_170 : Index := 0#32
  ![1, v239.toNat, 0]
def k0_mult4 (i : grid0.Coords) : BitVec 32 :=
  let arg2 : BitVec 32 := BitVec.ofNat 32 (i 2).val
  let c1024_i32_206 : BitVec 32 := 1024#32
  let v298 : BitVec 32 := Scalar.muli arg2 c1024_i32_206
  v298
def k0_off7 (i : grid0.Coords) : Fin 3 → Nat :=
  let c0_224 : Index := 0#32
  let arg2 : BitVec 32 := BitVec.ofNat 32 (i 2).val
  let c1024_i32_206 : BitVec 32 := 1024#32
  let v298 : BitVec 32 := Scalar.muli arg2 c1024_i32_206
  let v299 : BitVec 32 := v298
  let c512_i32 : BitVec 32 := 512#32
  let v300 : BitVec 32 := Scalar.addi v299 c512_i32
  let v319 : Index := Scalar.indexCast v300
  let c0_225 : Index := 0#32
  ![0, v319.toNat, 0]
def k0_off8 (i : grid0.Coords) : Fin 3 → Nat :=
  let c1_249 : Index := 1#32
  let arg2 : BitVec 32 := BitVec.ofNat 32 (i 2).val
  let c1024_i32_206 : BitVec 32 := 1024#32
  let v298 : BitVec 32 := Scalar.muli arg2 c1024_i32_206
  let v299 : BitVec 32 := v298
  let c512_i32 : BitVec 32 := 512#32
  let v300 : BitVec 32 := Scalar.addi v299 c512_i32
  let v348 : Index := Scalar.indexCast v300
  let c0_250 : Index := 0#32
  ![1, v348.toNat, 0]
def k0_mult5 (i : grid0.Coords) : BitVec 32 :=
  let arg2 : BitVec 32 := BitVec.ofNat 32 (i 2).val
  let c1024_i32_286 : BitVec 32 := 1024#32
  let v407 : BitVec 32 := Scalar.muli arg2 c1024_i32_286
  v407
def k0_off9 (i : grid0.Coords) : Fin 3 → Nat :=
  let c0_304 : Index := 0#32
  let arg2 : BitVec 32 := BitVec.ofNat 32 (i 2).val
  let c1024_i32_286 : BitVec 32 := 1024#32
  let v407 : BitVec 32 := Scalar.muli arg2 c1024_i32_286
  let v408 : BitVec 32 := v407
  let c768_i32 : BitVec 32 := 768#32
  let v409 : BitVec 32 := Scalar.addi v408 c768_i32
  let v428 : Index := Scalar.indexCast v409
  let c0_305 : Index := 0#32
  ![0, v428.toNat, 0]
def k0_off10 (i : grid0.Coords) : Fin 3 → Nat :=
  let c1_329 : Index := 1#32
  let arg2 : BitVec 32 := BitVec.ofNat 32 (i 2).val
  let c1024_i32_286 : BitVec 32 := 1024#32
  let v407 : BitVec 32 := Scalar.muli arg2 c1024_i32_286
  let v408 : BitVec 32 := v407
  let c768_i32 : BitVec 32 := 768#32
  let v409 : BitVec 32 := Scalar.addi v408 c768_i32
  let v457 : Index := Scalar.indexCast v409
  let c0_330 : Index := 0#32
  ![1, v457.toNat, 0]
def k0_cond6 (i : grid0.Coords) : BitVec 1 :=
  let arg1 : BitVec 32 := BitVec.ofNat 32 (i 1).val
  let c3_i32_7 : BitVec 32 := 3#32
  let v17 : BitVec 1 := Scalar.cmpi .eq arg1 c3_i32_7
  let arg2 : BitVec 32 := BitVec.ofNat 32 (i 2).val
  let c3_i32_8 : BitVec 32 := 3#32
  let v18 : BitVec 1 := Scalar.cmpi .eq arg2 c3_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S16x4096x256 : Shape := ⟨3, ![16, 4096, 256]⟩
abbrev S16x4096x128 : Shape := ⟨3, ![16, 4096, 128]⟩
abbrev S4096x2048 : Shape := ⟨2, ![4096, 2048]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S4096x16x128 : Shape := ⟨3, ![4096, 16, 128]⟩

abbrev nBuf : Space → Nat
  | .hbm => 90
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S4096x2048, .bf16⟩
  | .hbm, ⟨4, _⟩ => ⟨S16x4096x256, .f32⟩
  | .hbm, ⟨5, _⟩ => ⟨S16x4096x256, .f32⟩
  | .hbm, ⟨6, _⟩ => ⟨S16x4096x128, .f32⟩
  | .hbm, ⟨7, _⟩ => ⟨S16x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S16x4096x4096, .i1⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S16x4096x4096, .f32⟩
  | .hbm, ⟨25, _⟩ => ⟨S16x4096x4096, .i1⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S_, .f32⟩
  | .hbm, ⟨30, _⟩ => ⟨S16x4096, .f32⟩
  | .hbm, ⟨31, _⟩ => ⟨S16x4096, .f32⟩
  | .hbm, ⟨32, _⟩ => ⟨S_, .f32⟩
  | .hbm, ⟨33, _⟩ => ⟨S16x4096, .f32⟩
  | .hbm, ⟨34, _⟩ => ⟨S16x4096, .i1⟩
  | .hbm, ⟨35, _⟩ => ⟨S_, .f32⟩
  | .hbm, ⟨36, _⟩ => ⟨S16x4096, .f32⟩
  | .hbm, ⟨37, _⟩ => ⟨S16x4096, .i1⟩
  | .hbm, ⟨38, _⟩ => ⟨S_, .f32⟩
  | .hbm, ⟨39, _⟩ => ⟨S16x4096, .f32⟩
  | .hbm, ⟨40, _⟩ => ⟨S_, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S16x4096, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S_, .f32⟩
  | .hbm, ⟨51, _⟩ => ⟨S16x4096, .f32⟩
  | .hbm, ⟨52, _⟩ => ⟨S16x4096x1, .f32⟩
  | .hbm, ⟨53, _⟩ => ⟨S16x4096x4096, .f32⟩
  | .hbm, ⟨54, _⟩ => ⟨S16x4096x4096, .f32⟩
  | .hbm, ⟨55, _⟩ => ⟨S16x4096x1, .f32⟩
  | .hbm, ⟨56, _⟩ => ⟨S_, .f32⟩
  | .hbm, ⟨57, _⟩ => ⟨S16x4096x1, .f32⟩
  | .hbm, ⟨58, _⟩ => ⟨S16x4096x1, .f32⟩
  | .hbm, ⟨59, _⟩ => ⟨S16x128x4096, .f32⟩
  | .hbm, ⟨60, _⟩ => ⟨S4096x16x128, .f32⟩
  | .hbm, ⟨61, _⟩ => ⟨S4096x2048, .f32⟩
  | .hbm, ⟨62, _⟩ => ⟨S4096x2048, .f32⟩
  | .hbm, ⟨63, _⟩ => ⟨S4096x16x128, .f32⟩
  | .hbm, ⟨64, _⟩ => ⟨S16x128x4096, .f32⟩
  | .hbm, ⟨65, _⟩ => ⟨S16x4096x4096, .f32⟩
  | .hbm, ⟨66, _⟩ => ⟨S16x128x4096, .f32⟩
  | .hbm, ⟨67, _⟩ => ⟨S16x4096x128, .f32⟩
  | .hbm, ⟨68, _⟩ => ⟨S16x4096x4096, .f32⟩
  | .hbm, ⟨69, _⟩ => ⟨S16x4096x4096, .f32⟩
  | .hbm, ⟨70, _⟩ => ⟨S16x4096x4096, .f32⟩
  | .hbm, ⟨71, _⟩ => ⟨S_, .f32⟩
  | .hbm, ⟨72, _⟩ => ⟨S16x4096, .f32⟩
  | .hbm, ⟨73, _⟩ => ⟨S16x4096x1, .f32⟩
  | .hbm, ⟨74, _⟩ => ⟨S16x4096x1, .f32⟩
  | .hbm, ⟨75, _⟩ => ⟨S16x4096x4096, .f32⟩
  | .hbm, ⟨76, _⟩ => ⟨S16x4096x4096, .f32⟩
  | .hbm, ⟨77, _⟩ => ⟨S_, .f32⟩
  | .hbm, ⟨78, _⟩ => ⟨S16x4096, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096x4096, .f32⟩
  | .hbm, ⟨84, _⟩ => ⟨S16x4096x4096, .f32⟩
  | .hbm, ⟨85, _⟩ => ⟨S16x4096x256, .f32⟩
  | .hbm, ⟨86, _⟩ => ⟨S16x4096x256, .f32⟩
  | .hbm, ⟨87, _⟩ => ⟨S16x4096x128, .bf16⟩
  | .hbm, ⟨88, _⟩ => ⟨S16x4096x256, .bf16⟩
  | .hbm, ⟨89, _⟩ => ⟨S16x4096x256, .bf16⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_v10_1 : Ref sig .tc := ⟨.hbm, 16, rfl⟩
abbrev main_call0_v2 : Ref sig .tc := ⟨.hbm, 17, rfl⟩
abbrev main_v10_0 : Ref sig .tc := ⟨.hbm, 18, rfl⟩
abbrev main_call0_cst : Ref sig .tc := ⟨.hbm, 19, rfl⟩
abbrev main_v10_2 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_cst : Ref sig .tc := ⟨.hbm, 82, rfl⟩
abbrev main_call1_v0 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x6272 : Shape := ⟨2, ![4096, 6272]⟩
abbrev S1024x6272 : Shape := ⟨2, ![1024, 6272]⟩
abbrev S4096x1024 : Shape := ⟨2, ![4096, 1024]⟩
abbrev S1024x896 : Shape := ⟨2, ![1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6272, .bf16⟩
  | .hbm, ⟨1, _⟩ => ⟨S1024x6272, .bf16⟩
  | .hbm, ⟨2, _⟩ => ⟨S4096x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x6272 : Shape := ⟨2, ![4096, 6272]⟩
abbrev S1024x6272 : Shape := ⟨2, ![1024, 6272]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x6272, .bf16⟩
  | .hbm, ⟨1, _⟩ => ⟨S1024x6272, .bf16⟩
  | .hbm, ⟨2, _⟩ => ⟨S_, .f32⟩
  | .hbm, ⟨3, _⟩ => ⟨S4096x1024, .f32⟩
  | .hbm, ⟨4, _⟩ => ⟨S1024x6272, .f32⟩
  | .hbm, ⟨5, _⟩ => ⟨S4096x6272, .f32⟩
  | .hbm, ⟨6, _⟩ => ⟨S4096x6272, .f32⟩
  | .hbm, ⟨7, _⟩ => ⟨S4096x1024, .f32⟩
  | _, _ => ⟨S4096x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .f32⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S4096x6272 : Shape := ⟨2, ![4096, 6272]⟩
abbrev S1024x6272 : Shape := ⟨2, ![1024, 6272]⟩
abbrev S4096x896 : Shape := ⟨2, ![4096, 896]⟩
abbrev S1024x896 : Shape := ⟨2, ![1024, 896]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S1024x6272, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1024x896, .bf16⟩
  | .local _ .vmem, ⟨4, _⟩ => ⟨S1024x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x6272 : Shape := ⟨2, ![4096, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S_, .f32⟩
  | .hbm, ⟨3, _⟩ => ⟨S1024x6272, .f32⟩
  | .hbm, ⟨4, _⟩ => ⟨S4096x1024, .f32⟩
  | .hbm, ⟨5, _⟩ => ⟨S4096x6272, .f32⟩
  | .hbm, ⟨6, _⟩ => ⟨S4096x6272, .f32⟩
  | .hbm, ⟨7, _⟩ => ⟨S6272x1024, .f32⟩
  | .hbm, ⟨8, _⟩ => ⟨S1024x6272, .f32⟩
  | .hbm, ⟨9, _⟩ => ⟨S1024x6272, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x6272 : Shape := ⟨2, ![1024, 6272]⟩
abbrev S4096x6272 : Shape := ⟨2, ![4096, 6272]⟩
abbrev S1024x1024 : Shape := ⟨2, ![1024, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6272, .bf16⟩
  | .hbm, ⟨2, _⟩ => ⟨S4096x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x6272 : Shape := ⟨2, ![1024, 6272]⟩
abbrev S4096x6272 : Shape := ⟨2, ![4096, 6272]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6272, .bf16⟩
  | .hbm, ⟨2, _⟩ => ⟨S4096x1024, .f32⟩
  | .hbm, ⟨3, _⟩ => ⟨S1024x6272, .f32⟩
  | .hbm, ⟨4, _⟩ => ⟨S4096x6272, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x4096 : Shape := ⟨2, ![4096, 4096]⟩
abbrev S768x4096 : Shape := ⟨2, ![768, 4096]⟩
abbrev S4096x768 : Shape := ⟨2, ![4096, 768]⟩
abbrev S1024x4096 : Shape := ⟨2, ![1024, 4096]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S768x4096, .bf16⟩
  | .hbm, ⟨2, _⟩ => ⟨S4096x768, .f32⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S1024x768, .f32⟩
  | .local _ .vmem, ⟨4, _⟩ => ⟨S1024x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S768x4096 : Shape := ⟨2, ![768, 4096]⟩
abbrev S_ : Shape := ⟨0, ![]⟩
abbrev S4096x768 : Shape := ⟨2, ![4096, 768]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S768x4096, .bf16⟩
  | .hbm, ⟨2, _⟩ => ⟨S_, .f32⟩
  | .hbm, ⟨3, _⟩ => ⟨S4096x768, .f32⟩
  | .hbm, ⟨4, _⟩ => ⟨S768x4096, .f32⟩
  | .hbm, ⟨5, _⟩ => ⟨S4096x4096, .f32⟩
  | .hbm, ⟨6, _⟩ => ⟨S4096x4096, .f32⟩
  | .hbm, ⟨7, _⟩ => ⟨S4096x768, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x768 : Shape := ⟨2, ![4096, 768]⟩
abbrev S4096x4096 : Shape := ⟨2, ![4096, 4096]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x768, .bf16⟩
  | .hbm, ⟨1, _⟩ => ⟨S4096x4096, .bf16⟩
  | .hbm, ⟨2, _⟩ => ⟨S768x4096, .bf16⟩
  | .local _ .vmem, ⟨0, _⟩ => ⟨S4096x768, .bf16⟩
  | .local _ .vmem, ⟨1, _⟩ => ⟨S4096x1024, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x768 : Shape := ⟨2, ![4096, 768]⟩
abbrev S4096x4096 : Shape := ⟨2, ![4096, 4096]⟩
abbrev S_ : Shape := ⟨0, ![]⟩
abbrev S768x4096 : Shape := ⟨2, ![768, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x4096, .bf16⟩
  | .hbm, ⟨2, _⟩ => ⟨S_, .f32⟩
  | .hbm, ⟨3, _⟩ => ⟨S768x4096, .f32⟩
  | .hbm, ⟨4, _⟩ => ⟨S4096x768, .f32⟩
  | .hbm, ⟨5, _⟩ => ⟨S4096x4096, .f32⟩
  | .hbm, ⟨6, _⟩ => ⟨S4096x4096, .f32⟩
  | .hbm, ⟨7, _⟩ => ⟨S4096x768, .f32⟩
  | .hbm, ⟨8, _⟩ => ⟨S768x4096, .f32⟩
  | .hbm, ⟨9, _⟩ => ⟨S768x4096, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x4096 : Shape := ⟨2, ![4096, 4096]⟩
abbrev S512x4096 : Shape := ⟨2, ![512, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S_, .f32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x4096, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x768 : Shape := ⟨2, ![4096, 768]⟩
abbrev S768x4096 : Shape := ⟨2, ![768, 4096]⟩
abbrev S4096x4096 : Shape := ⟨2, ![4096, 4096]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S768x4096, .bf16⟩
  | .hbm, ⟨2, _⟩ => ⟨S4096x4096, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x768 : Shape := ⟨2, ![4096, 768]⟩
abbrev S768x4096 : Shape := ⟨2, ![768, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x4096, .bf16⟩
  | .hbm, ⟨2, _⟩ => ⟨S4096x768, .f32⟩
  | .hbm, ⟨3, _⟩ => ⟨S768x4096, .f32⟩
  | .hbm, ⟨4, _⟩ => ⟨S4096x4096, .f32⟩
  | .hbm, ⟨5, _⟩ => ⟨S4096x4096, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | .hbm, ⟨5, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S16x4096x256 : Shape := ⟨3, ![16, 4096, 256]⟩
abbrev S16x4096x128 : Shape := ⟨3, ![16, 4096, 128]⟩
abbrev S4096x2048 : Shape := ⟨2, ![4096, 2048]⟩
abbrev S2x1024x256 : Shape := ⟨3, ![2, 1024, 256]⟩
abbrev S2x1024x128 : Shape := ⟨3, ![2, 1024, 128]⟩
abbrev S1024x256 : Shape := ⟨2, ![1024, 256]⟩
abbrev S1x1024x256 : Shape := ⟨3, ![1, 1024, 256]⟩
abbrev S1024x1024 : Shape := ⟨2, ![1024, 1024]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 5
  | .vmem => 13
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S4096x2048, .bf16⟩
  | .hbm, ⟨4, _⟩ => ⟨S16x4096x128, .f32⟩
  | .local _ .vmem, ⟨0, _⟩ => ⟨S2x1024x256, .bf16⟩
  | .local _ .vmem, ⟨1, _⟩ => ⟨S2x1024x256, .bf16⟩
  | .local _ .vmem, ⟨2, _⟩ => ⟨S2x1024x256, .bf16⟩
  | .local _ .vmem, ⟨3, _⟩ => ⟨S2x1024x256, .bf16⟩
  | .local _ .vmem, ⟨4, _⟩ => ⟨S2x1024x128, .bf16⟩
  | .local _ .vmem, ⟨5, _⟩ => ⟨S2x1024x128, .bf16⟩
  | .local _ .vmem, ⟨6, _⟩ => ⟨S1024x256, .bf16⟩
  | .local _ .vmem, ⟨7, _⟩ => ⟨S1024x256, .bf16⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | .local _ .vmem, ⟨11, _⟩ => ⟨S2x1024x128, .f32⟩
  | .local _ .vmem, ⟨12, _⟩ => ⟨S2x1024x128, .f32⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel19Ideal.lean ====
variable {F : FTy → Type} [FloatOps F] [Named F]
def κ : String → Option EReal := fun
  | "mask" => some ⊥
  | _ => none
-- ==== Reference19Ideal.lean ====
abbrev S16x4096x256 : Shape := ⟨3, ![16, 4096, 256]⟩
abbrev S16x4096x128 : Shape := ⟨3, ![16, 4096, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S4096x16x128 : Shape := ⟨3, ![4096, 16, 128]⟩
abbrev S4096x2048 : Shape := ⟨2, ![4096, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x128, .bf16⟩
  | .hbm, ⟨3, _⟩ => ⟨S16x4096x256, .f32⟩
  | .hbm, ⟨4, _⟩ => ⟨S16x4096x256, .f32⟩
  | .hbm, ⟨5, _⟩ => ⟨S16x4096x128, .f32⟩
  | .hbm, ⟨6, _⟩ => ⟨S16x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S16x4096x4096, .i1⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x1, .f32⟩
  | .hbm, ⟨28, _⟩ => ⟨S16x4096x1, .f32⟩
  | .hbm, ⟨29, _⟩ => ⟨S16x4096x4096, .f32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S_, .f32⟩
  | .hbm, ⟨44, _⟩ => ⟨S16x4096, .f32⟩
  | .hbm, ⟨45, _⟩ => ⟨S16x4096, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S_, .f32⟩
  | .hbm, ⟨51, _⟩ => ⟨S16x4096, .f32⟩
  | .hbm, ⟨52, _⟩ => ⟨S16x4096x1, .f32⟩
  | .hbm, ⟨53, _⟩ => ⟨S16x4096x4096, .f32⟩
  | .hbm, ⟨54, _⟩ => ⟨S16x4096x4096, .f32⟩
  | .hbm, ⟨55, _⟩ => ⟨S16x128x4096, .f32⟩
  | .hbm, ⟨56, _⟩ => ⟨S4096x16x128, .f32⟩
  | .hbm, ⟨57, _⟩ => ⟨S4096x2048, .f32⟩
  | .hbm, ⟨58, _⟩ => ⟨S16x4096x128, .f32⟩
  | .hbm, ⟨59, _⟩ => ⟨S4096x2048, .bf16⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel20.lean ====
abbrev S4096x2048 : Shape := ⟨2, ![4096, 2048]⟩
abbrev S4x512x512 : Shape := ⟨3, ![4, 512, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4096x2048, .bf16⟩
  | .local _ .vmem, ⟨0, _⟩ => ⟨S4096x512, .bf16⟩
  | .local _ .vmem, ⟨1, _⟩ => ⟨S4096x512, .bf16⟩
  | .local _ .vmem, ⟨2, _⟩ => ⟨S1x512x512, .bf16⟩
  | .local _ .vmem, ⟨3, _⟩ => ⟨S1x512x512, .bf16⟩
  | .local _ .vmem, ⟨4, _⟩ => ⟨S4096x512, .bf16⟩
  | .local _ .vmem, ⟨5, _⟩ => ⟨S4096x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x2048 : Shape := ⟨2, ![4096, 2048]⟩
abbrev S4x512x512 : Shape := ⟨3, ![4, 512, 512]⟩
abbrev S4096x4x512 : Shape := ⟨3, ![4096, 4, 512]⟩
abbrev S4x512x4096 : Shape := ⟨3, ![4, 512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4096x2048, .f32⟩
  | .hbm, ⟨3, _⟩ => ⟨S4096x4x512, .f32⟩
  | .hbm, ⟨4, _⟩ => ⟨S4x512x512, .f32⟩
  | .hbm, ⟨5, _⟩ => ⟨S4x512x4096, .f32⟩
  | .hbm, ⟨6, _⟩ => ⟨S4096x4x512, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel21.lean ====
abbrev S4096x2048 : Shape := ⟨2, ![4096, 2048]⟩
abbrev S4x512x512 : Shape := ⟨3, ![4, 512, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S4096x2048, .bf16⟩
  | .local _ .vmem, ⟨0, _⟩ => ⟨S4096x512, .bf16⟩
  | .local _ .vmem, ⟨1, _⟩ => ⟨S4096x512, .bf16⟩
  | .local _ .vmem, ⟨2, _⟩ => ⟨S1x512x512, .bf16⟩
  | .local _ .vmem, ⟨3, _⟩ => ⟨S1x512x512, .bf16⟩
  | .local _ .vmem, ⟨4, _⟩ => ⟨S4096x512, .bf16⟩
  | .local _ .vmem, ⟨5, _⟩ => ⟨S4096x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x2048 : Shape := ⟨2, ![4096, 2048]⟩
abbrev S4x512x512 : Shape := ⟨3, ![4, 512, 512]⟩
abbrev S_ : Shape := ⟨0, ![]⟩
abbrev S4096x4x512 : Shape := ⟨3, ![4096, 4, 512]⟩
abbrev S4x512x4096 : Shape := ⟨3, ![4, 512, 4096]⟩
abbrev S4x4096x512 : Shape := ⟨3, ![4, 4096, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x512, .bf16⟩
  | .hbm, ⟨2, _⟩ => ⟨S_, .f32⟩
  | .hbm, ⟨3, _⟩ => ⟨S4096x2048, .f32⟩
  | .hbm, ⟨4, _⟩ => ⟨S4096x4x512, .f32⟩
  | .hbm, ⟨5, _⟩ => ⟨S4x512x512, .f32⟩
  | .hbm, ⟨6, _⟩ => ⟨S4x512x4096, .f32⟩
  | .hbm, ⟨7, _⟩ => ⟨S4096x4x512, .f32⟩
  | .hbm, ⟨8, _⟩ => ⟨S4096x2048, .f32⟩
  | .hbm, ⟨9, _⟩ => ⟨S4096x2048, .f32⟩
  | .hbm, ⟨10, _⟩ => ⟨S4096x4x512, .f32⟩
  | .hbm, ⟨11, _⟩ => ⟨S4x512x4096, .f32⟩
  | .hbm, ⟨12, _⟩ => ⟨S4x4096x512, .f32⟩
  | .hbm, ⟨13, _⟩ => ⟨S4096x4x512, .f32⟩
  | .hbm, ⟨14, _⟩ => ⟨S4096x2048, .f32⟩
  | .hbm, ⟨15, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel22.lean ====
abbrev S4096x2048 : Shape := ⟨2, ![4096, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference22Ideal.lean ====
abbrev S4096x2048 : Shape := ⟨2, ![4096, 2048]⟩
abbrev S_ : Shape := ⟨0, ![]⟩
abbrev S4x512x512 : Shape := ⟨3, ![4, 512, 512]⟩
abbrev S4096x4x512 : Shape := ⟨3, ![4096, 4, 512]⟩
abbrev S4x512x4096 : Shape := ⟨3, ![4, 512, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4x512x512, .f32⟩
  | .hbm, ⟨4, _⟩ => ⟨S4096x2048, .f32⟩
  | .hbm, ⟨5, _⟩ => ⟨S4096x4x512, .f32⟩
  | .hbm, ⟨6, _⟩ => ⟨S4x512x4096, .f32⟩
  | .hbm, ⟨7, _⟩ => ⟨S4096x4x512, .f32⟩
  | .hbm, ⟨8, _⟩ => ⟨S4096x2048, .f32⟩
  | .hbm, ⟨9, _⟩ => ⟨S4096x2048, .f32⟩
  | .hbm, ⟨10, _⟩ => ⟨S4096x4x512, .f32⟩
  | .hbm, ⟨11, _⟩ => ⟨S4x512x4096, .f32⟩
  | .hbm, ⟨12, _⟩ => ⟨S4x512x512, .f32⟩
  | .hbm, ⟨13, _⟩ => ⟨S4x512x512, .f32⟩
  | .hbm, ⟨14, _⟩ => ⟨S4x512x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel23.lean ====
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S4x512x1024, .bf16⟩
  | .hbm, ⟨2, _⟩ => ⟨S4x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S512x1024, .f32⟩
  | .local _ .vmem, ⟨1, _⟩ => ⟨S4x512x1024, .bf16⟩
  | .local _ .vmem, ⟨2, _⟩ => ⟨S4x512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference23Ideal.lean ====
abbrev S512x1024 : Shape := ⟨2, ![512, 1024]⟩
abbrev S4x512x1024 : Shape := ⟨3, ![4, 512, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4x512x1024, .bf16⟩
  | .hbm, ⟨2, _⟩ => ⟨S4x512x1024, .bf16⟩
  | .hbm, ⟨3, _⟩ => ⟨S512x1024, .f32⟩
  | .hbm, ⟨4, _⟩ => ⟨S512x1024, .f32⟩
  | .hbm, ⟨5, _⟩ => ⟨S4x512x1024, .f32⟩
  | .hbm, ⟨6, _⟩ => ⟨S_, .f32⟩
  | .hbm, ⟨7, _⟩ => ⟨S512x1024, .f32⟩
  | .hbm, ⟨8, _⟩ => ⟨S4x512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel24.lean ====
abbrev S1024x1540 : Shape := ⟨2, ![1024, 1540]⟩
abbrev S4x1024x1540 : Shape := ⟨3, ![4, 1024, 1540]⟩
abbrev S256x1540 : Shape := ⟨2, ![256, 1540]⟩
abbrev S4x256x1540 : Shape := ⟨3, ![4, 256, 1540]⟩
abbrev S1x256x1540 : Shape := ⟨3, ![1, 256, 1540]⟩

abbrev nBuf : Space → Nat
  | .hbm => 9
  | .vmem => 18
  | .smem => 0
  | _ => 0

abbrev bufTy : (tb : Table) → Fin (tcTables nBuf tb) → BufTy
  | .hbm, ⟨0, _⟩ => ⟨S1024x1540, .f32⟩
  | .hbm, ⟨1, _⟩ => ⟨S4x1024x1540, .bf16⟩
  | .hbm, ⟨2, _⟩ => ⟨S4x1024x1540, .bf16⟩
  | .hbm, ⟨3, _⟩ => ⟨S1024x1540, .f32⟩
  | .hbm, ⟨4, _⟩ => ⟨S1024x1540, .f32⟩
  | .hbm, ⟨5, _⟩ => ⟨S1024x1540, .f32⟩
  | .hbm, ⟨6, _⟩ => ⟨S1024x1540, .f32⟩
  | .hbm, ⟨7, _⟩ => ⟨S1024x1540, .f32⟩
  | .hbm, ⟨8, _⟩ => ⟨S1024x1540, .f32⟩
  | .local _ .vmem, ⟨0, _⟩ => ⟨S256x1540, .f32⟩
  | .local _ .vmem, ⟨1, _⟩ => ⟨S256x1540, .f32⟩
  | .local _ .vmem, ⟨2, _⟩ => ⟨S4x256x1540, .bf16⟩
  | .local _ .vmem, ⟨3, _⟩ => ⟨S4x256x1540, .bf16⟩
  | .local _ .vmem, ⟨4, _⟩ => ⟨S4x256x1540, .bf16⟩
  | .local _ .vmem, ⟨5, _⟩ => ⟨S4x256x1540, .bf16⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | .local _ .vmem, ⟨14, _⟩ => ⟨S256x1540, .f32⟩
  | .local _ .vmem, ⟨15, _⟩ => ⟨S256x1540, .f32⟩
  | .local _ .vmem, ⟨16, _⟩ => ⟨S256x1540, .f32⟩
  | .local _ .vmem, ⟨17, _⟩ => ⟨S256x1540, .f32⟩
  | _, _ => ⟨S1024x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1540 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1540 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1540 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1540 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S1024x1540 : Shape := ⟨2, ![1024, 1540]⟩
abbrev S4x1024x1540 : Shape := ⟨3, ![4, 1024, 1540]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x1540, .f32⟩
  | .hbm, ⟨1, _⟩ => ⟨S4x1024x1540, .bf16⟩
  | .hbm, ⟨2, _⟩ => ⟨S4x1024x1540, .bf16⟩
  | .hbm, ⟨3, _⟩ => ⟨S1024x1540, .f32⟩
  | .hbm, ⟨4, _⟩ => ⟨S1024x1540, .f32⟩
  | .hbm, ⟨5, _⟩ => ⟨S4x1024x1540, .f32⟩
  | .hbm, ⟨6, _⟩ => ⟨S_, .f32⟩
  | .hbm, ⟨7, _⟩ => ⟨S1024x1540, .f32⟩
  | .hbm, ⟨8, _⟩ => ⟨S4x1024x1540, .f32⟩
  | .hbm, ⟨9, _⟩ => ⟨S_, .f32⟩
  | .hbm, ⟨10, _⟩ => ⟨S1024x1540, .f32⟩
  | .hbm, ⟨11, _⟩ => ⟨S1024x1540, .f32⟩
  | .hbm, ⟨12, _⟩ => ⟨S_, .f32⟩
  | .hbm, ⟨13, _⟩ => ⟨S1024x1540, .f32⟩
  | .hbm, ⟨14, _⟩ => ⟨S1024x1540, .f32⟩
  | .hbm, ⟨15, _⟩ => ⟨S_, .f32⟩
  | .hbm, ⟨16, _⟩ => ⟨S1024x1540, .f32⟩
  | .hbm, ⟨17, _⟩ => ⟨S1024x1540, .f32⟩
  | .hbm, ⟨18, _⟩ => ⟨S1024x1540, .f32⟩
  | .hbm, ⟨19, _⟩ => ⟨S_, .f32⟩
  | .hbm, ⟨20, _⟩ => ⟨S1024x1540, .f32⟩
  | .hbm, ⟨21, _⟩ => ⟨S1024x1540, .f32⟩
  | .hbm, ⟨22, _⟩ => ⟨S1024x1540, .f32⟩
  | .hbm, ⟨23, _⟩ => ⟨S_, .f32⟩
  | .hbm, ⟨24, _⟩ => ⟨S1024x1540, .f32⟩
  | .hbm, ⟨25, _⟩ => ⟨S1024x1540, .f32⟩
  | .hbm, ⟨26, _⟩ => ⟨S1024x1540, .f32⟩
  | .hbm, ⟨27, _⟩ => ⟨S_, .f32⟩
  | .hbm, ⟨28, _⟩ => ⟨S1024x1540, .f32⟩
  | .hbm, ⟨29, _⟩ => ⟨S1024x1540, .f32⟩
  | .hbm, ⟨30, _⟩ => ⟨S_, .f32⟩
  | .hbm, ⟨31, _⟩ => ⟨S1024x1540, .f32⟩
  | .hbm, ⟨32, _⟩ => ⟨S1024x1540, .f32⟩
  | .hbm, ⟨33, _⟩ => ⟨S1024x1540, .f32⟩
  | .hbm, ⟨34, _⟩ => ⟨S_, .f32⟩
  | .hbm, ⟨35, _⟩ => ⟨S1024x1540, .f32⟩
  | .hbm, ⟨36, _⟩ => ⟨S1024x1540, .f32⟩
  | .hbm, ⟨37, _⟩ => ⟨S1024x1540, .f32⟩
  | .hbm, ⟨38, _⟩ => ⟨S_, .f32⟩
  | .hbm, ⟨39, _⟩ => ⟨S1024x1540, .f32⟩
  | .hbm, ⟨40, _⟩ => ⟨S1024x1540, .f32⟩
  | .hbm, ⟨41, _⟩ => ⟨S1024x1540, .f32⟩
  | .hbm, ⟨42, _⟩ => ⟨S_, .f32⟩
  | .hbm, ⟨43, _⟩ => ⟨S1024x1540, .f32⟩
  | .hbm, ⟨44, _⟩ => ⟨S1024x1540, .f32⟩
  | _, _ => ⟨S1024x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel25.lean ====
abbrev S1024x848 : Shape := ⟨2, ![1024, 848]⟩
abbrev S4x1024x848 : Shape := ⟨3, ![4, 1024, 848]⟩
abbrev S512x848 : Shape := ⟨2, ![512, 848]⟩
abbrev S4x512x848 : Shape := ⟨3, ![4, 512, 848]⟩
abbrev S1x512x848 : Shape := ⟨3, ![1, 512, 848]⟩

abbrev nBuf : Space → Nat
  | .hbm => 9
  | .vmem => 18
  | .smem => 0
  | _ => 0

abbrev bufTy : (tb : Table) → Fin (tcTables nBuf tb) → BufTy
  | .hbm, ⟨0, _⟩ => ⟨S1024x848, .f32⟩
  | .hbm, ⟨1, _⟩ => ⟨S4x1024x848, .bf16⟩
  | .hbm, ⟨2, _⟩ => ⟨S4x1024x848, .bf16⟩
  | .hbm, ⟨3, _⟩ => ⟨S1024x848, .f32⟩
  | .hbm, ⟨4, _⟩ => ⟨S1024x848, .f32⟩
  | .hbm, ⟨5, _⟩ => ⟨S1024x848, .f32⟩
  | .hbm, ⟨6, _⟩ => ⟨S1024x848, .f32⟩
  | .hbm, ⟨7, _⟩ => ⟨S1024x848, .f32⟩
  | .hbm, ⟨8, _⟩ => ⟨S1024x848, .f32⟩
  | .local _ .vmem, ⟨0, _⟩ => ⟨S512x848, .f32⟩
  | .local _ .vmem, ⟨1, _⟩ => ⟨S512x848, .f32⟩
  | .local _ .vmem, ⟨2, _⟩ => ⟨S4x512x848, .bf16⟩
  | .local _ .vmem, ⟨3, _⟩ => ⟨S4x512x848, .bf16⟩
  | .local _ .vmem, ⟨4, _⟩ => ⟨S4x512x848, .bf16⟩
  | .local _ .vmem, ⟨5, _⟩ => ⟨S4x512x848, .bf16⟩
  | .local _ .vmem, ⟨6, _⟩ => ⟨S512x848, .f32⟩
  | .local _ .vmem, ⟨7, _⟩ => ⟨S512x848, .f32⟩
  | .local _ .vmem, ⟨8, _⟩ => ⟨S512x848, .f32⟩
  | .local _ .vmem, ⟨9, _⟩ => ⟨S512x848, .f32⟩
  | .local _ .vmem, ⟨10, _⟩ => ⟨S512x848, .f32⟩
  | .local _ .vmem, ⟨11, _⟩ => ⟨S512x848, .f32⟩
  | .local _ .vmem, ⟨12, _⟩ => ⟨S512x848, .f32⟩
  | .local _ .vmem, ⟨13, _⟩ => ⟨S512x848, .f32⟩
  | .local _ .vmem, ⟨14, _⟩ => ⟨S512x848, .f32⟩
  | .local _ .vmem, ⟨15, _⟩ => ⟨S512x848, .f32⟩
  | .local _ .vmem, ⟨16, _⟩ => ⟨S512x848, .f32⟩
  | .local _ .vmem, ⟨17, _⟩ => ⟨S512x848, .f32⟩
  | _, _ => ⟨S1024x848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x848 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x848 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x848 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x848 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x848 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x848 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x848 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x848 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x848 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S1024x848 : Shape := ⟨2, ![1024, 848]⟩
abbrev S4x1024x848 : Shape := ⟨3, ![4, 1024, 848]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x848, .f32⟩
  | .hbm, ⟨1, _⟩ => ⟨S4x1024x848, .bf16⟩
  | .hbm, ⟨2, _⟩ => ⟨S4x1024x848, .bf16⟩
  | .hbm, ⟨3, _⟩ => ⟨S1024x848, .f32⟩
  | .hbm, ⟨4, _⟩ => ⟨S1024x848, .f32⟩
  | .hbm, ⟨5, _⟩ => ⟨S4x1024x848, .f32⟩
  | .hbm, ⟨6, _⟩ => ⟨S_, .f32⟩
  | .hbm, ⟨7, _⟩ => ⟨S1024x848, .f32⟩
  | .hbm, ⟨8, _⟩ => ⟨S4x1024x848, .f32⟩
  | .hbm, ⟨9, _⟩ => ⟨S_, .f32⟩
  | .hbm, ⟨10, _⟩ => ⟨S1024x848, .f32⟩
  | .hbm, ⟨11, _⟩ => ⟨S1024x848, .f32⟩
  | .hbm, ⟨12, _⟩ => ⟨S_, .f32⟩
  | .hbm, ⟨13, _⟩ => ⟨S1024x848, .f32⟩
  | .hbm, ⟨14, _⟩ => ⟨S1024x848, .f32⟩
  | .hbm, ⟨15, _⟩ => ⟨S_, .f32⟩
  | .hbm, ⟨16, _⟩ => ⟨S1024x848, .f32⟩
  | .hbm, ⟨17, _⟩ => ⟨S1024x848, .f32⟩
  | .hbm, ⟨18, _⟩ => ⟨S1024x848, .f32⟩
  | .hbm, ⟨19, _⟩ => ⟨S_, .f32⟩
  | .hbm, ⟨20, _⟩ => ⟨S1024x848, .f32⟩
  | .hbm, ⟨21, _⟩ => ⟨S1024x848, .f32⟩
  | .hbm, ⟨22, _⟩ => ⟨S1024x848, .f32⟩
  | .hbm, ⟨23, _⟩ => ⟨S_, .f32⟩
  | .hbm, ⟨24, _⟩ => ⟨S1024x848, .f32⟩
  | .hbm, ⟨25, _⟩ => ⟨S1024x848, .f32⟩
  | .hbm, ⟨26, _⟩ => ⟨S1024x848, .f32⟩
  | .hbm, ⟨27, _⟩ => ⟨S_, .f32⟩
  | .hbm, ⟨28, _⟩ => ⟨S1024x848, .f32⟩
  | .hbm, ⟨29, _⟩ => ⟨S1024x848, .f32⟩
  | .hbm, ⟨30, _⟩ => ⟨S_, .f32⟩
  | .hbm, ⟨31, _⟩ => ⟨S1024x848, .f32⟩
  | .hbm, ⟨32, _⟩ => ⟨S1024x848, .f32⟩
  | .hbm, ⟨33, _⟩ => ⟨S1024x848, .f32⟩
  | .hbm, ⟨34, _⟩ => ⟨S_, .f32⟩
  | .hbm, ⟨35, _⟩ => ⟨S1024x848, .f32⟩
  | .hbm, ⟨36, _⟩ => ⟨S1024x848, .f32⟩
  | .hbm, ⟨37, _⟩ => ⟨S1024x848, .f32⟩
  | .hbm, ⟨38, _⟩ => ⟨S_, .f32⟩
  | .hbm, ⟨39, _⟩ => ⟨S1024x848, .f32⟩
  | .hbm, ⟨40, _⟩ => ⟨S1024x848, .f32⟩
  | .hbm, ⟨41, _⟩ => ⟨S1024x848, .f32⟩
  | .hbm, ⟨42, _⟩ => ⟨S_, .f32⟩
  | .hbm, ⟨43, _⟩ => ⟨S1024x848, .f32⟩
  | .hbm, ⟨44, _⟩ => ⟨S1024x848, .f32⟩
  | _, _ => ⟨S1024x848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel26.lean ====
abbrev S768x768 : Shape := ⟨2, ![768, 768]⟩
abbrev S4x768x768 : Shape := ⟨3, ![4, 768, 768]⟩
abbrev S256x768 : Shape := ⟨2, ![256, 768]⟩
abbrev S4x256x768 : Shape := ⟨3, ![4, 256, 768]⟩
abbrev S1x256x768 : Shape := ⟨3, ![1, 256, 768]⟩

abbrev nBuf : Space → Nat
  | .hbm => 9
  | .vmem => 18
  | .smem => 0
  | _ => 0

abbrev bufTy : (tb : Table) → Fin (tcTables nBuf tb) → BufTy
  | .hbm, ⟨0, _⟩ => ⟨S768x768, .f32⟩
  | .hbm, ⟨1, _⟩ => ⟨S4x768x768, .bf16⟩
  | .hbm, ⟨2, _⟩ => ⟨S4x768x768, .bf16⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768x768, .f32⟩
  | .local _ .vmem, ⟨0, _⟩ => ⟨S256x768, .f32⟩
  | .local _ .vmem, ⟨1, _⟩ => ⟨S256x768, .f32⟩
  | .local _ .vmem, ⟨2, _⟩ => ⟨S4x256x768, .bf16⟩
  | .local _ .vmem, ⟨3, _⟩ => ⟨S4x256x768, .bf16⟩
  | .local _ .vmem, ⟨4, _⟩ => ⟨S4x256x768, .bf16⟩
  | .local _ .vmem, ⟨5, _⟩ => ⟨S4x256x768, .bf16⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S768x768 : Shape := ⟨2, ![768, 768]⟩
abbrev S4x768x768 : Shape := ⟨3, ![4, 768, 768]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S4x768x768, .bf16⟩
  | .hbm, ⟨2, _⟩ => ⟨S4x768x768, .bf16⟩
  | .hbm, ⟨3, _⟩ => ⟨S768x768, .f32⟩
  | .hbm, ⟨4, _⟩ => ⟨S768x768, .f32⟩
  | .hbm, ⟨5, _⟩ => ⟨S4x768x768, .f32⟩
  | .hbm, ⟨6, _⟩ => ⟨S_, .f32⟩
  | .hbm, ⟨7, _⟩ => ⟨S768x768, .f32⟩
  | .hbm, ⟨8, _⟩ => ⟨S4x768x768, .f32⟩
  | .hbm, ⟨9, _⟩ => ⟨S_, .f32⟩
  | .hbm, ⟨10, _⟩ => ⟨S768x768, .f32⟩
  | .hbm, ⟨11, _⟩ => ⟨S768x768, .f32⟩
  | .hbm, ⟨12, _⟩ => ⟨S_, .f32⟩
  | .hbm, ⟨13, _⟩ => ⟨S768x768, .f32⟩
  | .hbm, ⟨14, _⟩ => ⟨S768x768, .f32⟩
  | .hbm, ⟨15, _⟩ => ⟨S_, .f32⟩
  | .hbm, ⟨16, _⟩ => ⟨S768x768, .f32⟩
  | .hbm, ⟨17, _⟩ => ⟨S768x768, .f32⟩
  | .hbm, ⟨18, _⟩ => ⟨S768x768, .f32⟩
  | .hbm, ⟨19, _⟩ => ⟨S_, .f32⟩
  | .hbm, ⟨20, _⟩ => ⟨S768x768, .f32⟩
  | .hbm, ⟨21, _⟩ => ⟨S768x768, .f32⟩
  | .hbm, ⟨22, _⟩ => ⟨S768x768, .f32⟩
  | .hbm, ⟨23, _⟩ => ⟨S_, .f32⟩
  | .hbm, ⟨24, _⟩ => ⟨S768x768, .f32⟩
  | .hbm, ⟨25, _⟩ => ⟨S768x768, .f32⟩
  | .hbm, ⟨26, _⟩ => ⟨S768x768, .f32⟩
  | .hbm, ⟨27, _⟩ => ⟨S_, .f32⟩
  | .hbm, ⟨28, _⟩ => ⟨S768x768, .f32⟩
  | .hbm, ⟨29, _⟩ => ⟨S768x768, .f32⟩
  | .hbm, ⟨30, _⟩ => ⟨S_, .f32⟩
  | .hbm, ⟨31, _⟩ => ⟨S768x768, .f32⟩
  | .hbm, ⟨32, _⟩ => ⟨S768x768, .f32⟩
  | .hbm, ⟨33, _⟩ => ⟨S768x768, .f32⟩
  | .hbm, ⟨34, _⟩ => ⟨S_, .f32⟩
  | .hbm, ⟨35, _⟩ => ⟨S768x768, .f32⟩
  | .hbm, ⟨36, _⟩ => ⟨S768x768, .f32⟩
  | .hbm, ⟨37, _⟩ => ⟨S768x768, .f32⟩
  | .hbm, ⟨38, _⟩ => ⟨S_, .f32⟩
  | .hbm, ⟨39, _⟩ => ⟨S768x768, .f32⟩
  | .hbm, ⟨40, _⟩ => ⟨S768x768, .f32⟩
  | .hbm, ⟨41, _⟩ => ⟨S768x768, .f32⟩
  | .hbm, ⟨42, _⟩ => ⟨S_, .f32⟩
  | .hbm, ⟨43, _⟩ => ⟨S768x768, .f32⟩
  | .hbm, ⟨44, _⟩ => ⟨S768x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Flash.Cuts.lean ====
/-
  The attention gradient's kernel body, cut into its six conditional blocks (`s1` … `s6`): zero the query gradient's
  accumulator, zero the key and value gradients' accumulators, the tile pair below the diagonal, the tile pair on the
  diagonal, write the key and value gradients, write the query gradient.
-/
module

public import proofs.«01_k».proof.Proof.Gen.KernelIdeal.Frame
public import proofs.«01_k».proof.Proof.Gen.KernelIdeal.Skeleton
public import Idealize.ShloMosaic.Lib.Tactic.Stretches
public import Idealize.ShloMosaic.Lib.VecWindow

@[expose] public section

set_option maxRecDepth 65536

noncomputable section

namespace Cert.KernelIdeal.Flash

open Idealize.ShloMosaic Idealize.SL.Sem

cut_chain s := Cert.KernelIdeal.Gen.cc0_l2_dattn_skel at 2, 3, 4, 5, 6

end Cert.KernelIdeal.Flash

end
-- ==== Proof.Flash.StageA.lean ====
/-
  What the six blocks of the attention gradient's kernel body do, each stated over any memrefs: the accumulators' new
  values as functions of the tiles and of the accumulators' old values.
-/
module

public import proofs.«01_k».proof.Proof.Flash.Cuts
public import Idealize.ShloMosaic.Lib.Tactic.OpenCalls

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The first point of a head pair: both loop coordinates are zero. -/
abbrev c1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- The first query tile of a key tile. -/
abbrev c2 (i : grid0.Coords) : Prop :=
  Scalar.cmpi .ne (Scalar.extui (Scalar.cmpi .eq (BitVec.ofNat 32 (i 2).val) 0#32)) 0#32 = 1#1

instance (i : grid0.Coords) : Decidable (c1 i) := inferInstanceAs (Decidable (_ = _))
instance (i : grid0.Coords) : Decidable (c2 i) := inferInstanceAs (Decidable (_ = _))

/-- The query gradient's accumulator after the first block. -/
def val1 (i : grid0.Coords) (y12 : FVec F S2x4096x256 .f32) : FVec F S2x4096x256 .f32 := if c1 i then k0_pay1 (F := F) else y12

theorem stage1 (c : Dev nD) (i : grid0.Coords) (arg12 : Memref sig .tc .vmem S2x4096x256 .f32) (y12 : FVec F S2x4096x256 .f32) {R : Type}
    (κ : Prog (TpuEff nD τ sig (Elt F) Λ₀ .tc) R) (E : Set ℕ) (Q : R → sProp 𝕄) :
    iprop(owns (c : Thread nD τ) arg12 fullShare y12
      ∗ (owns (c : Thread nD τ) arg12 fullShare (val1 i y12) -∗ wp frame (wpE (defs₀ (F := F)) Variants.none c none) E κ Q))
    ⊢ wp frame (wpE (defs₀ (F := F)) Variants.none c none) E (s1 i arg12 κ) Q := by
  unfold owns
  iintro ⟨⟨%f, %hf, H⟩, Hk⟩
  unfold s1
  by_cases h : c1 i
  · sl_exec (disch := first | sl_exact h)
    iapply Hk
    iexists _
    isplitr
    rotate_left
    · iexact H
    · ipureintro
      unfold val1; rw [if_pos h]
      exact View.read_writes_full _ _ _ _ _
  · sl_exec (disch := first | sl_exact h)
    iapply Hk
    iexists _
    isplitr
    rotate_left
    · iexact H
    · ipureintro
      unfold val1; rw [if_neg h]
      exact hf

/-- The key gradient's accumulator after the second block. -/
def val2k (i : grid0.Coords) (y13 : FVec F S2x1024x256 .f32) : FVec F S2x1024x256 .f32 := if c2 i then k0_pay2 (F := F) else y13
/-- The value gradient's accumulator after the second block. -/
def val2v (i : grid0.Coords) (y14 : FVec F S2x1024x128 .f32) : FVec F S2x1024x128 .f32 := if c2 i then k0_pay3 (F := F) else y14

theorem stage2 (c : Dev nD) (i : grid0.Coords) (arg13 : Memref sig .tc .vmem S2x1024x256 .f32) (arg14 : Memref sig .tc .vmem S2x1024x128 .f32)
    (y13 : FVec F S2x1024x256 .f32) (y14 : FVec F S2x1024x128 .f32) {R : Type}
    (κ : Prog (TpuEff nD τ sig (Elt F) Λ₀ .tc) R) (E : Set ℕ) (Q : R → sProp 𝕄) :
    iprop(owns (c : Thread nD τ) arg13 fullShare y13 ∗ owns (c : Thread nD τ) arg14 fullShare y14
      ∗ ((owns (c : Thread nD τ) arg13 fullShare (val2k i y13) ∗ owns (c : Thread nD τ) arg14 fullShare (val2v i y14))
          -∗ wp frame (wpE (defs₀ (F := F)) Variants.none c none) E κ Q))
    ⊢ wp frame (wpE (defs₀ (F := F)) Variants.none c none) E (s2 i arg13 arg14 κ) Q := by
  unfold owns
  iintro ⟨⟨%f, %hf, H⟩, ⟨%g, %hg, G⟩, Hk⟩
  unfold s2
  by_cases h : c2 i
  · sl_exec (disch := first | sl_exact h)
    iapply Hk
    isplitl [H]
    · iexists _
      isplitr
      rotate_left
      · iexact H
      · ipureintro
        unfold val2k; rw [if_pos h]
        exact View.read_writes_full _ _ _ _ _
    · iexists _
      isplitr
      rotate_left
      · iexact G
      · ipureintro
        unfold val2v; rw [if_pos h]
        exact View.read_writes_full _ _ _ _ _
  · sl_exec (disch := first | sl_exact h)
    iapply Hk
    isplitl [H]
    · iexists _
      isplitr
      rotate_left
      · iexact H
      · ipureintro
        unfold val2k; rw [if_neg h]
        exact hf
    · iexists _
      isplitr
      rotate_left
      · iexact G
      · ipureintro
        unfold val2v; rw [if_neg h]
        exact hg

/-- The key gradient's block to store. -/
def val5k (y13 : FVec F S2x1024x256 .f32) : FVec F S2x1024x256 .bf16 := k0_pay8 y13
/-- The value gradient's block to store. -/
def val5v (y14 : FVec F S2x1024x128 .f32) : FVec F S2x1024x128 .bf16 := k0_pay9 y14

theorem stage5 (c : Dev nD) (i : grid0.Coords) (arg10 : Memref sig .tc .vmem S2x1024x256 .bf16) (harg10 : arg10.IsWhole)
    (arg11 : Memref sig .tc .vmem S2x1024x128 .bf16) (harg11 : arg11.IsWhole)
    (arg13 : Memref sig .tc .vmem S2x1024x256 .f32) (arg14 : Memref sig .tc .vmem S2x1024x128 .f32)
    (y10 : FVec F S2x1024x256 .bf16) (y11 : FVec F S2x1024x128 .bf16)
    (y13 : FVec F S2x1024x256 .f32) (y14 : FVec F S2x1024x128 .f32) {R : Type}
    (κ : Prog (TpuEff nD τ sig (Elt F) Λ₀ .tc) R) (E : Set ℕ) (Q : R → sProp 𝕄) :
    iprop(owns (c : Thread nD τ) arg10 fullShare y10 ∗ owns (c : Thread nD τ) arg11 fullShare y11
      ∗ owns (c : Thread nD τ) arg13 fullShare y13 ∗ owns (c : Thread nD τ) arg14 fullShare y14
      ∗ ((owns (c : Thread nD τ) arg10 fullShare (if k0_cond5 i = 1#1 then val5k y13 else y10)
          ∗ owns (c : Thread nD τ) arg11 fullShare (if k0_cond5 i = 1#1 then val5v y14 else y11)
          ∗ owns (c : Thread nD τ) arg13 fullShare y13 ∗ owns (c : Thread nD τ) arg14 fullShare y14)
          -∗ wp frame (wpE (defs₀ (F := F)) Variants.none c none) E κ Q))
    ⊢ wp frame (wpE (defs₀ (F := F)) Variants.none c none) E (s5 i arg10 harg10 arg11 harg11 arg13 arg14 κ) Q := by
  unfold owns
  iintro ⟨⟨%a, %ha, A⟩, ⟨%b, %hb, B⟩, ⟨%f, %hf, H⟩, ⟨%g, %hg, G⟩, Hk⟩
  unfold s5
  by_cases h : k0_cond5 i = 1#1
  · sl_exec (disch := first | sl_exact h)
    iapply Hk
    rw [if_pos h, if_pos h]
    isplitl [A]
    · iexists _
      isplitr
      rotate_left
      · iexact A
      · ipureintro
        rw [View.read_writes_full, View.readAt_full, hf]; rfl
    isplitl [B]
    · iexists _
      isplitr
      rotate_left
      · iexact B
      · ipureintro
        rw [View.read_writes_full, View.readAt_full, hg]; rfl
    isplitl [H]
    · iexists _
      isplitr
      rotate_left
      · iexact H
      · ipureintro; exact hf
    · iexists _
      isplitr
      rotate_left
      · iexact G
      · ipureintro; exact hg
  · sl_exec (disch := first | sl_exact h)
    iapply Hk
    rw [if_neg h, if_neg h]
    isplitl [A]
    · iexists _
      isplitr
      rotate_left
      · iexact A
      · ipureintro; exact ha
    isplitl [B]
    · iexists _
      isplitr
      rotate_left
      · iexact B
      · ipureintro; exact hb
    isplitl [H]
    · iexists _
      isplitr
      rotate_left
      · iexact H
      · ipureintro; exact hf
    · iexists _
      isplitr
      rotate_left
      · iexact G
      · ipureintro; exact hg

theorem stage6 (c : Dev nD) (i : grid0.Coords) (arg9 : Memref sig .tc .vmem S2x4096x256 .bf16) (harg9 : arg9.IsWhole)
    (arg12 : Memref sig .tc .vmem S2x4096x256 .f32)
    (y9 : FVec F S2x4096x256 .bf16) (y12 : FVec F S2x4096x256 .f32) {R : Type}
    (κ : Prog (TpuEff nD τ sig (Elt F) Λ₀ .tc) R) (E : Set ℕ) (Q : R → sProp 𝕄) :
    iprop(owns (c : Thread nD τ) arg9 fullShare y9 ∗ owns (c : Thread nD τ) arg12 fullShare y12
      ∗ ((owns (c : Thread nD τ) arg9 fullShare (if k0_cond6 i = 1#1 then k0_pay10 y12 else y9)
          ∗ owns (c : Thread nD τ) arg12 fullShare y12)
          -∗ wp frame (wpE (defs₀ (F := F)) Variants.none c none) E κ Q))
    ⊢ wp frame (wpE (defs₀ (F := F)) Variants.none c none) E (s6 i arg9 harg9 arg12 κ) Q := by
  unfold owns
  iintro ⟨⟨%a, %ha, A⟩, ⟨%f, %hf, H⟩, Hk⟩
  unfold s6
  by_cases h : k0_cond6 i = 1#1
  · sl_exec (disch := first | sl_exact h)
    iapply Hk
    rw [if_pos h]
    isplitl [A]
    · iexists _
      isplitr
      rotate_left
      · iexact A
      · ipureintro
        rw [View.read_writes_full, View.readAt_full, hf]
    · iexists _
      isplitr
      rotate_left
      · iexact H
      · ipureintro; exact hf
  · sl_exec (disch := first | sl_exact h)
    iapply Hk
    rw [if_neg h]
    isplitl [A]
    · iexists _
      isplitr
      rotate_left
      · iexact A
      · ipureintro; exact ha
    · iexists _
      isplitr
      rotate_left
      · iexact H
      · ipureintro; exact hf

end Cert.KernelIdeal.Flash

end
-- ==== Proof.Flash.Tile.lean ====
/-
  The pure values of one pair of tiles of the attention gradient: probabilities rebuilt from the scores and the saved
  row constants, the scores' gradient, and what is added to the gradients of the queries, keys and values. `n` is the
  number of query rows of the pair, `m` its number of keys.
-/
module

public import proofs.«01_k».proof.KernelIdeal
public import Idealize.ShloMosaic.Lib.VecWindow

@[expose] public section

set_option maxRecDepth 16384

noncomputable section

namespace Cert.KernelIdeal.Flash

open Idealize.ShloMosaic

variable {F : FTy → Type} [FloatOps F] [Named F] {α : Type}

/-! ## Layout -/

theorem cast_drop (n k : ℕ) : (⟨3, ![1, n, k]⟩ : Shape).ShapeCasts ⟨2, ![n, k]⟩ := by
  simp [Shape.ShapeCasts, Shape.numel, Fin.prod_univ_succ]
theorem cast_add (n k : ℕ) : (⟨2, ![n, k]⟩ : Shape).ShapeCasts ⟨3, ![1, n, k]⟩ := (cast_drop n k).symm
theorem cast_col (n : ℕ) : (⟨1, ![n]⟩ : Shape).ShapeCasts ⟨2, ![n, 1]⟩ := by
  simp [Shape.ShapeCasts, Shape.numel, Fin.prod_univ_succ]
theorem spread_col (n m : ℕ) : (⟨2, ![n, 1]⟩ : Shape).Broadcasts ⟨2, ![n, m]⟩ := by
  refine ⟨le_rfl, fun a => ?_⟩
  match a with
  | ⟨0, _⟩ => exact Or.inr fun _ => rfl
  | ⟨1, _⟩ => exact Or.inl rfl
theorem slices_rows (N n w r : ℕ) (h : r + n ≤ N) : (⟨2, ![N, w]⟩ : Shape).Slices ![r, 0] ⟨2, ![n, w]⟩ := by
  refine ⟨rfl, fun a => ?_⟩
  match a with
  | ⟨0, _⟩ => exact h
  | ⟨1, _⟩ => exact Nat.le_of_eq (Nat.zero_add w)
theorem reduces_cols (n w : ℕ) : (⟨2, ![n, w]⟩ : Shape).Reduces [1] ⟨1, ![n]⟩ := by
  refine ⟨rfl, Nat.one_pos, fun b => ?_⟩
  match b with
  | ⟨0, _⟩ => rfl

/-- One head's matrix, its leading axis of one dropped. -/
def mat {n k : ℕ} (x : (⟨3, ![1, n, k]⟩ : Shape).Idx → α) : (⟨2, ![n, k]⟩ : Shape).Idx → α := shapeCast ⟨2, ![n, k]⟩ x (cast_drop n k)
/-- A matrix as one head's block. -/
def unmat {n k : ℕ} (x : (⟨2, ![n, k]⟩ : Shape).Idx → α) : (⟨3, ![1, n, k]⟩ : Shape).Idx → α := shapeCast ⟨3, ![1, n, k]⟩ x (cast_add n k)

theorem win_inb {N K : ℕ} (a : Fin 2) (r n w : ℕ) (h : r + n ≤ N) (hw : w ≤ K) :
    ∀ b, (![a.val, r, 0] : Fin 3 → ℕ) b + (![1, n, w] : Fin 3 → ℕ) b ≤ (⟨3, ![2, N, K]⟩ : Shape).size b := fun b => by
  match b with
  | ⟨0, _⟩ => have := a.isLt; show a.val + 1 ≤ 2; omega
  | ⟨1, _⟩ => exact h
  | ⟨2, _⟩ => show 0 + w ≤ K; omega

/-- Head `a`'s rows `r … r+n` (the first `w` columns) of a block of two heads. -/
def win {N K : ℕ} (x : (⟨3, ![2, N, K]⟩ : Shape).Idx → α) (a : Fin 2) (r n w : ℕ) (h : r + n ≤ N) (hw : w ≤ K) : (⟨3, ![1, n, w]⟩ : Shape).Idx → α :=
  VecWindow.window x ![a.val, r, 0] ![1, n, w] (win_inb a r n w h hw)
/-- A block of two heads with head `a`'s rows `r … r+n` replaced. -/
def putRows {N K : ℕ} (x : (⟨3, ![2, N, K]⟩ : Shape).Idx → α) (a : Fin 2) (r n : ℕ) (w : (⟨3, ![1, n, K]⟩ : Shape).Idx → α) : (⟨3, ![2, N, K]⟩ : Shape).Idx → α :=
  VecWindow.put x ![a.val, r, 0] ![1, n, K] w

theorem half_inb (a : Fin 2) : ∀ b, (![0, 128 * a.val] : Fin 2 → ℕ) b + (![1024, 128] : Fin 2 → ℕ) b ≤ (⟨2, ![1024, 256]⟩ : Shape).size b := fun b => by
  match b with
  | ⟨0, _⟩ => show 0 + 1024 ≤ 1024; omega
  | ⟨1, _⟩ => have := a.isLt; show 128 * a.val + 128 ≤ 256; omega
/-- Head `a`'s 128 columns of a tile whose columns are two heads side by side. -/
def half (x : (⟨2, ![1024, 256]⟩ : Shape).Idx → α) (a : Fin 2) : (⟨2, ![1024, 128]⟩ : Shape).Idx → α :=
  VecWindow.window x ![0, 128 * a.val] ![1024, 128] (half_inb a)
/-- Rows `r … r+n`. -/
def rows {N w : ℕ} (x : (⟨2, ![N, w]⟩ : Shape).Idx → α) (r n : ℕ) (h : r + n ≤ N) : (⟨2, ![n, w]⟩ : Shape).Idx → α :=
  extractStridedSlice ⟨2, ![n, w]⟩ ![r, 0] x (slices_rows N n w r h)

/-- `[m, n] · [m, k]` with the row axis contracted on both sides. -/
def dotTN (m n k : ℕ) : DotDims ⟨2, ![m, n]⟩ ⟨2, ![m, k]⟩ ⟨2, ![n, k]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-! ## The tile pair's values -/

/-- The scores of the pair's rows against its keys. -/
def scores {n m : ℕ} (q : FVec F ⟨3, ![1, n, 256]⟩ .bf16) (k : FVec F ⟨3, ![1, m, 256]⟩ .bf16) : FVec F ⟨2, ![n, m]⟩ .f32 :=
  matmul (DotDims.transposedRhs n 256 m) none (mat q) (mat k) (constant ⟨2, ![n, m]⟩ .f32 0x00000000#32)

theorem iotas (n m : ℕ) (d : Fin 2) : (⟨2, ![n, m]⟩ : Shape).Iotas .tc 32 [d] :=
  ⟨List.nodup_singleton _, fun _ => ⟨Or.inr rfl, le_rfl⟩, fun h => absurd rfl h⟩

/-- The scores with the mask's value above the diagonal. -/
def masked {n m : ℕ} (s : FVec F ⟨2, ![n, m]⟩ .f32) : FVec F ⟨2, ![n, m]⟩ .f32 :=
  select (cmpi .sle (iota .tc ⟨2, ![n, m]⟩ 32 [1] (iotas n m 1)) (iota .tc ⟨2, ![n, m]⟩ 32 [0] (iotas n m 0))) s
    (broadcast ⟨2, ![n, m]⟩ (Named.named κ "mask" 0xF149F2CA#32))

/-- The probabilities: the exponential of the scores less the rows' constants. -/
def probs {n m : ℕ} (s : FVec F ⟨2, ![n, m]⟩ .f32) (l : FVec F ⟨3, ![1, n, 1]⟩ .f32) : FVec F ⟨2, ![n, m]⟩ .f32 :=
  exp (subf s (broadcastTo ⟨2, ![n, m]⟩ (mat l) (spread_col n m)))

/-- The scores' gradient: the probability times the difference of the value product and the row's own sum. -/
def dscores {n m : ℕ} (p : FVec F ⟨2, ![n, m]⟩ .f32) (g : FVec F ⟨2, ![n, 128]⟩ .bf16) (v : FVec F ⟨3, ![1, m, 128]⟩ .bf16)
    (d : FVec F ⟨2, ![n, 1]⟩ .f32) : FVec F ⟨2, ![n, m]⟩ .bf16 :=
  truncf .bf16 (mulf p (subf (matmul (DotDims.transposedRhs n 128 m) none g (mat v) (constant ⟨2, ![n, m]⟩ .f32 0x00000000#32))
    (broadcastTo ⟨2, ![n, m]⟩ d (spread_col n m)))) (by decide)

/-- A row's sum of the products of the result and its gradient. -/
def rowDot (g o : FVec F ⟨2, ![1024, 128]⟩ .bf16) : FVec F ⟨2, ![1024, 1]⟩ .f32 :=
  shapeCast ⟨2, ![1024, 1]⟩ (multiReduction .add [1] ⟨1, ![1024]⟩ (mulf (extf .f32 g (by decide)) (extf .f32 (shapeCast ⟨2, ![1024, 128]⟩ o rfl) (by decide)))
    0x00000000#32 (reduces_cols 1024 128) (.inl rfl) rfl) (cast_col 1024)

/-- The values' gradient with the pair's part added. -/
def addDv {n m : ℕ} (y : FVec F ⟨3, ![1, m, 128]⟩ .f32) (p : FVec F ⟨2, ![n, m]⟩ .f32) (g : FVec F ⟨2, ![n, 128]⟩ .bf16) : FVec F ⟨3, ![1, m, 128]⟩ .f32 :=
  unmat (addf (mat y) (matmul (dotTN n m 128) none (truncf .bf16 p (by decide)) g (constant ⟨2, ![m, 128]⟩ .f32 0x00000000#32)))

/-- The keys' gradient with the pair's part added. -/
def addDk {n m : ℕ} (y : FVec F ⟨3, ![1, m, 256]⟩ .f32) (ds : FVec F ⟨2, ![n, m]⟩ .bf16) (q : FVec F ⟨3, ![1, n, 256]⟩ .bf16) : FVec F ⟨3, ![1, m, 256]⟩ .f32 :=
  unmat (addf (mat y) (matmul (dotTN n m 256) none ds (mat q) (constant ⟨2, ![m, 256]⟩ .f32 0x00000000#32)))

/-- The queries' gradient with the pair's part added. -/
def addDq {n m : ℕ} (y : FVec F ⟨3, ![1, n, 256]⟩ .f32) (ds : FVec F ⟨2, ![n, m]⟩ .bf16) (k : FVec F ⟨3, ![1, m, 256]⟩ .bf16) : FVec F ⟨3, ![1, n, 256]⟩ .f32 :=
  unmat (addf (mat y) (matmul (DotDims.plain n m 256) none ds (mat k) (constant ⟨2, ![n, 256]⟩ .f32 0x00000000#32)))

/-! ## The tiles a point of the grid is handed, and the accumulators -/

/-- The six tiles read at a point: queries, keys, values, results, row constants and the results' gradient. -/
structure Tiles (F : FTy → Type) where
  q : FVec F ⟨3, ![2, 1024, 256]⟩ .bf16
  k : FVec F ⟨3, ![2, 1024, 256]⟩ .bf16
  v : FVec F ⟨3, ![2, 1024, 128]⟩ .bf16
  o : FVec F ⟨2, ![1024, 256]⟩ .bf16
  l : FVec F ⟨3, ![2, 1024, 128]⟩ .f32
  g : FVec F ⟨2, ![1024, 256]⟩ .bf16

/-- The three accumulators. -/
structure Accs (F : FTy → Type) where
  dq : FVec F ⟨3, ![2, 4096, 256]⟩ .f32
  dk : FVec F ⟨3, ![2, 1024, 256]⟩ .f32
  dv : FVec F ⟨3, ![2, 1024, 128]⟩ .f32

variable (X : Tiles F) (a : Fin 2)

/-- Head `a`'s rows' own sums. -/
def delta : FVec F ⟨2, ![1024, 1]⟩ .f32 := rowDot (half X.g a) (half X.o a)

/-! ### A pair of whole tiles below the diagonal -/

def fullP : FVec F ⟨2, ![1024, 1024]⟩ .f32 :=
  probs (scores (win X.q a 0 1024 256 (by decide) (by decide)) (win X.k a 0 1024 256 (by decide) (by decide))) (win X.l a 0 1024 1 (by decide) (by decide))
def fullDs : FVec F ⟨2, ![1024, 1024]⟩ .bf16 :=
  dscores (fullP X a) (half X.g a) (win X.v a 0 1024 128 (by decide) (by decide)) (delta X a)

/-- The accumulators after a pair below the diagonal, the query tile being the `b`-th. -/
def fullStep (b : Fin 4) (Y : Accs F) : Accs F where
  dq := putRows (putRows Y.dq 0 (1024 * b.val) 1024
        (addDq (win Y.dq 0 (1024 * b.val) 1024 256 (by omega) (by decide)) (fullDs X 0) (win X.k 0 0 1024 256 (by decide) (by decide))))
      1 (1024 * b.val) 1024
        (addDq (win Y.dq 1 (1024 * b.val) 1024 256 (by omega) (by decide)) (fullDs X 1) (win X.k 1 0 1024 256 (by decide) (by decide)))
  dk := putRows (putRows Y.dk 0 0 1024
        (addDk (win Y.dk 0 0 1024 256 (by decide) (by decide)) (fullDs X 0) (win X.q 0 0 1024 256 (by decide) (by decide))))
      1 0 1024
        (addDk (win Y.dk 1 0 1024 256 (by decide) (by decide)) (fullDs X 1) (win X.q 1 0 1024 256 (by decide) (by decide)))
  dv := putRows (putRows Y.dv 0 0 1024 (addDv (win Y.dv 0 0 1024 128 (by decide) (by decide)) (fullP X 0) (half X.g 0)))
      1 0 1024 (addDv (win Y.dv 1 0 1024 128 (by decide) (by decide)) (fullP X 1) (half X.g 1))

/-! ### A pair of tiles on the diagonal, in four strips of 256 keys -/

/-- The probabilities of the rows from `r` on against the 256 keys from `r` on. -/
def stripP (r n : ℕ) (h : r + n ≤ 1024) (h' : r + 256 ≤ 1024) : FVec F ⟨2, ![n, 256]⟩ .f32 :=
  probs (masked (scores (win X.q a r n 256 h (by decide)) (win X.k a r 256 256 h' (by decide)))) (win X.l a r n 1 h (by decide))
def stripDs (r n : ℕ) (h : r + n ≤ 1024) (h' : r + 256 ≤ 1024) (g : FVec F ⟨2, ![n, 128]⟩ .bf16) (d : FVec F ⟨2, ![n, 1]⟩ .f32) :
    FVec F ⟨2, ![n, 256]⟩ .bf16 :=
  dscores (stripP X a r n h h') g (win X.v a r 256 128 h' (by decide)) d
/-- The scores' gradient of a strip that does not start at the first row. -/
def stripDs' (r n : ℕ) (h : r + n ≤ 1024) (h' : r + 256 ≤ 1024) : FVec F ⟨2, ![n, 256]⟩ .bf16 :=
  stripDs X a r n h h' (rows (half X.g a) r n h) (rows (delta X a) r n h)
/-- The scores' gradient of the first strip. -/
def stripDs0 : FVec F ⟨2, ![1024, 256]⟩ .bf16 := stripDs X a 0 1024 (by decide) (by decide) (half X.g a) (delta X a)

def stripDv (y : FVec F ⟨3, ![2, 1024, 128]⟩ .f32) (r n : ℕ) (h : r + n ≤ 1024) (h' : r + 256 ≤ 1024) : FVec F ⟨3, ![1, 256, 128]⟩ .f32 :=
  addDv (win y a r 256 128 h' (by decide)) (stripP X a r n h h') (rows (half X.g a) r n h)
def stripDv0 (y : FVec F ⟨3, ![2, 1024, 128]⟩ .f32) : FVec F ⟨3, ![1, 256, 128]⟩ .f32 :=
  addDv (win y a 0 256 128 (by decide) (by decide)) (stripP X a 0 1024 (by decide) (by decide)) (half X.g a)
def stripDk (y : FVec F ⟨3, ![2, 1024, 256]⟩ .f32) (r n : ℕ) (h : r + n ≤ 1024) (h' : r + 256 ≤ 1024) : FVec F ⟨3, ![1, 256, 256]⟩ .f32 :=
  addDk (win y a r 256 256 h' (by decide)) (stripDs' X a r n h h') (win X.q a r n 256 h (by decide))
def stripDk0 (y : FVec F ⟨3, ![2, 1024, 256]⟩ .f32) : FVec F ⟨3, ![1, 256, 256]⟩ .f32 :=
  addDk (win y a 0 256 256 (by decide) (by decide)) (stripDs0 X a) (win X.q a 0 1024 256 (by decide) (by decide))

/-- The last `n` rows of one head's rows. -/
def tailRows {m w : ℕ} (x : FVec F ⟨3, ![1, m, w]⟩ .f32) (r n : ℕ) (h : r + n ≤ m) : FVec F ⟨3, ![1, n, w]⟩ .f32 :=
  VecWindow.window x ![0, r, 0] ![1, n, w] (by intro d; fin_cases d <;> simp <;> omega)

/-- The queries' rows of head `a` after the first strip, -/
def rowsDq0 (b : Fin 4) (z : FVec F ⟨3, ![2, 4096, 256]⟩ .f32) : FVec F ⟨3, ![1, 1024, 256]⟩ .f32 :=
  addDq (win z a (1024 * b.val) 1024 256 (by omega) (by decide)) (stripDs0 X a) (win X.k a 0 256 256 (by decide) (by decide))
/-- and after a later strip, from the rows the strip before left. -/
def rowsDq (r n : ℕ) (h : r + n ≤ 1024) (h' : r + 256 ≤ 1024) (w : FVec F ⟨3, ![1, n, 256]⟩ .f32) : FVec F ⟨3, ![1, n, 256]⟩ .f32 :=
  addDq w (stripDs' X a r n h h') (win X.k a r 256 256 h' (by decide))
def rowsDq1 (b : Fin 4) (z : FVec F ⟨3, ![2, 4096, 256]⟩ .f32) : FVec F ⟨3, ![1, 768, 256]⟩ .f32 :=
  rowsDq X a 256 768 (by decide) (by decide) (tailRows (rowsDq0 X a b z) 256 768 (by decide))
def rowsDq2 (b : Fin 4) (z : FVec F ⟨3, ![2, 4096, 256]⟩ .f32) : FVec F ⟨3, ![1, 512, 256]⟩ .f32 :=
  rowsDq X a 512 512 (by decide) (by decide) (tailRows (rowsDq1 X a b z) 256 512 (by decide))
def rowsDq3 (b : Fin 4) (z : FVec F ⟨3, ![2, 4096, 256]⟩ .f32) : FVec F ⟨3, ![1, 256, 256]⟩ .f32 :=
  rowsDq X a 768 256 (by decide) (by decide) (tailRows (rowsDq2 X a b z) 256 256 (by decide))

/-- The queries' accumulator after a pair on the diagonal. -/
def diagDq (b : Fin 4) (z : FVec F ⟨3, ![2, 4096, 256]⟩ .f32) : FVec F ⟨3, ![2, 4096, 256]⟩ .f32 :=
  have z0 := putRows (putRows z 0 (1024 * b.val) 1024 (rowsDq0 X 0 b z)) 1 (1024 * b.val) 1024 (rowsDq0 X 1 b z)
  have z1 := putRows (putRows z0 0 (1024 * b.val + 256) 768 (rowsDq1 X 0 b z)) 1 (1024 * b.val + 256) 768 (rowsDq1 X 1 b z)
  have z2 := putRows (putRows z1 0 (1024 * b.val + 512) 512 (rowsDq2 X 0 b z)) 1 (1024 * b.val + 512) 512 (rowsDq2 X 1 b z)
  putRows (putRows z2 0 (1024 * b.val + 768) 256 (rowsDq3 X 0 b z)) 1 (1024 * b.val + 768) 256 (rowsDq3 X 1 b z)

/-- The keys' accumulator after a pair on the diagonal. -/
def diagDk (y : FVec F ⟨3, ![2, 1024, 256]⟩ .f32) : FVec F ⟨3, ![2, 1024, 256]⟩ .f32 :=
  have y0 := putRows (putRows y 0 0 256 (stripDk0 X 0 y)) 1 0 256 (stripDk0 X 1 y)
  have y1 := putRows (putRows y0 0 256 256 (stripDk X 0 y 256 768 (by decide) (by decide))) 1 256 256 (stripDk X 1 y 256 768 (by decide) (by decide))
  have y2 := putRows (putRows y1 0 512 256 (stripDk X 0 y 512 512 (by decide) (by decide))) 1 512 256 (stripDk X 1 y 512 512 (by decide) (by decide))
  putRows (putRows y2 0 768 256 (stripDk X 0 y 768 256 (by decide) (by decide))) 1 768 256 (stripDk X 1 y 768 256 (by decide) (by decide))

/-- The values' accumulator after a pair on the diagonal. -/
def diagDv (y : FVec F ⟨3, ![2, 1024, 128]⟩ .f32) : FVec F ⟨3, ![2, 1024, 128]⟩ .f32 :=
  have y0 := putRows (putRows y 0 0 256 (stripDv0 X 0 y)) 1 0 256 (stripDv0 X 1 y)
  have y1 := putRows (putRows y0 0 256 256 (stripDv X 0 y 256 768 (by decide) (by decide))) 1 256 256 (stripDv X 1 y 256 768 (by decide) (by decide))
  have y2 := putRows (putRows y1 0 512 256 (stripDv X 0 y 512 512 (by decide) (by decide))) 1 512 256 (stripDv X 1 y 512 512 (by decide) (by decide))
  putRows (putRows y2 0 768 256 (stripDv X 0 y 768 256 (by decide) (by decide))) 1 768 256 (stripDv X 1 y 768 256 (by decide) (by decide))

/-- The accumulators after a pair on the diagonal, the query tile being the `b`-th. -/
def diagStep (b : Fin 4) (Y : Accs F) : Accs F where
  dq := diagDq X b Y.dq
  dk := diagDk X Y.dk
  dv := diagDv X Y.dv

end Cert.KernelIdeal.Flash

end
-- ==== Proof.Flash.StageB.lean ====
/-
  The block of the attention gradient's kernel body that runs a pair of tiles below the diagonal.
-/
module

public import proofs.«01_k».proof.Proof.Flash.StageA
public import proofs.«01_k».proof.Proof.Flash.Tile

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- A load at a unit-stride rectangle reads a window of what the view reads. -/
theorem readAt_window {Val : EltTy → Type} {κ : Kind} {sp : Space} {s : Shape} {e : EltTy} (v : View sig κ sp s e) (f : v.ty.Contents Val)
    (off size : Fin s.rank → ℕ) (inb : ∀ a, off a + size a ≤ s.size a) :
    v.readAt Val (Rect.unit off size inb).toLoadRect f = VecWindow.window (v.read Val f) off size inb :=
  View.readAt_unit v f inb rfl inb

/-- A store at a unit-stride rectangle puts its payload into what the view reads. -/
theorem read_writes_put {Val : EltTy → Type} {κ : Kind} {sp : Space} {s : Shape} {e : EltTy} (v : View sig κ sp s e) (f : v.ty.Contents Val)
    (off size : Fin s.rank → ℕ) (inb : ∀ a, off a + size a ≤ s.size a) (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A load at a unit-stride rectangle whose offsets are known reads the window there. -/
theorem readAt_off {Val : EltTy → Type} {κ : Kind} {sp : Space} {s : Shape} {e : EltTy} (v : View sig κ sp s e) (f : v.ty.Contents Val)
    {off off' : Fin s.rank → ℕ} (h : off = off') (size : Fin s.rank → ℕ) (inb : ∀ a, off a + size a ≤ s.size a) :
    v.readAt Val (Rect.unit off size inb).toLoadRect f = VecWindow.window (v.read Val f) off' size (h ▸ inb) :=
  View.readAt_unit v f inb h _

theorem off_word : ∀ (b : Fin 4), (Scalar.indexCast (Scalar.addi (Scalar.muli (BitVec.ofNat 32 b.val) 1024#32) 0#32)).toNat = 1024 * b.val
    ∧ (Scalar.indexCast (Scalar.addi (Scalar.muli (BitVec.ofNat 32 b.val) 1024#32) 256#32)).toNat = 1024 * b.val + 256
    ∧ (Scalar.indexCast (Scalar.addi (Scalar.muli (BitVec.ofNat 32 b.val) 1024#32) 512#32)).toNat = 1024 * b.val + 512
    ∧ (Scalar.indexCast (Scalar.addi (Scalar.muli (BitVec.ofNat 32 b.val) 1024#32) 768#32)).toNat = 1024 * b.val + 768 := by
  decide

theorem k0_off1_eq (i : grid0.Coords) : k0_off1 i = ![(0 : Fin 2).val, 1024 * (i 2).val, 0] :=
  congrArg (fun n : ℕ => (![0, n, 0] : Fin 3 → ℕ)) ((off_word (i 2)).1)
theorem readAt_off1 {Val : EltTy → Type} {κ : Kind} {sp : Space} {e : EltTy} (v : View sig κ sp S2x4096x256 e) (f : v.ty.Contents Val)
    (i : grid0.Coords) (size : Fin 3 → ℕ) (inb : ∀ a, k0_off1 i a + size a ≤ S2x4096x256.size a) :
    v.readAt Val (Rect.unit (k0_off1 i) size inb).toLoadRect f = VecWindow.window (v.read Val f) ![(0 : Fin 2).val, 1024 * (i 2).val, 0] size (k0_off1_eq i ▸ inb) :=
  readAt_off v f (k0_off1_eq i) size inb

theorem k0_off2_eq (i : grid0.Coords) : k0_off2 i = ![(1 : Fin 2).val, 1024 * (i 2).val, 0] :=
  congrArg (fun n : ℕ => (![1, n, 0] : Fin 3 → ℕ)) ((off_word (i 2)).1)
theorem readAt_off2 {Val : EltTy → Type} {κ : Kind} {sp : Space} {e : EltTy} (v : View sig κ sp S2x4096x256 e) (f : v.ty.Contents Val)
    (i : grid0.Coords) (size : Fin 3 → ℕ) (inb : ∀ a, k0_off2 i a + size a ≤ S2x4096x256.size a) :
    v.readAt Val (Rect.unit (k0_off2 i) size inb).toLoadRect f = VecWindow.window (v.read Val f) ![(1 : Fin 2).val, 1024 * (i 2).val, 0] size (k0_off2_eq i ▸ inb) :=
  readAt_off v f (k0_off2_eq i) size inb

theorem k0_off3_eq (i : grid0.Coords) : k0_off3 i = ![(0 : Fin 2).val, 1024 * (i 2).val, 0] :=
  congrArg (fun n : ℕ => (![0, n, 0] : Fin 3 → ℕ)) ((off_word (i 2)).1)
theorem readAt_off3 {Val : EltTy → Type} {κ : Kind} {sp : Space} {e : EltTy} (v : View sig κ sp S2x4096x256 e) (f : v.ty.Contents Val)
    (i : grid0.Coords) (size : Fin 3 → ℕ) (inb : ∀ a, k0_off3 i a + size a ≤ S2x4096x256.size a) :
    v.readAt Val (Rect.unit (k0_off3 i) size inb).toLoadRect f = VecWindow.window (v.read Val f) ![(0 : Fin 2).val, 1024 * (i 2).val, 0] size (k0_off3_eq i ▸ inb) :=
  readAt_off v f (k0_off3_eq i) size inb

theorem k0_off4_eq (i : grid0.Coords) : k0_off4 i = ![(1 : Fin 2).val, 1024 * (i 2).val, 0] :=
  congrArg (fun n : ℕ => (![1, n, 0] : Fin 3 → ℕ)) ((off_word (i 2)).1)
theorem readAt_off4 {Val : EltTy → Type} {κ : Kind} {sp : Space} {e : EltTy} (v : View sig κ sp S2x4096x256 e) (f : v.ty.Contents Val)
    (i : grid0.Coords) (size : Fin 3 → ℕ) (inb : ∀ a, k0_off4 i a + size a ≤ S2x4096x256.size a) :
    v.readAt Val (Rect.unit (k0_off4 i) size inb).toLoadRect f = VecWindow.window (v.read Val f) ![(1 : Fin 2).val, 1024 * (i 2).val, 0] size (k0_off4_eq i ▸ inb) :=
  readAt_off v f (k0_off4_eq i) size inb

theorem k0_off5_eq (i : grid0.Coords) : k0_off5 i = ![(0 : Fin 2).val, 1024 * (i 2).val + 256, 0] :=
  congrArg (fun n : ℕ => (![0, n, 0] : Fin 3 → ℕ)) ((off_word (i 2)).2.1)
theorem readAt_off5 {Val : EltTy → Type} {κ : Kind} {sp : Space} {e : EltTy} (v : View sig κ sp S2x4096x256 e) (f : v.ty.Contents Val)
    (i : grid0.Coords) (size : Fin 3 → ℕ) (inb : ∀ a, k0_off5 i a + size a ≤ S2x4096x256.size a) :
    v.readAt Val (Rect.unit (k0_off5 i) size inb).toLoadRect f = VecWindow.window (v.read Val f) ![(0 : Fin 2).val, 1024 * (i 2).val + 256, 0] size (k0_off5_eq i ▸ inb) :=
  readAt_off v f (k0_off5_eq i) size inb

theorem k0_off6_eq (i : grid0.Coords) : k0_off6 i = ![(1 : Fin 2).val, 1024 * (i 2).val + 256, 0] :=
  congrArg (fun n : ℕ => (![1, n, 0] : Fin 3 → ℕ)) ((off_word (i 2)).2.1)
theorem readAt_off6 {Val : EltTy → Type} {κ : Kind} {sp : Space} {e : EltTy} (v : View sig κ sp S2x4096x256 e) (f : v.ty.Contents Val)
    (i : grid0.Coords) (size : Fin 3 → ℕ) (inb : ∀ a, k0_off6 i a + size a ≤ S2x4096x256.size a) :
    v.readAt Val (Rect.unit (k0_off6 i) size inb).toLoadRect f = VecWindow.window (v.read Val f) ![(1 : Fin 2).val, 1024 * (i 2).val + 256, 0] size (k0_off6_eq i ▸ inb) :=
  readAt_off v f (k0_off6_eq i) size inb

theorem k0_off7_eq (i : grid0.Coords) : k0_off7 i = ![(0 : Fin 2).val, 1024 * (i 2).val + 512, 0] :=
  congrArg (fun n : ℕ => (![0, n, 0] : Fin 3 → ℕ)) ((off_word (i 2)).2.2.1)
theorem readAt_off7 {Val : EltTy → Type} {κ : Kind} {sp : Space} {e : EltTy} (v : View sig κ sp S2x4096x256 e) (f : v.ty.Contents Val)
    (i : grid0.Coords) (size : Fin 3 → ℕ) (inb : ∀ a, k0_off7 i a + size a ≤ S2x4096x256.size a) :
    v.readAt Val (Rect.unit (k0_off7 i) size inb).toLoadRect f = VecWindow.window (v.read Val f) ![(0 : Fin 2).val, 1024 * (i 2).val + 512, 0] size (k0_off7_eq i ▸ inb) :=
  readAt_off v f (k0_off7_eq i) size inb

theorem k0_off8_eq (i : grid0.Coords) : k0_off8 i = ![(1 : Fin 2).val, 1024 * (i 2).val + 512, 0] :=
  congrArg (fun n : ℕ => (![1, n, 0] : Fin 3 → ℕ)) ((off_word (i 2)).2.2.1)
theorem readAt_off8 {Val : EltTy → Type} {κ : Kind} {sp : Space} {e : EltTy} (v : View sig κ sp S2x4096x256 e) (f : v.ty.Contents Val)
    (i : grid0.Coords) (size : Fin 3 → ℕ) (inb : ∀ a, k0_off8 i a + size a ≤ S2x4096x256.size a) :
    v.readAt Val (Rect.unit (k0_off8 i) size inb).toLoadRect f = VecWindow.window (v.read Val f) ![(1 : Fin 2).val, 1024 * (i 2).val + 512, 0] size (k0_off8_eq i ▸ inb) :=
  readAt_off v f (k0_off8_eq i) size inb

theorem k0_off9_eq (i : grid0.Coords) : k0_off9 i = ![(0 : Fin 2).val, 1024 * (i 2).val + 768, 0] :=
  congrArg (fun n : ℕ => (![0, n, 0] : Fin 3 → ℕ)) ((off_word (i 2)).2.2.2)
theorem readAt_off9 {Val : EltTy → Type} {κ : Kind} {sp : Space} {e : EltTy} (v : View sig κ sp S2x4096x256 e) (f : v.ty.Contents Val)
    (i : grid0.Coords) (size : Fin 3 → ℕ) (inb : ∀ a, k0_off9 i a + size a ≤ S2x4096x256.size a) :
    v.readAt Val (Rect.unit (k0_off9 i) size inb).toLoadRect f = VecWindow.window (v.read Val f) ![(0 : Fin 2).val, 1024 * (i 2).val + 768, 0] size (k0_off9_eq i ▸ inb) :=
  readAt_off v f (k0_off9_eq i) size inb

theorem k0_off10_eq (i : grid0.Coords) : k0_off10 i = ![(1 : Fin 2).val, 1024 * (i 2).val + 768, 0] :=
  congrArg (fun n : ℕ => (![1, n, 0] : Fin 3 → ℕ)) ((off_word (i 2)).2.2.2)
theorem readAt_off10 {Val : EltTy → Type} {κ : Kind} {sp : Space} {e : EltTy} (v : View sig κ sp S2x4096x256 e) (f : v.ty.Contents Val)
    (i : grid0.Coords) (size : Fin 3 → ℕ) (inb : ∀ a, k0_off10 i a + size a ≤ S2x4096x256.size a) :
    v.readAt Val (Rect.unit (k0_off10 i) size inb).toLoadRect f = VecWindow.window (v.read Val f) ![(1 : Fin 2).val, 1024 * (i 2).val + 768, 0] size (k0_off10_eq i ▸ inb) :=
  readAt_off v f (k0_off10_eq i) size inb

theorem window_congr {α : Type} {s : Shape} (x : s.Idx → α) {d d' : Fin s.rank → ℕ} (h : d = d') (size : Fin s.rank → ℕ)
    (i : ∀ a, d a + size a ≤ s.size a) (i' : ∀ a, d' a + size a ≤ s.size a) : VecWindow.window x d size i = VecWindow.window x d' size i' := by
  subst h; rfl

/-- A load inside the last store's rectangle reads that store's payload, at the load's place in it. -/
theorem readCov_inside {Val : EltTy → Type} [∀ e, Nonempty (Val e)] {κ : Kind} {sp : Space} {s : Shape} {e : EltTy} (v : View sig κ sp s e)
    (off off' d size size' : Fin s.rank → ℕ) (inb : ∀ a, off a + size a ≤ s.size a) (inb' : ∀ a, off' a + size' a ≤ s.size a)
    (w : (Rect.unit off size inb).shape.Idx → Val e) (L : List (View.Piece Val s e)) (h : off' = fun a => off a + d a) (hd : ∀ a, d a + size' a ≤ size a) :
    v.readCov (⟨Rect.unit off size inb, w⟩ :: L) (Rect.unit off' size' inb').toLoadRect = VecWindow.window (s := ⟨s.rank, size⟩) w d size' hd := by
  subst h
  show v.readAt Val _ (v.writes Val v.junk _) = _
  rw [readAt_window, read_writes_put, VecWindow.window_put_of_inside _ _ _ _ _ _ _ (fun a => by have := hd a; constructor <;> omega)]
  exact window_congr _ (funext fun a => Nat.add_sub_cancel_left _ _) _ _ _

theorem readCov_off5 {Val : EltTy → Type} [∀ e, Nonempty (Val e)] {κ : Kind} {sp : Space} {e : EltTy} (v : View sig κ sp S2x4096x256 e) (i : grid0.Coords)
    (inb : ∀ a, k0_off3 i a + (![1, 1024, 256] : Fin 3 → ℕ) a ≤ S2x4096x256.size a) (inb' : ∀ a, k0_off5 i a + (![1, 768, 256] : Fin 3 → ℕ) a ≤ S2x4096x256.size a)
    (w : (Rect.unit (s := S2x4096x256) (k0_off3 i) ![1, 1024, 256] inb).shape.Idx → Val e) (L : List (View.Piece Val S2x4096x256 e)) :
    v.readCov (⟨Rect.unit (k0_off3 i) ![1, 1024, 256] inb, w⟩ :: L) (Rect.unit (s := S2x4096x256) (k0_off5 i) ![1, 768, 256] inb').toLoadRect
      = VecWindow.window (s := ⟨3, ![1, 1024, 256]⟩) w ![0, 256, 0] ![1, 768, 256] (by decide) :=
  readCov_inside v _ _ ![0, 256, 0] _ _ inb inb' w L (by
    rw [k0_off5_eq, k0_off3_eq]; funext a; fin_cases a <;> simp) (by decide)
theorem readCov_off6 {Val : EltTy → Type} [∀ e, Nonempty (Val e)] {κ : Kind} {sp : Space} {e : EltTy} (v : View sig κ sp S2x4096x256 e) (i : grid0.Coords)
    (inb : ∀ a, k0_off4 i a + (![1, 1024, 256] : Fin 3 → ℕ) a ≤ S2x4096x256.size a) (inb' : ∀ a, k0_off6 i a + (![1, 768, 256] : Fin 3 → ℕ) a ≤ S2x4096x256.size a)
    (w : (Rect.unit (s := S2x4096x256) (k0_off4 i) ![1, 1024, 256] inb).shape.Idx → Val e) (L : List (View.Piece Val S2x4096x256 e)) :
    v.readCov (⟨Rect.unit (k0_off4 i) ![1, 1024, 256] inb, w⟩ :: L) (Rect.unit (s := S2x4096x256) (k0_off6 i) ![1, 768, 256] inb').toLoadRect
      = VecWindow.window (s := ⟨3, ![1, 1024, 256]⟩) w ![0, 256, 0] ![1, 768, 256] (by decide) :=
  readCov_inside v _ _ ![0, 256, 0] _ _ inb inb' w L (by
    rw [k0_off6_eq, k0_off4_eq]; funext a; fin_cases a <;> simp) (by decide)
theorem readCov_off7 {Val : EltTy → Type} [∀ e, Nonempty (Val e)] {κ : Kind} {sp : Space} {e : EltTy} (v : View sig κ sp S2x4096x256 e) (i : grid0.Coords)
    (inb : ∀ a, k0_off5 i a + (![1, 768, 256] : Fin 3 → ℕ) a ≤ S2x4096x256.size a) (inb' : ∀ a, k0_off7 i a + (![1, 512, 256] : Fin 3 → ℕ) a ≤ S2x4096x256.size a)
    (w : (Rect.unit (s := S2x4096x256) (k0_off5 i) ![1, 768, 256] inb).shape.Idx → Val e) (L : List (View.Piece Val S2x4096x256 e)) :
    v.readCov (⟨Rect.unit (k0_off5 i) ![1, 768, 256] inb, w⟩ :: L) (Rect.unit (s := S2x4096x256) (k0_off7 i) ![1, 512, 256] inb').toLoadRect
      = VecWindow.window (s := ⟨3, ![1, 768, 256]⟩) w ![0, 256, 0] ![1, 512, 256] (by decide) :=
  readCov_inside v _ _ ![0, 256, 0] _ _ inb inb' w L (by
    rw [k0_off7_eq, k0_off5_eq]; funext a; fin_cases a <;> simp) (by decide)
theorem readCov_off8 {Val : EltTy → Type} [∀ e, Nonempty (Val e)] {κ : Kind} {sp : Space} {e : EltTy} (v : View sig κ sp S2x4096x256 e) (i : grid0.Coords)
    (inb : ∀ a, k0_off6 i a + (![1, 768, 256] : Fin 3 → ℕ) a ≤ S2x4096x256.size a) (inb' : ∀ a, k0_off8 i a + (![1, 512, 256] : Fin 3 → ℕ) a ≤ S2x4096x256.size a)
    (w : (Rect.unit (s := S2x4096x256) (k0_off6 i) ![1, 768, 256] inb).shape.Idx → Val e) (L : List (View.Piece Val S2x4096x256 e)) :
    v.readCov (⟨Rect.unit (k0_off6 i) ![1, 768, 256] inb, w⟩ :: L) (Rect.unit (s := S2x4096x256) (k0_off8 i) ![1, 512, 256] inb').toLoadRect
      = VecWindow.window (s := ⟨3, ![1, 768, 256]⟩) w ![0, 256, 0] ![1, 512, 256] (by decide) :=
  readCov_inside v _ _ ![0, 256, 0] _ _ inb inb' w L (by
    rw [k0_off8_eq, k0_off6_eq]; funext a; fin_cases a <;> simp) (by decide)
theorem readCov_off9 {Val : EltTy → Type} [∀ e, Nonempty (Val e)] {κ : Kind} {sp : Space} {e : EltTy} (v : View sig κ sp S2x4096x256 e) (i : grid0.Coords)
    (inb : ∀ a, k0_off7 i a + (![1, 512, 256] : Fin 3 → ℕ) a ≤ S2x4096x256.size a) (inb' : ∀ a, k0_off9 i a + (![1, 256, 256] : Fin 3 → ℕ) a ≤ S2x4096x256.size a)
    (w : (Rect.unit (s := S2x4096x256) (k0_off7 i) ![1, 512, 256] inb).shape.Idx → Val e) (L : List (View.Piece Val S2x4096x256 e)) :
    v.readCov (⟨Rect.unit (k0_off7 i) ![1, 512, 256] inb, w⟩ :: L) (Rect.unit (s := S2x4096x256) (k0_off9 i) ![1, 256, 256] inb').toLoadRect
      = VecWindow.window (s := ⟨3, ![1, 512, 256]⟩) w ![0, 256, 0] ![1, 256, 256] (by decide) :=
  readCov_inside v _ _ ![0, 256, 0] _ _ inb inb' w L (by
    rw [k0_off9_eq, k0_off7_eq]; funext a; fin_cases a <;> simp) (by decide)
theorem readCov_off10 {Val : EltTy → Type} [∀ e, Nonempty (Val e)] {κ : Kind} {sp : Space} {e : EltTy} (v : View sig κ sp S2x4096x256 e) (i : grid0.Coords)
    (inb : ∀ a, k0_off8 i a + (![1, 512, 256] : Fin 3 → ℕ) a ≤ S2x4096x256.size a) (inb' : ∀ a, k0_off10 i a + (![1, 256, 256] : Fin 3 → ℕ) a ≤ S2x4096x256.size a)
    (w : (Rect.unit (s := S2x4096x256) (k0_off8 i) ![1, 512, 256] inb).shape.Idx → Val e) (L : List (View.Piece Val S2x4096x256 e)) :
    v.readCov (⟨Rect.unit (k0_off8 i) ![1, 512, 256] inb, w⟩ :: L) (Rect.unit (s := S2x4096x256) (k0_off10 i) ![1, 256, 256] inb').toLoadRect
      = VecWindow.window (s := ⟨3, ![1, 512, 256]⟩) w ![0, 256, 0] ![1, 256, 256] (by decide) :=
  readCov_inside v _ _ ![0, 256, 0] _ _ inb inb' w L (by
    rw [k0_off10_eq, k0_off8_eq]; funext a; fin_cases a <;> simp) (by decide)

/-- A load of one head's rows does not see a store to the other head's. -/
theorem readCov_other {Val : EltTy → Type} [∀ e, Nonempty (Val e)] {κ : Kind} {sp : Space} {e : EltTy} (v : View sig κ sp S2x4096x256 e)
    (off off' : Fin 3 → ℕ) (n n' : ℕ) (inb : ∀ a, off a + (![1, n, 256] : Fin 3 → ℕ) a ≤ S2x4096x256.size a) (inb' : ∀ a, off' a + (![1, n', 256] : Fin 3 → ℕ) a ≤ S2x4096x256.size a)
    (w : (Rect.unit (s := S2x4096x256) off ![1, n, 256] inb).shape.Idx → Val e) (L : List (View.Piece Val S2x4096x256 e)) (h : off 0 ≠ off' 0) :
    v.readCov (⟨Rect.unit off ![1, n, 256] inb, w⟩ :: L) (Rect.unit (s := S2x4096x256) off' ![1, n', 256] inb').toLoadRect
      = v.readCov L (Rect.unit (s := S2x4096x256) off' ![1, n', 256] inb').toLoadRect := by
  show v.readAt Val _ (v.writes Val v.junk _) = v.readAt Val _ (v.writes Val v.junk _)
  rw [readAt_window, readAt_window, read_writes_put, VecWindow.window_put_of_disjoint _ _ _ _ _ _ _ 0 (by
    show off' 0 + 1 ≤ off 0 ∨ off 0 + 1 ≤ off' 0
    omega)]

theorem readCov_skip5 {Val : EltTy → Type} [∀ e, Nonempty (Val e)] {κ : Kind} {sp : Space} {e : EltTy} (v : View sig κ sp S2x4096x256 e) (i : grid0.Coords)
    (inb : ∀ a, k0_off4 i a + (![1, 1024, 256] : Fin 3 → ℕ) a ≤ S2x4096x256.size a) (inb' : ∀ a, k0_off5 i a + (![1, 768, 256] : Fin 3 → ℕ) a ≤ S2x4096x256.size a)
    (w : (Rect.unit (s := S2x4096x256) (k0_off4 i) ![1, 1024, 256] inb).shape.Idx → Val e) (L : List (View.Piece Val S2x4096x256 e)) :
    v.readCov (⟨Rect.unit (k0_off4 i) ![1, 1024, 256] inb, w⟩ :: L) (Rect.unit (s := S2x4096x256) (k0_off5 i) ![1, 768, 256] inb').toLoadRect
      = v.readCov L (Rect.unit (s := S2x4096x256) (k0_off5 i) ![1, 768, 256] inb').toLoadRect :=
  readCov_other v _ _ _ _ inb inb' w L (by rw [k0_off5_eq, k0_off4_eq]; simp)
theorem readCov_skip6 {Val : EltTy → Type} [∀ e, Nonempty (Val e)] {κ : Kind} {sp : Space} {e : EltTy} (v : View sig κ sp S2x4096x256 e) (i : grid0.Coords)
    (inb : ∀ a, k0_off5 i a + (![1, 768, 256] : Fin 3 → ℕ) a ≤ S2x4096x256.size a) (inb' : ∀ a, k0_off6 i a + (![1, 768, 256] : Fin 3 → ℕ) a ≤ S2x4096x256.size a)
    (w : (Rect.unit (s := S2x4096x256) (k0_off5 i) ![1, 768, 256] inb).shape.Idx → Val e) (L : List (View.Piece Val S2x4096x256 e)) :
    v.readCov (⟨Rect.unit (k0_off5 i) ![1, 768, 256] inb, w⟩ :: L) (Rect.unit (s := S2x4096x256) (k0_off6 i) ![1, 768, 256] inb').toLoadRect
      = v.readCov L (Rect.unit (s := S2x4096x256) (k0_off6 i) ![1, 768, 256] inb').toLoadRect :=
  readCov_other v _ _ _ _ inb inb' w L (by rw [k0_off6_eq, k0_off5_eq]; simp)
theorem readCov_skip7 {Val : EltTy → Type} [∀ e, Nonempty (Val e)] {κ : Kind} {sp : Space} {e : EltTy} (v : View sig κ sp S2x4096x256 e) (i : grid0.Coords)
    (inb : ∀ a, k0_off6 i a + (![1, 768, 256] : Fin 3 → ℕ) a ≤ S2x4096x256.size a) (inb' : ∀ a, k0_off7 i a + (![1, 512, 256] : Fin 3 → ℕ) a ≤ S2x4096x256.size a)
    (w : (Rect.unit (s := S2x4096x256) (k0_off6 i) ![1, 768, 256] inb).shape.Idx → Val e) (L : List (View.Piece Val S2x4096x256 e)) :
    v.readCov (⟨Rect.unit (k0_off6 i) ![1, 768, 256] inb, w⟩ :: L) (Rect.unit (s := S2x4096x256) (k0_off7 i) ![1, 512, 256] inb').toLoadRect
      = v.readCov L (Rect.unit (s := S2x4096x256) (k0_off7 i) ![1, 512, 256] inb').toLoadRect :=
  readCov_other v _ _ _ _ inb inb' w L (by rw [k0_off7_eq, k0_off6_eq]; simp)
theorem readCov_skip8 {Val : EltTy → Type} [∀ e, Nonempty (Val e)] {κ : Kind} {sp : Space} {e : EltTy} (v : View sig κ sp S2x4096x256 e) (i : grid0.Coords)
    (inb : ∀ a, k0_off7 i a + (![1, 512, 256] : Fin 3 → ℕ) a ≤ S2x4096x256.size a) (inb' : ∀ a, k0_off8 i a + (![1, 512, 256] : Fin 3 → ℕ) a ≤ S2x4096x256.size a)
    (w : (Rect.unit (s := S2x4096x256) (k0_off7 i) ![1, 512, 256] inb).shape.Idx → Val e) (L : List (View.Piece Val S2x4096x256 e)) :
    v.readCov (⟨Rect.unit (k0_off7 i) ![1, 512, 256] inb, w⟩ :: L) (Rect.unit (s := S2x4096x256) (k0_off8 i) ![1, 512, 256] inb').toLoadRect
      = v.readCov L (Rect.unit (s := S2x4096x256) (k0_off8 i) ![1, 512, 256] inb').toLoadRect :=
  readCov_other v _ _ _ _ inb inb' w L (by rw [k0_off8_eq, k0_off7_eq]; simp)
theorem readCov_skip9 {Val : EltTy → Type} [∀ e, Nonempty (Val e)] {κ : Kind} {sp : Space} {e : EltTy} (v : View sig κ sp S2x4096x256 e) (i : grid0.Coords)
    (inb : ∀ a, k0_off8 i a + (![1, 512, 256] : Fin 3 → ℕ) a ≤ S2x4096x256.size a) (inb' : ∀ a, k0_off9 i a + (![1, 256, 256] : Fin 3 → ℕ) a ≤ S2x4096x256.size a)
    (w : (Rect.unit (s := S2x4096x256) (k0_off8 i) ![1, 512, 256] inb).shape.Idx → Val e) (L : List (View.Piece Val S2x4096x256 e)) :
    v.readCov (⟨Rect.unit (k0_off8 i) ![1, 512, 256] inb, w⟩ :: L) (Rect.unit (s := S2x4096x256) (k0_off9 i) ![1, 256, 256] inb').toLoadRect
      = v.readCov L (Rect.unit (s := S2x4096x256) (k0_off9 i) ![1, 256, 256] inb').toLoadRect :=
  readCov_other v _ _ _ _ inb inb' w L (by rw [k0_off9_eq, k0_off8_eq]; simp)
theorem readCov_skip10 {Val : EltTy → Type} [∀ e, Nonempty (Val e)] {κ : Kind} {sp : Space} {e : EltTy} (v : View sig κ sp S2x4096x256 e) (i : grid0.Coords)
    (inb : ∀ a, k0_off9 i a + (![1, 256, 256] : Fin 3 → ℕ) a ≤ S2x4096x256.size a) (inb' : ∀ a, k0_off10 i a + (![1, 256, 256] : Fin 3 → ℕ) a ≤ S2x4096x256.size a)
    (w : (Rect.unit (s := S2x4096x256) (k0_off9 i) ![1, 256, 256] inb).shape.Idx → Val e) (L : List (View.Piece Val S2x4096x256 e)) :
    v.readCov (⟨Rect.unit (k0_off9 i) ![1, 256, 256] inb, w⟩ :: L) (Rect.unit (s := S2x4096x256) (k0_off10 i) ![1, 256, 256] inb').toLoadRect
      = v.readCov L (Rect.unit (s := S2x4096x256) (k0_off10 i) ![1, 256, 256] inb').toLoadRect :=
  readCov_other v _ _ _ _ inb inb' w L (by rw [k0_off10_eq, k0_off9_eq]; simp)

set_option maxHeartbeats 40000000 in
theorem stage3 (c : Dev nD) (i : grid0.Coords) (arg3 : Memref sig .tc .vmem S2x1024x256 .bf16) (harg3 : arg3.IsWhole) (arg4 : Memref sig .tc .vmem S2x1024x256 .bf16) (harg4 : arg4.IsWhole) (arg5 : Memref sig .tc .vmem S2x1024x128 .bf16) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S1024x256 .bf16) (harg8 : arg8.IsWhole) (arg9 : Memref sig .tc .vmem S2x4096x256 .bf16) (harg9 : arg9.IsWhole) (arg10 : Memref sig .tc .vmem S2x1024x256 .bf16) (harg10 : arg10.IsWhole) (arg11 : Memref sig .tc .vmem S2x1024x128 .bf16) (harg11 : arg11.IsWhole) (arg12 : Memref sig .tc .vmem S2x4096x256 .f32) (harg12 : arg12.IsWhole) (arg13 : Memref sig .tc .vmem S2x1024x256 .f32) (harg13 : arg13.IsWhole) (arg14 : Memref sig .tc .vmem S2x1024x128 .f32) (harg14 : arg14.IsWhole)
    (X : Tiles F) (Y : Accs F) {R : Type}
    (κ : Prog (TpuEff nD τ sig (Elt F) Λ₀ .tc) R) (E : Set ℕ) (Q : R → sProp 𝕄) :
    iprop(owns (c : Thread nD τ) arg3 fullShare X.q
      ∗ owns (c : Thread nD τ) arg4 fullShare X.k
      ∗ owns (c : Thread nD τ) arg5 fullShare X.v
      ∗ owns (c : Thread nD τ) arg6 fullShare X.o
      ∗ owns (c : Thread nD τ) arg7 fullShare X.l
      ∗ owns (c : Thread nD τ) arg8 fullShare X.g
      ∗ owns (c : Thread nD τ) arg12 fullShare Y.dq
      ∗ owns (c : Thread nD τ) arg13 fullShare Y.dk
      ∗ owns (c : Thread nD τ) arg14 fullShare Y.dv
      ∗ ((owns (c : Thread nD τ) arg3 fullShare X.q
      ∗ owns (c : Thread nD τ) arg4 fullShare X.k
      ∗ owns (c : Thread nD τ) arg5 fullShare X.v
      ∗ owns (c : Thread nD τ) arg6 fullShare X.o
      ∗ owns (c : Thread nD τ) arg7 fullShare X.l
      ∗ owns (c : Thread nD τ) arg8 fullShare X.g
      ∗ owns (c : Thread nD τ) arg12 fullShare (if k0_cond3 i = 1#1 then fullStep X (i 2) Y else Y).dq
      ∗ owns (c : Thread nD τ) arg13 fullShare (if k0_cond3 i = 1#1 then fullStep X (i 2) Y else Y).dk
      ∗ owns (c : Thread nD τ) arg14 fullShare (if k0_cond3 i = 1#1 then fullStep X (i 2) Y else Y).dv)
          -∗ wp frame (wpE (defs₀ (F := F)) Variants.none c none) E κ Q))
    ⊢ wp frame (wpE (defs₀ (F := F)) Variants.none c none) E (s3 i arg3 harg3 arg4 harg4 arg5 harg5 arg6 harg6 arg7 harg7 arg8 harg8 arg9 harg9 arg10 harg10 arg11 harg11 arg12 harg12 arg13 harg13 arg14 harg14 κ) Q := by
  obtain ⟨x3, x4, x5, x6, x7, x8⟩ := X
  obtain ⟨y12, y13, y14⟩ := Y
  dsimp only
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩, Hk⟩
  unfold s3
  by_cases h : k0_cond3 i = 1#1
  · sl_exec_parts (disch := first | sl_exact h)
    iapply Hk
    rw [if_pos h]
    isplitl [H3]
    · iexists _; isplitr; rotate_left
      · iexact H3
      · ipureintro; exact hf3
    isplitl [H4]
    · iexists _; isplitr; rotate_left
      · iexact H4
      · ipureintro; exact hf4
    isplitl [H5]
    · iexists _; isplitr; rotate_left
      · iexact H5
      · ipureintro; exact hf5
    isplitl [H6]
    · iexists _; isplitr; rotate_left
      · iexact H6
      · ipureintro; exact hf6
    isplitl [H7]
    · iexists _; isplitr; rotate_left
      · iexact H7
      · ipureintro; exact hf7
    isplitl [H8]
    · iexists _; isplitr; rotate_left
      · iexact H8
      · ipureintro; exact hf8
    isplitl [H12]
    · iexists _; isplitr; rotate_left
      · iexact H12
      · ipureintro
        sl_open_run
        simp only [readAt_off1, readAt_off2]
        simp only [read_writes_put, View.writes_nil, readAt_window, k0_off1_eq, k0_off2_eq, hf3, hf4, hf5, hf6, hf7, hf8, hf12, hf13, hf14]
        rfl
    isplitl [H13]
    · iexists _; isplitr; rotate_left
      · iexact H13
      · ipureintro
        sl_open_run
        simp only [readAt_off1, readAt_off2]
        simp only [read_writes_put, View.writes_nil, readAt_window, k0_off1_eq, k0_off2_eq, hf3, hf4, hf5, hf6, hf7, hf8, hf12, hf13, hf14]
        rfl
    · iexists _; isplitr; rotate_left
      · iexact H14
      · ipureintro
        sl_open_run
        simp only [readAt_off1, readAt_off2]
        simp only [read_writes_put, View.writes_nil, readAt_window, k0_off1_eq, k0_off2_eq, hf3, hf4, hf5, hf6, hf7, hf8, hf12, hf13, hf14]
        rfl
  · sl_exec (disch := first | sl_exact h)
    iapply Hk
    rw [if_neg h]
    isplitl [H3]
    · iexists _; isplitr; rotate_left
      · iexact H3
      · ipureintro; exact hf3
    isplitl [H4]
    · iexists _; isplitr; rotate_left
      · iexact H4
      · ipureintro; exact hf4
    isplitl [H5]
    · iexists _; isplitr; rotate_left
      · iexact H5
      · ipureintro; exact hf5
    isplitl [H6]
    · iexists _; isplitr; rotate_left
      · iexact H6
      · ipureintro; exact hf6
    isplitl [H7]
    · iexists _; isplitr; rotate_left
      · iexact H7
      · ipureintro; exact hf7
    isplitl [H8]
    · iexists _; isplitr; rotate_left
      · iexact H8
      · ipureintro; exact hf8
    isplitl [H12]
    · iexists _; isplitr; rotate_left
      · iexact H12
      · ipureintro; exact hf12
    isplitl [H13]
    · iexists _; isplitr; rotate_left
      · iexact H13
      · ipureintro; exact hf13
    · iexists _; isplitr; rotate_left
      · iexact H14
      · ipureintro; exact hf14

end Cert.KernelIdeal.Flash

end
-- ==== Proof.Flash.StageC.lean ====
/-
  The block of the attention gradient's kernel body that runs a pair of tiles on the diagonal.
-/
module

public import proofs.«01_k».proof.Proof.Flash.StageB
public import proofs.«01_k».proof.Proof.Flash.Tile

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
theorem stage4 (c : Dev nD) (i : grid0.Coords) (arg3 : Memref sig .tc .vmem S2x1024x256 .bf16) (harg3 : arg3.IsWhole) (arg4 : Memref sig .tc .vmem S2x1024x256 .bf16) (harg4 : arg4.IsWhole) (arg5 : Memref sig .tc .vmem S2x1024x128 .bf16) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S1024x256 .bf16) (harg8 : arg8.IsWhole) (arg9 : Memref sig .tc .vmem S2x4096x256 .bf16) (harg9 : arg9.IsWhole) (arg10 : Memref sig .tc .vmem S2x1024x256 .bf16) (harg10 : arg10.IsWhole) (arg11 : Memref sig .tc .vmem S2x1024x128 .bf16) (harg11 : arg11.IsWhole) (arg12 : Memref sig .tc .vmem S2x4096x256 .f32) (harg12 : arg12.IsWhole) (arg13 : Memref sig .tc .vmem S2x1024x256 .f32) (harg13 : arg13.IsWhole) (arg14 : Memref sig .tc .vmem S2x1024x128 .f32) (harg14 : arg14.IsWhole)
    (X : Tiles F) (Y : Accs F) {R : Type}
    (κ : Prog (TpuEff nD τ sig (Elt F) Λ₀ .tc) R) (E : Set ℕ) (Q : R → sProp 𝕄) :
    iprop(owns (c : Thread nD τ) arg3 fullShare X.q
      ∗ owns (c : Thread nD τ) arg4 fullShare X.k
      ∗ owns (c : Thread nD τ) arg5 fullShare X.v
      ∗ owns (c : Thread nD τ) arg6 fullShare X.o
      ∗ owns (c : Thread nD τ) arg7 fullShare X.l
      ∗ owns (c : Thread nD τ) arg8 fullShare X.g
      ∗ owns (c : Thread nD τ) arg12 fullShare Y.dq
      ∗ owns (c : Thread nD τ) arg13 fullShare Y.dk
      ∗ owns (c : Thread nD τ) arg14 fullShare Y.dv
      ∗ ((owns (c : Thread nD τ) arg3 fullShare X.q
      ∗ owns (c : Thread nD τ) arg4 fullShare X.k
      ∗ owns (c : Thread nD τ) arg5 fullShare X.v
      ∗ owns (c : Thread nD τ) arg6 fullShare X.o
      ∗ owns (c : Thread nD τ) arg7 fullShare X.l
      ∗ owns (c : Thread nD τ) arg8 fullShare X.g
      ∗ owns (c : Thread nD τ) arg12 fullShare (if k0_cond4 i = 1#1 then diagStep X (i 2) Y else Y).dq
      ∗ owns (c : Thread nD τ) arg13 fullShare (if k0_cond4 i = 1#1 then diagStep X (i 2) Y else Y).dk
      ∗ owns (c : Thread nD τ) arg14 fullShare (if k0_cond4 i = 1#1 then diagStep X (i 2) Y else Y).dv)
          -∗ wp frame (wpE (defs₀ (F := F)) Variants.none c none) E κ Q))
    ⊢ wp frame (wpE (defs₀ (F := F)) Variants.none c none) E (s4 i arg3 harg3 arg4 harg4 arg5 harg5 arg6 harg6 arg7 harg7 arg8 harg8 arg9 harg9 arg10 harg10 arg11 harg11 arg12 harg12 arg13 harg13 arg14 harg14 κ) Q := by
  obtain ⟨x3, x4, x5, x6, x7, x8⟩ := X
  obtain ⟨y12, y13, y14⟩ := Y
  dsimp only
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩, Hk⟩
  unfold s4
  by_cases h : k0_cond4 i = 1#1
  · sl_exec_parts (disch := first | sl_exact h)
    iapply Hk
    rw [if_pos h]
    isplitl [H3]
    · iexists _; isplitr; rotate_left
      · iexact H3
      · ipureintro; exact hf3
    isplitl [H4]
    · iexists _; isplitr; rotate_left
      · iexact H4
      · ipureintro; exact hf4
    isplitl [H5]
    · iexists _; isplitr; rotate_left
      · iexact H5
      · ipureintro; exact hf5
    isplitl [H6]
    · iexists _; isplitr; rotate_left
      · iexact H6
      · ipureintro; exact hf6
    isplitl [H7]
    · iexists _; isplitr; rotate_left
      · iexact H7
      · ipureintro; exact hf7
    isplitl [H8]
    · iexists _; isplitr; rotate_left
      · iexact H8
      · ipureintro; exact hf8
    isplitl [H12]
    · iexists _; isplitr; rotate_left
      · iexact H12
      · ipureintro
        sl_open_run
        simp only [readCov_off5, readCov_off6, readCov_off7, readCov_off8, readCov_off9, readCov_off10, readCov_skip5, readCov_skip6, readCov_skip7, readCov_skip8, readCov_skip9, readCov_skip10, readAt_off3, readAt_off4, readAt_off5, readAt_off6, readAt_off7, readAt_off8, readAt_off9, readAt_off10]
        simp only [read_writes_put, View.writes_nil, readAt_window, k0_off3_eq, k0_off4_eq, k0_off5_eq, k0_off6_eq, k0_off7_eq, k0_off8_eq, k0_off9_eq, k0_off10_eq, hf3, hf4, hf5, hf6, hf7, hf8, hf12, hf13, hf14]
        rfl
    isplitl [H13]
    · iexists _; isplitr; rotate_left
      · iexact H13
      · ipureintro
        sl_open_run
        simp only [readCov_off5, readCov_off6, readCov_off7, readCov_off8, readCov_off9, readCov_off10, readCov_skip5, readCov_skip6, readCov_skip7, readCov_skip8, readCov_skip9, readCov_skip10, readAt_off3, readAt_off4, readAt_off5, readAt_off6, readAt_off7, readAt_off8, readAt_off9, readAt_off10]
        simp only [read_writes_put, View.writes_nil, readAt_window, k0_off3_eq, k0_off4_eq, k0_off5_eq, k0_off6_eq, k0_off7_eq, k0_off8_eq, k0_off9_eq, k0_off10_eq, hf3, hf4, hf5, hf6, hf7, hf8, hf12, hf13, hf14]
        rfl
    · iexists _; isplitr; rotate_left
      · iexact H14
      · ipureintro
        sl_open_run
        simp only [readCov_off5, readCov_off6, readCov_off7, readCov_off8, readCov_off9, readCov_off10, readCov_skip5, readCov_skip6, readCov_skip7, readCov_skip8, readCov_skip9, readCov_skip10, readAt_off3, readAt_off4, readAt_off5, readAt_off6, readAt_off7, readAt_off8, readAt_off9, readAt_off10]
        simp only [read_writes_put, View.writes_nil, readAt_window, k0_off3_eq, k0_off4_eq, k0_off5_eq, k0_off6_eq, k0_off7_eq, k0_off8_eq, k0_off9_eq, k0_off10_eq, hf3, hf4, hf5, hf6, hf7, hf8, hf12, hf13, hf14]
        rfl
  · sl_exec (disch := first | sl_exact h)
    iapply Hk
    rw [if_neg h]
    isplitl [H3]
    · iexists _; isplitr; rotate_left
      · iexact H3
      · ipureintro; exact hf3
    isplitl [H4]
    · iexists _; isplitr; rotate_left
      · iexact H4
      · ipureintro; exact hf4
    isplitl [H5]
    · iexists _; isplitr; rotate_left
      · iexact H5
      · ipureintro; exact hf5
    isplitl [H6]
    · iexists _; isplitr; rotate_left
      · iexact H6
      · ipureintro; exact hf6
    isplitl [H7]
    · iexists _; isplitr; rotate_left
      · iexact H7
      · ipureintro; exact hf7
    isplitl [H8]
    · iexists _; isplitr; rotate_left
      · iexact H8
      · ipureintro; exact hf8
    isplitl [H12]
    · iexists _; isplitr; rotate_left
      · iexact H12
      · ipureintro; exact hf12
    isplitl [H13]
    · iexists _; isplitr; rotate_left
      · iexact H13
      · ipureintro; exact hf13
    · iexists _; isplitr; rotate_left
      · iexact H14
      · ipureintro; exact hf14

end Cert.KernelIdeal.Flash

end
-- ==== Proof.Flash.Body.lean ====
/-
  The attention gradient's kernel body at one grid point: the six blocks one after another, and what the whole body leaves.
-/
module

public import proofs.«01_k».proof.Proof.Flash.StageC
public import proofs.«01_k».proof.Proof.Flash.Tile

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What one grid point does to the three accumulators: zero them at the first point of a pair or of a key tile, then add
    the pair of tiles' products below the diagonal, or on it. -/
def step (i : grid0.Coords) (X : Tiles F) (Y : Accs F) : Accs F :=
  let Y1 : Accs F := ⟨val1 i Y.dq, val2k i Y.dk, val2v i Y.dv⟩
  let Y2 : Accs F := if k0_cond3 i = 1#1 then fullStep X (i 2) Y1 else Y1
  if k0_cond4 i = 1#1 then diagStep X (i 2) Y2 else Y2

/-- At the first point of a head pair what the accumulators held before does not matter. -/
theorem step_first (i : grid0.Coords) (h1 : c1 i) (h2 : c2 i) (X : Tiles F) (Y Y' : Accs F) : step i X Y = step i X Y' := by
  unfold step val1 val2k val2v
  rw [if_pos h1, if_pos h2, if_pos h2, if_pos h1, if_pos h2, if_pos h2]

set_option maxHeartbeats 8000000 in
theorem body (c : Dev nD) (i : grid0.Coords) (arg3 : Memref sig .tc .vmem S2x1024x256 .bf16) (harg3 : arg3.IsWhole) (arg4 : Memref sig .tc .vmem S2x1024x256 .bf16) (harg4 : arg4.IsWhole) (arg5 : Memref sig .tc .vmem S2x1024x128 .bf16) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S1024x256 .bf16) (harg8 : arg8.IsWhole) (arg9 : Memref sig .tc .vmem S2x4096x256 .bf16) (harg9 : arg9.IsWhole) (arg10 : Memref sig .tc .vmem S2x1024x256 .bf16) (harg10 : arg10.IsWhole) (arg11 : Memref sig .tc .vmem S2x1024x128 .bf16) (harg11 : arg11.IsWhole) (arg12 : Memref sig .tc .vmem S2x4096x256 .f32) (harg12 : arg12.IsWhole) (arg13 : Memref sig .tc .vmem S2x1024x256 .f32) (harg13 : arg13.IsWhole) (arg14 : Memref sig .tc .vmem S2x1024x128 .f32) (harg14 : arg14.IsWhole)
    (X : Tiles F) (Y : Accs F) (y9 : FVec F S2x4096x256 .bf16) (y10 : FVec F S2x1024x256 .bf16) (y11 : FVec F S2x1024x128 .bf16)
    (E : Set ℕ) (Q : PUnit → sProp 𝕄) :
    iprop(owns (c : Thread nD τ) arg3 fullShare X.q ∗ owns (c : Thread nD τ) arg4 fullShare X.k ∗ owns (c : Thread nD τ) arg5 fullShare X.v ∗ owns (c : Thread nD τ) arg6 fullShare X.o ∗ owns (c : Thread nD τ) arg7 fullShare X.l ∗ owns (c : Thread nD τ) arg8 fullShare X.g
      ∗ owns (c : Thread nD τ) arg9 fullShare y9 ∗ owns (c : Thread nD τ) arg10 fullShare y10 ∗ owns (c : Thread nD τ) arg11 fullShare y11
      ∗ owns (c : Thread nD τ) arg12 fullShare Y.dq ∗ owns (c : Thread nD τ) arg13 fullShare Y.dk ∗ owns (c : Thread nD τ) arg14 fullShare Y.dv
      ∗ ((owns (c : Thread nD τ) arg3 fullShare X.q ∗ owns (c : Thread nD τ) arg4 fullShare X.k ∗ owns (c : Thread nD τ) arg5 fullShare X.v ∗ owns (c : Thread nD τ) arg6 fullShare X.o ∗ owns (c : Thread nD τ) arg7 fullShare X.l ∗ owns (c : Thread nD τ) arg8 fullShare X.g
      ∗ owns (c : Thread nD τ) arg9 fullShare (if k0_cond6 i = 1#1 then k0_pay10 (step i X Y).dq else y9) ∗ owns (c : Thread nD τ) arg10 fullShare (if k0_cond5 i = 1#1 then val5k (step i X Y).dk else y10) ∗ owns (c : Thread nD τ) arg11 fullShare (if k0_cond5 i = 1#1 then val5v (step i X Y).dv else y11)
      ∗ owns (c : Thread nD τ) arg12 fullShare (step i X Y).dq ∗ owns (c : Thread nD τ) arg13 fullShare (step i X Y).dk ∗ owns (c : Thread nD τ) arg14 fullShare (step i X Y).dv)
          -∗ Q ⟨⟩))
    ⊢ wp frame (wpE (defs₀ (F := F)) Variants.none c none) E (cc0_l2_dattn i arg3 harg3 arg4 harg4 arg5 harg5 arg6 harg6 arg7 harg7 arg8 harg8 arg9 harg9 arg10 harg10 arg11 harg11 arg12 harg12 arg13 harg13 arg14 harg14) Q := by
  rw [cc0_l2_dattn_eq_skeleton]
  iintro ⟨H3, H4, H5, H6, H7, H8, H9, H10, H11, H12, H13, H14, Hk⟩
  rw [s1.eq]
  iapply (stage1 c i arg12 Y.dq _ E Q)
  isplitl [H12]; · iexact H12
  iintro H12
  rw [s2.eq]
  iapply (stage2 c i arg13 arg14 Y.dk Y.dv _ E Q)
  isplitl [H13]; · iexact H13
  isplitl [H14]; · iexact H14
  iintro ⟨H13, H14⟩
  rw [s3.eq]
  iapply (stage3 c i arg3 harg3 arg4 harg4 arg5 harg5 arg6 harg6 arg7 harg7 arg8 harg8 arg9 harg9 arg10 harg10 arg11 harg11 arg12 harg12 arg13 harg13 arg14 harg14 X ⟨val1 i Y.dq, val2k i Y.dk, val2v i Y.dv⟩ _ E Q)
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H14]; · iexact H14
  iintro ⟨H3, H4, H5, H6, H7, H8, H12, H13, H14⟩
  rw [s4.eq]
  iapply (stage4 c i arg3 harg3 arg4 harg4 arg5 harg5 arg6 harg6 arg7 harg7 arg8 harg8 arg9 harg9 arg10 harg10 arg11 harg11 arg12 harg12 arg13 harg13 arg14 harg14 X (if k0_cond3 i = 1#1 then fullStep X (i 2) ⟨val1 i Y.dq, val2k i Y.dk, val2v i Y.dv⟩ else ⟨val1 i Y.dq, val2k i Y.dk, val2v i Y.dv⟩) _ E Q)
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H14]; · iexact H14
  iintro ⟨H3, H4, H5, H6, H7, H8, H12, H13, H14⟩
  rw [s5.eq]
  iapply (stage5 c i arg10 harg10 arg11 harg11 arg13 arg14 y10 y11 (step i X Y).dk (step i X Y).dv _ E Q)
  isplitl [H10]; · iexact H10
  isplitl [H11]; · iexact H11
  isplitl [H13]; · iexact H13
  isplitl [H14]; · iexact H14
  iintro ⟨H10, H11, H13, H14⟩
  rw [s6.eq]
  iapply (stage6 c i arg9 harg9 arg12 y9 (step i X Y).dq _ E Q)
  isplitl [H9]; · iexact H9
  isplitl [H12]; · iexact H12
  iintro ⟨H9, H12⟩
  rw [show (s6.tail : Prog (TpuEff nD τ sig (Elt F) Λ₀ .tc) PUnit) = Pure.pure ⟨⟩ from rfl, wp_pure]; imodintro
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.KernelIdeal.Flash

end
-- ==== Proof.Flash.Run.lean ====
/-
  The run of the attention gradient's program: what the accumulators hold before every grid point, what the pipeline's
  buffers hold, the launch, and the frame.
-/
module

public import proofs.«01_k».proof.Proof.Flash.Body
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions at the grid points -/

theorem coord0 (t : Fin grid0.N) : (grid0.coords t 0).val = t.val / 16 % 8 := Pipeline.Grid.coords_val t 0 (by decide) rfl
theorem coord1 (t : Fin grid0.N) : (grid0.coords t 1).val = t.val / 4 % 4 := Pipeline.Grid.coords_val t 1 (by decide) rfl
theorem coord2 (t : Fin grid0.N) : (grid0.coords t 2).val = t.val / 1 % 4 := Pipeline.Grid.coords_val t 2 (by decide) rfl

theorem hc1 (t : Fin grid0.N) : c1 (grid0.coords t) ↔ t.val % 16 = 0 := by
  have ht : t.val < 128 := Nat.lt_of_lt_of_eq t.isLt N_0
  have e1 := coord1 t
  have e2 := coord2 t
  simp only [c1, e1, e2]
  word_cmp
theorem hc2 (t : Fin grid0.N) : c2 (grid0.coords t) ↔ t.val % 4 = 0 := by
  have ht : t.val < 128 := Nat.lt_of_lt_of_eq t.isLt N_0
  have e2 := coord2 t
  simp only [c2, e2]
  word_cmp
theorem hc3 (t : Fin grid0.N) : k0_cond3 (grid0.coords t) = 1#1 ↔ t.val / 4 % 4 < t.val % 4 := by
  have ht : t.val < 128 := Nat.lt_of_lt_of_eq t.isLt N_0
  have e1 := coord1 t
  have e2 := coord2 t
  simp only [k0_cond3, e1, e2]
  word_cmp
theorem hc4 (t : Fin grid0.N) : k0_cond4 (grid0.coords t) = 1#1 ↔ t.val / 4 % 4 = t.val % 4 := by
  have ht : t.val < 128 := Nat.lt_of_lt_of_eq t.isLt N_0
  have e1 := coord1 t
  have e2 := coord2 t
  simp only [k0_cond4, e1, e2]
  word_cmp
theorem hc5 (t : Fin grid0.N) : k0_cond5 (grid0.coords t) = 1#1 ↔ t.val % 4 = 3 := by
  have ht : t.val < 128 := Nat.lt_of_lt_of_eq t.isLt N_0
  have e2 := coord2 t
  simp only [k0_cond5, e2]
  word_cmp
theorem hc6 (t : Fin grid0.N) : k0_cond6 (grid0.coords t) = 1#1 ↔ t.val % 16 = 15 := by
  have ht : t.val < 128 := Nat.lt_of_lt_of_eq t.isLt N_0
  have e1 := coord1 t
  have e2 := coord2 t
  simp only [k0_cond6, e1, e2]
  word_cmp

/-! ## The buffers -/

abbrev ms0 (t : Fin cfg0.N) : Memref sig .tc .vmem S2x1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1024x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x4096x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x1024x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1024x128 .bf16 := win0_8.stage (cfg0.slots t 8)
abbrev hs8 (t : Fin cfg0.N) : (ms8 t).IsWhole := hstage0_8 ((cfg0.slots t 8).cast nbuf0_8)
/-- The three accumulators' buffers. -/
abbrev accQ : Memref sig .tc .vmem S2x4096x256 .f32 := Memref.whole cc0_scratch0
abbrev accK : Memref sig .tc .vmem S2x1024x256 .f32 := Memref.whole cc0_scratch1
abbrev accV : Memref sig .tc .vmem S2x1024x128 .f32 := Memref.whole cc0_scratch2

theorem PhiA_eq (c : Dev nD) :
    (Pipeline.ΦA spec0 c : sProp 𝕄)
      = iprop(iprop((∃ d, owns (c : Thread nD τ) accQ fullShare d) ∗ (∃ d, owns (c : Thread nD τ) accK fullShare d) ∗ (∃ d, owns (c : Thread nD τ) accV fullShare d)) ∗ (∃ r, prngReg c r)) := by
  unfold Pipeline.ΦA; rw [scopedRest0_eq]; simp only [accQ, accK, accV, owns_whole]; try rfl

/-! ## What the accumulators hold -/

/-- The six tiles the body finds at a grid point. -/
def tiles (c : Dev nD) (t : Fin cfg0.N) : Tiles F where
  q := iblk m c 0 t
  k := iblk m c 1 t
  v := iblk m c 2 t
  o := iblk m c 3 t
  l := iblk m c 4 t
  g := iblk m c 5 t

/-- The accumulators before the first `n` grid points have run, zero standing for what the first point finds. -/
def accs (c : Dev nD) : (n : ℕ) → n ≤ cfg0.N → Accs F
  | 0, _ => ⟨k0_pay1, k0_pay2, k0_pay3⟩
  | n + 1, h => step (grid0.coords ⟨n, h⟩) (tiles m c ⟨n, h⟩) (accs c n (Nat.le_of_lt h))

theorem accs_succ (c : Dev nD) (t : Fin cfg0.N) :
    accs m c (t.val + 1) t.isLt = step (grid0.coords t) (tiles m c t) (accs m c t.val (Nat.le_of_lt t.isLt)) := rfl

/-- The region's invariant: anything before the first point, then the accumulators at `accs`. -/
def PhiS (c : Dev nD) : (n : ℕ) → n ≤ cfg0.N → sProp 𝕄
  | 0, _ => Pipeline.ΦA spec0 c
  | n + 1, h => iprop(iprop(owns (c : Thread nD τ) accQ fullShare (accs m c (n + 1) h).dq ∗ owns (c : Thread nD τ) accK fullShare (accs m c (n + 1) h).dk
      ∗ owns (c : Thread nD τ) accV fullShare (accs m c (n + 1) h).dv) ∗ (∃ r, prngReg c r))

theorem PhiS_succ (c : Dev nD) (n : ℕ) (h : n + 1 ≤ cfg0.N) :
    PhiS m c (n + 1) h = iprop(iprop(owns (c : Thread nD τ) accQ fullShare (accs m c (n + 1) h).dq ∗ owns (c : Thread nD τ) accK fullShare (accs m c (n + 1) h).dk
      ∗ owns (c : Thread nD τ) accV fullShare (accs m c (n + 1) h).dv) ∗ (∃ r, prngReg c r)) := rfl

/-- Before any point: the accumulators hold something from which the point's step goes where `accs` goes. -/
theorem PhiS_found (c : Dev nD) (t : Fin cfg0.N) :
    PhiS m c t.val (Nat.le_of_lt t.isLt) ⊢ iprop(∃ Y : Accs F, ⌜step (grid0.coords t) (tiles m c t) Y = accs m c (t.val + 1) t.isLt⌝
      ∗ iprop(owns (c : Thread nD τ) accQ fullShare Y.dq ∗ owns (c : Thread nD τ) accK fullShare Y.dk ∗ owns (c : Thread nD τ) accV fullShare Y.dv) ∗ (∃ r, prngReg c r)) := by
  obtain ⟨n, hn⟩ := t
  cases n with
  | zero =>
    rw [show PhiS m c 0 (Nat.le_of_lt hn) = Pipeline.ΦA spec0 c from rfl, PhiA_eq]
    iintro ⟨⟨⟨%a, H12⟩, ⟨%b, H13⟩, ⟨%d, H14⟩⟩, Hg⟩
    iexists (⟨a, b, d⟩ : Accs F)
    isplitr
    · ipureintro
      rw [accs_succ m c ⟨0, hn⟩]
      exact step_first _ ((hc1 ⟨0, hn⟩).mpr (by simp)) ((hc2 ⟨0, hn⟩).mpr (by simp)) _ _ _
    isplitr [Hg]
    · isplitl [H12]; · iexact H12
      isplitl [H13]; · iexact H13
      iexact H14
    iexact Hg
  | succ n =>
    rw [PhiS_succ]
    iintro ⟨⟨H12, H13, H14⟩, Hg⟩
    iexists (accs m c (n + 1) (Nat.le_of_lt hn))
    isplitr
    · ipureintro
      exact (accs_succ m c ⟨n + 1, hn⟩).symm
    isplitr [Hg]
    · isplitl [H12]; · iexact H12
      isplitl [H13]; · iexact H13
      iexact H14
    iexact Hg

/-! ## The pipeline's data -/

/-- What each window's buffer holds after the body ran at a point that stores into it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay10 (accs m c (t.val + 1) t.isLt).dq
    | ⟨7, _⟩ => val5k (accs m c (t.val + 1) t.isLt).dk
    | ⟨8, _⟩ => val5v (accs m c (t.val + 1) t.isLt).dv
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay10 (accs m c (t.val + 1) t.isLt).dq := by dsimp only [dats]
theorem after7 (c : Dev nD) (t : Fin cfg0.N) : (dats m 0 c).after 7 t = val5k (accs m c (t.val + 1) t.isLt).dk := by dsimp only [dats]
theorem after8 (c : Dev nD) (t : Fin cfg0.N) : (dats m 0 c).after 8 t = val5v (accs m c (t.val + 1) t.isLt).dv := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) (d) (x) (hx : x = (dats m 0 c).after 6 t) :
    owns (c : Thread nD τ) (ms6 t) fullShare (if k0_cond6 (grid0.coords t) = 1#1 then x else (dats m 0 c).before 6 t d)
      ⊢ ((dats m 0 c).leavesExact 6 t : sProp 𝕄) := by
  by_cases h : k0_cond6 (grid0.coords t) = 1#1
  · rw [if_pos h, hx]
    unfold Dat.leavesExact
    rw [show cfg0.idle 6 (grid0.coords t) = false from by show (!(k0_cond6 (grid0.coords t) == 1#1)) = false; rw [h]; rfl]
  · rw [if_neg h, Dat.leavesExact_idle]
    · iintro H; iexists d; iexact H
    · show (!(k0_cond6 (grid0.coords t) == 1#1)) = true
      rw [beq_eq_false_iff_ne.mpr h]; rfl
    · exact Bool.eq_false_iff.mpr fun hf => h ((hc6 t).mpr ((flush0_6 t).mp hf))
theorem leaves7 (c : Dev nD) (t : Fin cfg0.N) (d) (x) (hx : x = (dats m 0 c).after 7 t) :
    owns (c : Thread nD τ) (ms7 t) fullShare (if k0_cond5 (grid0.coords t) = 1#1 then x else (dats m 0 c).before 7 t d)
      ⊢ ((dats m 0 c).leavesExact 7 t : sProp 𝕄) := by
  by_cases h : k0_cond5 (grid0.coords t) = 1#1
  · rw [if_pos h, hx]
    unfold Dat.leavesExact
    rw [show cfg0.idle 7 (grid0.coords t) = false from by show (!(k0_cond5 (grid0.coords t) == 1#1)) = false; rw [h]; rfl]
  · rw [if_neg h, Dat.leavesExact_idle]
    · iintro H; iexists d; iexact H
    · show (!(k0_cond5 (grid0.coords t) == 1#1)) = true
      rw [beq_eq_false_iff_ne.mpr h]; rfl
    · exact Bool.eq_false_iff.mpr fun hf => h ((hc5 t).mpr ((flush0_7 t).mp hf))
theorem leaves8 (c : Dev nD) (t : Fin cfg0.N) (d) (x) (hx : x = (dats m 0 c).after 8 t) :
    owns (c : Thread nD τ) (ms8 t) fullShare (if k0_cond5 (grid0.coords t) = 1#1 then x else (dats m 0 c).before 8 t d)
      ⊢ ((dats m 0 c).leavesExact 8 t : sProp 𝕄) := by
  by_cases h : k0_cond5 (grid0.coords t) = 1#1
  · rw [if_pos h, hx]
    unfold Dat.leavesExact
    rw [show cfg0.idle 8 (grid0.coords t) = false from by show (!(k0_cond5 (grid0.coords t) == 1#1)) = false; rw [h]; rfl]
  · rw [if_neg h, Dat.leavesExact_idle]
    · iintro H; iexists d; iexact H
    · show (!(k0_cond5 (grid0.coords t) == 1#1)) = true
      rw [beq_eq_false_iff_ne.mpr h]; rfl
    · exact Bool.eq_false_iff.mpr fun hf => h ((hc5 t).mpr ((flush0_8 t).mp hf))

/-! ## The body's triple at any point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ, Phi_castSucc]
  rw [leaves0, leaves1, leaves2, leaves3, leaves4, leaves5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := (PhiS_found m c t) $$ HΦ
  icases HΦ with ⟨%Y, %hY, ⟨H12, H13, H14⟩, Hg⟩
  iapply (body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accQ (Memref.isWhole_whole _) accK (Memref.isWhole_whole _) accV (Memref.isWhole_whole _)
    (tiles m c t) Y ((dats m 0 c).before 6 t d6) ((dats m 0 c).before 7 t d7) ((dats m 0 c).before 8 t d8) Set.univ _)
  rw [hY]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H14]; · iexact H14
  iintro ⟨H0, H1, H2, H3, H4, H5, H6, H7, H8, H12, H13, H14⟩
  isplitl [H12 H13 H14 Hg]
  · isplitr [Hg]
    · isplitl [H12]; · iexact H12
      isplitl [H13]; · iexact H13
      iexact H14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 m c t d6 _ (after6 m c t).symm); iexact H6
  isplitl [H7]
  · iapply (leaves7 m c t d7 _ (after7 m c t).symm); iexact H7
  iapply (leaves8 m c t d8 _ (after8 m c t).symm); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have h : ∀ (n : ℕ) (hn : n ≤ cfg0.N), PhiS m c n hn ⊢ Pipeline.ΦA spec0 c := by
    intro n hn
    cases n with
    | zero => exact .rfl
    | succ n =>
      rw [PhiS_succ, PhiA_eq]
      iintro ⟨⟨H12, H13, H14⟩, Hg⟩
      isplitr [Hg]
      · isplitl [H12]; · iexists _; iexact H12
        isplitl [H13]; · iexists _; iexact H13
        iexists _; iexact H14
      iexact Hg
  rw [show (dats m 0 c).Φ (Fin.last cfg0.N) = PhiS m c (Fin.last cfg0.N).val (Nat.le_of_lt_succ (Fin.last cfg0.N).isLt) from rfl]
  exact h _ _

/-! ## The run and the frame -/

set_option backward.isDefEq.respectTransparency.types false in
/-- Every execution terminates with the arrays at what the pipeline's data say and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Flash

end
-- ==== Proof.Flash.Twin.lean ====
/-
  The program on machine words. It is the idealized program with the named constant read as its own bit pattern, so the
  run proved for every float type is its run too.
-/
module

public import proofs.«01_k».proof.Proof.Gen.Kernel
public import proofs.«01_k».proof.Proof.Flash.Run

@[expose] public section

set_option maxRecDepth 65536

noncomputable section

namespace Cert.KernelIdeal.Flash

open Idealize.ShloMosaic Idealize.ShloMosaic.TcCoe Idealize.SL.Sem

/-- A named constant read as the bit pattern it was printed with. -/
abbrev plainNamed {F : FTy → Type} [FloatOps F] : Named F where
  named _ _ {φ} bits := Scalar.ofBits φ bits

variable {F : FTy → Type} [FloatOps F]

set_option maxHeartbeats 40000000 in
theorem body_same : @Cert.Kernel.cc0_l2_dattn F _ Cert.Kernel.Gen.facts = @Cert.KernelIdeal.cc0_l2_dattn F _ plainNamed Cert.KernelIdeal.Gen.facts := rfl

set_option maxHeartbeats 40000000 in
theorem defs0_same : @Cert.Kernel.defs₀ F _ Cert.Kernel.Gen.facts = @Cert.KernelIdeal.defs₀ F _ plainNamed Cert.KernelIdeal.Gen.facts := by
  unfold Cert.Kernel.defs₀ Cert.KernelIdeal.defs₀
  refine congrArg Defs.onTc ?_
  funext l
  match l with
  | 0 =>
    funext a
    obtain ⟨t, s⟩ := a
    exact congrArg (β := Prog (TpuEff nD τ sig (Elt F) Λ₀ .tc) PUnit) (fun f => f (grid0.coords t) (win0_0.stage (s 0)) (Cert.KernelIdeal.Gen.facts.hstage0_0 ((s 0).cast Cert.KernelIdeal.Gen.facts.nbuf0_0)) (win0_1.stage (s 1)) (Cert.KernelIdeal.Gen.facts.hstage0_1 ((s 1).cast Cert.KernelIdeal.Gen.facts.nbuf0_1)) (win0_2.stage (s 2)) (Cert.KernelIdeal.Gen.facts.hstage0_2 ((s 2).cast Cert.KernelIdeal.Gen.facts.nbuf0_2)) (win0_3.stage (s 3)) (Cert.KernelIdeal.Gen.facts.hstage0_3 ((s 3).cast Cert.KernelIdeal.Gen.facts.nbuf0_3)) (win0_4.stage (s 4)) (Cert.KernelIdeal.Gen.facts.hstage0_4 ((s 4).cast Cert.KernelIdeal.Gen.facts.nbuf0_4)) (win0_5.stage (s 5)) (Cert.KernelIdeal.Gen.facts.hstage0_5 ((s 5).cast Cert.KernelIdeal.Gen.facts.nbuf0_5)) (win0_6.stage (s 6)) (Cert.KernelIdeal.Gen.facts.hstage0_6 ((s 6).cast Cert.KernelIdeal.Gen.facts.nbuf0_6)) (win0_7.stage (s 7)) (Cert.KernelIdeal.Gen.facts.hstage0_7 ((s 7).cast Cert.KernelIdeal.Gen.facts.nbuf0_7)) (win0_8.stage (s 8)) (Cert.KernelIdeal.Gen.facts.hstage0_8 ((s 8).cast Cert.KernelIdeal.Gen.facts.nbuf0_8)) (Memref.whole cc0_scratch0) (Memref.isWhole_whole _) (Memref.whole cc0_scratch1) (Memref.isWhole_whole _) (Memref.whole cc0_scratch2) (Memref.isWhole_whole _)) (body_same (F := F))
  | ⟨_ + 1, h⟩ => exact absurd h (Nat.not_lt.2 (Nat.le_add_left _ _))
set_option maxHeartbeats 40000000 in
theorem main_same : @Cert.Kernel.main F _ Cert.Kernel.Gen.facts = @Cert.KernelIdeal.main F _ Cert.KernelIdeal.Gen.facts := rfl

set_option maxHeartbeats 40000000 in
theorem defs_same : @Cert.Kernel.defs F _ Cert.Kernel.Gen.facts = @Cert.KernelIdeal.defs F _ plainNamed Cert.KernelIdeal.Gen.facts := by
  exact congrArg (Pipeline.defs Cert.KernelIdeal.pcfgs) defs0_same

set_option maxHeartbeats 40000000 in
/-- The program on words runs, its argument arrays end unchanged and every semaphore reads zero. -/
theorem frame_words (m : (ℓ : Loc Cert.Kernel.nD Cert.Kernel.τ Cert.Kernel.sig) → Buf (Elt F) ℓ) (ρ : Dev Cert.Kernel.nD → PrngReg) :
    θ_run (@Cert.Kernel.defs F _ Cert.Kernel.Gen.facts) (onTc (τ := Cert.Kernel.τ) (@Cert.Kernel.main F _ Cert.Kernel.Gen.facts)) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_same, main_same]
  exact @frame F _ plainNamed m ρ

end Cert.KernelIdeal.Flash

end
-- ==== Proof.Flash.Read.lean ====
/-
  The tile pair's values read at a row and a column, both natural numbers: layout, products as sums over a range, the
  mask, the probabilities and the scores' gradient, all over the extended reals.
-/
module

public import proofs.«01_k».proof.Proof.Flash.Tile
public import Idealize.ShloMosaic.Lib.MatmulPlain
public import Idealize.ShloMosaic.Lib.Pointwise.Contract
public import Idealize.ShloMosaic.Lib.ValueIdx
public import Idealize.ShloMosaic.Lib.ValueLayout
public import Idealize.ShloMosaic.Lib.ValueLayoutCasts
public import Idealize.ShloMosaic.Lib.WordCmp

@[expose] public section

set_option maxRecDepth 16384

noncomputable section

namespace Cert.KernelIdeal.Flash

open Idealize.ShloMosaic hiding ix1 ix2 ix3 ix4 ix5 eq_ix1 eq_ix2 eq_ix3 eq_ix4
open Idealize.ShloMosaic.ValueIdx
open Finset (range)

/-- A matrix's entry at a row and a column, zero outside. -/
def at2 {A B : ℕ} (x : (⟨2, ![A, B]⟩ : Shape).Idx → EReal) (r c : ℕ) : EReal :=
  if h : r < A ∧ c < B then x (ix2 ⟨r, h.1⟩ ⟨c, h.2⟩) else 0
/-- A block's entry at a head, a row and a column, zero outside. -/
def at3 {A B C : ℕ} (x : (⟨3, ![A, B, C]⟩ : Shape).Idx → EReal) (a r c : ℕ) : EReal :=
  if h : a < A ∧ r < B ∧ c < C then x (ix3 ⟨a, h.1⟩ ⟨r, h.2.1⟩ ⟨c, h.2.2⟩) else 0

theorem at2_pos {A B : ℕ} (x : (⟨2, ![A, B]⟩ : Shape).Idx → EReal) {r c : ℕ} (hr : r < A) (hc : c < B) :
    at2 x r c = x (ix2 ⟨r, hr⟩ ⟨c, hc⟩) := dif_pos ⟨hr, hc⟩
theorem at3_pos {A B C : ℕ} (x : (⟨3, ![A, B, C]⟩ : Shape).Idx → EReal) {a r c : ℕ} (ha : a < A) (hr : r < B) (hc : c < C) :
    at3 x a r c = x (ix3 ⟨a, ha⟩ ⟨r, hr⟩ ⟨c, hc⟩) := dif_pos ⟨ha, hr, hc⟩
theorem at2_fin {A B : ℕ} (x : (⟨2, ![A, B]⟩ : Shape).Idx → EReal) (r : Fin A) (c : Fin B) : at2 x r.val c.val = x (ix2 r c) :=
  at2_pos x r.isLt c.isLt
theorem at3_fin {A B C : ℕ} (x : (⟨3, ![A, B, C]⟩ : Shape).Idx → EReal) (a : Fin A) (r : Fin B) (c : Fin C) :
    at3 x a.val r.val c.val = x (ix3 a r c) := at3_pos x a.isLt r.isLt c.isLt

/-- Two blocks with the same entries are the same. -/
theorem ext3 {A B C : ℕ} {x y : (⟨3, ![A, B, C]⟩ : Shape).Idx → EReal}
    (h : ∀ a r c, a < A → r < B → c < C → at3 x a r c = at3 y a r c) : x = y := funext fun j => by
  have := h (j 0).val (j 1).val (j 2).val (j 0).isLt (j 1).isLt (j 2).isLt
  rw [at3_fin x (j 0) (j 1) (j 2), at3_fin y (j 0) (j 1) (j 2)] at this
  rwa [eq_ix3 j]

/-! ## Layout -/

theorem at2_mat {n k : ℕ} (x : (⟨3, ![1, n, k]⟩ : Shape).Idx → EReal) {r c : ℕ} (hr : r < n) (hc : c < k) :
    at2 (mat x) r c = at3 x 0 r c := by
  rw [at2_pos _ hr hc, at3_pos _ Nat.one_pos hr hc]
  exact shapeCast_1ab_ab_apply x _ _ _
theorem at3_unmat {n k : ℕ} (x : (⟨2, ![n, k]⟩ : Shape).Idx → EReal) {r c : ℕ} (hr : r < n) (hc : c < k) :
    at3 (unmat x) 0 r c = at2 x r c := by
  rw [at2_pos _ hr hc, at3_pos _ Nat.one_pos hr hc]
  exact shapeCast_ab_1ab_apply x _ _ _ _

theorem at3_win {N K : ℕ} (x : (⟨3, ![2, N, K]⟩ : Shape).Idx → EReal) (a : Fin 2) (r n w : ℕ) (h : r + n ≤ N) (hw : w ≤ K)
    {i c : ℕ} (hi : i < n) (hc : c < w) : at3 (win x a r n w h hw) 0 i c = at3 x a.val (r + i) c := by
  rw [at3_pos _ Nat.one_pos hi hc, at3_pos _ a.isLt (by omega) (by omega)]
  refine congrArg x (funext fun b => Fin.ext ?_)
  match b with
  | ⟨0, _⟩ => rfl
  | ⟨1, _⟩ => show r + 1 * i = r + i; omega
  | ⟨2, _⟩ => show 0 + 1 * c = c; omega

theorem at3_tailRows {m w : ℕ} (x : FVec Ideal ⟨3, ![1, m, w]⟩ .f32) (r n : ℕ) (h : r + n ≤ m)
    {i c : ℕ} (hi : i < n) (hc : c < w) : at3 (tailRows x r n h) 0 i c = at3 x 0 (r + i) c := by
  rw [at3_pos _ Nat.one_pos hi hc, at3_pos _ Nat.one_pos (by omega) (by omega)]
  refine congrArg x (funext fun b => Fin.ext ?_)
  match b with
  | ⟨0, _⟩ => rfl
  | ⟨1, _⟩ => show r + 1 * i = r + i; omega
  | ⟨2, _⟩ => show 0 + 1 * c = c; omega

theorem at3_putRows {N K : ℕ} (x : (⟨3, ![2, N, K]⟩ : Shape).Idx → EReal) (a : Fin 2) (r n : ℕ)
    (w : (⟨3, ![1, n, K]⟩ : Shape).Idx → EReal) {b i c : ℕ} (hb : b < 2) (hi : i < N) (hc : c < K) :
    at3 (putRows x a r n w) b i c = if b = a.val ∧ r ≤ i ∧ i < r + n then at3 w 0 (i - r) c else at3 x b i c := by
  rw [at3_pos _ hb hi hc]
  unfold putRows VecWindow.put
  by_cases h : b = a.val ∧ r ≤ i ∧ i < r + n
  · rw [if_pos h, dif_pos (fun d => by
      match d with
      | ⟨0, _⟩ => show a.val ≤ b ∧ b < a.val + 1; omega
      | ⟨1, _⟩ => show r ≤ i ∧ i < r + n; omega
      | ⟨2, _⟩ => show 0 ≤ c ∧ c < 0 + K; omega), at3_pos _ Nat.one_pos (by omega) hc]
    refine congrArg w (funext fun d => Fin.ext ?_)
    match d with
    | ⟨0, _⟩ => show b - a.val = 0; omega
    | ⟨1, _⟩ => rfl
    | ⟨2, _⟩ => rfl
  · rw [if_neg h, dif_neg (fun hd => h ⟨by
      have h1 : a.val ≤ b ∧ b < a.val + 1 := hd (0 : Fin 3)
      omega, hd (1 : Fin 3)⟩), at3_pos _ hb hi hc]

theorem at2_half (x : (⟨2, ![1024, 256]⟩ : Shape).Idx → EReal) (a : Fin 2) {i c : ℕ} (hi : i < 1024) (hc : c < 128) :
    at2 (half x a) i c = at2 x i (128 * a.val + c) := by
  have := a.isLt
  rw [at2_pos _ hi hc, at2_pos _ hi (by omega)]
  refine congrArg x (funext fun b => Fin.ext ?_)
  match b with
  | ⟨0, _⟩ => show 0 + 1 * i = i; omega
  | ⟨1, _⟩ => show 128 * a.val + 1 * c = 128 * a.val + c; omega

theorem at2_rows {N w : ℕ} (x : (⟨2, ![N, w]⟩ : Shape).Idx → EReal) (r n : ℕ) (h : r + n ≤ N) {i c : ℕ} (hi : i < n) (hc : c < w) :
    at2 (rows x r n h) i c = at2 x (r + i) c := by
  rw [at2_pos _ hi hc, at2_pos _ (by omega) hc]
  refine congrArg x (funext fun b => Fin.ext ?_)
  match b with
  | ⟨0, _⟩ => rfl
  | ⟨1, _⟩ => show 0 + c = c; omega

theorem at2_spread {n m : ℕ} (x : (⟨2, ![n, 1]⟩ : Shape).Idx → EReal) {r c : ℕ} (hr : r < n) (hc : c < m) :
    at2 (broadcastTo ⟨2, ![n, m]⟩ x (spread_col n m)) r c = at2 x r 0 := by
  rw [at2_pos _ hr hc, at2_pos _ hr Nat.one_pos]
  refine broadcastTo_apply _ _ _ _ fun a => ?_
  match a with
  | ⟨0, _⟩ => by_cases h1 : n = 1
              · subst h1; simp; omega
              · simp [h1]
  | ⟨1, _⟩ => simp

/-! ## Products -/

theorem at2_matmulT {n k m : ℕ} {φ₁ φ₂ : FTy} (x : FVec Ideal ⟨2, ![n, k]⟩ φ₁) (y : FVec Ideal ⟨2, ![m, k]⟩ φ₂) {r c : ℕ} (hr : r < n) (hc : c < m) :
    at2 (matmul (DotDims.transposedRhs n k m) none x y (constant ⟨2, ![n, m]⟩ .f32 0x00000000#32)) r c
      = ∑ j ∈ range k, at2 x r j * at2 y c j := by
  rw [at2_pos _ hr hc, Finset.sum_range]
  refine (Ideal.matmul_transposedRhs_apply none x y _ _ _).trans ?_
  rw [show (constant ⟨2, ![n, m]⟩ .f32 0x00000000#32 : FVec Ideal ⟨2, ![n, m]⟩ .f32) (ix2 ⟨r, hr⟩ ⟨c, hc⟩) = 0 from Ideal.ofBits_zero_f32, zero_add]
  refine Finset.sum_congr rfl fun j _ => ?_
  rw [at2_pos x hr j.isLt, at2_pos y hc j.isLt]

theorem at2_matmul {n k m : ℕ} {φ₁ φ₂ : FTy} (x : FVec Ideal ⟨2, ![n, k]⟩ φ₁) (y : FVec Ideal ⟨2, ![k, m]⟩ φ₂) {r c : ℕ} (hr : r < n) (hc : c < m) :
    at2 (matmul (DotDims.plain n k m) none x y (constant ⟨2, ![n, m]⟩ .f32 0x00000000#32)) r c
      = ∑ j ∈ range k, at2 x r j * at2 y j c := by
  rw [at2_pos _ hr hc, Finset.sum_range]
  refine (Ideal.matmul_plain_apply none x y _ _ _).trans ?_
  rw [show (constant ⟨2, ![n, m]⟩ .f32 0x00000000#32 : FVec Ideal ⟨2, ![n, m]⟩ .f32) (ix2 ⟨r, hr⟩ ⟨c, hc⟩) = 0 from Ideal.ofBits_zero_f32, zero_add]
  refine Finset.sum_congr rfl fun j _ => ?_
  rw [at2_pos x hr j.isLt, at2_pos y j.isLt hc]

theorem at2_matmulN {n k m : ℕ} {φ₁ φ₂ : FTy} (x : FVec Ideal ⟨2, ![n, m]⟩ φ₁) (y : FVec Ideal ⟨2, ![n, k]⟩ φ₂) {r c : ℕ} (hr : r < m) (hc : c < k) :
    at2 (matmul (dotTN n m k) none x y (constant ⟨2, ![m, k]⟩ .f32 0x00000000#32)) r c
      = ∑ j ∈ range n, at2 x j r * at2 y j c := by
  rw [at2_pos _ hr hc, Finset.sum_range]
  refine (Ideal.matmul_apply₁_of (dotTN n m k) (a := 0) rfl (K := n) rfl x y _ (ix2 ⟨r, hr⟩ ⟨c, hc⟩) (fun j => ix2 j ⟨r, hr⟩) (fun j => ix2 j ⟨c, hc⟩)
    (fun j => funext fun a => Fin.ext ?_) (fun j => funext fun a => Fin.ext ?_)).trans ?_
  · match a with
    | ⟨0, _⟩ => rfl
    | ⟨1, _⟩ => rfl
  · match a with
    | ⟨0, _⟩ => rfl
    | ⟨1, _⟩ => rfl
  rw [show (constant ⟨2, ![m, k]⟩ .f32 0x00000000#32 : FVec Ideal ⟨2, ![m, k]⟩ .f32) (ix2 ⟨r, hr⟩ ⟨c, hc⟩) = 0 from Ideal.ofBits_zero_f32, zero_add]
  refine Finset.sum_congr rfl fun j _ => ?_
  rw [at2_pos x j.isLt hr, at2_pos y j.isLt hc]

/-! ## The tile pair -/

theorem at2_scores {n m : ℕ} (q : FVec Ideal ⟨3, ![1, n, 256]⟩ .bf16) (k : FVec Ideal ⟨3, ![1, m, 256]⟩ .bf16) {r c : ℕ} (hr : r < n) (hc : c < m) :
    at2 (scores q k) r c = ∑ j ∈ range 256, at3 q 0 r j * at3 k 0 c j := by
  refine (at2_matmulT _ _ hr hc).trans (Finset.sum_congr rfl fun j hj => ?_)
  rw [at2_mat _ hr (Finset.mem_range.mp hj), at2_mat _ hc (Finset.mem_range.mp hj)]

theorem sle_ofNat {a b : ℕ} (ha : a < 2 ^ 31) (hb : b < 2 ^ 31) : (BitVec.ofNat 32 a).sle (BitVec.ofNat 32 b) = decide (a ≤ b) := by
  have h1 : (BitVec.ofNat 32 a).toInt = a := by
    rw [BitVec.toInt_eq_toNat_of_lt]
    · rw [BitVec.toNat_ofNat, Nat.mod_eq_of_lt (by omega)]
    · rw [BitVec.toNat_ofNat, Nat.mod_eq_of_lt (by omega)]; omega
  have h2 : (BitVec.ofNat 32 b).toInt = b := by
    rw [BitVec.toInt_eq_toNat_of_lt]
    · rw [BitVec.toNat_ofNat, Nat.mod_eq_of_lt (by omega)]
    · rw [BitVec.toNat_ofNat, Nat.mod_eq_of_lt (by omega)]; omega
  rw [BitVec.sle_eq_decide, h1, h2]
  simp

theorem at2_masked {n m : ℕ} (hn : n ≤ 1024) (hm : m ≤ 1024) (s : FVec Ideal ⟨2, ![n, m]⟩ .f32) {r c : ℕ} (hr : r < n) (hc : c < m) :
    at2 (masked s) r c = if c ≤ r then at2 s r c else ⊥ := by
  rw [at2_pos _ hr hc, at2_pos _ hr hc]
  unfold masked
  have hcmp : (cmpi .sle (iota .tc ⟨2, ![n, m]⟩ 32 [1] (iotas n m 1)) (iota .tc ⟨2, ![n, m]⟩ 32 [0] (iotas n m 0))) (ix2 ⟨r, hr⟩ ⟨c, hc⟩)
      = BitVec.ofBool (decide (c ≤ r)) := by
    show IntOp.cmpi .sle (BitVec.ofNat 32 (0 * m + c)) (BitVec.ofNat 32 (0 * n + r)) = _
    rw [Nat.zero_mul, Nat.zero_add, Nat.zero_mul, Nat.zero_add]
    show BitVec.ofBool ((BitVec.ofNat 32 c).sle (BitVec.ofNat 32 r)) = _
    rw [sle_ofNat (by omega) (by omega)]
  rw [select_apply, hcmp]
  by_cases h : c ≤ r
  · rw [if_pos h, decide_eq_true h]; rfl
  · rw [if_neg h, decide_eq_false h]
    exact IdealRules.named_const.ideal_named_scalar (φ := .f32) κ "mask" 0xF149F2CA#32 ⊥ rfl

theorem at2_probs {n m : ℕ} (s : FVec Ideal ⟨2, ![n, m]⟩ .f32) (l : FVec Ideal ⟨3, ![1, n, 1]⟩ .f32) {r c : ℕ} (hr : r < n) (hc : c < m) :
    at2 (probs s l) r c = Ideal.exp (at2 s r c - at3 l 0 r 0) := by
  rw [← at2_mat l hr Nat.one_pos, ← at2_spread (mat l) hr hc, at2_pos _ hr hc, at2_pos _ hr hc, at2_pos _ hr hc]
  rfl

theorem at2_dscores {n m : ℕ} (p : FVec Ideal ⟨2, ![n, m]⟩ .f32) (g : FVec Ideal ⟨2, ![n, 128]⟩ .bf16) (v : FVec Ideal ⟨3, ![1, m, 128]⟩ .bf16)
    (d : FVec Ideal ⟨2, ![n, 1]⟩ .f32) {r c : ℕ} (hr : r < n) (hc : c < m) :
    at2 (dscores p g v d) r c = at2 p r c * ((∑ j ∈ range 128, at2 g r j * at3 v 0 c j) - at2 d r 0) := by
  have e : (∑ j ∈ range 128, at2 g r j * at3 v 0 c j)
      = at2 (matmul (DotDims.transposedRhs n 128 m) none g (mat v) (constant ⟨2, ![n, m]⟩ .f32 0x00000000#32)) r c := by
    refine ((at2_matmulT _ _ hr hc).trans (Finset.sum_congr rfl fun j hj => ?_)).symm
    rw [at2_mat _ hc (Finset.mem_range.mp hj)]
  rw [e, ← at2_spread d hr hc, at2_pos _ hr hc, at2_pos _ hr hc, at2_pos _ hr hc, at2_pos _ hr hc]
  rfl

theorem at2_rowDot (g o : FVec Ideal ⟨2, ![1024, 128]⟩ .bf16) {r : ℕ} (hr : r < 1024) :
    at2 (rowDot g o) r 0 = ∑ j ∈ range 128, at2 g r j * at2 o r j := by
  rw [at2_pos _ hr Nat.one_pos, Finset.sum_range]
  unfold rowDot
  refine (shapeCast_a_a1_apply _ _ _ _).trans ?_
  refine (Ideal.multiReduction_add_single _ _ _ _ _ _).trans ?_
  refine Finset.sum_congr rfl fun j _ => ?_
  have ej : (reduces_cols 1024 128).lift (ix1 ⟨r, hr⟩) j = ix2 ⟨r, hr⟩ j := funext fun b => Fin.ext (by
    match b with
    | ⟨0, _⟩ => rfl
    | ⟨1, _⟩ => rfl)
  rw [ej, at2_pos g hr j.isLt, at2_pos o hr j.isLt]
  rw [shapeCast_self]
  rfl

theorem at3_addDv {n m : ℕ} (y : FVec Ideal ⟨3, ![1, m, 128]⟩ .f32) (p : FVec Ideal ⟨2, ![n, m]⟩ .f32) (g : FVec Ideal ⟨2, ![n, 128]⟩ .bf16)
    {r c : ℕ} (hr : r < m) (hc : c < 128) :
    at3 (addDv y p g) 0 r c = at3 y 0 r c + ∑ j ∈ range n, at2 p j r * at2 g j c := by
  rw [addDv, at3_unmat _ hr hc, ← at2_mat y hr hc]
  have e := at2_matmulN (φ₁ := .bf16) (truncf .bf16 p (by decide)) g hr hc
  refine Eq.trans ?_ (congrArg (at2 (mat y) r c + ·) e)
  rw [at2_pos _ hr hc, at2_pos _ hr hc, at2_pos _ hr hc]
  rfl

theorem at3_addDk {n m : ℕ} (y : FVec Ideal ⟨3, ![1, m, 256]⟩ .f32) (ds : FVec Ideal ⟨2, ![n, m]⟩ .bf16) (q : FVec Ideal ⟨3, ![1, n, 256]⟩ .bf16)
    {r c : ℕ} (hr : r < m) (hc : c < 256) :
    at3 (addDk y ds q) 0 r c = at3 y 0 r c + ∑ j ∈ range n, at2 ds j r * at3 q 0 j c := by
  rw [addDk, at3_unmat _ hr hc, ← at2_mat y hr hc]
  have e := (at2_matmulN ds (mat q) hr hc).trans (Finset.sum_congr rfl fun j hj => by rw [at2_mat q (Finset.mem_range.mp hj) hc])
  refine Eq.trans ?_ (congrArg (at2 (mat y) r c + ·) e)
  rw [at2_pos _ hr hc, at2_pos _ hr hc, at2_pos _ hr hc]
  rfl

theorem at3_addDq {n m : ℕ} (y : FVec Ideal ⟨3, ![1, n, 256]⟩ .f32) (ds : FVec Ideal ⟨2, ![n, m]⟩ .bf16) (k : FVec Ideal ⟨3, ![1, m, 256]⟩ .bf16)
    {r c : ℕ} (hr : r < n) (hc : c < 256) :
    at3 (addDq y ds k) 0 r c = at3 y 0 r c + ∑ j ∈ range m, at2 ds r j * at3 k 0 j c := by
  rw [addDq, at3_unmat _ hr hc, ← at2_mat y hr hc]
  have e := (at2_matmul ds (mat k) hr hc).trans (Finset.sum_congr rfl fun j hj => by rw [at2_mat k (Finset.mem_range.mp hj) hc])
  refine Eq.trans ?_ (congrArg (at2 (mat y) r c + ·) e)
  rw [at2_pos _ hr hc, at2_pos _ hr hc, at2_pos _ hr hc]
  rfl

end Cert.KernelIdeal.Flash

end
-- ==== Proof.Flash.TileValue.lean ====
/-
  What one pair of tiles adds to the three gradients, read at a row and a column over the extended reals. On the diagonal
  the four strips of keys come to the same sums over all the tile's rows and keys, an entry above the diagonal being zero.
-/
module

public import proofs.«01_k».proof.Proof.Flash.Read

@[expose] public section

set_option maxRecDepth 16384

noncomputable section

namespace Cert.KernelIdeal.Flash

open Idealize.ShloMosaic hiding ix1 ix2 ix3 ix4 ix5 eq_ix1 eq_ix2 eq_ix3 eq_ix4
open Idealize.ShloMosaic.ValueIdx
open Finset (range)

variable (X : Tiles Ideal) (a : Fin 2)

/-- The score of a row against a key. -/
def tS (r k : ℕ) : EReal := ∑ j ∈ range 256, at3 X.q a.val r j * at3 X.k a.val k j
/-- The probability below the diagonal, -/
def tP (r k : ℕ) : EReal := Ideal.exp (tS X a r k - at3 X.l a.val r 0)
/-- and in a tile on the diagonal. -/
def tPm (r k : ℕ) : EReal := Ideal.exp ((if k ≤ r then tS X a r k else ⊥) - at3 X.l a.val r 0)
/-- A row's sum of the products of the result and its gradient. -/
def tD (r : ℕ) : EReal := ∑ j ∈ range 128, at2 X.g r (128 * a.val + j) * at2 X.o r (128 * a.val + j)
/-- The difference the probability is multiplied by. -/
def tE (r k : ℕ) : EReal := (∑ j ∈ range 128, at2 X.g r (128 * a.val + j) * at3 X.v a.val k j) - tD X a r
def tDs (r k : ℕ) : EReal := tP X a r k * tE X a r k
def tDsm (r k : ℕ) : EReal := tPm X a r k * tE X a r k

theorem bot_sub (x : EReal) : (⊥ : EReal) - x = ⊥ := by rw [sub_eq_add_neg, EReal.bot_add]

theorem tPm_above {r k : ℕ} (h : r < k) : tPm X a r k = 0 := by
  rw [tPm, if_neg (by omega), bot_sub]; rfl
theorem tDsm_above {r k : ℕ} (h : r < k) : tDsm X a r k = 0 := by
  rw [tDsm, tPm_above X a h, zero_mul]

theorem at2_delta {r : ℕ} (hr : r < 1024) : at2 (delta X a) r 0 = tD X a r := by
  refine (at2_rowDot _ _ hr).trans (Finset.sum_congr rfl fun j hj => ?_)
  rw [at2_half _ _ hr (Finset.mem_range.mp hj), at2_half _ _ hr (Finset.mem_range.mp hj)]

/-! ## Below the diagonal -/

theorem at2_fullP {r k : ℕ} (hr : r < 1024) (hk : k < 1024) : at2 (fullP X a) r k = tP X a r k := by
  rw [fullP, at2_probs _ _ hr hk, at2_scores _ _ hr hk, at3_win _ _ _ _ _ _ _ hr Nat.one_pos, tP, tS, Nat.zero_add]
  refine congrArg (fun s => Ideal.exp (s - _)) (Finset.sum_congr rfl fun j hj => ?_)
  rw [at3_win _ _ _ _ _ _ _ hr (Finset.mem_range.mp hj), at3_win _ _ _ _ _ _ _ hk (Finset.mem_range.mp hj), Nat.zero_add, Nat.zero_add]

theorem at2_fullDs {r k : ℕ} (hr : r < 1024) (hk : k < 1024) : at2 (fullDs X a) r k = tDs X a r k := by
  rw [fullDs, at2_dscores _ _ _ _ hr hk, at2_fullP X a hr hk, at2_delta X a hr, tDs, tE]
  refine congrArg (fun s => _ * (s - _)) (Finset.sum_congr rfl fun j hj => ?_)
  rw [at3_win _ _ _ _ _ _ _ hk (Finset.mem_range.mp hj), at2_half _ _ hr (Finset.mem_range.mp hj), Nat.zero_add]

/-- Both heads' rows replaced. -/
theorem at3_putHeads {N K : ℕ} (x : (⟨3, ![2, N, K]⟩ : Shape).Idx → EReal) (r n : ℕ)
    (f : Fin 2 → (⟨3, ![1, n, K]⟩ : Shape).Idx → EReal) {i c : ℕ} (hi : i < N) (hc : c < K) :
    at3 (putRows (putRows x 0 r n (f 0)) 1 r n (f 1)) a.val i c = if r ≤ i ∧ i < r + n then at3 (f a) 0 (i - r) c else at3 x a.val i c := by
  rw [at3_putRows _ _ _ _ _ a.isLt hi hc, at3_putRows _ _ _ _ _ a.isLt hi hc]
  by_cases h : r ≤ i ∧ i < r + n
  · rw [if_pos h]
    match a with
    | ⟨0, _⟩ => rw [if_neg (by simp), if_pos ⟨rfl, h⟩]; rfl
    | ⟨1, _⟩ => rw [if_pos ⟨rfl, h⟩]; rfl
  · rw [if_neg h, if_neg (fun x => h x.2), if_neg (fun x => h x.2)]

theorem fullStep_dq (b : Fin 4) (Y : Accs Ideal) {i c : ℕ} (hi : i < 4096) (hc : c < 256) :
    at3 (fullStep X b Y).dq a.val i c = at3 Y.dq a.val i c
      + if 1024 * b.val ≤ i ∧ i < 1024 * b.val + 1024 then ∑ k ∈ range 1024, tDs X a (i - 1024 * b.val) k * at3 X.k a.val k c else 0 := by
  rw [fullStep, at3_putHeads a Y.dq (1024 * b.val) 1024 (fun a => addDq (win Y.dq a (1024 * b.val) 1024 256 (by omega) (by decide)) (fullDs X a)
    (win X.k a 0 1024 256 (by decide) (by decide))) hi hc]
  by_cases h : 1024 * b.val ≤ i ∧ i < 1024 * b.val + 1024
  · have hi' : i - 1024 * b.val < 1024 := by omega
    rw [if_pos h, if_pos h, at3_addDq _ _ _ hi' hc, at3_win _ _ _ _ _ _ _ hi' hc, Nat.add_sub_cancel' h.1]
    refine congrArg (_ + ·) (Finset.sum_congr rfl fun k hk => ?_)
    rw [at2_fullDs X a hi' (Finset.mem_range.mp hk), at3_win _ _ _ _ _ _ _ (Finset.mem_range.mp hk) hc, Nat.zero_add]
  · rw [if_neg h, if_neg h, add_zero]

theorem fullStep_dk (b : Fin 4) (Y : Accs Ideal) {i c : ℕ} (hi : i < 1024) (hc : c < 256) :
    at3 (fullStep X b Y).dk a.val i c = at3 Y.dk a.val i c + ∑ r ∈ range 1024, tDs X a r i * at3 X.q a.val r c := by
  rw [fullStep, at3_putHeads a Y.dk 0 1024 (fun a => addDk (win Y.dk a 0 1024 256 (by decide) (by decide)) (fullDs X a)
    (win X.q a 0 1024 256 (by decide) (by decide))) hi hc, if_pos (by omega), Nat.sub_zero, at3_addDk _ _ _ hi hc, at3_win _ _ _ _ _ _ _ hi hc, Nat.zero_add]
  refine congrArg (_ + ·) (Finset.sum_congr rfl fun r hr => ?_)
  rw [at2_fullDs X a (Finset.mem_range.mp hr) hi, at3_win _ _ _ _ _ _ _ (Finset.mem_range.mp hr) hc, Nat.zero_add]

theorem fullStep_dv (b : Fin 4) (Y : Accs Ideal) {i c : ℕ} (hi : i < 1024) (hc : c < 128) :
    at3 (fullStep X b Y).dv a.val i c = at3 Y.dv a.val i c + ∑ r ∈ range 1024, tP X a r i * at2 X.g r (128 * a.val + c) := by
  rw [fullStep, at3_putHeads a Y.dv 0 1024 (fun a => addDv (win Y.dv a 0 1024 128 (by decide) (by decide)) (fullP X a) (half X.g a)) hi hc,
    if_pos (by omega), Nat.sub_zero, at3_addDv _ _ _ hi hc, at3_win _ _ _ _ _ _ _ hi hc, Nat.zero_add]
  refine congrArg (_ + ·) (Finset.sum_congr rfl fun r hr => ?_)
  rw [at2_fullP X a (Finset.mem_range.mp hr) hi, at2_half _ _ (Finset.mem_range.mp hr) hc]

/-! ## On the diagonal -/

theorem at2_stripP (r n : ℕ) (h : r + n ≤ 1024) (h' : r + 256 ≤ 1024) {i k : ℕ} (hi : i < n) (hk : k < 256) :
    at2 (stripP X a r n h h') i k = tPm X a (r + i) (r + k) := by
  rw [stripP, at2_probs _ _ hi hk, at2_masked (by omega) (by decide) _ hi hk, at2_scores _ _ hi hk, at3_win _ _ _ _ _ _ _ hi Nat.one_pos, tPm, tS]
  have e : (∑ j ∈ range 256, at3 (win X.q a r n 256 h (by decide)) 0 i j * at3 (win X.k a r 256 256 h' (by decide)) 0 k j)
      = ∑ j ∈ range 256, at3 X.q a.val (r + i) j * at3 X.k a.val (r + k) j := Finset.sum_congr rfl fun j hj => by
    rw [at3_win _ _ _ _ _ _ _ hi (Finset.mem_range.mp hj), at3_win _ _ _ _ _ _ _ hk (Finset.mem_range.mp hj)]
  rw [e]
  by_cases hik : k ≤ i
  · rw [if_pos hik, if_pos (by omega)]
  · rw [if_neg hik, if_neg (by omega)]

theorem at2_stripDs (r n : ℕ) (h : r + n ≤ 1024) (h' : r + 256 ≤ 1024) (g : FVec Ideal ⟨2, ![n, 128]⟩ .bf16) (d : FVec Ideal ⟨2, ![n, 1]⟩ .f32)
    {i k : ℕ} (hi : i < n) (hk : k < 256) (hg : ∀ j, j < 128 → at2 g i j = at2 X.g (r + i) (128 * a.val + j)) (hd : at2 d i 0 = tD X a (r + i)) :
    at2 (stripDs X a r n h h' g d) i k = tDsm X a (r + i) (r + k) := by
  rw [stripDs, at2_dscores _ _ _ _ hi hk, at2_stripP X a r n h h' hi hk, hd, tDsm, tE]
  refine congrArg (fun s => _ * (s - _)) (Finset.sum_congr rfl fun j hj => ?_)
  rw [at3_win _ _ _ _ _ _ _ hk (Finset.mem_range.mp hj), hg j (Finset.mem_range.mp hj)]

theorem at2_stripDs' (r n : ℕ) (h : r + n ≤ 1024) (h' : r + 256 ≤ 1024) {i k : ℕ} (hi : i < n) (hk : k < 256) :
    at2 (stripDs' X a r n h h') i k = tDsm X a (r + i) (r + k) :=
  at2_stripDs X a r n h h' _ _ hi hk (fun j hj => by rw [at2_rows _ _ _ _ hi hj, at2_half _ _ (by omega) hj])
    (by rw [at2_rows _ _ _ _ hi Nat.one_pos, at2_delta X a (by omega)])

theorem at2_stripDs0 {i k : ℕ} (hi : i < 1024) (hk : k < 256) : at2 (stripDs0 X a) i k = tDsm X a i k := by
  have := at2_stripDs X a 0 1024 (by decide) (by decide) (half X.g a) (delta X a) hi hk (fun j hj => by rw [at2_half _ _ hi hj, Nat.zero_add])
    (by rw [at2_delta X a hi, Nat.zero_add])
  exact this.trans (by rw [Nat.zero_add, Nat.zero_add])

/-- A sum over the last rows is the sum over all rows when the first rows' terms are zero. -/
theorem sum_tail (f : ℕ → EReal) {r n N : ℕ} (h : r + n = N) (h0 : ∀ i, i < r → f i = 0) : ∑ i ∈ range n, f (r + i) = ∑ i ∈ range N, f i := by
  subst h
  rw [Finset.sum_range_add, Finset.sum_eq_zero (fun i hi => h0 i (Finset.mem_range.mp hi)), zero_add]

/-- A sum over the first keys is the sum over all keys when the last keys' terms are zero. -/
theorem sum_head (f : ℕ → EReal) {n N : ℕ} (h : n ≤ N) (h0 : ∀ i, n ≤ i → f i = 0) : ∑ i ∈ range n, f i = ∑ i ∈ range N, f i := by
  obtain ⟨m, rfl⟩ := Nat.exists_eq_add_of_le h
  rw [Finset.sum_range_add, Finset.sum_eq_zero (fun i hi => h0 _ (Nat.le_add_right _ _)) (s := range m), add_zero]

theorem at3_stripDv0 (y : FVec Ideal ⟨3, ![2, 1024, 128]⟩ .f32) {i c : ℕ} (hi : i < 256) (hc : c < 128) :
    at3 (stripDv0 X a y) 0 i c = at3 y a.val i c + ∑ r ∈ range 1024, tPm X a r i * at2 X.g r (128 * a.val + c) := by
  rw [stripDv0, at3_addDv _ _ _ hi hc, at3_win _ _ _ _ _ _ _ hi hc, Nat.zero_add]
  refine congrArg (_ + ·) (Finset.sum_congr rfl fun j hj => ?_)
  rw [at2_stripP X a 0 1024 _ _ (Finset.mem_range.mp hj) hi, at2_half _ _ (Finset.mem_range.mp hj) hc, Nat.zero_add, Nat.zero_add]

theorem at3_stripDv (y : FVec Ideal ⟨3, ![2, 1024, 128]⟩ .f32) (r n : ℕ) (h : r + n ≤ 1024) (h' : r + 256 ≤ 1024) (hn : r + n = 1024) {i c : ℕ} (hi : i < 256) (hc : c < 128) :
    at3 (stripDv X a y r n h h') 0 i c = at3 y a.val (r + i) c + ∑ j ∈ range 1024, tPm X a j (r + i) * at2 X.g j (128 * a.val + c) := by
  rw [stripDv, at3_addDv _ _ _ hi hc, at3_win _ _ _ _ _ _ _ hi hc,
    ← sum_tail (fun j => tPm X a j (r + i) * at2 X.g j (128 * a.val + c)) hn (fun j hj => by rw [tPm_above X a (by omega), zero_mul])]
  refine congrArg (_ + ·) (Finset.sum_congr rfl fun j hj => ?_)
  rw [at2_stripP X a r n _ _ (Finset.mem_range.mp hj) hi, at2_rows _ _ _ _ (Finset.mem_range.mp hj) hc,
    at2_half _ _ (by have := Finset.mem_range.mp hj; omega) hc]

theorem at3_stripDk0 (y : FVec Ideal ⟨3, ![2, 1024, 256]⟩ .f32) {i c : ℕ} (hi : i < 256) (hc : c < 256) :
    at3 (stripDk0 X a y) 0 i c = at3 y a.val i c + ∑ r ∈ range 1024, tDsm X a r i * at3 X.q a.val r c := by
  rw [stripDk0, at3_addDk _ _ _ hi hc, at3_win _ _ _ _ _ _ _ hi hc, Nat.zero_add]
  refine congrArg (_ + ·) (Finset.sum_congr rfl fun j hj => ?_)
  rw [at2_stripDs0 X a (Finset.mem_range.mp hj) hi, at3_win _ _ _ _ _ _ _ (Finset.mem_range.mp hj) hc, Nat.zero_add]

theorem at3_stripDk (y : FVec Ideal ⟨3, ![2, 1024, 256]⟩ .f32) (r n : ℕ) (h : r + n ≤ 1024) (h' : r + 256 ≤ 1024) (hn : r + n = 1024) {i c : ℕ} (hi : i < 256) (hc : c < 256) :
    at3 (stripDk X a y r n h h') 0 i c = at3 y a.val (r + i) c + ∑ j ∈ range 1024, tDsm X a j (r + i) * at3 X.q a.val j c := by
  rw [stripDk, at3_addDk _ _ _ hi hc, at3_win _ _ _ _ _ _ _ hi hc,
    ← sum_tail (fun j => tDsm X a j (r + i) * at3 X.q a.val j c) hn (fun j hj => by rw [tDsm_above X a (by omega), zero_mul])]
  refine congrArg (_ + ·) (Finset.sum_congr rfl fun j hj => ?_)
  rw [at2_stripDs' X a r n _ _ (Finset.mem_range.mp hj) hi, at3_win _ _ _ _ _ _ _ (Finset.mem_range.mp hj) hc]

theorem diagStep_dv (b : Fin 4) (Y : Accs Ideal) {i c : ℕ} (hi : i < 1024) (hc : c < 128) :
    at3 (diagStep X b Y).dv a.val i c = at3 Y.dv a.val i c + ∑ r ∈ range 1024, tPm X a r i * at2 X.g r (128 * a.val + c) := by
  show at3 (diagDv X Y.dv) a.val i c = _
  unfold diagDv
  rw [at3_putHeads a _ 768 256 (fun a => stripDv X a Y.dv 768 256 (by decide) (by decide)) hi hc]
  by_cases h3 : 768 ≤ i ∧ i < 768 + 256
  · rw [if_pos h3, at3_stripDv X a _ _ _ _ _ rfl (by omega) hc, Nat.add_sub_cancel' h3.1]
  rw [if_neg h3, at3_putHeads a _ 512 256 (fun a => stripDv X a Y.dv 512 512 (by decide) (by decide)) hi hc]
  by_cases h2 : 512 ≤ i ∧ i < 512 + 256
  · rw [if_pos h2, at3_stripDv X a _ _ _ _ _ rfl (by omega) hc, Nat.add_sub_cancel' h2.1]
  rw [if_neg h2, at3_putHeads a _ 256 256 (fun a => stripDv X a Y.dv 256 768 (by decide) (by decide)) hi hc]
  by_cases h1 : 256 ≤ i ∧ i < 256 + 256
  · rw [if_pos h1, at3_stripDv X a _ _ _ _ _ rfl (by omega) hc, Nat.add_sub_cancel' h1.1]
  rw [if_neg h1, at3_putHeads a _ 0 256 (fun a => stripDv0 X a Y.dv) hi hc, if_pos (by omega), Nat.sub_zero, at3_stripDv0 X a _ (by omega) hc]

theorem diagStep_dk (b : Fin 4) (Y : Accs Ideal) {i c : ℕ} (hi : i < 1024) (hc : c < 256) :
    at3 (diagStep X b Y).dk a.val i c = at3 Y.dk a.val i c + ∑ r ∈ range 1024, tDsm X a r i * at3 X.q a.val r c := by
  show at3 (diagDk X Y.dk) a.val i c = _
  unfold diagDk
  rw [at3_putHeads a _ 768 256 (fun a => stripDk X a Y.dk 768 256 (by decide) (by decide)) hi hc]
  by_cases h3 : 768 ≤ i ∧ i < 768 + 256
  · rw [if_pos h3, at3_stripDk X a _ _ _ _ _ rfl (by omega) hc, Nat.add_sub_cancel' h3.1]
  rw [if_neg h3, at3_putHeads a _ 512 256 (fun a => stripDk X a Y.dk 512 512 (by decide) (by decide)) hi hc]
  by_cases h2 : 512 ≤ i ∧ i < 512 + 256
  · rw [if_pos h2, at3_stripDk X a _ _ _ _ _ rfl (by omega) hc, Nat.add_sub_cancel' h2.1]
  rw [if_neg h2, at3_putHeads a _ 256 256 (fun a => stripDk X a Y.dk 256 768 (by decide) (by decide)) hi hc]
  by_cases h1 : 256 ≤ i ∧ i < 256 + 256
  · rw [if_pos h1, at3_stripDk X a _ _ _ _ _ rfl (by omega) hc, Nat.add_sub_cancel' h1.1]
  rw [if_neg h1, at3_putHeads a _ 0 256 (fun a => stripDk0 X a Y.dk) hi hc, if_pos (by omega), Nat.sub_zero, at3_stripDk0 X a _ (by omega) hc]

/-! ### The queries' rows, strip by strip -/

/-- A row's sum over the first `n` keys of its tile. -/
def tQ (r c n : ℕ) : EReal := ∑ k ∈ range n, tDsm X a r k * at3 X.k a.val k c

theorem tQ_add (r c n : ℕ) : tQ X a r c n + ∑ k ∈ range 256, tDsm X a r (n + k) * at3 X.k a.val (n + k) c = tQ X a r c (n + 256) :=
  (Finset.sum_range_add _ _ _).symm
theorem tQ_all (r c n : ℕ) (h : n ≤ 1024) (h' : r < n) : tQ X a r c n = tQ X a r c 1024 :=
  sum_head _ h fun i hi => by rw [tDsm_above X a (by omega), zero_mul]

variable (b : Fin 4) (z : FVec Ideal ⟨3, ![2, 4096, 256]⟩ .f32)

theorem at3_rowsDq0 {i c : ℕ} (hi : i < 1024) (hc : c < 256) :
    at3 (rowsDq0 X a b z) 0 i c = at3 z a.val (1024 * b.val + i) c + tQ X a i c 256 := by
  rw [rowsDq0, at3_addDq _ _ _ hi hc, at3_win _ _ _ _ _ _ _ hi hc]
  refine congrArg (_ + ·) (Finset.sum_congr rfl fun k hk => ?_)
  rw [at2_stripDs0 X a hi (Finset.mem_range.mp hk), at3_win _ _ _ _ _ _ _ (Finset.mem_range.mp hk) hc, Nat.zero_add]

theorem at3_rowsDq (r n : ℕ) (h : r + n ≤ 1024) (h' : r + 256 ≤ 1024) (w : FVec Ideal ⟨3, ![1, n, 256]⟩ .f32) {i c : ℕ} (hi : i < n) (hc : c < 256) (x : EReal)
    (hw : at3 w 0 i c = x + tQ X a (r + i) c r) : at3 (rowsDq X a r n h h' w) 0 i c = x + tQ X a (r + i) c (r + 256) := by
  rw [rowsDq, at3_addDq _ _ _ hi hc, hw, ← tQ_add, add_assoc]
  refine congrArg (fun s => x + (_ + s)) (Finset.sum_congr rfl fun k hk => ?_)
  rw [at2_stripDs' X a r n _ _ hi (Finset.mem_range.mp hk), at3_win _ _ _ _ _ _ _ (Finset.mem_range.mp hk) hc]

theorem at3_rowsDq1 {i c : ℕ} (hi : i < 768) (hc : c < 256) :
    at3 (rowsDq1 X a b z) 0 i c = at3 z a.val (1024 * b.val + (256 + i)) c + tQ X a (256 + i) c 512 :=
  at3_rowsDq X a 256 768 _ _ _ hi hc _ (by rw [at3_tailRows _ _ _ _ hi hc, at3_rowsDq0 X a b z (by omega) hc])
theorem at3_rowsDq2 {i c : ℕ} (hi : i < 512) (hc : c < 256) :
    at3 (rowsDq2 X a b z) 0 i c = at3 z a.val (1024 * b.val + (512 + i)) c + tQ X a (512 + i) c 768 :=
  at3_rowsDq X a 512 512 _ _ _ hi hc _ (by
    rw [at3_tailRows _ _ _ _ hi hc, at3_rowsDq1 X a b z (by omega) hc, show 256 + (256 + i) = 512 + i by omega])
theorem at3_rowsDq3 {i c : ℕ} (hi : i < 256) (hc : c < 256) :
    at3 (rowsDq3 X a b z) 0 i c = at3 z a.val (1024 * b.val + (768 + i)) c + tQ X a (768 + i) c 1024 :=
  at3_rowsDq X a 768 256 _ _ _ hi hc _ (by
    rw [at3_tailRows _ _ _ _ hi hc, at3_rowsDq2 X a b z (by omega) hc, show 512 + (256 + i) = 768 + i by omega])

theorem diagStep_dq (Y : Accs Ideal) {i c : ℕ} (hi : i < 4096) (hc : c < 256) :
    at3 (diagStep X b Y).dq a.val i c = at3 Y.dq a.val i c
      + if 1024 * b.val ≤ i ∧ i < 1024 * b.val + 1024 then ∑ k ∈ range 1024, tDsm X a (i - 1024 * b.val) k * at3 X.k a.val k c else 0 := by
  show at3 (diagDq X b Y.dq) a.val i c = _ + if 1024 * b.val ≤ i ∧ i < 1024 * b.val + 1024 then tQ X a (i - 1024 * b.val) c 1024 else 0
  unfold diagDq
  rw [at3_putHeads a _ (1024 * b.val + 768) 256 (fun a => rowsDq3 X a b Y.dq) hi hc]
  by_cases h3 : 1024 * b.val + 768 ≤ i ∧ i < 1024 * b.val + 768 + 256
  · rw [if_pos h3, if_pos (by omega), at3_rowsDq3 X a b _ (by omega) hc, show 768 + (i - (1024 * b.val + 768)) = i - 1024 * b.val by omega,
      show 1024 * b.val + (i - 1024 * b.val) = i by omega]
  rw [if_neg h3, at3_putHeads a _ (1024 * b.val + 512) 512 (fun a => rowsDq2 X a b Y.dq) hi hc]
  by_cases h2 : 1024 * b.val + 512 ≤ i ∧ i < 1024 * b.val + 512 + 512
  · rw [if_pos h2, if_pos (by omega), at3_rowsDq2 X a b _ (by omega) hc, show 512 + (i - (1024 * b.val + 512)) = i - 1024 * b.val by omega,
      show 1024 * b.val + (i - 1024 * b.val) = i by omega, tQ_all X a _ c 768 (by decide) (by omega)]
  rw [if_neg h2, at3_putHeads a _ (1024 * b.val + 256) 768 (fun a => rowsDq1 X a b Y.dq) hi hc]
  by_cases h1 : 1024 * b.val + 256 ≤ i ∧ i < 1024 * b.val + 256 + 768
  · rw [if_pos h1, if_pos (by omega), at3_rowsDq1 X a b _ (by omega) hc, show 256 + (i - (1024 * b.val + 256)) = i - 1024 * b.val by omega,
      show 1024 * b.val + (i - 1024 * b.val) = i by omega, tQ_all X a _ c 512 (by decide) (by omega)]
  rw [if_neg h1, at3_putHeads a _ (1024 * b.val) 1024 (fun a => rowsDq0 X a b Y.dq) hi hc]
  by_cases h0 : 1024 * b.val ≤ i ∧ i < 1024 * b.val + 1024
  · rw [if_pos h0, if_pos h0, at3_rowsDq0 X a b _ (by omega) hc,
      show 1024 * b.val + (i - 1024 * b.val) = i by omega, tQ_all X a _ c 256 (by decide) (by omega)]
  · rw [if_neg h0, if_neg h0, add_zero]

end Cert.KernelIdeal.Flash

end
-- ==== Proof.Flash.Walk.lean ====
/-
  What the accumulators hold along the grid: at a point of head pair `g`, key tile `j` and query tile `i` the sums over the
  rows and the keys the points so far have met, in terms of the launch's arrays read at a head, a row and a column.
-/
module

public import proofs.«01_k».proof.Proof.Flash.TileValue
public import proofs.«01_k».proof.Proof.Flash.Run
public import Idealize.ShloMosaic.Lib.Pipeline.ValueKit

@[expose] public section

set_option maxRecDepth 16384

noncomputable section

namespace Cert.KernelIdeal.Flash

open Idealize.ShloMosaic hiding ix1 ix2 ix3 ix4 ix5 eq_ix1 eq_ix2 eq_ix3 eq_ix4
open Idealize.ShloMosaic.ValueIdx
open Idealize.ShloMosaic.TcCoe Idealize.ShloMosaic.Tactic
open Cert.KernelIdeal.Gen
open Finset (range)

/-! ## The gradients in terms of whole arrays -/

/-- Whole arrays, at a head, a row and a column (the result and its gradient: at a row and a column of all heads). -/
structure Arrays where
  q : ℕ → ℕ → ℕ → EReal
  k : ℕ → ℕ → ℕ → EReal
  v : ℕ → ℕ → ℕ → EReal
  o : ℕ → ℕ → EReal
  l : ℕ → ℕ → EReal
  g : ℕ → ℕ → EReal

section Whole
variable (W : Arrays) (h : ℕ)
def gS (r k : ℕ) : EReal := ∑ j ∈ range 256, W.q h r j * W.k h k j
def gP (r k : ℕ) : EReal := Ideal.exp ((if k ≤ r then gS W h r k else ⊥) - W.l h r)
def gD (r : ℕ) : EReal := ∑ j ∈ range 128, W.g r (128 * h + j) * W.o r (128 * h + j)
def gE (r k : ℕ) : EReal := (∑ j ∈ range 128, W.g r (128 * h + j) * W.v h k j) - gD W h r
def gDs (r k : ℕ) : EReal := gP W h r k * gE W h r k
/-- The queries' gradient over the first `n` keys, -/
def gQ (r c n : ℕ) : EReal := ∑ k ∈ range n, gDs W h r k * W.k h k c
/-- the keys' over the first `n` rows, -/
def gK (k c n : ℕ) : EReal := ∑ r ∈ range n, gDs W h r k * W.q h r c
/-- and the values'. -/
def gV (k c n : ℕ) : EReal := ∑ r ∈ range n, gP W h r k * W.g r (128 * h + c)

theorem gP_above {r k : ℕ} (hk : r < k) : gP W h r k = 0 := by
  rw [gP, if_neg (by omega), bot_sub]; rfl
theorem gDs_above {r k : ℕ} (hk : r < k) : gDs W h r k = 0 := by
  rw [gDs, gP_above W h hk, zero_mul]
end Whole

/-- The tiles of head pair `g`, query tile `i` and key tile `j` of whole arrays. -/
structure Cut (W : Arrays) (g i j : ℕ) (X : Tiles Ideal) : Prop where
  q : ∀ (a : Fin 2) r c, r < 1024 → c < 256 → at3 X.q a.val r c = W.q (2 * g + a.val) (1024 * i + r) c
  k : ∀ (a : Fin 2) r c, r < 1024 → c < 256 → at3 X.k a.val r c = W.k (2 * g + a.val) (1024 * j + r) c
  v : ∀ (a : Fin 2) r c, r < 1024 → c < 128 → at3 X.v a.val r c = W.v (2 * g + a.val) (1024 * j + r) c
  o : ∀ r c, r < 1024 → c < 256 → at2 X.o r c = W.o (1024 * i + r) (256 * g + c)
  l : ∀ (a : Fin 2) r, r < 1024 → at3 X.l a.val r 0 = W.l (2 * g + a.val) (1024 * i + r)
  g : ∀ r c, r < 1024 → c < 256 → at2 X.g r c = W.g (1024 * i + r) (256 * g + c)

section Cut
variable {W : Arrays} {g i j : ℕ} {X : Tiles Ideal} (hX : Cut W g i j X) (a : Fin 2)
include hX

theorem tS_eq {r k : ℕ} (hr : r < 1024) (hk : k < 1024) : tS X a r k = gS W (2 * g + a.val) (1024 * i + r) (1024 * j + k) :=
  Finset.sum_congr rfl fun x hx => by rw [hX.q a r x hr (Finset.mem_range.mp hx), hX.k a k x hk (Finset.mem_range.mp hx)]
theorem cut_g {r c : ℕ} (hr : r < 1024) (hc : c < 128) : at2 X.g r (128 * a.val + c) = W.g (1024 * i + r) (128 * (2 * g + a.val) + c) := by
  rw [hX.g r _ hr (by have := a.isLt; omega), show 256 * g + (128 * a.val + c) = 128 * (2 * g + a.val) + c by omega]
theorem tD_eq {r : ℕ} (hr : r < 1024) : tD X a r = gD W (2 * g + a.val) (1024 * i + r) :=
  Finset.sum_congr rfl fun x hx => by
    have := Finset.mem_range.mp hx
    rw [cut_g hX a hr this, hX.o r _ hr (by have := a.isLt; omega), show 256 * g + (128 * a.val + x) = 128 * (2 * g + a.val) + x by omega]
theorem tE_eq {r k : ℕ} (hr : r < 1024) (hk : k < 1024) : tE X a r k = gE W (2 * g + a.val) (1024 * i + r) (1024 * j + k) := by
  rw [tE, gE, tD_eq hX a hr]
  refine congrArg (· - _) (Finset.sum_congr rfl fun x hx => ?_)
  rw [cut_g hX a hr (Finset.mem_range.mp hx), hX.v a k x hk (Finset.mem_range.mp hx)]
theorem tP_eq {r k : ℕ} (hij : j < i) (hr : r < 1024) (hk : k < 1024) : tP X a r k = gP W (2 * g + a.val) (1024 * i + r) (1024 * j + k) := by
  rw [tP, gP, if_pos (by omega), tS_eq hX a hr hk, hX.l a r hr]
theorem tPm_eq {r k : ℕ} (hij : j = i) (hr : r < 1024) (hk : k < 1024) : tPm X a r k = gP W (2 * g + a.val) (1024 * i + r) (1024 * j + k) := by
  rw [tPm, gP, tS_eq hX a hr hk, hX.l a r hr]
  by_cases h : k ≤ r
  · rw [if_pos h, if_pos (by omega)]
  · rw [if_neg h, if_neg (by omega)]
theorem tDs_eq {r k : ℕ} (hij : j < i) (hr : r < 1024) (hk : k < 1024) : tDs X a r k = gDs W (2 * g + a.val) (1024 * i + r) (1024 * j + k) := by
  rw [tDs, gDs, tP_eq hX a hij hr hk, tE_eq hX a hr hk]
theorem tDsm_eq {r k : ℕ} (hij : j = i) (hr : r < 1024) (hk : k < 1024) : tDsm X a r k = gDs W (2 * g + a.val) (1024 * i + r) (1024 * j + k) := by
  rw [tDsm, gDs, tPm_eq hX a hij hr hk, tE_eq hX a hr hk]
end Cut

/-! ## One grid point -/

/-- The accumulators as a point's products find them, zeroed where the point says so. -/
def start (i : grid0.Coords) (Y : Accs Ideal) : Accs Ideal := ⟨val1 i Y.dq, val2k i Y.dk, val2v i Y.dv⟩

theorem step_full (t : Fin grid0.N) (X : Tiles Ideal) (Y : Accs Ideal) (h3 : k0_cond3 (grid0.coords t) = 1#1) (h4 : ¬k0_cond4 (grid0.coords t) = 1#1) :
    ∃ b : Fin 4, b.val = t.val % 4 ∧ step (grid0.coords t) X Y = fullStep X b (start (grid0.coords t) Y) :=
  ⟨grid0.coords t 2, (coord2 t).trans (by rw [Nat.div_one]), (if_neg h4).trans (if_pos h3)⟩
theorem step_diag (t : Fin grid0.N) (X : Tiles Ideal) (Y : Accs Ideal) (h3 : ¬k0_cond3 (grid0.coords t) = 1#1) (h4 : k0_cond4 (grid0.coords t) = 1#1) :
    ∃ b : Fin 4, b.val = t.val % 4 ∧ step (grid0.coords t) X Y = diagStep X b (start (grid0.coords t) Y) :=
  ⟨grid0.coords t 2, (coord2 t).trans (by rw [Nat.div_one]), (if_pos h4).trans (congrArg (diagStep X (grid0.coords t 2)) (if_neg h3))⟩
theorem step_none (i : grid0.Coords) (X : Tiles Ideal) (Y : Accs Ideal) (h3 : ¬k0_cond3 i = 1#1) (h4 : ¬k0_cond4 i = 1#1) :
    step i X Y = start i Y := (if_neg h4).trans (if_neg h3)

/-- What a grid point adds to the accumulators, none above the diagonal. -/
theorem add_dq {W : Arrays} {X : Tiles Ideal} (t : Fin grid0.N) (hX : Cut W (t.val / 16) (max (t.val / 4 % 4) (t.val % 4)) (t.val / 4 % 4) X) (a : Fin 2) (Y : Accs Ideal)
    {r c : ℕ} (hr : r < 4096) (hc : c < 256) :
    at3 (step (grid0.coords t) X Y).dq a.val r c = (if t.val % 16 = 0 then 0 else at3 Y.dq a.val r c)
      + if 1024 * (t.val % 4) ≤ r ∧ r < 1024 * (t.val % 4) + 1024 then
          ∑ k ∈ range 1024, gDs W (2 * (t.val / 16) + a.val) r (1024 * (t.val / 4 % 4) + k) * W.k (2 * (t.val / 16) + a.val) (1024 * (t.val / 4 % 4) + k) c else 0 := by
  have h0 : at3 (start (grid0.coords t) Y).dq a.val r c = if t.val % 16 = 0 then 0 else at3 Y.dq a.val r c := by
    show at3 (val1 (grid0.coords t) Y.dq) a.val r c = _
    unfold val1
    by_cases h : t.val % 16 = 0
    · rw [if_pos h, if_pos ((hc1 t).mpr h), at3_pos _ a.isLt hr hc]; exact Ideal.ofBits_zero_f32
    · rw [if_neg h, if_neg (fun x => h ((hc1 t).mp x))]
  rw [← h0]
  rcases Nat.lt_trichotomy (t.val / 4 % 4) (t.val % 4) with h | h | h
  · obtain ⟨b, hb, e⟩ := step_full t X Y ((hc3 t).mpr h) (fun x => Nat.ne_of_lt h ((hc4 t).mp x))
    rw [e, fullStep_dq X a _ _ hr hc, hb]
    refine congrArg (_ + ·) ?_
    by_cases hin : 1024 * (t.val % 4) ≤ r ∧ r < 1024 * (t.val % 4) + 1024
    · rw [if_pos hin, if_pos hin]
      refine Finset.sum_congr rfl fun k hk => ?_
      rw [tDs_eq hX a (by omega) (by omega) (Finset.mem_range.mp hk), hX.k a k c (Finset.mem_range.mp hk) hc, Nat.max_eq_right (Nat.le_of_lt h), Nat.add_sub_cancel' hin.1]
    · rw [if_neg hin, if_neg hin]
  · obtain ⟨b, hb, e⟩ := step_diag t X Y (fun x => Nat.ne_of_lt ((hc3 t).mp x) h) ((hc4 t).mpr h)
    rw [e, diagStep_dq X a _ _ hr hc, hb]
    refine congrArg (_ + ·) ?_
    by_cases hin : 1024 * (t.val % 4) ≤ r ∧ r < 1024 * (t.val % 4) + 1024
    · rw [if_pos hin, if_pos hin]
      refine Finset.sum_congr rfl fun k hk => ?_
      rw [tDsm_eq hX a (by omega) (by omega) (Finset.mem_range.mp hk), hX.k a k c (Finset.mem_range.mp hk) hc, Nat.max_eq_right (Nat.le_of_eq h), Nat.add_sub_cancel' hin.1]
    · rw [if_neg hin, if_neg hin]
  · rw [step_none _ X Y (fun x => Nat.lt_asymm ((hc3 t).mp x) h) (fun x => Nat.ne_of_gt h ((hc4 t).mp x))]
    refine (add_zero _).symm.trans (congrArg (_ + ·) ?_)
    by_cases hin : 1024 * (t.val % 4) ≤ r ∧ r < 1024 * (t.val % 4) + 1024
    · rw [if_pos hin]
      refine (Finset.sum_eq_zero fun k hk => ?_).symm
      rw [gDs_above W _ (by omega), zero_mul]
    · rw [if_neg hin]

theorem add_dk {W : Arrays} {X : Tiles Ideal} (t : Fin grid0.N) (hX : Cut W (t.val / 16) (max (t.val / 4 % 4) (t.val % 4)) (t.val / 4 % 4) X) (a : Fin 2) (Y : Accs Ideal)
    {k c : ℕ} (hk : k < 1024) (hc : c < 256) :
    at3 (step (grid0.coords t) X Y).dk a.val k c = (if t.val % 4 = 0 then 0 else at3 Y.dk a.val k c)
      + ∑ r ∈ range 1024, gDs W (2 * (t.val / 16) + a.val) (1024 * (t.val % 4) + r) (1024 * (t.val / 4 % 4) + k) * W.q (2 * (t.val / 16) + a.val) (1024 * (t.val % 4) + r) c := by
  have h0 : at3 (start (grid0.coords t) Y).dk a.val k c = if t.val % 4 = 0 then 0 else at3 Y.dk a.val k c := by
    show at3 (val2k (grid0.coords t) Y.dk) a.val k c = _
    unfold val2k
    by_cases h : t.val % 4 = 0
    · rw [if_pos h, if_pos ((hc2 t).mpr h), at3_pos _ a.isLt hk hc]; exact Ideal.ofBits_zero_f32
    · rw [if_neg h, if_neg (fun x => h ((hc2 t).mp x))]
  rw [← h0]
  rcases Nat.lt_trichotomy (t.val / 4 % 4) (t.val % 4) with h | h | h
  · obtain ⟨b, hb, e⟩ := step_full t X Y ((hc3 t).mpr h) (fun x => Nat.ne_of_lt h ((hc4 t).mp x))
    rw [e, fullStep_dk X a _ _ hk hc]
    refine congrArg (_ + ·) (Finset.sum_congr rfl fun r hr => ?_)
    rw [tDs_eq hX a (by omega) (Finset.mem_range.mp hr) hk, hX.q a r c (Finset.mem_range.mp hr) hc, Nat.max_eq_right (Nat.le_of_lt h)]
  · obtain ⟨b, hb, e⟩ := step_diag t X Y (fun x => Nat.ne_of_lt ((hc3 t).mp x) h) ((hc4 t).mpr h)
    rw [e, diagStep_dk X a _ _ hk hc]
    refine congrArg (_ + ·) (Finset.sum_congr rfl fun r hr => ?_)
    rw [tDsm_eq hX a (by omega) (Finset.mem_range.mp hr) hk, hX.q a r c (Finset.mem_range.mp hr) hc, Nat.max_eq_right (Nat.le_of_eq h)]
  · rw [step_none _ X Y (fun x => Nat.lt_asymm ((hc3 t).mp x) h) (fun x => Nat.ne_of_gt h ((hc4 t).mp x))]
    refine (add_zero _).symm.trans (congrArg (_ + ·) ?_)
    refine (Finset.sum_eq_zero fun r hr => ?_).symm
    rw [gDs_above W _ (by have := Finset.mem_range.mp hr; omega), zero_mul]

theorem add_dv {W : Arrays} {X : Tiles Ideal} (t : Fin grid0.N) (hX : Cut W (t.val / 16) (max (t.val / 4 % 4) (t.val % 4)) (t.val / 4 % 4) X) (a : Fin 2) (Y : Accs Ideal)
    {k c : ℕ} (hk : k < 1024) (hc : c < 128) :
    at3 (step (grid0.coords t) X Y).dv a.val k c = (if t.val % 4 = 0 then 0 else at3 Y.dv a.val k c)
      + ∑ r ∈ range 1024, gP W (2 * (t.val / 16) + a.val) (1024 * (t.val % 4) + r) (1024 * (t.val / 4 % 4) + k) * W.g (1024 * (t.val % 4) + r) (128 * (2 * (t.val / 16) + a.val) + c) := by
  have h0 : at3 (start (grid0.coords t) Y).dv a.val k c = if t.val % 4 = 0 then 0 else at3 Y.dv a.val k c := by
    show at3 (val2v (grid0.coords t) Y.dv) a.val k c = _
    unfold val2v
    by_cases h : t.val % 4 = 0
    · rw [if_pos h, if_pos ((hc2 t).mpr h), at3_pos _ a.isLt hk hc]; exact Ideal.ofBits_zero_f32
    · rw [if_neg h, if_neg (fun x => h ((hc2 t).mp x))]
  rw [← h0]
  rcases Nat.lt_trichotomy (t.val / 4 % 4) (t.val % 4) with h | h | h
  · obtain ⟨b, hb, e⟩ := step_full t X Y ((hc3 t).mpr h) (fun x => Nat.ne_of_lt h ((hc4 t).mp x))
    rw [e, fullStep_dv X a _ _ hk hc]
    refine congrArg (_ + ·) (Finset.sum_congr rfl fun r hr => ?_)
    rw [tP_eq hX a (by omega) (Finset.mem_range.mp hr) hk, cut_g hX a (Finset.mem_range.mp hr) hc, Nat.max_eq_right (Nat.le_of_lt h)]
  · obtain ⟨b, hb, e⟩ := step_diag t X Y (fun x => Nat.ne_of_lt ((hc3 t).mp x) h) ((hc4 t).mpr h)
    rw [e, diagStep_dv X a _ _ hk hc]
    refine congrArg (_ + ·) (Finset.sum_congr rfl fun r hr => ?_)
    rw [tPm_eq hX a (by omega) (Finset.mem_range.mp hr) hk, cut_g hX a (Finset.mem_range.mp hr) hc, Nat.max_eq_right (Nat.le_of_eq h)]
  · rw [step_none _ X Y (fun x => Nat.lt_asymm ((hc3 t).mp x) h) (fun x => Nat.ne_of_gt h ((hc4 t).mp x))]
    refine (add_zero _).symm.trans (congrArg (_ + ·) ?_)
    refine (Finset.sum_eq_zero fun r hr => ?_).symm
    rw [gP_above W _ (by have := Finset.mem_range.mp hr; omega), zero_mul]

/-! ## Along the grid -/

/-- The next 1024 keys of a row, -/
theorem gQ_add (W : Arrays) (h r c n : ℕ) : gQ W h r c (1024 * n) + ∑ k ∈ range 1024, gDs W h r (1024 * n + k) * W.k h (1024 * n + k) c = gQ W h r c (1024 * (n + 1)) :=
  (Finset.sum_range_add _ _ _).symm
/-- and the next 1024 rows of a key. -/
theorem gK_add (W : Arrays) (h k c n : ℕ) : gK W h k c (1024 * n) + ∑ r ∈ range 1024, gDs W h (1024 * n + r) k * W.q h (1024 * n + r) c = gK W h k c (1024 * (n + 1)) :=
  (Finset.sum_range_add _ _ _).symm
theorem gV_add (W : Arrays) (h k c n : ℕ) : gV W h k c (1024 * n) + ∑ r ∈ range 1024, gP W h (1024 * n + r) k * W.g (1024 * n + r) (128 * h + c) = gV W h k c (1024 * (n + 1)) :=
  (Finset.sum_range_add _ _ _).symm

theorem gQ_none (W : Arrays) (h r c : ℕ) : gQ W h r c 0 = 0 := Finset.sum_range_zero _
theorem gK_none (W : Arrays) (h k c : ℕ) : gK W h k c 0 = 0 := Finset.sum_range_zero _
theorem gV_none (W : Arrays) (h k c : ℕ) : gV W h k c 0 = 0 := Finset.sum_range_zero _

variable (m : (ℓ : Loc nD τ sig) → Buf (Elt Ideal) ℓ) (c : Dev nD) (W : Arrays)
  (hW : ∀ t : Fin cfg0.N, Cut W (t.val / 16) (max (t.val / 4 % 4) (t.val % 4)) (t.val / 4 % 4) (tiles m c t)) (a : Fin 2)
include hW

theorem accs_dk : ∀ (n : ℕ) (hn : n < cfg0.N) {k x : ℕ}, k < 1024 → x < 256 →
    at3 (accs m c (n + 1) hn).dk a.val k x = gK W (2 * (n / 16) + a.val) (1024 * (n / 4 % 4) + k) x (1024 * (n % 4 + 1)) := by
  intro n
  induction n with
  | zero =>
    intro hn k x hk hx
    refine (add_dk ⟨0, hn⟩ (hW ⟨0, hn⟩) a _ hk hx).trans ?_
    rw [← gK_add]
    exact congrArg (· + _) ((if_pos rfl).trans (gK_none W _ _ _).symm)
  | succ n ih =>
    intro hn k x hk hx
    refine (add_dk ⟨n + 1, hn⟩ (hW ⟨n + 1, hn⟩) a _ hk hx).trans ?_
    show (if (n + 1) % 4 = 0 then 0 else at3 (accs m c (n + 1) _).dk a.val k x) + _ = _
    rw [← gK_add]
    refine congrArg (· + _) ?_
    by_cases h : (n + 1) % 4 = 0
    · rw [if_pos h, h, gK, Nat.mul_zero, Finset.range_zero, Finset.sum_empty]
    · rw [if_neg h, ih (by omega) hk hx, show (n + 1) / 16 = n / 16 by omega, show (n + 1) / 4 = n / 4 by omega, show n % 4 + 1 = (n + 1) % 4 by omega]

theorem accs_dv : ∀ (n : ℕ) (hn : n < cfg0.N) {k x : ℕ}, k < 1024 → x < 128 →
    at3 (accs m c (n + 1) hn).dv a.val k x = gV W (2 * (n / 16) + a.val) (1024 * (n / 4 % 4) + k) x (1024 * (n % 4 + 1)) := by
  intro n
  induction n with
  | zero =>
    intro hn k x hk hx
    refine (add_dv ⟨0, hn⟩ (hW ⟨0, hn⟩) a _ hk hx).trans ?_
    rw [← gV_add]
    exact congrArg (· + _) ((if_pos rfl).trans (gV_none W _ _ _).symm)
  | succ n ih =>
    intro hn k x hk hx
    refine (add_dv ⟨n + 1, hn⟩ (hW ⟨n + 1, hn⟩) a _ hk hx).trans ?_
    show (if (n + 1) % 4 = 0 then 0 else at3 (accs m c (n + 1) _).dv a.val k x) + _ = _
    rw [← gV_add]
    refine congrArg (· + _) ?_
    by_cases h : (n + 1) % 4 = 0
    · rw [if_pos h, h, gV, Nat.mul_zero, Finset.range_zero, Finset.sum_empty]
    · rw [if_neg h, ih (by omega) hk hx, show (n + 1) / 16 = n / 16 by omega, show (n + 1) / 4 = n / 4 by omega, show n % 4 + 1 = (n + 1) % 4 by omega]

theorem accs_dq : ∀ (n : ℕ) (hn : n < cfg0.N) {r x : ℕ}, r < 4096 → x < 256 →
    at3 (accs m c (n + 1) hn).dq a.val r x
      = gQ W (2 * (n / 16) + a.val) r x (1024 * (n / 4 % 4 + if r < 1024 * (n % 4 + 1) then 1 else 0)) := by
  intro n
  induction n with
  | zero =>
    intro hn r x hr hx
    refine (add_dq ⟨0, hn⟩ (hW ⟨0, hn⟩) a _ hr hx).trans ?_
    by_cases h : r < 1024
    · rw [if_pos (show r < 1024 * (0 % 4 + 1) from h), ← gQ_add]
      exact congrArg₂ (· + ·) ((if_pos rfl).trans (gQ_none W _ _ _).symm) (if_pos ⟨Nat.zero_le _, (by omega : r < 0 + 1024)⟩)
    · rw [if_neg (show ¬r < 1024 * (0 % 4 + 1) from h)]
      exact (congrArg₂ (· + ·) (if_pos rfl) (if_neg fun x => h ((Nat.zero_add 1024) ▸ x.2))).trans ((add_zero _).trans (gQ_none W _ _ _).symm)
  | succ n ih =>
    intro hn r x hr hx
    refine (add_dq ⟨n + 1, hn⟩ (hW ⟨n + 1, hn⟩) a _ hr hx).trans ?_
    show (if (n + 1) % 16 = 0 then 0 else at3 (accs m c (n + 1) _).dq a.val r x)
      + (if 1024 * ((n + 1) % 4) ≤ r ∧ r < 1024 * ((n + 1) % 4) + 1024 then _ else 0) = _
    have hold : (if (n + 1) % 16 = 0 then 0 else at3 (accs m c (n + 1) (Nat.le_of_lt hn)).dq a.val r x)
        = gQ W (2 * ((n + 1) / 16) + a.val) r x (1024 * ((n + 1) / 4 % 4 + if r < 1024 * ((n + 1) % 4) then 1 else 0)) := by
      by_cases h : (n + 1) % 16 = 0
      · rw [if_pos h, show (n + 1) / 4 % 4 = 0 by omega, show (n + 1) % 4 = 0 by omega, if_neg (by omega), gQ, Nat.mul_zero, Finset.range_zero, Finset.sum_empty]
      · rw [if_neg h, ih (by omega) hr hx, show (n + 1) / 16 = n / 16 by omega]
        by_cases h4 : (n + 1) % 4 = 0
        · rw [if_pos (by omega), h4, if_neg (by omega), show (n + 1) / 4 % 4 + 0 = n / 4 % 4 + 1 by omega]
        · rw [show (n + 1) / 4 = n / 4 by omega, show n % 4 + 1 = (n + 1) % 4 by omega]
    rw [hold]
    by_cases h : 1024 * ((n + 1) % 4) ≤ r ∧ r < 1024 * ((n + 1) % 4) + 1024
    · rw [if_pos h, if_neg (by omega), if_pos (by omega)]
      exact gQ_add W _ r x _
    · rw [if_neg h, add_zero]
      by_cases h' : r < 1024 * ((n + 1) % 4)
      · rw [if_pos h', if_pos (by omega)]
      · rw [if_neg h', if_neg (by omega)]

end Cert.KernelIdeal.Flash

end
-- ==== Proof.Flash.Blocks.lean ====
/-
  The arrays the launch finds and leaves: every tile is a part of its whole array, and the three results end as the sums
  over all the rows or all the keys.
-/
module

public import proofs.«01_k».proof.Proof.Flash.Walk

@[expose] public section

set_option maxRecDepth 16384

noncomputable section

namespace Cert.KernelIdeal.Flash

open Idealize.ShloMosaic hiding ix1 ix2 ix3 ix4 ix5 eq_ix1 eq_ix2 eq_ix3 eq_ix4
open Idealize.ShloMosaic.ValueIdx
open Idealize.ShloMosaic.TcCoe Idealize.ShloMosaic.Tactic
open Cert.KernelIdeal.Gen
open Finset (range)

/-! ## Where the blocks lie -/

theorem idx0 : ∀ t : Fin cfg0.N, win0_0.index t = ![t.val / 16, max (t.val / 4 % 4) (t.val % 4), 0] := (by decide +kernel : ∀ t : Fin grid0.N, _)
theorem idx1 : ∀ t : Fin cfg0.N, win0_1.index t = ![t.val / 16, t.val / 4 % 4, 0] := (by decide +kernel : ∀ t : Fin grid0.N, _)
theorem idx2 : ∀ t : Fin cfg0.N, win0_2.index t = ![t.val / 16, t.val / 4 % 4, 0] := (by decide +kernel : ∀ t : Fin grid0.N, _)
theorem idx3 : ∀ t : Fin cfg0.N, win0_3.index t = ![max (t.val / 4 % 4) (t.val % 4), t.val / 16] := (by decide +kernel : ∀ t : Fin grid0.N, _)
theorem idx4 : ∀ t : Fin cfg0.N, win0_4.index t = ![t.val / 16, max (t.val / 4 % 4) (t.val % 4), 0] := (by decide +kernel : ∀ t : Fin grid0.N, _)
theorem idx5 : ∀ t : Fin cfg0.N, win0_5.index t = ![max (t.val / 4 % 4) (t.val % 4), t.val / 16] := (by decide +kernel : ∀ t : Fin grid0.N, _)
theorem idx6 : ∀ t : Fin cfg0.N, win0_6.index t = ![t.val / 16, 0, 0] := (by decide +kernel : ∀ t : Fin grid0.N, _)
theorem idx7 : ∀ t : Fin cfg0.N, win0_7.index t = ![t.val / 16, t.val / 4 % 4, 0] := (by decide +kernel : ∀ t : Fin grid0.N, _)
theorem idx8 : ∀ t : Fin cfg0.N, win0_8.index t = ![t.val / 16, t.val / 4 % 4, 0] := (by decide +kernel : ∀ t : Fin grid0.N, _)

theorem lt_N (t : Fin cfg0.N) : t.val < 128 := Nat.lt_of_lt_of_eq t.isLt N_0

theorem emb0 (t : Fin cfg0.N) (y : S2x1024x256.Idx) :
    (((win0_0.blk t).view.emb y : S16x4096x256.Idx) 0).val = 2 * (t.val / 16) + (y 0).val
    ∧ (((win0_0.blk t).view.emb y : S16x4096x256.Idx) 1).val = 1024 * (max (t.val / 4 % 4) (t.val % 4)) + (y 1).val
    ∧ (((win0_0.blk t).view.emb y : S16x4096x256.Idx) 2).val = (y 2).val := by
  refine ⟨?_, ?_, ?_⟩
  · show win0_0.index t 0 * 2 + 1 * (y 0).val = _
    rw [idx0 t]; show t.val / 16 * 2 + 1 * (y 0).val = _; omega
  · show win0_0.index t 1 * 1024 + 1 * (y 1).val = _
    rw [idx0 t]; show (max (t.val / 4 % 4) (t.val % 4)) * 1024 + 1 * (y 1).val = _; omega
  · show win0_0.index t 2 * 256 + 1 * (y 2).val = _
    rw [idx0 t]; show 0 * 256 + 1 * (y 2).val = _; omega
theorem emb1 (t : Fin cfg0.N) (y : S2x1024x256.Idx) :
    (((win0_1.blk t).view.emb y : S16x4096x256.Idx) 0).val = 2 * (t.val / 16) + (y 0).val
    ∧ (((win0_1.blk t).view.emb y : S16x4096x256.Idx) 1).val = 1024 * (t.val / 4 % 4) + (y 1).val
    ∧ (((win0_1.blk t).view.emb y : S16x4096x256.Idx) 2).val = (y 2).val := by
  refine ⟨?_, ?_, ?_⟩
  · show win0_1.index t 0 * 2 + 1 * (y 0).val = _
    rw [idx1 t]; show t.val / 16 * 2 + 1 * (y 0).val = _; omega
  · show win0_1.index t 1 * 1024 + 1 * (y 1).val = _
    rw [idx1 t]; show (t.val / 4 % 4) * 1024 + 1 * (y 1).val = _; omega
  · show win0_1.index t 2 * 256 + 1 * (y 2).val = _
    rw [idx1 t]; show 0 * 256 + 1 * (y 2).val = _; omega
theorem emb2 (t : Fin cfg0.N) (y : S2x1024x128.Idx) :
    (((win0_2.blk t).view.emb y : S16x4096x128.Idx) 0).val = 2 * (t.val / 16) + (y 0).val
    ∧ (((win0_2.blk t).view.emb y : S16x4096x128.Idx) 1).val = 1024 * (t.val / 4 % 4) + (y 1).val
    ∧ (((win0_2.blk t).view.emb y : S16x4096x128.Idx) 2).val = (y 2).val := by
  refine ⟨?_, ?_, ?_⟩
  · show win0_2.index t 0 * 2 + 1 * (y 0).val = _
    rw [idx2 t]; show t.val / 16 * 2 + 1 * (y 0).val = _; omega
  · show win0_2.index t 1 * 1024 + 1 * (y 1).val = _
    rw [idx2 t]; show (t.val / 4 % 4) * 1024 + 1 * (y 1).val = _; omega
  · show win0_2.index t 2 * 128 + 1 * (y 2).val = _
    rw [idx2 t]; show 0 * 128 + 1 * (y 2).val = _; omega
theorem emb4 (t : Fin cfg0.N) (y : S2x1024x128.Idx) :
    (((win0_4.blk t).view.emb y : S16x4096x128.Idx) 0).val = 2 * (t.val / 16) + (y 0).val
    ∧ (((win0_4.blk t).view.emb y : S16x4096x128.Idx) 1).val = 1024 * (max (t.val / 4 % 4) (t.val % 4)) + (y 1).val
    ∧ (((win0_4.blk t).view.emb y : S16x4096x128.Idx) 2).val = (y 2).val := by
  refine ⟨?_, ?_, ?_⟩
  · show win0_4.index t 0 * 2 + 1 * (y 0).val = _
    rw [idx4 t]; show t.val / 16 * 2 + 1 * (y 0).val = _; omega
  · show win0_4.index t 1 * 1024 + 1 * (y 1).val = _
    rw [idx4 t]; show (max (t.val / 4 % 4) (t.val % 4)) * 1024 + 1 * (y 1).val = _; omega
  · show win0_4.index t 2 * 128 + 1 * (y 2).val = _
    rw [idx4 t]; show 0 * 128 + 1 * (y 2).val = _; omega
theorem emb6 (t : Fin cfg0.N) (y : S2x4096x256.Idx) :
    (((win0_6.blk t).view.emb y : S16x4096x256.Idx) 0).val = 2 * (t.val / 16) + (y 0).val
    ∧ (((win0_6.blk t).view.emb y : S16x4096x256.Idx) 1).val = (y 1).val
    ∧ (((win0_6.blk t).view.emb y : S16x4096x256.Idx) 2).val = (y 2).val := by
  refine ⟨?_, ?_, ?_⟩
  · show win0_6.index t 0 * 2 + 1 * (y 0).val = _
    rw [idx6 t]; show t.val / 16 * 2 + 1 * (y 0).val = _; omega
  · show win0_6.index t 1 * 4096 + 1 * (y 1).val = _
    rw [idx6 t]; show 0 * 4096 + 1 * (y 1).val = _; omega
  · show win0_6.index t 2 * 256 + 1 * (y 2).val = _
    rw [idx6 t]; show 0 * 256 + 1 * (y 2).val = _; omega
theorem emb7 (t : Fin cfg0.N) (y : S2x1024x256.Idx) :
    (((win0_7.blk t).view.emb y : S16x4096x256.Idx) 0).val = 2 * (t.val / 16) + (y 0).val
    ∧ (((win0_7.blk t).view.emb y : S16x4096x256.Idx) 1).val = 1024 * (t.val / 4 % 4) + (y 1).val
    ∧ (((win0_7.blk t).view.emb y : S16x4096x256.Idx) 2).val = (y 2).val := by
  refine ⟨?_, ?_, ?_⟩
  · show win0_7.index t 0 * 2 + 1 * (y 0).val = _
    rw [idx7 t]; show t.val / 16 * 2 + 1 * (y 0).val = _; omega
  · show win0_7.index t 1 * 1024 + 1 * (y 1).val = _
    rw [idx7 t]; show (t.val / 4 % 4) * 1024 + 1 * (y 1).val = _; omega
  · show win0_7.index t 2 * 256 + 1 * (y 2).val = _
    rw [idx7 t]; show 0 * 256 + 1 * (y 2).val = _; omega
theorem emb8 (t : Fin cfg0.N) (y : S2x1024x128.Idx) :
    (((win0_8.blk t).view.emb y : S16x4096x128.Idx) 0).val = 2 * (t.val / 16) + (y 0).val
    ∧ (((win0_8.blk t).view.emb y : S16x4096x128.Idx) 1).val = 1024 * (t.val / 4 % 4) + (y 1).val
    ∧ (((win0_8.blk t).view.emb y : S16x4096x128.Idx) 2).val = (y 2).val := by
  refine ⟨?_, ?_, ?_⟩
  · show win0_8.index t 0 * 2 + 1 * (y 0).val = _
    rw [idx8 t]; show t.val / 16 * 2 + 1 * (y 0).val = _; omega
  · show win0_8.index t 1 * 1024 + 1 * (y 1).val = _
    rw [idx8 t]; show (t.val / 4 % 4) * 1024 + 1 * (y 1).val = _; omega
  · show win0_8.index t 2 * 128 + 1 * (y 2).val = _
    rw [idx8 t]; show 0 * 128 + 1 * (y 2).val = _; omega
theorem emb3 (t : Fin cfg0.N) (y : S1024x256.Idx) :
    (((win0_3.blk t).view.emb y : S4096x2048.Idx) 0).val = 1024 * (max (t.val / 4 % 4) (t.val % 4)) + (y 0).val
    ∧ (((win0_3.blk t).view.emb y : S4096x2048.Idx) 1).val = 256 * (t.val / 16) + (y 1).val := by
  refine ⟨?_, ?_⟩
  · show win0_3.index t 0 * 1024 + 1 * (y 0).val = _
    rw [idx3 t]; show (max (t.val / 4 % 4) (t.val % 4)) * 1024 + 1 * (y 0).val = _; omega
  · show win0_3.index t 1 * 256 + 1 * (y 1).val = _
    rw [idx3 t]; show t.val / 16 * 256 + 1 * (y 1).val = _; omega
theorem emb5 (t : Fin cfg0.N) (y : S1024x256.Idx) :
    (((win0_5.blk t).view.emb y : S4096x2048.Idx) 0).val = 1024 * (max (t.val / 4 % 4) (t.val % 4)) + (y 0).val
    ∧ (((win0_5.blk t).view.emb y : S4096x2048.Idx) 1).val = 256 * (t.val / 16) + (y 1).val := by
  refine ⟨?_, ?_⟩
  · show win0_5.index t 0 * 1024 + 1 * (y 0).val = _
    rw [idx5 t]; show (max (t.val / 4 % 4) (t.val % 4)) * 1024 + 1 * (y 0).val = _; omega
  · show win0_5.index t 1 * 256 + 1 * (y 1).val = _
    rw [idx5 t]; show t.val / 16 * 256 + 1 * (y 1).val = _; omega

/-- The entry at an index, by the index's numbers. -/
theorem at3_idx {A B C : ℕ} (x : (⟨3, ![A, B, C]⟩ : Shape).Idx → EReal) (i : (⟨3, ![A, B, C]⟩ : Shape).Idx) : x i = at3 x (i 0).val (i 1).val (i 2).val :=
  (congrArg x (eq_ix3 i)).trans (at3_fin x (i 0) (i 1) (i 2)).symm
theorem at2_idx {A B : ℕ} (x : (⟨2, ![A, B]⟩ : Shape).Idx → EReal) (i : (⟨2, ![A, B]⟩ : Shape).Idx) : x i = at2 x (i 0).val (i 1).val :=
  (congrArg x (eq_ix2 i)).trans (at2_fin x (i 0) (i 1)).symm

/-! ## What a block reads of any array -/

theorem read0 (A : S16x4096x256.Idx → EReal) (t : Fin cfg0.N) (a : Fin 2) (r x : ℕ) (hr : r < 1024) (hx : x < 256) :
    at3 (A := 2) (B := 1024) (C := 256) (fun y => A ((win0_0.blk t).view.emb y)) a.val r x
      = at3 (A := 16) (B := 4096) (C := 256) A (2 * (t.val / 16) + a.val) (1024 * (max (t.val / 4 % 4) (t.val % 4)) + r) x := by
  refine (at3_pos _ a.isLt hr hx).trans ((at3_idx (A := 16) (B := 4096) (C := 256) A _).trans ?_)
  obtain ⟨h0, h1, h2⟩ := emb0 t (ix3 ⟨a.val, a.isLt⟩ ⟨r, hr⟩ ⟨x, hx⟩)
  rw [h0, h1, h2]
theorem read1 (A : S16x4096x256.Idx → EReal) (t : Fin cfg0.N) (a : Fin 2) (r x : ℕ) (hr : r < 1024) (hx : x < 256) :
    at3 (A := 2) (B := 1024) (C := 256) (fun y => A ((win0_1.blk t).view.emb y)) a.val r x
      = at3 (A := 16) (B := 4096) (C := 256) A (2 * (t.val / 16) + a.val) (1024 * (t.val / 4 % 4) + r) x := by
  refine (at3_pos _ a.isLt hr hx).trans ((at3_idx (A := 16) (B := 4096) (C := 256) A _).trans ?_)
  obtain ⟨h0, h1, h2⟩ := emb1 t (ix3 ⟨a.val, a.isLt⟩ ⟨r, hr⟩ ⟨x, hx⟩)
  rw [h0, h1, h2]
theorem read2 (A : S16x4096x128.Idx → EReal) (t : Fin cfg0.N) (a : Fin 2) (r x : ℕ) (hr : r < 1024) (hx : x < 128) :
    at3 (A := 2) (B := 1024) (C := 128) (fun y => A ((win0_2.blk t).view.emb y)) a.val r x
      = at3 (A := 16) (B := 4096) (C := 128) A (2 * (t.val / 16) + a.val) (1024 * (t.val / 4 % 4) + r) x := by
  refine (at3_pos _ a.isLt hr hx).trans ((at3_idx (A := 16) (B := 4096) (C := 128) A _).trans ?_)
  obtain ⟨h0, h1, h2⟩ := emb2 t (ix3 ⟨a.val, a.isLt⟩ ⟨r, hr⟩ ⟨x, hx⟩)
  rw [h0, h1, h2]
theorem read4 (A : S16x4096x128.Idx → EReal) (t : Fin cfg0.N) (a : Fin 2) (r x : ℕ) (hr : r < 1024) (hx : x < 128) :
    at3 (A := 2) (B := 1024) (C := 128) (fun y => A ((win0_4.blk t).view.emb y)) a.val r x
      = at3 (A := 16) (B := 4096) (C := 128) A (2 * (t.val / 16) + a.val) (1024 * (max (t.val / 4 % 4) (t.val % 4)) + r) x := by
  refine (at3_pos _ a.isLt hr hx).trans ((at3_idx (A := 16) (B := 4096) (C := 128) A _).trans ?_)
  obtain ⟨h0, h1, h2⟩ := emb4 t (ix3 ⟨a.val, a.isLt⟩ ⟨r, hr⟩ ⟨x, hx⟩)
  rw [h0, h1, h2]
theorem read3 (A : S4096x2048.Idx → EReal) (t : Fin cfg0.N) (r x : ℕ) (hr : r < 1024) (hx : x < 256) :
    at2 (A := 1024) (B := 256) (fun y => A ((win0_3.blk t).view.emb y)) r x
      = at2 (A := 4096) (B := 2048) A (1024 * (max (t.val / 4 % 4) (t.val % 4)) + r) (256 * (t.val / 16) + x) := by
  refine (at2_pos _ hr hx).trans ((at2_idx (A := 4096) (B := 2048) A _).trans ?_)
  obtain ⟨h0, h1⟩ := emb3 t (ix2 ⟨r, hr⟩ ⟨x, hx⟩)
  rw [h0, h1]
theorem read5 (A : S4096x2048.Idx → EReal) (t : Fin cfg0.N) (r x : ℕ) (hr : r < 1024) (hx : x < 256) :
    at2 (A := 1024) (B := 256) (fun y => A ((win0_5.blk t).view.emb y)) r x
      = at2 (A := 4096) (B := 2048) A (1024 * (max (t.val / 4 % 4) (t.val % 4)) + r) (256 * (t.val / 16) + x) := by
  refine (at2_pos _ hr hx).trans ((at2_idx (A := 4096) (B := 2048) A _).trans ?_)
  obtain ⟨h0, h1⟩ := emb5 t (ix2 ⟨r, hr⟩ ⟨x, hx⟩)
  rw [h0, h1]

/-! ## The whole arrays -/

/-- The launch's arrays at a head, a row and a column. -/
def arrays (q k : S16x4096x256.Idx → EReal) (v l : S16x4096x128.Idx → EReal) (o g : S4096x2048.Idx → EReal) : Arrays where
  q := at3 (A := 16) (B := 4096) (C := 256) q
  k := at3 (A := 16) (B := 4096) (C := 256) k
  v := at3 (A := 16) (B := 4096) (C := 128) v
  o := at2 (A := 4096) (B := 2048) o
  l h r := at3 (A := 16) (B := 4096) (C := 128) l h r 0
  g := at2 (A := 4096) (B := 2048) g

variable (m : (ℓ : Loc nD τ sig) → Buf (Elt Ideal) ℓ) (c : Dev nD)

/-- The arrays as the launch finds them. -/
def whole : Arrays :=
  arrays (V m c main_arg0) (V m c main_arg1) (V m c main_arg2) (V m c main_v42) (V m c main_v43) (V m c main_arg3)

theorem blk0 (B : (b : Ref sig .tc) → Buf (Elt Ideal) ((c : Thread nD τ).loc b)) (t : Fin cfg0.N) :
    ((cfg0.win 0).blk t).view.read (Elt Ideal) (B (Pipeline.arrRef spec0 0)) = fun y => B main_arg0 ((win0_0.blk t).view.emb y) := rfl
theorem tile_q (t : Fin cfg0.N) : (tiles m c t).q = fun y => V m c main_arg0 ((win0_0.blk t).view.emb y) := by
  show iblk m c 0 t = _
  unfold iblk
  exact blk0 c (V m c) t
theorem blk1 (B : (b : Ref sig .tc) → Buf (Elt Ideal) ((c : Thread nD τ).loc b)) (t : Fin cfg0.N) :
    ((cfg0.win 1).blk t).view.read (Elt Ideal) (B (Pipeline.arrRef spec0 1)) = fun y => B main_arg1 ((win0_1.blk t).view.emb y) := rfl
theorem tile_k (t : Fin cfg0.N) : (tiles m c t).k = fun y => V m c main_arg1 ((win0_1.blk t).view.emb y) := by
  show iblk m c 1 t = _
  unfold iblk
  exact blk1 c (V m c) t
theorem blk2 (B : (b : Ref sig .tc) → Buf (Elt Ideal) ((c : Thread nD τ).loc b)) (t : Fin cfg0.N) :
    ((cfg0.win 2).blk t).view.read (Elt Ideal) (B (Pipeline.arrRef spec0 2)) = fun y => B main_arg2 ((win0_2.blk t).view.emb y) := rfl
theorem tile_v (t : Fin cfg0.N) : (tiles m c t).v = fun y => V m c main_arg2 ((win0_2.blk t).view.emb y) := by
  show iblk m c 2 t = _
  unfold iblk
  exact blk2 c (V m c) t
theorem blk3 (B : (b : Ref sig .tc) → Buf (Elt Ideal) ((c : Thread nD τ).loc b)) (t : Fin cfg0.N) :
    ((cfg0.win 3).blk t).view.read (Elt Ideal) (B (Pipeline.arrRef spec0 3)) = fun y => B main_v43 ((win0_3.blk t).view.emb y) := rfl
theorem tile_o (t : Fin cfg0.N) : (tiles m c t).o = fun y => V m c main_v43 ((win0_3.blk t).view.emb y) := by
  show iblk m c 3 t = _
  unfold iblk
  exact blk3 c (V m c) t
theorem blk4 (B : (b : Ref sig .tc) → Buf (Elt Ideal) ((c : Thread nD τ).loc b)) (t : Fin cfg0.N) :
    ((cfg0.win 4).blk t).view.read (Elt Ideal) (B (Pipeline.arrRef spec0 4)) = fun y => B main_v42 ((win0_4.blk t).view.emb y) := rfl
theorem tile_l (t : Fin cfg0.N) : (tiles m c t).l = fun y => V m c main_v42 ((win0_4.blk t).view.emb y) := by
  show iblk m c 4 t = _
  unfold iblk
  exact blk4 c (V m c) t
theorem blk5 (B : (b : Ref sig .tc) → Buf (Elt Ideal) ((c : Thread nD τ).loc b)) (t : Fin cfg0.N) :
    ((cfg0.win 5).blk t).view.read (Elt Ideal) (B (Pipeline.arrRef spec0 5)) = fun y => B main_arg3 ((win0_5.blk t).view.emb y) := rfl
theorem tile_g (t : Fin cfg0.N) : (tiles m c t).g = fun y => V m c main_arg3 ((win0_5.blk t).view.emb y) := by
  show iblk m c 5 t = _
  unfold iblk
  exact blk5 c (V m c) t

theorem cut (t : Fin cfg0.N) : Cut (whole m c) (t.val / 16) (max (t.val / 4 % 4) (t.val % 4)) (t.val / 4 % 4) (tiles m c t) where
  q a r x hr hx := by rw [tile_q]; exact read0 (V m c main_arg0) t a r x hr hx
  k a r x hr hx := by rw [tile_k]; exact read1 (V m c main_arg1) t a r x hr hx
  v a r x hr hx := by rw [tile_v]; exact read2 (V m c main_arg2) t a r x hr hx
  o r x hr hx := by rw [tile_o]; exact read3 (V m c main_v43) t r x hr hx
  l a r hr := by rw [tile_l]; exact read4 (V m c main_v42) t a r 0 hr (by decide)
  g r x hr hx := by rw [tile_g]; exact read5 (V m c main_arg3) t r x hr hx

/-! ## The results -/

theorem after_dq (t : Fin cfg0.N) (y : S2x4096x256.Idx) (ht : t.val % 16 = 15) :
    (dats m 0 c).after 6 t y = gQ (whole m c) (2 * (t.val / 16) + (y 0).val) (y 1).val (y 2).val 4096 := by
  rw [after6]
  obtain ⟨n, hn⟩ := t
  refine (at3_idx (A := 2) (B := 4096) (C := 256) (accs m c (n + 1) hn).dq y).trans ?_
  refine (accs_dq m c (whole m c) (cut m c) (y 0) n hn (y 1).isLt (y 2).isLt).trans ?_
  have h1 : (y 1).val < 4096 := (y 1).isLt
  have h2 : n % 16 = 15 := ht
  rw [if_pos (by omega), show n / 4 % 4 = 3 by omega]

theorem out_dq : (dats m 0 c).arrAt 6 cfg0.N = fun i : S16x4096x256.Idx => gQ (whole m c) (i 0).val (i 1).val (i 2).val 4096 := by
  refine (dats m 0 c).arrAt_eq_of_covers 6 _ (by decide +kernel) fun t hf y => ?_
  obtain ⟨h0, h1, h2⟩ := emb6 t y
  refine (after_dq m c t y ((flush0_6 t).mp hf)).trans ?_
  rw [← h0, ← h1, ← h2]

theorem after_dk (t : Fin cfg0.N) (y : S2x1024x256.Idx) (ht : t.val % 4 = 3) :
    (dats m 0 c).after 7 t y = gK (whole m c) (2 * (t.val / 16) + (y 0).val) (1024 * (t.val / 4 % 4) + (y 1).val) (y 2).val 4096 := by
  rw [after7]
  obtain ⟨n, hn⟩ := t
  refine (at3_idx (A := 2) (B := 1024) (C := 256) (accs m c (n + 1) hn).dk y).trans ?_
  refine (accs_dk m c (whole m c) (cut m c) (y 0) n hn (y 1).isLt (y 2).isLt).trans ?_
  have h2 : n % 4 = 3 := ht
  rw [h2]

theorem out_dk : (dats m 0 c).arrAt 7 cfg0.N = fun i : S16x4096x256.Idx => gK (whole m c) (i 0).val (i 1).val (i 2).val 4096 := by
  refine (dats m 0 c).arrAt_eq_of_covers 7 _ (by decide +kernel) fun t hf y => ?_
  obtain ⟨h0, h1, h2⟩ := emb7 t y
  refine (after_dk m c t y ((flush0_7 t).mp hf)).trans ?_
  rw [← h0, ← h1, ← h2]

theorem after_dv (t : Fin cfg0.N) (y : S2x1024x128.Idx) (ht : t.val % 4 = 3) :
    (dats m 0 c).after 8 t y = gV (whole m c) (2 * (t.val / 16) + (y 0).val) (1024 * (t.val / 4 % 4) + (y 1).val) (y 2).val 4096 := by
  rw [after8]
  obtain ⟨n, hn⟩ := t
  refine (at3_idx (A := 2) (B := 1024) (C := 128) (accs m c (n + 1) hn).dv y).trans ?_
  refine (accs_dv m c (whole m c) (cut m c) (y 0) n hn (y 1).isLt (y 2).isLt).trans ?_
  have h2 : n % 4 = 3 := ht
  rw [h2]

theorem out_dv : (dats m 0 c).arrAt 8 cfg0.N = fun i : S16x4096x128.Idx => gV (whole m c) (i 0).val (i 1).val (i 2).val 4096 := by
  refine (dats m 0 c).arrAt_eq_of_covers 8 _ (by decide +kernel) fun t hf y => ?_
  obtain ⟨h0, h1, h2⟩ := emb8 t y
  refine (after_dv m c t y ((flush0_8 t).mp hf)).trans ?_
  rw [← h0, ← h1, ← h2]

end Cert.KernelIdeal.Flash

end
-- ==== Proof.Flash.HostRead.lean ====
/-
  Host operations of a causal attention read at a head, a row and a column: the batched products, the mask, the row
  maximum and the row sums.
-/
module

public import Idealize.ShloMosaic.Lib.ValueIdx
public import Idealize.ShloMosaic.Lib.IdealHost
public import Idealize.ShloMosaic.Lib.KernelVsHost
public import Idealize.ShloMosaic.Lib.Pipeline.Value
public import Idealize.ShloMosaic.Lib.WordCmp

@[expose] public section

set_option maxRecDepth 16384

noncomputable section

namespace Cert.Attention

open Idealize.ShloMosaic
open Idealize.ShloMosaic.ValueIdx

abbrev B3 (a b c : ℕ) : Shape := ⟨3, ![a, b, c]⟩
abbrev B2 (a b : ℕ) : Shape := ⟨2, ![a, b]⟩
abbrev B1 (a : ℕ) : Shape := ⟨1, ![a]⟩
abbrev B0 : Shape := ⟨0, ![]⟩

/-! ## Batched products -/

/-- Rows by rows, -/
theorem dot_221100 {A M N K : ℕ} (wf) (x : (B3 A M K).Idx → EReal) (y : (B3 A N K).Idx → EReal) (h : Fin A) (r : Fin M) (c : Fin N) :
    (Host.dotGeneral (F := Ideal) (φ₁ := .f32) (φ₂ := .f32) (⟨[2], [2], [1], [1], [0], [0], wf⟩ : DotDims (B3 A M K) (B3 A N K) (B3 A M N)) none x y : FVec Ideal (B3 A M N) .f32) (ix3 h r c)
      = ∑ j : Fin K, x (ix3 h r j) * y (ix3 h c j) := by
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl | ⟨2, _⟩ => rfl)

/-- columns by rows, the left's columns first, -/
theorem dot_122100 {A M N K : ℕ} (wf) (x : (B3 A K M).Idx → EReal) (y : (B3 A N K).Idx → EReal) (h : Fin A) (r : Fin M) (c : Fin N) :
    (Host.dotGeneral (F := Ideal) (φ₁ := .f32) (φ₂ := .f32) (⟨[1], [2], [2], [1], [0], [0], wf⟩ : DotDims (B3 A K M) (B3 A N K) (B3 A M N)) none x y : FVec Ideal (B3 A M N) .f32) (ix3 h r c)
      = ∑ j : Fin K, x (ix3 h j r) * y (ix3 h c j) := by
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl | ⟨2, _⟩ => rfl)

/-- rows by columns, -/
theorem dot_211200 {A M N K : ℕ} (wf) (x : (B3 A M K).Idx → EReal) (y : (B3 A K N).Idx → EReal) (h : Fin A) (r : Fin M) (c : Fin N) :
    (Host.dotGeneral (F := Ideal) (φ₁ := .f32) (φ₂ := .f32) (⟨[2], [1], [1], [2], [0], [0], wf⟩ : DotDims (B3 A M K) (B3 A K N) (B3 A M N)) none x y : FVec Ideal (B3 A M N) .f32) (ix3 h r c)
      = ∑ j : Fin K, x (ix3 h r j) * y (ix3 h j c) := by
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl | ⟨2, _⟩ => rfl)

/-- and columns by columns. -/
theorem dot_112200 {A M N K : ℕ} (wf) (x : (B3 A K M).Idx → EReal) (y : (B3 A K N).Idx → EReal) (h : Fin A) (r : Fin M) (c : Fin N) :
    (Host.dotGeneral (F := Ideal) (φ₁ := .f32) (φ₂ := .f32) (⟨[1], [1], [2], [2], [0], [0], wf⟩ : DotDims (B3 A K M) (B3 A K N) (B3 A M N)) none x y : FVec Ideal (B3 A M N) .f32) (ix3 h r c)
      = ∑ j : Fin K, x (ix3 h j r) * y (ix3 h j c) := by
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl | ⟨2, _⟩ => rfl)

/-! ## Broadcasts, the mask and reductions -/

/-- A row's one number spread over the row. -/
theorem spread_apply {A M N : ℕ} (h₁ h₂) (x : (B2 A M).Idx → EReal) (hA : A ≠ 1) (hM : M ≠ 1) (h : Fin A) (r : Fin M) (c : Fin N) :
    broadcastInDim (B3 A M N) ![0, 1, 2] h₁ (broadcastInDim (B3 A M 1) ![0, 1] h₂ x) (ix3 h r c) = x (ix2 h r) := by
  refine (broadcastInDim_apply _ _ _ _ (ix3 h r 0) fun a => ?_).trans (broadcastInDim_apply _ _ _ _ (ix2 h r) fun a => ?_)
  · match a with
    | ⟨0, _⟩ => exact (if_neg hA).symm
    | ⟨1, _⟩ => exact (if_neg hM).symm
    | ⟨2, _⟩ => exact (if_pos rfl).symm
  · match a with
    | ⟨0, _⟩ => exact (if_neg hA).symm
    | ⟨1, _⟩ => exact (if_neg hM).symm

/-- A column of numbers spread over the columns. -/
theorem widen_apply {A M N : ℕ} (h₁) (x : (B3 A M 1).Idx → EReal) (hA : A ≠ 1) (hM : M ≠ 1) (h : Fin A) (r : Fin M) (c : Fin N) :
    broadcastInDim (B3 A M N) ![0, 1, 2] h₁ x (ix3 h r c) = x (ix3 h r 0) := by
  refine broadcastInDim_apply _ _ _ _ (ix3 h r 0) fun a => ?_
  match a with
  | ⟨0, _⟩ => exact (if_neg hA).symm
  | ⟨1, _⟩ => exact (if_neg hM).symm
  | ⟨2, _⟩ => exact (if_pos rfl).symm
theorem column_apply {A M : ℕ} (h₁) (x : (B2 A M).Idx → EReal) (hA : A ≠ 1) (hM : M ≠ 1) (h : Fin A) (r : Fin M) (c : Fin 1) :
    broadcastInDim (B3 A M 1) ![0, 1] h₁ x (ix3 h r c) = x (ix2 h r) := by
  refine broadcastInDim_apply _ _ _ _ (ix2 h r) fun a => ?_
  match a with
  | ⟨0, _⟩ => exact (if_neg hA).symm
  | ⟨1, _⟩ => exact (if_neg hM).symm

/-- A row's one number at every entry of the row. -/
theorem along_apply {A M N : ℕ} (h₁) (x : (B2 A M).Idx → EReal) (hA : A ≠ 1) (hM : M ≠ 1) (h : Fin A) (r : Fin M) (c : Fin N) :
    broadcastInDim (B3 A M N) ![0, 1] h₁ x (ix3 h r c) = x (ix2 h r) := by
  refine broadcastInDim_apply _ _ _ _ (ix2 h r) fun a => ?_
  match a with
  | ⟨0, _⟩ => exact (if_neg hA).symm
  | ⟨1, _⟩ => exact (if_neg hM).symm
theorem tail_apply {A M : ℕ} (hs) (x : (B2 A M).Idx → EReal) (h : Fin A) (r : Fin M) (c : Fin 1) :
    shapeCast (B3 A M 1) x hs (ix3 h r c) = x (ix2 h r) := by
  refine shapeCast_apply _ _ _ (ix2 h r) ?_
  rw [Shape.rowMajor_val_two, Shape.rowMajor_val_three]
  show h.val * M + r.val = (h.val * M + r.val) * 1 + c.val
  have := c.isLt; omega

theorem sle_word {a b : ℕ} (ha : a < 2 ^ 31) (hb : b < 2 ^ 31) : (BitVec.ofNat 32 a).sle (BitVec.ofNat 32 b) = decide (a ≤ b) := by
  have e : ∀ {n : ℕ}, n < 2 ^ 31 → (BitVec.ofNat 32 n).toInt = n := fun {n} h => by
    rw [BitVec.toInt_eq_toNat_of_lt (by rw [BitVec.toNat_ofNat]; omega), BitVec.toNat_ofNat, Nat.mod_eq_of_lt (by omega)]
  rw [BitVec.sle, e ha, e hb]
  exact decide_eq_decide.mpr Int.ofNat_le

/-- The causal mask: a key is kept where it does not come after the row. -/
theorem causal_apply {α : Type} {A M : ℕ} (hM : M < 2 ^ 31) (hM1 : M ≠ 1) (h₀ h₁ h₂ h₃ h₄) (x y : (B3 A M M).Idx → α) (h : Fin A) (r c : Fin M) :
    select (broadcastInDim (B3 A M M) ![1, 2] h₀ (cmpi .sle
      (broadcastInDim (B2 M M) ![0, 1] h₁ (broadcastInDim (B2 1 M) ![1] h₂ (iotaInDim (B1 M) 32 0)))
      (broadcastInDim (B2 M M) ![0, 1] h₃ (broadcastInDim (B2 M 1) ![0] h₄ (iotaInDim (B1 M) 32 0))))) x y (ix3 h r c)
      = if c.val ≤ r.val then x (ix3 h r c) else y (ix3 h r c) := by
  have e : broadcastInDim (B3 A M M) ![1, 2] h₀ (cmpi .sle
      (broadcastInDim (B2 M M) ![0, 1] h₁ (broadcastInDim (B2 1 M) ![1] h₂ (iotaInDim (B1 M) 32 0)))
      (broadcastInDim (B2 M M) ![0, 1] h₃ (broadcastInDim (B2 M 1) ![0] h₄ (iotaInDim (B1 M) 32 0)))) (ix3 h r c)
      = BitVec.ofBool (decide (c.val ≤ r.val)) := by
    refine (broadcastInDim_apply _ _ _ _ (ix2 r c) fun a => ?_).trans ?_
    · match a with
      | ⟨0, _⟩ => exact (if_neg hM1).symm
      | ⟨1, _⟩ => exact (if_neg hM1).symm
    rw [← sle_word (Nat.lt_trans c.isLt hM) (Nat.lt_trans r.isLt hM)]
    show IntOp.cmpi .sle _ _ = _
    rw [broadcastInDim_apply _ _ _ _ (ix2 (0 : Fin 1) c) (fun a => match a with
        | ⟨0, _⟩ => (if_pos rfl).symm
        | ⟨1, _⟩ => (if_neg hM1).symm),
      broadcastInDim_apply _ _ _ _ (ix1 c) (fun a => match a with | ⟨0, _⟩ => (if_neg hM1).symm),
      broadcastInDim_apply _ _ _ _ (ix2 r (0 : Fin 1)) (fun a => match a with
        | ⟨0, _⟩ => (if_neg hM1).symm
        | ⟨1, _⟩ => (if_pos rfl).symm),
      broadcastInDim_apply _ _ _ _ (ix1 r) (fun a => match a with | ⟨0, _⟩ => (if_neg hM1).symm)]
    rfl
  rw [select_apply, e]
  by_cases hc : c.val ≤ r.val
  · rw [decide_eq_true hc, if_pos hc]; exact select_one _ _
  · rw [decide_eq_false hc, if_neg hc]; exact select_zero _ _

/-- A row's sum from zero. -/
theorem rowSum_apply {A M N : ℕ} (hr' : (B3 A M N).Reduces [2] (B2 A M)) (hr : (B3 A M N).ReducesTo [2] (B2 A M)) (hu) (x : (B3 A M N).Idx → EReal) (h : Fin A) (r : Fin M) :
    (Host.reduceAdd (F := Ideal) (φ := .f32) x (constant B0 .f32 0x00000000#32) hr hu : FVec Ideal (B2 A M) .f32) (ix2 h r) = ∑ c : Fin N, x (ix3 h r c) := by
  rw [hostReduceAdd_apply, Ideal.hostReduceAdd_single hr hr']
  show Ideal.ofBits .f32 0x00000000#32 + _ = _
  rw [Ideal.ofBits_zero_f32, zero_add]
  refine Finset.sum_congr rfl fun c _ => congrArg x (funext fun a => Fin.ext ?_)
  match a with
  | ⟨0, _⟩ => rfl
  | ⟨1, _⟩ => rfl
  | ⟨2, _⟩ => rfl

theorem negInf : Ideal.ofBits .f32 0xFF800000#32 = ⊥ := by simp [Ideal.ofBits, Ideal.ieee]

/-- A row's maximum is a real number when the row has one and nothing is infinitely large. -/
theorem rowMax_real {A M N : ℕ} (hr' : (B3 A M N).Reduces [2] (B2 A M)) (hr : (B3 A M N).ReducesTo [2] (B2 A M)) (hu) (x : (B3 A M N).Idx → EReal) (h : Fin A) (r : Fin M)
    (htop : ∀ c, x (ix3 h r c) ≠ ⊤) (c₀ : Fin N) (hbot : x (ix3 h r c₀) ≠ ⊥) :
    ∃ μ : ℝ, (Host.reduce (FloatOps.maximumf (F := Ideal) (φ := .f32)) x (constant B0 .f32 0xFF800000#32) hr hu : FVec Ideal (B2 A M) .f32) (ix2 h r) = ((μ : ℝ) : EReal) := by
  have hφ : FKind.Formats .f32 := by decide
  have e := (congrFun (hostReduce_maximumf_eq_multiReduction (F := Ideal) (φ := .f32) x 0xFF800000#32 hr hu hr' hφ rfl) (ix2 h r)).trans
    (Ideal.multiReduction_maximumf_single (φ := .f32) x _ hr' hφ rfl _)
  rw [e]
  have hl : ∀ c : Fin N, hr'.lift (ix2 h r) c = ix3 h r c := fun c => funext fun a => Fin.ext (match a with
    | ⟨0, _⟩ => rfl
    | ⟨1, _⟩ => rfl
    | ⟨2, _⟩ => rfl)
  have h1 : (Finset.univ : Finset (Fin N)).fold max (Ideal.ofBits .f32 0xFF800000#32) (x ∘ hr'.lift (ix2 h r)) < ⊤ :=
    (Finset.fold_max_lt _).mpr ⟨by rw [negInf]; exact bot_lt_top, fun c _ => by
      show x (hr'.lift (ix2 h r) c) < ⊤
      rw [hl c]; exact lt_top_iff_ne_top.mpr (htop c)⟩
  have h2 : ⊥ < (Finset.univ : Finset (Fin N)).fold max (Ideal.ofBits .f32 0xFF800000#32) (x ∘ hr'.lift (ix2 h r)) :=
    (Finset.lt_fold_max _).mpr (.inr ⟨c₀, Finset.mem_univ _, by
      show ⊥ < x (hr'.lift (ix2 h r) c₀)
      rw [hl c₀]; exact bot_lt_iff_ne_bot.mpr hbot⟩)
  exact ⟨_, (EReal.coe_toReal h1.ne h2.ne').symm⟩

/-! ## All heads side by side -/

/-- A matrix of all heads' columns, turned heads first: head `h`'s column `x` is the matrix's column `W h + x`. -/
theorem heads_apply {H M W : ℕ} (hs) (ht) (x : (B2 M (H * W)).Idx → EReal) (h : Fin H) (w : Fin W) (r : Fin M) (hb : W * h.val + w.val < H * W) :
    transpose (B3 H W M) [1, 2, 0] (shapeCast (B3 M H W) x hs) ht (ix3 h w r) = x (ix2 r ⟨W * h.val + w.val, hb⟩) := by
  refine (transpose_apply _ _ _ _ (ix3 r h w) fun b => ?_).trans (shapeCast_apply _ _ _ _ ?_)
  · match b with
    | ⟨0, _⟩ => rfl
    | ⟨1, _⟩ => rfl
    | ⟨2, _⟩ => rfl
  · rw [Shape.rowMajor_val_two, Shape.rowMajor_val_three]
    show r.val * (H * W) + (W * h.val + w.val) = (r.val * H + h.val) * W + w.val
    ring

/-- And back. -/
theorem unheads_apply {H M W : ℕ} (hs) (ht) (x : (B3 H W M).Idx → EReal) (h : Fin H) (w : Fin W) (r : Fin M) (hb : W * h.val + w.val < H * W) :
    shapeCast (B2 M (H * W)) (transpose (B3 M H W) [2, 0, 1] x ht) hs (ix2 r ⟨W * h.val + w.val, hb⟩) = x (ix3 h w r) := by
  refine (shapeCast_apply _ _ _ (ix3 r h w) ?_).trans (transpose_apply _ _ _ _ (ix3 h w r) fun b => ?_)
  · rw [Shape.rowMajor_val_two, Shape.rowMajor_val_three]
    show (r.val * H + h.val) * W + w.val = r.val * (H * W) + (W * h.val + w.val)
    ring
  · match b with
    | ⟨0, _⟩ => rfl
    | ⟨1, _⟩ => rfl
    | ⟨2, _⟩ => rfl

end Cert.Attention

end
-- ==== Proof.Flash.Softmax.lean ====
/-
  The softmax of a row over the reals, however its maximum is taken out: the quotient of exponentials, and the exponential
  less the logarithm of the sum. The gradient of the scores, from both.
-/
module

public import Idealize.ShloMosaic.Lib.ValueIdx
public import Idealize.ShloMosaic.Lib.IdealHost
public import Mathlib.Analysis.SpecialFunctions.Log.Basic

@[expose] public section

noncomputable section

namespace Cert.Attention

open Idealize.ShloMosaic

theorem coe_sum {ι : Type*} (s : Finset ι) (f : ι → ℝ) : (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

section Row
variable {n : ℕ} (p : Fin n → Prop) [DecidablePred p] (S : Fin n → ℝ)

/-- The weight of an entry among those kept. -/
def weight (k : Fin n) : ℝ := if p k then Real.exp (S k) / ∑ j, (if p j then Real.exp (S j) else 0) else 0

/-- A row's scores, those not kept at minus infinity. -/
def kept (k : Fin n) : EReal := if p k then ((S k : ℝ) : EReal) else ⊥

theorem exp_kept (μ : ℝ) (k : Fin n) : Ideal.exp (kept p S k - ((μ : ℝ) : EReal)) = ((if p k then Real.exp (S k - μ) else 0 : ℝ) : EReal) := by
  unfold kept
  by_cases h : p k
  · rw [if_pos h, if_pos h, ← EReal.coe_sub, Ideal.exp_coe]
  · rw [if_neg h, if_neg h]
    exact congrArg Ideal.exp (EReal.bot_sub _)

theorem sum_shift (μ : ℝ) : (∑ k, (if p k then Real.exp (S k - μ) else 0)) = (∑ k, (if p k then Real.exp (S k) else 0)) * Real.exp (-μ) := by
  rw [Finset.sum_mul]
  refine Finset.sum_congr rfl fun k _ => ?_
  by_cases h : p k
  · rw [if_pos h, if_pos h, sub_eq_add_neg, Real.exp_add]
  · rw [if_neg h, if_neg h, zero_mul]

theorem sum_pos {k₀ : Fin n} (h₀ : p k₀) : 0 < ∑ k, (if p k then Real.exp (S k) else 0) :=
  Finset.sum_pos' (fun k _ => by split <;> positivity) ⟨k₀, Finset.mem_univ _, by rw [if_pos h₀]; positivity⟩

theorem sum_shift_pos (μ : ℝ) {k₀ : Fin n} (h₀ : p k₀) : 0 < ∑ k, (if p k then Real.exp (S k - μ) else 0) := by
  rw [sum_shift]; exact mul_pos (sum_pos p S h₀) (Real.exp_pos _)

theorem quot_weight (μ : ℝ) {k₀ : Fin n} (h₀ : p k₀) (k : Fin n) :
    (if p k then Real.exp (S k - μ) else 0) / (∑ j, (if p j then Real.exp (S j - μ) else 0)) = weight p S k := by
  rw [sum_shift, weight]
  by_cases h : p k
  · rw [if_pos h, if_pos h, sub_eq_add_neg, Real.exp_add, mul_div_mul_right _ _ (Real.exp_pos _).ne']
  · rw [if_neg h, if_neg h, zero_div]

/-- The sum of the exponentials. -/
theorem sum_exp (μ : ℝ) : (∑ k, Ideal.exp (kept p S k - ((μ : ℝ) : EReal))) = ((∑ k, (if p k then Real.exp (S k - μ) else 0) : ℝ) : EReal) := by
  rw [← coe_sum]; exact Finset.sum_congr rfl fun k _ => exp_kept p S μ k

/-- The quotient is the weight, -/
theorem div_weight (μ : ℝ) {k₀ : Fin n} (h₀ : p k₀) (k : Fin n) :
    Ideal.div (Ideal.exp (kept p S k - ((μ : ℝ) : EReal))) (∑ j, Ideal.exp (kept p S j - ((μ : ℝ) : EReal))) = ((weight p S k : ℝ) : EReal) := by
  rw [sum_exp, exp_kept, Ideal.div_coe (sum_shift_pos p S μ h₀).ne', ← EReal.coe_mul, mul_one_div, quot_weight p S μ h₀]

/-- and so is the exponential less the logarithm of the sum. -/
theorem lse_weight (μ : ℝ) {k₀ : Fin n} (h₀ : p k₀) (k : Fin n) :
    Ideal.exp (kept p S k - (((μ : ℝ) : EReal) + Ideal.log (∑ j, Ideal.exp (kept p S j - ((μ : ℝ) : EReal))))) = ((weight p S k : ℝ) : EReal) := by
  rw [sum_exp, Ideal.log_coe, if_neg (not_le.mpr (sum_shift_pos p S μ h₀)), ← EReal.coe_add, exp_kept]
  rw [← quot_weight p S μ h₀ k]
  by_cases h : p k
  · rw [if_pos h, if_pos h, ← sub_sub, Real.exp_sub, Real.exp_log (sum_shift_pos p S μ h₀)]
  · rw [if_neg h, if_neg h, zero_div]

/-- The gradient of a score as the quotient's rule gives it: the gradient of the weights over the sum, less the
    weighted mean over the sum, times the exponential. -/
theorem grad_weight (μ : ℝ) (d : Fin n → ℝ) {k₀ : Fin n} (h₀ : p k₀) (k : Fin n) :
    (Ideal.div ((d k : ℝ) : EReal) (∑ j, Ideal.exp (kept p S j - ((μ : ℝ) : EReal)))
        + -(∑ i, (((d i : ℝ) : EReal) * Ideal.div 1 ((∑ j, Ideal.exp (kept p S j - ((μ : ℝ) : EReal))) * (∑ j, Ideal.exp (kept p S j - ((μ : ℝ) : EReal)))))
            * Ideal.exp (kept p S i - ((μ : ℝ) : EReal))))
      * Ideal.exp (kept p S k - ((μ : ℝ) : EReal))
      = ((weight p S k * (d k - ∑ i, weight p S i * d i) : ℝ) : EReal) := by
  have hL := (sum_shift_pos p S μ h₀).ne'
  have hw := quot_weight p S μ h₀
  rw [sum_exp]
  generalize (∑ j, (if p j then Real.exp (S j - μ) else 0)) = L at hL hw ⊢
  have e : ∀ i, (((d i : ℝ) : EReal) * Ideal.div 1 (((L : ℝ) : EReal) * ((L : ℝ) : EReal))) * Ideal.exp (kept p S i - ((μ : ℝ) : EReal))
      = ((weight p S i * d i / L : ℝ) : EReal) := fun i => by
    rw [exp_kept, ← EReal.coe_mul, Ideal.div_coe (mul_ne_zero hL hL), one_mul, ← EReal.coe_mul, ← EReal.coe_mul, ← hw i]
    congr 1; field_simp
  rw [Finset.sum_congr rfl fun i _ => e i, coe_sum, exp_kept, Ideal.div_coe hL, ← EReal.coe_mul, ← EReal.coe_neg, ← EReal.coe_add, ← EReal.coe_mul,
    ← Finset.sum_div]
  congr 1
  generalize (∑ i, weight p S i * d i) = T
  rw [← hw k]; field_simp; ring
end Row

end Cert.Attention

end
-- ==== Proof.Flash.Gradients.lean ====
/-
  The gradients of a causal attention over the reals.
-/
module

public import proofs.«01_k».proof.Proof.Flash.HostRead
public import proofs.«01_k».proof.Proof.Flash.Softmax

@[expose] public section

noncomputable section

namespace Cert.Attention

open Idealize.ShloMosaic
open Idealize.ShloMosaic.ValueIdx

/-- Head `h`'s column `x` among the columns of all heads. -/
def headCol (h : Fin 16) (x : Fin 128) : Fin 2048 := ⟨128 * h.val + x.val, by have := h.isLt; have := x.isLt; omega⟩

/-- Real numbers as extended reals. -/
def co {ι : Type*} (f : ι → ℝ) : ι → EReal := fun i => ((f i : ℝ) : EReal)

section
variable (q k : (B3 16 4096 256).Idx → ℝ) (v : (B3 16 4096 128).Idx → ℝ) (g : (B2 4096 2048).Idx → ℝ)

/-- The score of key `c` for row `r`, -/
def score (h : Fin 16) (r c : Fin 4096) : ℝ := ∑ x : Fin 256, q (ix3 h r x) * k (ix3 h c x)
/-- its probability, -/
def soft (h : Fin 16) (r c : Fin 4096) : ℝ := weight (fun c : Fin 4096 => c.val ≤ r.val) (score q k h r) c
/-- the gradient of the probability, -/
def dProb (h : Fin 16) (r c : Fin 4096) : ℝ := ∑ x : Fin 128, g (ix2 r (headCol h x)) * v (ix3 h c x)
/-- and of the score. -/
def dScore (h : Fin 16) (r c : Fin 4096) : ℝ :=
  soft q k h r c * (dProb v g h r c - ∑ i, soft q k h r i * dProb v g h r i)
/-- The gradients of the queries, the keys and the values. -/
def dQuery (h : Fin 16) (r : Fin 4096) (x : Fin 256) : ℝ := ∑ c : Fin 4096, dScore q k v g h r c * k (ix3 h c x)
def dKey (h : Fin 16) (c : Fin 4096) (x : Fin 256) : ℝ := ∑ r : Fin 4096, dScore q k v g h r c * q (ix3 h r x)
def dValue (h : Fin 16) (c : Fin 4096) (x : Fin 128) : ℝ := ∑ r : Fin 4096, soft q k h r c * g (ix2 r (headCol h x))

theorem soft_above {h : Fin 16} {r c : Fin 4096} (hc : ¬ c.val ≤ r.val) : soft q k h r c = 0 := if_neg hc
theorem dScore_above {h : Fin 16} {r c : Fin 4096} (hc : ¬ c.val ≤ r.val) : dScore q k v g h r c = 0 := by
  rw [dScore, soft_above q k hc, zero_mul]
end

end Cert.Attention

end
-- ==== Proof.Flash.KerHost.lean ====
/-
  What the host operations before the launch leave: the rows' log-sum-exp and the attention's result, at an index.
-/
module

public import proofs.«01_k».proof.Proof.Gen.KernelIdeal.Frame
public import Idealize.ShloMosaic.Lib.Pipeline.ValueKit
public import proofs.«01_k».proof.Proof.Flash.Gradients

@[expose] public section

set_option maxRecDepth 16384

noncomputable section

namespace Cert.KernelIdeal.Flash

open Cert.KernelIdeal.Gen Cert.Attention
open Idealize.ShloMosaic hiding ix1 ix2 ix3 ix4 ix5 eq_ix1 eq_ix2 eq_ix3 eq_ix4
open Idealize.ShloMosaic.TcCoe Idealize.ShloMosaic.ValueIdx

variable {F : FTy → Type} [FloatOps F]

section Terms
variable (q k : FVec F S16x4096x256 .bf16) (v : FVec F S16x4096x128 .bf16)

def keepMask : IVec S16x4096x4096 1 :=
  broadcastInDim S16x4096x4096 ![1, 2] bcast_S4096x4096_S16x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
/-- The masked scores, -/
def hS : FVec F S16x4096x4096 .f32 :=
  select keepMask (Host.dotGeneral dot_S16x4096x256_S16x4096x256_S16x4096x4096_2_2_1_1_0_0 none (extf .f32 q bitsLt_bf16_f32) (extf .f32 k bitsLt_bf16_f32))
    (broadcastInDim S16x4096x4096 ![] bcast_S_S16x4096x4096 (id (constant S_ .f32 0xFF800000#32)))
/-- their row maxima, -/
def hM : FVec F S16x4096 .f32 :=
  Host.reduce FloatOps.maximumf (hS q k) (constant S_ .f32 0xFF800000#32) reducesTo_S16x4096x4096_S16x4096_d2 h_S_
/-- the same from minus infinity, -/
def hN : FVec F S16x4096 .f32 :=
  maximumf (broadcastInDim S16x4096 ![] bcast_S_S16x4096 (constant S_ .f32 0xFF800000#32)) (hM q k)
/-- the exponentials less a row's number, -/
def hE (x : FVec F S16x4096 .f32) : FVec F S16x4096x4096 .f32 :=
  Host.exp (subf (hS q k) (broadcastInDim S16x4096x4096 ![0, 1, 2] bcast_S16x4096x1_S16x4096x4096_0_1_2
    (broadcastInDim S16x4096x1 ![0, 1] bcast_S16x4096_S16x4096x1_0_1 x)))
/-- and their row sums. -/
def hL (x : FVec F S16x4096 .f32) : FVec F S16x4096 .f32 :=
  Host.reduceAdd (hE q k x) (constant S_ .f32 0x00000000#32) reducesTo_S16x4096x4096_S16x4096_d2 h_S_
/-- The log-sum-exp, along 128 equal columns. -/
def hLse : FVec F S16x4096x128 .f32 :=
  broadcastInDim S16x4096x128 ![0, 1, 2] bcast_S16x4096x1_S16x4096x128_0_1_2
    (addf (broadcastInDim S16x4096x1 ![0, 1] bcast_S16x4096_S16x4096x1_0_1 (hM q k))
      (Host.log (broadcastInDim S16x4096x1 ![0, 1] bcast_S16x4096_S16x4096x1_0_1 (hL q k (hM q k)))))
/-- The attention's result. -/
def hO : FVec F S4096x2048 .bf16 :=
  truncf .bf16 (shapeCast _ (transpose S4096x16x128 [2, 0, 1]
    (Host.dotGeneral dot_S16x4096x128_S16x4096x4096_S16x128x4096_1_2_2_1_0_0 none (extf .f32 v bitsLt_bf16_f32)
      (Host.divf (hE q k (hN q k)) (broadcastInDim S16x4096x4096 ![0, 1, 2] bcast_S16x4096x1_S16x4096x4096_0_1_2
        (broadcastInDim S16x4096x1 ![0, 1] bcast_S16x4096_S16x4096x1_0_1 (hL q k (hN q k))))))
    transposes_S16x128x4096_S4096x16x128_2_0_1) shapeCasts_S4096x16x128_S4096x2048) bitsLt_bf16_f32
end Terms

set_option maxHeartbeats 4000000 in
theorem V_lse (m : (ℓ : Loc nD τ sig) → Buf (Elt F) ℓ) (c : Dev nD) :
    V m c main_v42 = hLse (m ((c : Thread nD τ).loc main_arg0)) (m ((c : Thread nD τ).loc main_arg1)) := by
  show StableHlo.after _ _ _ = _
  simp only [hostOps0, hostOps0_1, hostOps0_2, hostOps0_3, hostOps0_4, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  unfold hLse hL hE hM hS keepMask
  rfl
set_option maxHeartbeats 4000000 in
theorem V_o (m : (ℓ : Loc nD τ sig) → Buf (Elt F) ℓ) (c : Dev nD) :
    V m c main_v43 = hO (m ((c : Thread nD τ).loc main_arg0)) (m ((c : Thread nD τ).loc main_arg1)) (m ((c : Thread nD τ).loc main_arg2)) := by
  show StableHlo.after _ _ _ = _
  simp only [hostOps0, hostOps0_1, hostOps0_2, hostOps0_3, hostOps0_4, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  unfold hO hL hE hN hM hS keepMask
  rfl

section Reals
variable (q k : S16x4096x256.Idx → ℝ) (v : S16x4096x128.Idx → ℝ)

theorem hS_apply (h : Fin 16) (r c : Fin 4096) :
    hS (F := Ideal) (co q) (co k) (ix3 h r c) = kept (fun c : Fin 4096 => c.val ≤ r.val) (score q k h r) c := by
  refine (causal_apply (by decide) (by decide) _ _ _ _ _ _ _ h r c).trans ?_
  unfold kept
  refine if_congr Iff.rfl ?_ ?_
  · refine (dot_221100 _ (co q) (co k) h r c).trans ?_
    rw [score, ← coe_sum]
    exact Finset.sum_congr rfl fun x _ => (EReal.coe_mul _ _).symm
  · refine (broadcastInDim_scalar_apply _ _ _).trans ?_
    exact negInf

theorem hM_real (h : Fin 16) (r : Fin 4096) : ∃ μ : ℝ, hM (F := Ideal) (co q) (co k) (ix2 h r) = ((μ : ℝ) : EReal) :=
  rowMax_real (by decide) reducesTo_S16x4096x4096_S16x4096_d2 h_S_ (hS (F := Ideal) (co q) (co k)) h r
    (fun c => by rw [hS_apply]; unfold kept; split <;> simp) r (by rw [hS_apply]; unfold kept; rw [if_pos (le_refl _)]; simp)

theorem hN_real (h : Fin 16) (r : Fin 4096) : ∃ μ : ℝ, hN (F := Ideal) (co q) (co k) (ix2 h r) = ((μ : ℝ) : EReal) := by
  obtain ⟨μ, hμ⟩ := hM_real q k h r
  refine ⟨μ, ?_⟩
  unfold hN
  rw [maximumf_apply, hμ, broadcastInDim_scalar_apply]
  refine (congrArg (max · _) negInf).trans (max_eq_right bot_le)

theorem hE_apply (x : S16x4096.Idx → EReal) (h : Fin 16) (r c : Fin 4096) {μ : ℝ} (hμ : x (ix2 h r) = ((μ : ℝ) : EReal)) :
    hE (F := Ideal) (co q) (co k) x (ix3 h r c) = Ideal.exp (kept (fun c : Fin 4096 => c.val ≤ r.val) (score q k h r) c - ((μ : ℝ) : EReal)) := by
  show Ideal.exp (hS (F := Ideal) (co q) (co k) (ix3 h r c) - _) = _
  rw [hS_apply, spread_apply _ _ _ (by decide) (by decide), hμ]

theorem hL_apply (x : S16x4096.Idx → EReal) (h : Fin 16) (r : Fin 4096) {μ : ℝ} (hμ : x (ix2 h r) = ((μ : ℝ) : EReal)) :
    hL (F := Ideal) (co q) (co k) x (ix2 h r) = ∑ c : Fin 4096, Ideal.exp (kept (fun c : Fin 4096 => c.val ≤ r.val) (score q k h r) c - ((μ : ℝ) : EReal)) := by
  refine (rowSum_apply (by decide) _ _ _ h r).trans ?_
  exact Finset.sum_congr rfl fun c _ => hE_apply q k x h r c hμ

theorem hLog_apply {s : Shape} (a : FVec Ideal s .f32) (i : s.Idx) : Host.log a i = Ideal.log (a i) := rfl

theorem hLse_apply (h : Fin 16) (r : Fin 4096) (x : Fin 128) {μ : ℝ} (hμ : hM (F := Ideal) (co q) (co k) (ix2 h r) = ((μ : ℝ) : EReal)) :
    hLse (F := Ideal) (co q) (co k) (ix3 h r x) = ((μ : ℝ) : EReal) + Ideal.log (∑ c : Fin 4096, Ideal.exp (kept (fun c : Fin 4096 => c.val ≤ r.val) (score q k h r) c - ((μ : ℝ) : EReal))) := by
  unfold hLse
  rw [widen_apply _ _ (by decide) (by decide), addf_apply, column_apply _ _ (by decide) (by decide), hμ, hLog_apply,
    column_apply _ _ (by decide) (by decide), hL_apply q k _ h r hμ]

/-- The exponential of a score less the log-sum-exp is the probability. -/
theorem hLse_prob (h : Fin 16) (r c : Fin 4096) (x : Fin 128) :
    Ideal.exp ((if c.val ≤ r.val then ((score q k h r c : ℝ) : EReal) else ⊥) - hLse (F := Ideal) (co q) (co k) (ix3 h r x)) = ((soft q k h r c : ℝ) : EReal) := by
  obtain ⟨μ, hμ⟩ := hM_real q k h r
  rw [hLse_apply q k h r x hμ]
  exact lse_weight (fun c : Fin 4096 => c.val ≤ r.val) (score q k h r) μ (k₀ := r) (le_refl _) c

/-- The attention's result: the probabilities times the values. -/
theorem hO_apply (h : Fin 16) (r : Fin 4096) (x : Fin 128) :
    hO (F := Ideal) (co q) (co k) (co v) (ix2 r (headCol h x)) = ((∑ c : Fin 4096, v (ix3 h c x) * soft q k h r c : ℝ) : EReal) := by
  unfold hO
  rw [truncf_apply]
  refine (unheads_apply (H := 16) (M := 4096) (W := 128) _ _ _ h x r (headCol h x).isLt).trans ?_
  refine (dot_122100 _ (co v) _ h x r).trans ?_
  rw [← coe_sum]
  refine Finset.sum_congr rfl fun c _ => ?_
  obtain ⟨μ, hμ⟩ := hN_real q k h r
  rw [EReal.coe_mul]
  refine congrArg (co v (ix3 h c x) * ·) ?_
  refine Eq.trans ?_ (div_weight (fun c : Fin 4096 => c.val ≤ r.val) (score q k h r) μ (k₀ := r) (le_refl _) c)
  show Ideal.div (hE (F := Ideal) (co q) (co k) _ (ix3 h r c)) _ = _
  rw [hE_apply q k _ h r c hμ, spread_apply _ _ _ (by decide) (by decide), hL_apply q k _ h r hμ]
end Reals

end Cert.KernelIdeal.Flash

end
-- ==== Proof.Flash.Value.lean ====
/-
  What the launch leaves, from finite arguments: the gradients over the reals.
-/
module

public import proofs.«01_k».proof.Proof.Flash.Blocks
public import proofs.«01_k».proof.Proof.Flash.KerHost

@[expose] public section

set_option maxRecDepth 16384

noncomputable section

namespace Cert.KernelIdeal.Flash

open Cert.KernelIdeal.Gen Cert.Attention
open Idealize.ShloMosaic hiding ix1 ix2 ix3 ix4 ix5 eq_ix1 eq_ix2 eq_ix3 eq_ix4
open Idealize.ShloMosaic.TcCoe Idealize.ShloMosaic.ValueIdx
open Finset (range)

/-! ## The sums, when the arrays hold real numbers -/

section Sums
variable (q k : S16x4096x256.Idx → ℝ) (v : S16x4096x128.Idx → ℝ) (g : S4096x2048.Idx → ℝ)

/-- The arrays are these real ones; the row numbers and the saved result are an attention's. -/
structure IsReal (W : Arrays) : Prop where
  hq : ∀ (h : Fin 16) (r : Fin 4096) (x : Fin 256), W.q h.val r.val x.val = ((q (ix3 h r x) : ℝ) : EReal)
  hk : ∀ (h : Fin 16) (r : Fin 4096) (x : Fin 256), W.k h.val r.val x.val = ((k (ix3 h r x) : ℝ) : EReal)
  hv : ∀ (h : Fin 16) (r : Fin 4096) (x : Fin 128), W.v h.val r.val x.val = ((v (ix3 h r x) : ℝ) : EReal)
  hg : ∀ (h : Fin 16) (r : Fin 4096) (x : Fin 128), W.g r.val (128 * h.val + x.val) = ((g (ix2 r (headCol h x)) : ℝ) : EReal)
  ho : ∀ (h : Fin 16) (r : Fin 4096) (x : Fin 128), W.o r.val (128 * h.val + x.val) = ((∑ c : Fin 4096, v (ix3 h c x) * soft q k h r c : ℝ) : EReal)
  hl : ∀ (h : Fin 16) (r c : Fin 4096), Ideal.exp ((if c.val ≤ r.val then ((score q k h r c : ℝ) : EReal) else ⊥) - W.l h.val r.val) = ((soft q k h r c : ℝ) : EReal)

variable {q k v g} {W : Arrays} (H : IsReal q k v g W)
include H

theorem gS_real (h : Fin 16) (r c : Fin 4096) : gS W h.val r.val c.val = ((score q k h r c : ℝ) : EReal) := by
  rw [gS, Finset.sum_range, score, ← coe_sum]
  exact Finset.sum_congr rfl fun x _ => by rw [H.hq, H.hk, EReal.coe_mul]

theorem gP_real (h : Fin 16) (r c : Fin 4096) : gP W h.val r.val c.val = ((soft q k h r c : ℝ) : EReal) := by
  rw [gP, gS_real H]; exact H.hl h r c

theorem gD_real (h : Fin 16) (r : Fin 4096) : gD W h.val r.val = ((∑ c, soft q k h r c * dProb v g h r c : ℝ) : EReal) := by
  rw [gD, Finset.sum_range]
  have e : (∑ c, soft q k h r c * dProb v g h r c) = ∑ x : Fin 128, g (ix2 r (headCol h x)) * ∑ c : Fin 4096, v (ix3 h c x) * soft q k h r c := by
    simp only [dProb, Finset.mul_sum]
    rw [Finset.sum_comm]
    exact Finset.sum_congr rfl fun x _ => Finset.sum_congr rfl fun c _ => by ring
  rw [e, ← coe_sum]
  exact Finset.sum_congr rfl fun x _ => by rw [H.hg, H.ho, EReal.coe_mul]

theorem gE_real (h : Fin 16) (r c : Fin 4096) :
    gE W h.val r.val c.val = ((dProb v g h r c - ∑ i, soft q k h r i * dProb v g h r i : ℝ) : EReal) := by
  rw [gE, gD_real H, Finset.sum_range, EReal.coe_sub]
  refine congrArg (· - _) ?_
  rw [dProb, ← coe_sum]
  exact Finset.sum_congr rfl fun x _ => by rw [H.hg, H.hv, EReal.coe_mul]

theorem gDs_real (h : Fin 16) (r c : Fin 4096) : gDs W h.val r.val c.val = ((dScore q k v g h r c : ℝ) : EReal) := by
  rw [gDs, gP_real H, gE_real H, dScore, EReal.coe_mul]

theorem gQ_real (h : Fin 16) (r : Fin 4096) (x : Fin 256) : gQ W h.val r.val x.val 4096 = ((dQuery q k v g h r x : ℝ) : EReal) := by
  rw [gQ, Finset.sum_range, dQuery, ← coe_sum]
  exact Finset.sum_congr rfl fun c _ => by rw [gDs_real H, H.hk, EReal.coe_mul]

theorem gK_real (h : Fin 16) (c : Fin 4096) (x : Fin 256) : gK W h.val c.val x.val 4096 = ((dKey q k v g h c x : ℝ) : EReal) := by
  rw [gK, Finset.sum_range, dKey, ← coe_sum]
  exact Finset.sum_congr rfl fun r _ => by rw [gDs_real H, H.hq, EReal.coe_mul]

theorem gV_real (h : Fin 16) (c : Fin 4096) (x : Fin 128) : gV W h.val c.val x.val 4096 = ((dValue q k g h c x : ℝ) : EReal) := by
  rw [gV, Finset.sum_range, dValue, ← coe_sum]
  exact Finset.sum_congr rfl fun r _ => by rw [gP_real H, H.hg, EReal.coe_mul]

end Sums

/-! ## The launch's arrays -/

section Launch
variable (q k : S16x4096x256.Idx → ℝ) (v : S16x4096x128.Idx → ℝ) (g : S4096x2048.Idx → ℝ)

theorem at3_co {A B C : ℕ} (f : (⟨3, ![A, B, C]⟩ : Shape).Idx → ℝ) (a : Fin A) (b : Fin B) (c : Fin C) :
    at3 (co f) a.val b.val c.val = ((f (ix3 a b c) : ℝ) : EReal) := (at3_idx (co f) (ix3 a b c)).symm

/-- What the host operations prepare from finite arguments. -/
theorem arrays_real : IsReal q k v g (arrays (co q) (co k) (co v) (hLse (F := Ideal) (co q) (co k)) (hO (F := Ideal) (co q) (co k) (co v)) (co g)) where
  hq h r x := at3_co q h r x
  hk h r x := at3_co k h r x
  hv h r x := at3_co v h r x
  hg h r x := (at2_idx (co g) (ix2 r (headCol h x))).symm
  ho h r x := (at2_idx (hO (F := Ideal) (co q) (co k) (co v)) (ix2 r (headCol h x))).symm.trans (hO_apply q k v h r x)
  hl h r c := by
    rw [← hLse_prob q k h r c 0]
    exact congrArg (fun z => Ideal.exp ((if c.val ≤ r.val then ((score q k h r c : ℝ) : EReal) else ⊥) - z)) (at3_idx (hLse (F := Ideal) (co q) (co k)) (ix3 h r 0)).symm

variable {q k v g} (m : (ℓ : Loc nD τ sig) → Buf (Elt Ideal) ℓ) (c : Dev nD)
  (hq : m ((c : Thread nD τ).loc main_arg0) = co q) (hk : m ((c : Thread nD τ).loc main_arg1) = co k)
  (hv : m ((c : Thread nD τ).loc main_arg2) = co v) (hg : m ((c : Thread nD τ).loc main_arg3) = co g)
include hq hk hv hg

theorem whole_real : IsReal q k v g (whole m c) := by
  unfold whole
  rw [V_main_arg0, V_main_arg1, V_main_arg2, V_main_arg3, V_lse, V_o, hq, hk, hv, hg]
  exact arrays_real q k v g

theorem out_dq_real (h : Fin 16) (r : Fin 4096) (x : Fin 256) :
    ((dats m 0 c).arrAt 6 cfg0.N : S16x4096x256.Idx → EReal) (ix3 h r x) = ((dQuery q k v g h r x : ℝ) : EReal) := by
  rw [out_dq]; exact gQ_real (whole_real m c hq hk hv hg) h r x
theorem out_dk_real (h : Fin 16) (r : Fin 4096) (x : Fin 256) :
    ((dats m 0 c).arrAt 7 cfg0.N : S16x4096x256.Idx → EReal) (ix3 h r x) = ((dKey q k v g h r x : ℝ) : EReal) := by
  rw [out_dk]; exact gK_real (whole_real m c hq hk hv hg) h r x
theorem out_dv_real (h : Fin 16) (r : Fin 4096) (x : Fin 128) :
    ((dats m 0 c).arrAt 8 cfg0.N : S16x4096x128.Idx → EReal) (ix3 h r x) = ((dValue q k g h r x : ℝ) : EReal) := by
  rw [out_dv]; exact gV_real (whole_real m c hq hk hv hg) h r x
end Launch

end Cert.KernelIdeal.Flash

end
-- ==== Proof.Flash.RefValue.lean ====
/-
  The reference's three results at an index: the gradients over the reals.
-/
module

public import proofs.«01_k».proof.Proof.Gen.ReferenceIdeal.Run
public import proofs.«01_k».proof.Proof.Flash.Gradients

@[expose] public section

set_option maxRecDepth 16384

noncomputable section

namespace Cert.ReferenceIdeal.Value

open Cert.ReferenceIdeal Cert.ReferenceIdeal.Gen Cert.Attention
open Idealize.ShloMosaic Idealize.ShloMosaic.TcCoe Idealize.ShloMosaic.ValueIdx

variable {F : FTy → Type} [FloatOps F]

section Terms
variable (q k : FVec F S16x4096x256 .bf16) (v : FVec F S16x4096x128 .bf16) (g : FVec F S4096x2048 .bf16)

def keepMask : IVec S16x4096x4096 1 :=
  broadcastInDim S16x4096x4096 ![1, 2] bcast_S4096x4096_S16x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
/-- The masked scores, -/
def rS : FVec F S16x4096x4096 .f32 :=
  select keepMask (Host.dotGeneral dot_S16x4096x256_S16x4096x256_S16x4096x4096_2_2_1_1_0_0 none (extf .f32 q bitsLt_bf16_f32) (extf .f32 k bitsLt_bf16_f32))
    (broadcastInDim S16x4096x4096 ![] bcast_S_S16x4096x4096 (id (constant S_ .f32 0xFF800000#32)))
/-- their row maxima, -/
def rM : FVec F S16x4096 .f32 :=
  maximumf (broadcastInDim S16x4096 ![] bcast_S_S16x4096 (constant S_ .f32 0xFF800000#32))
    (Host.reduce FloatOps.maximumf (rS q k) (constant S_ .f32 0xFF800000#32) reducesTo_S16x4096x4096_S16x4096_d2 h_S_)
/-- the exponentials, -/
def rE : FVec F S16x4096x4096 .f32 :=
  Host.exp (subf (rS q k) (broadcastInDim S16x4096x4096 ![0, 1, 2] bcast_S16x4096x1_S16x4096x4096_0_1_2
    (broadcastInDim S16x4096x1 ![0, 1] bcast_S16x4096_S16x4096x1_0_1 (rM q k))))
/-- and their row sums. -/
def rL : FVec F S16x4096 .f32 :=
  Host.reduceAdd (rE q k) (constant S_ .f32 0x00000000#32) reducesTo_S16x4096x4096_S16x4096_d2 h_S_
/-- The result's gradient, heads first, -/
def rG : FVec F S16x128x4096 .f32 :=
  transpose S16x128x4096 [1, 2, 0] (shapeCast _ (extf .f32 g bitsLt_bf16_f32) shapeCasts_S4096x2048_S4096x16x128) transposes_S4096x16x128_S16x128x4096_1_2_0
/-- the probabilities', -/
def rDp : FVec F S16x4096x4096 .f32 :=
  Host.dotGeneral dot_S16x128x4096_S16x4096x128_S16x4096x4096_1_2_2_1_0_0 none (rG g) (extf .f32 v bitsLt_bf16_f32)
/-- and the scores'. -/
def rDs : FVec F S16x4096x4096 .f32 :=
  select keepMask (mulf (addf
      (Host.divf (rDp v g) (broadcastInDim S16x4096x4096 ![0, 1, 2] bcast_S16x4096x1_S16x4096x4096_0_1_2
        (broadcastInDim S16x4096x1 ![0, 1] bcast_S16x4096_S16x4096x1_0_1 (rL q k))))
      (broadcastInDim S16x4096x4096 ![0, 1] bcast_S16x4096_S16x4096x4096_0_1 (Host.reduceAdd (Host.negf (shapeCast _
        (Host.reduceAdd (mulf (mulf (rDp v g) (broadcastInDim S16x4096x4096 ![0, 1, 2] bcast_S16x4096x1_S16x4096x4096_0_1_2
            (Host.divf (broadcastInDim S16x4096x1 ![] bcast_S_S16x4096x1 (constant S_ .f32 0x3F800000#32))
              (mulf (broadcastInDim S16x4096x1 ![0, 1] bcast_S16x4096_S16x4096x1_0_1 (rL q k))
                (broadcastInDim S16x4096x1 ![0, 1] bcast_S16x4096_S16x4096x1_0_1 (rL q k)))))) (rE q k))
          (constant S_ .f32 0x00000000#32) reducesTo_S16x4096x4096_S16x4096_d2 h_S_) shapeCasts_S16x4096_S16x4096x1))
        (constant S_ .f32 0x00000000#32) reducesTo_S16x4096x1_S16x4096_d2 h_S_))) (rE q k))
    (broadcastInDim S16x4096x4096 ![] bcast_S_S16x4096x4096 (constant S_ .f32 0x00000000#32))
def rDq : FVec F S16x4096x256 .bf16 :=
  truncf .bf16 (Host.dotGeneral dot_S16x4096x4096_S16x4096x256_S16x4096x256_2_1_1_2_0_0 none (rDs q k v g) (extf .f32 k bitsLt_bf16_f32)) bitsLt_bf16_f32
def rDk : FVec F S16x4096x256 .bf16 :=
  truncf .bf16 (Host.dotGeneral dot_S16x4096x4096_S16x4096x256_S16x4096x256_1_1_2_2_0_0 none (rDs q k v g) (extf .f32 q bitsLt_bf16_f32)) bitsLt_bf16_f32
def rDv : FVec F S16x4096x128 .bf16 :=
  truncf .bf16 (transpose S16x4096x128 [0, 2, 1] (Host.dotGeneral dot_S16x128x4096_S16x4096x4096_S16x128x4096_2_1_1_2_0_0 none (rG g)
    (Host.divf (rE q k) (broadcastInDim S16x4096x4096 ![0, 1, 2] bcast_S16x4096x1_S16x4096x4096_0_1_2
      (broadcastInDim S16x4096x1 ![0, 1] bcast_S16x4096_S16x4096x1_0_1 (rL q k))))) transposes_S16x128x4096_S16x4096x128_0_2_1) bitsLt_bf16_f32
end Terms

theorem res0_eq (m : (ℓ : Loc nD τ sig) → Buf (Elt F) ℓ) (c : Dev nD) :
    res_out0 m c = rDq (m ((c.tc : Thread nD τ).loc main_arg0)) (m ((c.tc : Thread nD τ).loc main_arg1)) (m ((c.tc : Thread nD τ).loc main_arg2)) (m ((c.tc : Thread nD τ).loc main_arg3)) := by
  unfold res_out0 res_main_v65 rDq rDs rDp rG rL rE rM rS keepMask; rfl
theorem res1_eq (m : (ℓ : Loc nD τ sig) → Buf (Elt F) ℓ) (c : Dev nD) :
    res_out1 m c = rDk (m ((c.tc : Thread nD τ).loc main_arg0)) (m ((c.tc : Thread nD τ).loc main_arg1)) (m ((c.tc : Thread nD τ).loc main_arg2)) (m ((c.tc : Thread nD τ).loc main_arg3)) := by
  unfold res_out1 res_main_v64 rDk rDs rDp rG rL rE rM rS keepMask; rfl
theorem res2_eq (m : (ℓ : Loc nD τ sig) → Buf (Elt F) ℓ) (c : Dev nD) :
    res_out2 m c = rDv (m ((c.tc : Thread nD τ).loc main_arg0)) (m ((c.tc : Thread nD τ).loc main_arg1)) (m ((c.tc : Thread nD τ).loc main_arg3)) := by
  unfold res_out2 res_main_v63 rDv rG rL rE rM rS keepMask; rfl

section Reals
variable (q k : S16x4096x256.Idx → ℝ) (v : S16x4096x128.Idx → ℝ) (g : S4096x2048.Idx → ℝ)

theorem rS_apply (h : Fin 16) (r c : Fin 4096) :
    rS (F := Ideal) (co q) (co k) (ix3 h r c) = kept (fun c : Fin 4096 => c.val ≤ r.val) (score q k h r) c := by
  refine (causal_apply (by decide) (by decide) _ _ _ _ _ _ _ h r c).trans ?_
  unfold kept
  refine if_congr Iff.rfl ?_ ?_
  · refine (dot_221100 _ (co q) (co k) h r c).trans ?_
    rw [score, ← coe_sum]
    exact Finset.sum_congr rfl fun x _ => (EReal.coe_mul _ _).symm
  · refine (broadcastInDim_scalar_apply _ _ _).trans ?_
    exact negInf

theorem rM_real (h : Fin 16) (r : Fin 4096) : ∃ μ : ℝ, rM (F := Ideal) (co q) (co k) (ix2 h r) = ((μ : ℝ) : EReal) := by
  obtain ⟨μ, hμ⟩ := rowMax_real (by decide) reducesTo_S16x4096x4096_S16x4096_d2 h_S_ (rS (F := Ideal) (co q) (co k)) h r
    (fun c => by rw [rS_apply]; unfold kept; split <;> simp) r (by rw [rS_apply]; unfold kept; rw [if_pos (le_refl _)]; simp)
  refine ⟨μ, ?_⟩
  unfold rM
  rw [maximumf_apply, hμ, broadcastInDim_scalar_apply]
  refine (congrArg (max · _) negInf).trans (max_eq_right bot_le)

theorem rE_apply (h : Fin 16) (r c : Fin 4096) {μ : ℝ} (hμ : rM (F := Ideal) (co q) (co k) (ix2 h r) = ((μ : ℝ) : EReal)) :
    rE (F := Ideal) (co q) (co k) (ix3 h r c) = Ideal.exp (kept (fun c : Fin 4096 => c.val ≤ r.val) (score q k h r) c - ((μ : ℝ) : EReal)) := by
  show Ideal.exp (rS (F := Ideal) (co q) (co k) (ix3 h r c) - _) = _
  rw [rS_apply, spread_apply _ _ _ (by decide) (by decide), hμ]

theorem rL_apply (h : Fin 16) (r : Fin 4096) {μ : ℝ} (hμ : rM (F := Ideal) (co q) (co k) (ix2 h r) = ((μ : ℝ) : EReal)) :
    rL (F := Ideal) (co q) (co k) (ix2 h r) = ∑ c : Fin 4096, Ideal.exp (kept (fun c : Fin 4096 => c.val ≤ r.val) (score q k h r) c - ((μ : ℝ) : EReal)) := by
  refine (rowSum_apply (by decide) _ _ _ h r).trans ?_
  exact Finset.sum_congr rfl fun c _ => rE_apply q k h r c hμ

theorem rG_apply (h : Fin 16) (x : Fin 128) (r : Fin 4096) : rG (F := Ideal) (co g) (ix3 h x r) = ((g (ix2 r (headCol h x)) : ℝ) : EReal) :=
  heads_apply (H := 16) (M := 4096) (W := 128) _ _ (co g) h x r (headCol h x).isLt

theorem rDp_apply (h : Fin 16) (r c : Fin 4096) : rDp (F := Ideal) (co v) (co g) (ix3 h r c) = ((dProb v g h r c : ℝ) : EReal) := by
  refine (dot_122100 _ (rG (F := Ideal) (co g)) (co v) h r c).trans ?_
  rw [dProb, ← coe_sum]
  refine Finset.sum_congr rfl fun x _ => ?_
  rw [rG_apply, EReal.coe_mul]; rfl

theorem rDs_apply (h : Fin 16) (r c : Fin 4096) : rDs (F := Ideal) (co q) (co k) (co v) (co g) (ix3 h r c) = ((dScore q k v g h r c : ℝ) : EReal) := by
  refine (causal_apply (by decide) (by decide) _ _ _ _ _ _ _ h r c).trans ?_
  by_cases hc : c.val ≤ r.val
  · obtain ⟨μ, hμ⟩ := rM_real q k h r
    rw [if_pos hc]
    refine Eq.trans ?_ (grad_weight (fun c : Fin 4096 => c.val ≤ r.val) (score q k h r) μ (dProb v g h r) (k₀ := r) (le_refl _) c)
    show (Ideal.div (rDp (F := Ideal) (co v) (co g) (ix3 h r c)) _ + _) * rE (F := Ideal) (co q) (co k) (ix3 h r c) = _
    rw [rDp_apply, rE_apply q k h r c hμ, spread_apply _ _ _ (by decide) (by decide), rL_apply q k h r hμ]
    refine congrArg (fun z => (Ideal.div _ _ + z) * _) ?_
    rw [along_apply _ _ (by decide) (by decide)]
    refine (rowSum_apply (by decide) _ _ _ h r).trans ?_
    rw [Fin.sum_univ_one]
    show - (shapeCast _ _ _ (ix3 h r 0)) = _
    rw [tail_apply]
    refine congrArg Neg.neg ((rowSum_apply (by decide) _ _ _ h r).trans (Finset.sum_congr rfl fun i _ => ?_))
    show (rDp (F := Ideal) (co v) (co g) (ix3 h r i) * _) * rE (F := Ideal) (co q) (co k) (ix3 h r i) = _
    rw [rDp_apply, rE_apply q k h r i hμ, widen_apply _ _ (by decide) (by decide)]
    refine congrArg (fun z => (_ * z) * _) ?_
    show Ideal.div _ (_ * _) = _
    rw [column_apply _ _ (by decide) (by decide), rL_apply q k h r hμ]
    refine congrArg (fun z => Ideal.div z _) ?_
    exact (broadcastInDim_scalar_apply _ _ _).trans Ideal.ofBits_one_f32
  · rw [if_neg hc, dScore_above q k v g hc]
    exact (broadcastInDim_scalar_apply _ _ _).trans Ideal.ofBits_zero_f32

theorem rDq_apply (h : Fin 16) (r : Fin 4096) (x : Fin 256) :
    rDq (F := Ideal) (co q) (co k) (co v) (co g) (ix3 h r x) = ((dQuery q k v g h r x : ℝ) : EReal) := by
  refine (dot_211200 _ (rDs (F := Ideal) (co q) (co k) (co v) (co g)) (co k) h r x).trans ?_
  rw [dQuery, ← coe_sum]
  refine Finset.sum_congr rfl fun c _ => ?_
  rw [rDs_apply, EReal.coe_mul]; rfl

theorem rDk_apply (h : Fin 16) (c : Fin 4096) (x : Fin 256) :
    rDk (F := Ideal) (co q) (co k) (co v) (co g) (ix3 h c x) = ((dKey q k v g h c x : ℝ) : EReal) := by
  refine (dot_112200 _ (rDs (F := Ideal) (co q) (co k) (co v) (co g)) (co q) h c x).trans ?_
  rw [dKey, ← coe_sum]
  refine Finset.sum_congr rfl fun r _ => ?_
  rw [rDs_apply, EReal.coe_mul]; rfl

theorem rDv_apply (h : Fin 16) (c : Fin 4096) (x : Fin 128) :
    rDv (F := Ideal) (co q) (co k) (co g) (ix3 h c x) = ((dValue q k g h c x : ℝ) : EReal) := by
  unfold rDv
  rw [truncf_apply]
  refine (transpose_apply _ _ _ _ (ix3 h x c) fun b => ?_).trans ?_
  · match b with
    | ⟨0, _⟩ => rfl
    | ⟨1, _⟩ => rfl
    | ⟨2, _⟩ => rfl
  refine (dot_211200 _ (rG (F := Ideal) (co g)) _ h x c).trans ?_
  rw [dValue, ← coe_sum]
  refine Finset.sum_congr rfl fun r _ => ?_
  obtain ⟨μ, hμ⟩ := rM_real q k h r
  rw [rG_apply, mul_comm, EReal.coe_mul]
  refine congrArg (· * _) ?_
  refine Eq.trans ?_ (div_weight (fun c : Fin 4096 => c.val ≤ r.val) (score q k h r) μ (k₀ := r) (le_refl _) c)
  show Ideal.div (rE (F := Ideal) (co q) (co k) (ix3 h r c)) _ = _
  rw [rE_apply q k h r c hμ, spread_apply _ _ _ (by decide) (by decide), rL_apply q k h r hμ]
end Reals

end Cert.ReferenceIdeal.Value

end
-- ==== Proof.Flash.Final.lean ====
/-
  Both programs from finite arguments: equal gradients.
-/
module

public import proofs.«01_k».proof.Proof.Flash.Value
public import proofs.«01_k».proof.Proof.Flash.RefValue

@[expose] public section

set_option maxRecDepth 16384

noncomputable section

namespace Cert.KernelIdeal.Flash

open Cert.KernelIdeal.Gen Cert.Attention Idealize.SL.Sem
open Idealize.ShloMosaic hiding ix1 ix2 ix3 ix4 ix5 eq_ix1 eq_ix2 eq_ix3 eq_ix4
open Idealize.ShloMosaic.TcCoe Idealize.ShloMosaic.ValueIdx

/-- The run with the three results named: what the launch leaves of them. -/
theorem run_values {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v44_0) = (dats m 0 c).arrAt 6 cfg0.N
      ∧ r.2.mem ((c.tc : Thread nD τ).loc main_v44_1) = (dats m 0 c).arrAt 7 cfg0.N
      ∧ r.2.mem ((c.tc : Thread nD τ).loc main_v44_2) = (dats m 0 c).arrAt 8 cfg0.N) :=
  (θ_run defs _ _).mono (fun _ h c => ⟨(h.1 c).1 6, (h.1 c).1 7, (h.1 c).1 8⟩) (run_main m ρ)

section
variable {q k : S16x4096x256.Idx → ℝ} {v : S16x4096x128.Idx → ℝ} {g : S4096x2048.Idx → ℝ}
  (m : (ℓ : Loc nD τ sig) → Buf (Elt Ideal) ℓ) (c : Dev nD)
  (hq : m ((c : Thread nD τ).loc main_arg0) = co q) (hk : m ((c : Thread nD τ).loc main_arg1) = co k)
  (hv : m ((c : Thread nD τ).loc main_arg2) = co v) (hg : m ((c : Thread nD τ).loc main_arg3) = co g)
include hq hk hv hg

/-- The launch's three results are the reference's. -/
theorem same_dq : ((dats m 0 c).arrAt 6 cfg0.N : S16x4096x256.Idx → EReal) = Cert.ReferenceIdeal.Value.rDq (F := Ideal) (co q) (co k) (co v) (co g) := by
  funext i
  rw [eq_ix3 i]
  exact (out_dq_real m c hq hk hv hg _ _ _).trans (Cert.ReferenceIdeal.Value.rDq_apply q k v g _ _ _).symm
theorem same_dk : ((dats m 0 c).arrAt 7 cfg0.N : S16x4096x256.Idx → EReal) = Cert.ReferenceIdeal.Value.rDk (F := Ideal) (co q) (co k) (co v) (co g) := by
  funext i
  rw [eq_ix3 i]
  exact (out_dk_real m c hq hk hv hg _ _ _).trans (Cert.ReferenceIdeal.Value.rDk_apply q k v g _ _ _).symm
theorem same_dv : ((dats m 0 c).arrAt 8 cfg0.N : S16x4096x128.Idx → EReal) = Cert.ReferenceIdeal.Value.rDv (F := Ideal) (co q) (co k) (co g) := by
  funext i
  rw [eq_ix3 i]
  exact (out_dv_real m c hq hk hv hg _ _ _).trans (Cert.ReferenceIdeal.Value.rDv_apply q k g _ _ _).symm
end

end Cert.KernelIdeal.Flash

end
-- ==== Proof.Flash.Finite.lean ====
/-
  The precondition read back: every argument's elements are real numbers.
-/
module

public import proofs.«01_k».proof.Pre_finite
public import Idealize.ShloMosaic.Lib.ReduceAll
public import proofs.«01_k».proof.Proof.Flash.Gradients

@[expose] public section

noncomputable section

namespace Cert.Pre_finite

open Idealize.ShloMosaic Cert.Attention

theorem posInf : Ideal.ofBits .f32 0x7F800000#32 = ⊤ := by simp [Ideal.ofBits, Ideal.ieee]

/-- An absolute value below infinity is a real number's. -/
theorem real_of_abs {x : EReal} (e : Ideal.cmp .olt (max x (-x)) ⊤ = 1#1) : x = ((x.toReal : ℝ) : EReal) := by
  have h : max x (-x) < ⊤ := by
    by_contra hn
    have : Ideal.cmp .olt (max x (-x)) ⊤ = 0#1 := by simp [Ideal.cmp, hn]
    rw [this] at e; exact absurd e (by decide)
  refine (EReal.coe_toReal ?_ ?_).symm
  · rintro rfl; exact absurd h (by simp)
  · rintro rfl; exact absurd h (by simp)

instance : Subsingleton S_.Idx := ⟨fun a b => funext fun d => d.elim0⟩

/-- One array whose absolute values are all below infinity. -/
theorem real_of_all {s : Shape} {axes : List (Fin s.rank)} (x : FVec Ideal s .bf16) (hb : FTy.bits .bf16 < FTy.bits .f32)
    (hd : S_.BroadcastsInDim s (![] : Fin 0 → Fin s.rank)) (hr : s.ReducesTo axes S_) (hu : 0 < S_.numel) (j : S_.Idx)
    (e : Host.reduce IntOp.andi (cmpf .olt (Host.absf (extf .f32 x hb)) (broadcastInDim s ![] hd (constant (F := Ideal) S_ .f32 0x7F800000#32)))
      (constantI S_ 1 1#1) hr hu j = 1#1) : x = co fun i => (x i : EReal).toReal := by
  funext i
  refine real_of_abs ?_
  have h := Host.reduce_andi_all _ _ hr hu j e i
  rw [← posInf]
  exact h

variable [Facts]
open Facts

/-- The precondition makes the four arguments real. -/
theorem real_args (q k : FVec Ideal S16x4096x256 .bf16) (v : FVec Ideal S16x4096x128 .bf16) (g : FVec Ideal S4096x2048 .bf16)
    (h : fn (F := Ideal) q k v g = fun _ => 1#1) :
    (∃ q' : S16x4096x256.Idx → ℝ, q = co q') ∧ (∃ k' : S16x4096x256.Idx → ℝ, k = co k') ∧ (∃ v' : S16x4096x128.Idx → ℝ, v = co v') ∧ ∃ g' : S4096x2048.Idx → ℝ, g = co g' := by
  have e := congrFun h (fun d => d.elim0)
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨⟨_, real_of_all q _ _ _ _ _ e0⟩, ⟨_, real_of_all k _ _ _ _ _ e1⟩, ⟨_, real_of_all v _ _ _ _ _ e2⟩, ⟨_, real_of_all g _ _ _ _ _ e3⟩⟩

end Cert.Pre_finite

end
-- ==== Proof.Products.Kit.lean ====
/-
  Products of two matrices read entry by entry: the three ways a gradient or a layer pairs rows with columns, the
  compute unit's product and the host's as the same sums, and a block of a product as the product of two blocks.
-/
module

public import Idealize.ShloMosaic.Lib.ValueIdx
public import Idealize.ShloMosaic.Lib.IdealHost
public import Idealize.ShloMosaic.Lib.KernelVsHost
public import Idealize.ShloMosaic.Lib.MatmulPlain
public import Idealize.ShloMosaic.Lib.Pointwise.Contract
public import Idealize.ShloMosaic.Lib.Pipeline.ValueKit

@[expose] public section

set_option maxRecDepth 16384

noncomputable section

namespace Cert.Products

open Idealize.ShloMosaic hiding ix1 ix2 ix3 ix4 ix5 eq_ix1 eq_ix2 eq_ix3 eq_ix4
open Idealize.ShloMosaic.ValueIdx

/-- The indices of a matrix with `a` rows and `b` columns. -/
abbrev Mat (a b : ℕ) : Shape := ⟨2, ![a, b]⟩

variable {M N K m n : ℕ}

/-- An index of a matrix by its two coordinates. -/
theorem entry_eq {a b : ℕ} {i : (Mat a b).Idx} {r : Fin a} {s : Fin b} (h0 : (i 0).val = r.val) (h1 : (i 1).val = s.val) : i = ix2 r s :=
  Shape.idx_ext₂ h0 h1

/-- The product that sums over the rows of both: a weight's gradient. -/
def overRows (A : (Mat K M).Idx → EReal) (B : (Mat K N).Idx → EReal) : (Mat M N).Idx → EReal :=
  fun i => ∑ j : Fin K, A (ix2 j (i 0)) * B (ix2 j (i 1))
/-- The product that sums over the columns of both: a layer input's gradient. -/
def overCols (A : (Mat M K).Idx → EReal) (B : (Mat N K).Idx → EReal) : (Mat M N).Idx → EReal :=
  fun i => ∑ j : Fin K, A (ix2 (i 0) j) * B (ix2 (i 1) j)
/-- The plain product: a layer. -/
def plain (A : (Mat M K).Idx → EReal) (B : (Mat K N).Idx → EReal) : (Mat M N).Idx → EReal :=
  fun i => ∑ j : Fin K, A (ix2 (i 0) j) * B (ix2 j (i 1))

/-! ## The compute unit's products and the host's -/

theorem unit_overRows {φ₁ φ₂ : FTy} (wf) (x : FVec Ideal (Mat K M) φ₁) (y : FVec Ideal (Mat K N) φ₂) :
    matmul (⟨[0], [0], [1], [1], [], [], wf⟩ : DotDims (Mat K M) (Mat K N) (Mat M N)) none x y (constant (Mat M N) .f32 0x00000000#32) = overRows x y := by
  funext i
  refine (Ideal.matmul_apply₁_of _ (a := 0) rfl (K := K) rfl x y _ i (fun j => ix2 j (i 0)) (fun j => ix2 j (i 1))
    (fun j => funext fun a => Fin.ext ?_) (fun j => funext fun a => Fin.ext ?_)).trans ?_
  · match a with
    | ⟨0, _⟩ => rfl
    | ⟨1, _⟩ => rfl
  · match a with
    | ⟨0, _⟩ => rfl
    | ⟨1, _⟩ => rfl
  exact (congrArg (· + _) (show (constant (Mat M N) .f32 0x00000000#32 : FVec Ideal (Mat M N) .f32) i = 0 from Ideal.ofBits_zero_f32)).trans (zero_add _)

theorem unit_overCols {φ₁ φ₂ : FTy} (wf) (x : FVec Ideal (Mat M K) φ₁) (y : FVec Ideal (Mat N K) φ₂) :
    matmul (⟨[1], [1], [0], [0], [], [], wf⟩ : DotDims (Mat M K) (Mat N K) (Mat M N)) none x y (constant (Mat M N) .f32 0x00000000#32) = overCols x y := by
  funext i
  refine (Ideal.matmul_apply₁_of _ (a := 1) rfl (K := K) rfl x y _ i (fun j => ix2 (i 0) j) (fun j => ix2 (i 1) j)
    (fun j => funext fun a => Fin.ext ?_) (fun j => funext fun a => Fin.ext ?_)).trans ?_
  · match a with
    | ⟨0, _⟩ => rfl
    | ⟨1, _⟩ => rfl
  · match a with
    | ⟨0, _⟩ => rfl
    | ⟨1, _⟩ => rfl
  exact (congrArg (· + _) (show (constant (Mat M N) .f32 0x00000000#32 : FVec Ideal (Mat M N) .f32) i = 0 from Ideal.ofBits_zero_f32)).trans (zero_add _)

theorem unit_plain {φ₁ φ₂ : FTy} (wf) (x : FVec Ideal (Mat M K) φ₁) (y : FVec Ideal (Mat K N) φ₂) :
    matmul (⟨[1], [0], [0], [1], [], [], wf⟩ : DotDims (Mat M K) (Mat K N) (Mat M N)) none x y (constant (Mat M N) .f32 0x00000000#32) = plain x y := by
  funext i
  refine (Ideal.matmul_apply₁_of _ (a := 1) rfl (K := K) rfl x y _ i (fun j => ix2 (i 0) j) (fun j => ix2 j (i 1))
    (fun j => funext fun a => Fin.ext ?_) (fun j => funext fun a => Fin.ext ?_)).trans ?_
  · match a with
    | ⟨0, _⟩ => rfl
    | ⟨1, _⟩ => rfl
  · match a with
    | ⟨0, _⟩ => rfl
    | ⟨1, _⟩ => rfl
  exact (congrArg (· + _) (show (constant (Mat M N) .f32 0x00000000#32 : FVec Ideal (Mat M N) .f32) i = 0 from Ideal.ofBits_zero_f32)).trans (zero_add _)

theorem host_overRows (wf) (x : (Mat K M).Idx → EReal) (y : (Mat K N).Idx → EReal) :
    (Host.dotGeneral (F := Ideal) (φ₁ := .f32) (φ₂ := .f32) (⟨[0], [0], [1], [1], [], [], wf⟩ : DotDims (Mat K M) (Mat K N) (Mat M N)) none x y : FVec Ideal (Mat M N) .f32) = overRows x y := by
  funext i
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl)

theorem host_overCols (wf) (x : (Mat M K).Idx → EReal) (y : (Mat N K).Idx → EReal) :
    (Host.dotGeneral (F := Ideal) (φ₁ := .f32) (φ₂ := .f32) (⟨[1], [1], [0], [0], [], [], wf⟩ : DotDims (Mat M K) (Mat N K) (Mat M N)) none x y : FVec Ideal (Mat M N) .f32) = overCols x y := by
  funext i
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl)

theorem host_plain (wf) (x : (Mat M K).Idx → EReal) (y : (Mat K N).Idx → EReal) :
    (Host.dotGeneral (F := Ideal) (φ₁ := .f32) (φ₂ := .f32) (⟨[1], [0], [0], [1], [], [], wf⟩ : DotDims (Mat M K) (Mat K N) (Mat M N)) none x y : FVec Ideal (Mat M N) .f32) = plain x y := by
  funext i
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl)

/-- Turned over, the weight's gradient is the same product with its operands exchanged. -/
theorem transpose_overRows (h) (A : (Mat K M).Idx → EReal) (B : (Mat K N).Idx → EReal) :
    transpose (Mat N M) [1, 0] (overRows A B) h = overRows B A := by
  funext i
  refine (transpose_apply _ _ _ _ (ix2 (i 1) (i 0)) fun a => ?_).trans (Finset.sum_congr rfl fun j _ => mul_comm _ _)
  match a with
  | ⟨0, _⟩ => rfl
  | ⟨1, _⟩ => rfl

/-- The weight's gradient as the plain reference writes it: widened, multiplied, turned over and rounded. -/
theorem weight_gradient {h₁ h₂ h₃ h₄} (wf) (A : FVec Ideal (Mat K M) .bf16) (B : FVec Ideal (Mat K N) .bf16) :
    truncf .bf16 (transpose (Mat M N) [1, 0] (Host.dotGeneral (⟨[0], [0], [1], [1], [], [], wf⟩ : DotDims (Mat K N) (Mat K M) (Mat N M)) none
      (extf .f32 B h₁) (extf .f32 A h₂) : FVec Ideal (Mat N M) .f32) h₃) h₄ = overRows A B := by
  exact (congrArg (fun z : (Mat N M).Idx → EReal => transpose (Mat M N) [1, 0] z h₃) (host_overRows wf B A)).trans (transpose_overRows h₃ B A)

/-- The same, of a second operand the reference holds in single precision. -/
theorem weight_gradient' {h₂ h₃ h₄} (wf) (A : FVec Ideal (Mat K M) .bf16) (B : FVec Ideal (Mat K N) .f32) :
    truncf .bf16 (transpose (Mat M N) [1, 0] (Host.dotGeneral (⟨[0], [0], [1], [1], [], [], wf⟩ : DotDims (Mat K N) (Mat K M) (Mat N M)) none
      B (extf .f32 A h₂) : FVec Ideal (Mat N M) .f32) h₃) h₄ = overRows A B := by
  exact (congrArg (fun z : (Mat N M).Idx → EReal => transpose (Mat M N) [1, 0] z h₃) (host_overRows wf B A)).trans (transpose_overRows h₃ B A)

/-- An input's gradient as the plain reference writes it. -/
theorem input_gradient {h₁ h₂} (wf) (A : FVec Ideal (Mat M K) .bf16) (B : FVec Ideal (Mat N K) .bf16) :
    (Host.dotGeneral (⟨[1], [1], [0], [0], [], [], wf⟩ : DotDims (Mat M K) (Mat N K) (Mat M N)) none
      (extf .f32 A h₁) (extf .f32 B h₂) : FVec Ideal (Mat M N) .f32) = overCols A B :=
  host_overCols wf A B

/-- The same, of a result's gradient in single precision, -/
theorem input_gradient' {h₂} (wf) (A : FVec Ideal (Mat M K) .f32) (B : FVec Ideal (Mat N K) .bf16) :
    (Host.dotGeneral (⟨[1], [1], [0], [0], [], [], wf⟩ : DotDims (Mat M K) (Mat N K) (Mat M N)) none
      A (extf .f32 B h₂) : FVec Ideal (Mat M N) .f32) = overCols A B :=
  host_overCols wf A B

/-- and rounded. -/
theorem input_gradient_rounded {h₂ h₃} (wf) (A : FVec Ideal (Mat M K) .f32) (B : FVec Ideal (Mat N K) .bf16) :
    truncf .bf16 (Host.dotGeneral (⟨[1], [1], [0], [0], [], [], wf⟩ : DotDims (Mat M K) (Mat N K) (Mat M N)) none
      A (extf .f32 B h₂) : FVec Ideal (Mat M N) .f32) h₃ = overCols A B :=
  host_overCols wf A B

/-- A layer as the plain reference writes it, -/
theorem layer {h₁ h₂} (wf) (A : FVec Ideal (Mat M K) .bf16) (B : FVec Ideal (Mat K N) .bf16) :
    (Host.dotGeneral (⟨[1], [0], [0], [1], [], [], wf⟩ : DotDims (Mat M K) (Mat K N) (Mat M N)) none
      (extf .f32 A h₁) (extf .f32 B h₂) : FVec Ideal (Mat M N) .f32) = plain A B :=
  host_plain wf A B

/-- and rounded. -/
theorem layer_rounded {h₁ h₂ h₃} (wf) (A : FVec Ideal (Mat M K) .bf16) (B : FVec Ideal (Mat K N) .bf16) :
    truncf .bf16 (Host.dotGeneral (⟨[1], [0], [0], [1], [], [], wf⟩ : DotDims (Mat M K) (Mat K N) (Mat M N)) none
      (extf .f32 A h₁) (extf .f32 B h₂) : FVec Ideal (Mat M N) .f32) h₃ = plain A B :=
  host_plain wf A B

/-- A layer added onto what the model carries. -/
theorem layer_added {h₁ h₂} (wf) (A : FVec Ideal (Mat M K) .bf16) (B : FVec Ideal (Mat K N) .bf16) (x : FVec Ideal (Mat M N) .f32) :
    addf x (Host.dotGeneral (⟨[1], [0], [0], [1], [], [], wf⟩ : DotDims (Mat M K) (Mat K N) (Mat M N)) none
      (extf .f32 A h₁) (extf .f32 B h₂) : FVec Ideal (Mat M N) .f32) = fun i => plain A B i + x i :=
  funext fun i => (congrArg (x i + ·) (congrFun (host_plain wf A B) i)).trans (add_comm _ _)

/-! ## A block of a product is the product of blocks -/

theorem overRows_block {A : (Mat K M).Idx → EReal} {B : (Mat K N).Idx → EReal} {x : (Mat K m).Idx → EReal} {y : (Mat K n).Idx → EReal}
    {p : (Mat m n).Idx} {i : (Mat M N).Idx} (hx : ∀ j, x (ix2 j (p 0)) = A (ix2 j (i 0))) (hy : ∀ j, y (ix2 j (p 1)) = B (ix2 j (i 1))) :
    overRows x y p = overRows A B i :=
  Finset.sum_congr rfl fun j _ => congrArg₂ (· * ·) (hx j) (hy j)

theorem overCols_block {A : (Mat M K).Idx → EReal} {B : (Mat N K).Idx → EReal} {x : (Mat m K).Idx → EReal} {y : (Mat n K).Idx → EReal}
    {p : (Mat m n).Idx} {i : (Mat M N).Idx} (hx : ∀ j, x (ix2 (p 0) j) = A (ix2 (i 0) j)) (hy : ∀ j, y (ix2 (p 1) j) = B (ix2 (i 1) j)) :
    overCols x y p = overCols A B i :=
  Finset.sum_congr rfl fun j _ => congrArg₂ (· * ·) (hx j) (hy j)

theorem plain_block {A : (Mat M K).Idx → EReal} {B : (Mat K N).Idx → EReal} {x : (Mat m K).Idx → EReal} {y : (Mat K n).Idx → EReal}
    {p : (Mat m n).Idx} {i : (Mat M N).Idx} (hx : ∀ j, x (ix2 (p 0) j) = A (ix2 (i 0) j)) (hy : ∀ j, y (ix2 j (p 1)) = B (ix2 j (i 1))) :
    plain x y p = plain A B i :=
  Finset.sum_congr rfl fun j _ => congrArg₂ (· * ·) (hx j) (hy j)

/-- A product cut into runs of columns: the runs' products add up to the whole. -/
theorem overCols_runs {S : ℕ} {A : (Mat M K).Idx → EReal} {B : (Mat N K).Idx → EReal} {k : ℕ}
    {x : Fin S → (Mat m k).Idx → EReal} {y : Fin S → (Mat n k).Idx → EReal} {p : (Mat m n).Idx} {i : (Mat M N).Idx} (hK : K = S * k)
    (hx : ∀ s j (h : s.val * k + j.val < K), x s (ix2 (p 0) j) = A (ix2 (i 0) ⟨s.val * k + j.val, h⟩))
    (hy : ∀ s j (h : s.val * k + j.val < K), y s (ix2 (p 1) j) = B (ix2 (i 1) ⟨s.val * k + j.val, h⟩)) :
    ∑ s : Fin S, overCols (x s) (y s) p = overCols A B i :=
  Fin.sum_mul_add_congr (F := fun s j => x s (ix2 (p 0) j) * y s (ix2 (p 1) j)) (f := fun l => A (ix2 (i 0) l) * B (ix2 (i 1) l))
    (fun s j h => congrArg₂ (· * ·) (hx s j h) (hy s j h)) hK

end Cert.Products

end
-- ==== Proof.Products.Weights.lean ====
/-
  The gradients of the layers' weights: every block a launch leaves is a block of the whole product over the rows.
-/
module

public import proofs.«01_k».proof.Defs
public import proofs.«01_k».proof.Proof.Products.Kit
public import proofs.«01_k».proof.Proof.Gen.Kernel3Ideal.Value
public import proofs.«01_k».proof.Proof.Gen.Reference3Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel14Ideal.Value
public import proofs.«01_k».proof.Proof.Gen.Reference14Ideal.Run
public import proofs.«01_k».proof.Proof.Gen.Kernel16Ideal.Value
public import proofs.«01_k».proof.Proof.Gen.Reference16Ideal.Run

@[expose] public section

noncomputable section

open Idealize.ShloMosaic hiding ix1 ix2 ix3 ix4 ix5 eq_ix1 eq_ix2 eq_ix3 eq_ix4
open Idealize.ShloMosaic.TcCoe Idealize.ShloMosaic.ValueIdx Idealize.SL.Sem Cert.Products

namespace Cert.Kernel3Ideal

open Cert.Kernel3Ideal.Gen

/-- Where the operands' blocks lie, by the result's block. -/
theorem place : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem result (m : (ℓ : Loc nD τ sig) → Buf (Elt Ideal) ℓ) (c : Dev nD) : (dats m 0 c).arrAt 2 cfg0.N
    = overRows (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overRows (φ₁ := .bf16) (φ₂ := .bf16) _ (iblk m c 0 t) (iblk m c 1 t)) y).trans (overRows_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of a pooling or attention layer's input projection. -/
theorem equal : Cert.algebraic_Kernel3Ideal_Reference3Ideal (hKernel3Ideal := Gen.facts) (hReference3Ideal := Cert.Reference3Ideal.Gen.facts) := by
  intro m ρ m' ρ' _ agree
  refine ⟨fun c => overRows (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference3Ideal.defs _ _).mono (fun r h c => ⟨((h c).1).trans ?_, (h c).2⟩) (Cert.Reference3Ideal.Value.run (F := Ideal) m' ρ')
    rw [(agree c).1, (agree c).2]
    exact weight_gradient _ _ _

/-- The reference runs and leaves its arguments unchanged. -/
theorem reference_runs : Cert.quiescent_Reference3Ideal (hReference3Ideal := Cert.Reference3Ideal.Gen.facts) :=
  fun m ρ _ => (θ_run Cert.Reference3Ideal.defs _ _).mono (fun r h => ⟨fun c => (h c).2, sem_eq_zero_of_no_sems (by decide) r.2⟩)
    (Cert.Reference3Ideal.Value.run (F := Ideal) m ρ)

end Cert.Kernel3Ideal

namespace Cert.Kernel7Ideal

open Cert.Kernel7Ideal.Gen

/-- Where the operands' blocks lie, by the result's block. -/
theorem place : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem result (m : (ℓ : Loc nD τ sig) → Buf (Elt Ideal) ℓ) (c : Dev nD) : (dats m 0 c).arrAt 2 cfg0.N
    = overRows (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overRows (φ₁ := .bf16) (φ₂ := .bf16) _ (iblk m c 0 t) (iblk m c 1 t)) y).trans (overRows_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of an output projection. -/
theorem equal : Cert.algebraic_Kernel7Ideal_Reference7Ideal (hKernel7Ideal := Gen.facts) (hReference7Ideal := Cert.Reference7Ideal.Gen.facts) := by
  intro m ρ m' ρ' _ agree
  refine ⟨fun c => overRows (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference7Ideal.defs _ _).mono (fun r h c => ⟨((h c).1).trans ?_, (h c).2⟩) (Cert.Reference7Ideal.Value.run (F := Ideal) m' ρ')
    rw [(agree c).1, (agree c).2]
    exact weight_gradient' _ _ _

/-- The reference runs and leaves its arguments unchanged. -/
theorem reference_runs : Cert.quiescent_Reference7Ideal (hReference7Ideal := Cert.Reference7Ideal.Gen.facts) :=
  fun m ρ _ => (θ_run Cert.Reference7Ideal.defs _ _).mono (fun r h => ⟨fun c => (h c).2, sem_eq_zero_of_no_sems (by decide) r.2⟩)
    (Cert.Reference7Ideal.Value.run (F := Ideal) m ρ)

end Cert.Kernel7Ideal

namespace Cert.Kernel8Ideal

open Cert.Kernel8Ideal.Gen

/-- Where the operands' blocks lie, by the result's block. -/
theorem place : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem result (m : (ℓ : Loc nD τ sig) → Buf (Elt Ideal) ℓ) (c : Dev nD) : (dats m 0 c).arrAt 2 cfg0.N
    = overRows (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overRows (φ₁ := .bf16) (φ₂ := .bf16) _ (iblk m c 0 t) (iblk m c 1 t)) y).trans (overRows_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of the recurrent layer's input projection. -/
theorem equal : Cert.algebraic_Kernel8Ideal_Reference8Ideal (hKernel8Ideal := Gen.facts) (hReference8Ideal := Cert.Reference8Ideal.Gen.facts) := by
  intro m ρ m' ρ' _ agree
  refine ⟨fun c => overRows (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference8Ideal.defs _ _).mono (fun r h c => ⟨((h c).1).trans ?_, (h c).2⟩) (Cert.Reference8Ideal.Value.run (F := Ideal) m' ρ')
    rw [(agree c).1, (agree c).2]
    exact weight_gradient _ _ _

/-- The reference runs and leaves its arguments unchanged. -/
theorem reference_runs : Cert.quiescent_Reference8Ideal (hReference8Ideal := Cert.Reference8Ideal.Gen.facts) :=
  fun m ρ _ => (θ_run Cert.Reference8Ideal.defs _ _).mono (fun r h => ⟨fun c => (h c).2, sem_eq_zero_of_no_sems (by decide) r.2⟩)
    (Cert.Reference8Ideal.Value.run (F := Ideal) m ρ)

end Cert.Kernel8Ideal

namespace Cert.Kernel14Ideal

open Cert.Kernel14Ideal.Gen

/-- Where the operands' blocks lie, by the result's block. -/
theorem place : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem result (m : (ℓ : Loc nD τ sig) → Buf (Elt Ideal) ℓ) (c : Dev nD) : (dats m 0 c).arrAt 2 cfg0.N
    = overRows (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overRows (φ₁ := .bf16) (φ₂ := .bf16) _ (iblk m c 0 t) (iblk m c 1 t)) y).trans (overRows_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of the query's up-projection. -/
theorem equal : Cert.algebraic_Kernel14Ideal_Reference14Ideal (hKernel14Ideal := Gen.facts) (hReference14Ideal := Cert.Reference14Ideal.Gen.facts) := by
  intro m ρ m' ρ' _ agree
  refine ⟨fun c => overRows (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference14Ideal.defs _ _).mono (fun r h c => ⟨((h c).1).trans ?_, (h c).2⟩) (Cert.Reference14Ideal.Value.run (F := Ideal) m' ρ')
    rw [(agree c).1, (agree c).2]
    exact weight_gradient _ _ _

/-- The reference runs and leaves its arguments unchanged. -/
theorem reference_runs : Cert.quiescent_Reference14Ideal (hReference14Ideal := Cert.Reference14Ideal.Gen.facts) :=
  fun m ρ _ => (θ_run Cert.Reference14Ideal.defs _ _).mono (fun r h => ⟨fun c => (h c).2, sem_eq_zero_of_no_sems (by decide) r.2⟩)
    (Cert.Reference14Ideal.Value.run (F := Ideal) m ρ)

end Cert.Kernel14Ideal

namespace Cert.Kernel16Ideal

open Cert.Kernel16Ideal.Gen

/-- Where the operands' blocks lie, by the result's block. -/
theorem place : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

theorem result (m : (ℓ : Loc nD τ sig) → Buf (Elt Ideal) ℓ) (c : Dev nD) : (dats m 0 c).arrAt 2 cfg0.N
    = overRows (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overRows (φ₁ := .bf16) (φ₂ := .bf16) _ (iblk m c 0 t) (iblk m c 1 t)) y).trans (overRows_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of the keys' and values' up-projection. -/
theorem equal : Cert.algebraic_Kernel16Ideal_Reference16Ideal (hKernel16Ideal := Gen.facts) (hReference16Ideal := Cert.Reference16Ideal.Gen.facts) := by
  intro m ρ m' ρ' _ agree
  refine ⟨fun c => overRows (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference16Ideal.defs _ _).mono (fun r h c => ⟨((h c).1).trans ?_, (h c).2⟩) (Cert.Reference16Ideal.Value.run (F := Ideal) m' ρ')
    rw [(agree c).1, (agree c).2]
    exact weight_gradient _ _ _

/-- The reference runs and leaves its arguments unchanged. -/
theorem reference_runs : Cert.quiescent_Reference16Ideal (hReference16Ideal := Cert.Reference16Ideal.Gen.facts) :=
  fun m ρ _ => (θ_run Cert.Reference16Ideal.defs _ _).mono (fun r h => ⟨fun c => (h c).2, sem_eq_zero_of_no_sems (by decide) r.2⟩)
    (Cert.Reference16Ideal.Value.run (F := Ideal) m ρ)

end Cert.Kernel16Ideal

end
-- ==== Proof.Products.Groups.lean ====
/-
  The pooling mixer's products of groups: each group of columns is multiplied by its own matrix, and the two gradients of
  that product.
-/
module

public import proofs.«01_k».proof.Defs
public import proofs.«01_k».proof.Proof.Products.Kit
public import proofs.«01_k».proof.Proof.Flash.HostRead
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run

@[expose] public section

noncomputable section

open Idealize.ShloMosaic hiding ix1 ix2 ix3 ix4 ix5 eq_ix1 eq_ix2 eq_ix3 eq_ix4
open Idealize.ShloMosaic.TcCoe Idealize.ShloMosaic.ValueIdx Idealize.SL.Sem Cert.Products

namespace Cert.Groups

open Cert.Attention (B3 B2 dot_122100 unheads_apply)

/-- Column `l` of group `g`, -/
def col (g : Fin 4) (l : Fin 512) : Fin 2048 := ⟨512 * g.val + l.val, by omega⟩
/-- the group of a column, -/
def grp (n : Fin 2048) : Fin 4 := ⟨n.val / 512, by omega⟩
/-- and its place in the group. -/
def sub (n : Fin 2048) : Fin 512 := ⟨n.val % 512, by omega⟩

theorem col_grp_sub (n : Fin 2048) : col (grp n) (sub n) = n :=
  Fin.ext (show 512 * (n.val / 512) + n.val % 512 = n.val by omega)

/-- Each group of columns times its own matrix, -/
def times (A : (Mat 4096 2048).Idx → EReal) (W : (B3 4 512 512).Idx → EReal) : (Mat 4096 2048).Idx → EReal :=
  fun i => ∑ j : Fin 512, A (ix2 (i 0) (col (grp (i 1)) j)) * W (ix3 (grp (i 1)) j (sub (i 1)))
/-- times its matrix turned over, -/
def back (A : (Mat 4096 2048).Idx → EReal) (W : (B3 4 512 512).Idx → EReal) : (Mat 4096 2048).Idx → EReal :=
  fun i => ∑ j : Fin 512, A (ix2 (i 0) (col (grp (i 1)) j)) * W (ix3 (grp (i 1)) (sub (i 1)) j)
/-- and the groups' own products over the rows. -/
def pairs (A B : (Mat 4096 2048).Idx → EReal) : (B3 4 512 512).Idx → EReal :=
  fun i => ∑ j : Fin 4096, A (ix2 j (col (i 0) (i 1))) * B (ix2 j (col (i 0) (i 2)))

/-- An index of three coordinates by its coordinates. -/
theorem entry3_eq {a b c : ℕ} {i : (B3 a b c).Idx} {r : Fin a} {s : Fin b} {t : Fin c}
    (h0 : (i 0).val = r.val) (h1 : (i 1).val = s.val) (h2 : (i 2).val = t.val) : i = ix3 r s t :=
  funext fun d => Fin.ext (match d with | ⟨0, _⟩ => h0 | ⟨1, _⟩ => h1 | ⟨2, _⟩ => h2)

/-- One group's matrix without its leading axis, -/
theorem drop_apply {α : Type} {a b : ℕ} (h) (x : (B3 1 a b).Idx → α) (r : Fin a) (s : Fin b) :
    shapeCast (Mat a b) x h (ix2 r s) = x (ix3 0 r s) := by
  refine shapeCast_apply _ _ _ _ ?_
  rw [Shape.rowMajor_val_two, Shape.rowMajor_val_three]
  show ((0 : ℕ) * a + r.val) * b + s.val = r.val * b + s.val
  rw [Nat.zero_mul, Nat.zero_add]

/-- and with it. -/
theorem add_apply {α : Type} {a b : ℕ} (h) (x : (Mat a b).Idx → α) (y : (B3 1 a b).Idx) :
    shapeCast (B3 1 a b) x h y = x (ix2 (y 1) (y 2)) := by
  refine shapeCast_apply _ _ _ _ ?_
  rw [Shape.rowMajor_val_two, Shape.rowMajor_val_three]
  have e : (y 0).val = 0 := Nat.lt_one_iff.mp (y 0).isLt
  show (y 1).val * b + (y 2).val = ((y 0).val * a + (y 1).val) * b + (y 2).val
  rw [e, Nat.zero_mul, Nat.zero_add]

/-- The columns cut into groups, -/
theorem cut_apply {α : Type} (h) (x : (Mat 4096 2048).Idx → α) (r : Fin 4096) (g : Fin 4) (l : Fin 512) :
    shapeCast (B3 4096 4 512) x h (ix3 r g l) = x (ix2 r (col g l)) := by
  refine shapeCast_apply _ _ _ _ ?_
  rw [Shape.rowMajor_val_two, Shape.rowMajor_val_three]
  show r.val * 2048 + (512 * g.val + l.val) = (r.val * 4 + g.val) * 512 + l.val
  omega

/-- and put together. -/
theorem join_apply {α : Type} (h) (x : (B3 4096 4 512).Idx → α) (i : (Mat 4096 2048).Idx) :
    shapeCast (Mat 4096 2048) x h i = x (ix3 (i 0) (grp (i 1)) (sub (i 1))) := by
  refine shapeCast_apply _ _ _ _ ?_
  rw [Shape.rowMajor_val_two, Shape.rowMajor_val_three]
  have e : (i 1).val < 2048 := (i 1).isLt
  show ((i 0).val * 4 + (i 1).val / 512) * 512 + (i 1).val % 512 = (i 0).val * 2048 + (i 1).val
  omega

/-! ## The reference's products -/

theorem dot_122001 {A M N K : ℕ} (wf) (x : (B3 A K M).Idx → EReal) (y : (B3 N A K).Idx → EReal) (h : Fin A) (r : Fin M) (c : Fin N) :
    (Host.dotGeneral (F := Ideal) (φ₁ := .f32) (φ₂ := .f32) (⟨[1], [2], [2], [0], [0], [1], wf⟩ : DotDims (B3 A K M) (B3 N A K) (B3 A M N)) none x y : FVec Ideal (B3 A M N) .f32) (ix3 h r c)
      = ∑ j : Fin K, x (ix3 h j r) * y (ix3 c h j) := by
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl | ⟨2, _⟩ => rfl)

theorem dot_201201 {A M N K : ℕ} (wf) (x : (B3 A M K).Idx → EReal) (y : (B3 K A N).Idx → EReal) (h : Fin A) (r : Fin M) (c : Fin N) :
    (Host.dotGeneral (F := Ideal) (φ₁ := .f32) (φ₂ := .f32) (⟨[2], [0], [1], [2], [0], [1], wf⟩ : DotDims (B3 A M K) (B3 K A N) (B3 A M N)) none x y : FVec Ideal (B3 A M N) .f32) (ix3 h r c)
      = ∑ j : Fin K, x (ix3 h r j) * y (ix3 j h c) := by
  refine (Ideal.dotGeneral_apply _ _ _ _ _ _).trans ?_
  rw [← Equiv.sum_comp (contrEquiv1 _ K rfl rfl).symm]
  refine Finset.sum_congr rfl fun j _ => congrArg₂ (· * ·) (congrArg x ?_) (congrArg y ?_) <;>
    exact funext fun a => Fin.ext (match a with | ⟨0, _⟩ => rfl | ⟨1, _⟩ => rfl | ⟨2, _⟩ => rfl)

/-- The columns cut into groups and turned groups first. -/
theorem turn_apply (h ht) (x : (Mat 4096 2048).Idx → EReal) (g : Fin 4) (l : Fin 512) (r : Fin 4096) :
    transpose (B3 4 512 4096) [1, 2, 0] (shapeCast (B3 4096 4 512) x h) ht (ix3 g l r) = x (ix2 r (col g l)) := by
  refine (transpose_apply _ _ _ _ (ix3 r g l) fun b => ?_).trans (cut_apply h x r g l)
  match b with
  | ⟨0, _⟩ => rfl
  | ⟨1, _⟩ => rfl
  | ⟨2, _⟩ => rfl

theorem reference_times (wf h₁ h₂ h₃) (A : (Mat 4096 2048).Idx → EReal) (W : (B3 4 512 512).Idx → EReal) :
    shapeCast (Mat 4096 2048) (transpose (B3 4096 4 512) [2, 0, 1] (Host.dotGeneral (F := Ideal) (φ₁ := .f32) (φ₂ := .f32)
      (⟨[1], [2], [2], [0], [0], [1], wf⟩ : DotDims (B3 4 512 512) (B3 4096 4 512) (B3 4 512 4096)) none W (shapeCast (B3 4096 4 512) A h₁) : FVec Ideal (B3 4 512 4096) .f32) h₂) h₃
      = times A W := by
  funext i
  refine (join_apply _ _ i).trans ((transpose_apply _ _ _ _ (ix3 (grp (i 1)) (sub (i 1)) (i 0)) fun b => ?_).trans ?_)
  · match b with
    | ⟨0, _⟩ => rfl
    | ⟨1, _⟩ => rfl
    | ⟨2, _⟩ => rfl
  refine (dot_122001 _ _ _ _ _ _).trans (Finset.sum_congr rfl fun j _ => ?_)
  exact (congrArg (W (ix3 (grp (i 1)) j (sub (i 1))) * ·) (cut_apply h₁ A _ _ _)).trans (mul_comm _ _)

theorem reference_back (wf h₁ h₂ h₃ h₄) (A : (Mat 4096 2048).Idx → EReal) (W : (B3 4 512 512).Idx → EReal) :
    shapeCast (Mat 4096 2048) (transpose (B3 4096 4 512) [1, 0, 2] (Host.dotGeneral (F := Ideal) (φ₁ := .f32) (φ₂ := .f32)
      (⟨[1], [2], [2], [1], [0], [0], wf⟩ : DotDims (B3 4 512 4096) (B3 4 512 512) (B3 4 4096 512)) none
        (transpose (B3 4 512 4096) [1, 2, 0] (shapeCast (B3 4096 4 512) A h₁) h₂) W : FVec Ideal (B3 4 4096 512) .f32) h₃) h₄
      = back A W := by
  funext i
  refine (join_apply _ _ i).trans ((transpose_apply _ _ _ _ (ix3 (grp (i 1)) (i 0) (sub (i 1))) fun b => ?_).trans ?_)
  · match b with
    | ⟨0, _⟩ => rfl
    | ⟨1, _⟩ => rfl
    | ⟨2, _⟩ => rfl
  refine (dot_122100 _ _ _ _ _ _).trans (Finset.sum_congr rfl fun j _ => ?_)
  exact congrArg (· * W (ix3 (grp (i 1)) (sub (i 1)) j)) (turn_apply h₁ h₂ A _ _ _)

theorem reference_pairs (wf h₁ h₂ h₃ h₄) (A B : (Mat 4096 2048).Idx → EReal) :
    transpose (B3 4 512 512) [0, 2, 1] (Host.dotGeneral (F := Ideal) (φ₁ := .f32) (φ₂ := .f32)
      (⟨[2], [0], [1], [2], [0], [1], wf⟩ : DotDims (B3 4 512 4096) (B3 4096 4 512) (B3 4 512 512)) none
        (transpose (B3 4 512 4096) [1, 2, 0] (shapeCast (B3 4096 4 512) B h₁) h₂) (shapeCast (B3 4096 4 512) A h₃) : FVec Ideal (B3 4 512 512) .f32) h₄
      = pairs A B := by
  funext i
  refine (transpose_apply _ _ _ _ (ix3 (i 0) (i 2) (i 1)) fun b => ?_).trans ?_
  · match b with
    | ⟨0, _⟩ => rfl
    | ⟨1, _⟩ => rfl
    | ⟨2, _⟩ => rfl
  refine (dot_201201 _ _ _ _ _ _).trans (Finset.sum_congr rfl fun j _ => ?_)
  exact (congrArg₂ (· * ·) (turn_apply h₁ h₂ B _ _ _) (cut_apply h₃ A _ _ _)).trans (mul_comm _ _)

/-- A product over the rows cut into runs of rows: the runs' products add up to the whole. -/
theorem overRows_runs {M N K m n S k : ℕ} {A : (Mat K M).Idx → EReal} {B : (Mat K N).Idx → EReal}
    {x : Fin S → (Mat k m).Idx → EReal} {y : Fin S → (Mat k n).Idx → EReal} {p : (Mat m n).Idx} {r : Fin M} {s' : Fin N} (hK : K = S * k)
    (hx : ∀ s j (h : s.val * k + j.val < K), x s (ix2 j (p 0)) = A (ix2 ⟨s.val * k + j.val, h⟩ r))
    (hy : ∀ s j (h : s.val * k + j.val < K), y s (ix2 j (p 1)) = B (ix2 ⟨s.val * k + j.val, h⟩ s')) :
    ∑ s : Fin S, overRows (x s) (y s) p = ∑ l : Fin K, A (ix2 l r) * B (ix2 l s') :=
  Fin.sum_mul_add_congr (F := fun s j => x s (ix2 j (p 0)) * y s (ix2 j (p 1))) (f := fun l => A (ix2 l r) * B (ix2 l s'))
    (fun s j h => congrArg₂ (· * ·) (hx s j h) (hy s j h)) hK

end Cert.Groups

namespace Cert.Kernel20Ideal

open Cert.Kernel20Ideal.Gen Cert.Groups

/-- Where the operands' blocks lie. -/
theorem place : ∀ t : Fin cfg0.N, win0_0.index t = ![0, t.val] ∧ win0_1.index t = ![t.val, 0, 0] ∧ win0_2.index t = ![0, t.val] :=
  (by decide +kernel : ∀ t : Fin grid0.N, win0_0.index t = ![0, t.val] ∧ win0_1.index t = ![t.val, 0, 0] ∧ win0_2.index t = ![0, t.val])

theorem result (m : (ℓ : Loc nD τ sig) → Buf (Elt Ideal) ℓ) (c : Dev nD) : (dats m 0 c).arrAt 2 cfg0.N
    = times (m ((c : Thread nD τ).loc main_arg0)) (m ((c : Thread nD τ).loc main_arg1)) := by
  refine (dats m 0 c).arrAt_eq_of_covers 2 _ (by decide +kernel) fun t hf y => ?_
  blk_simp
  rw [after0_2]
  frame_out
  have hy : (y 1).val < 512 := (y 1).isLt
  refine (congrFun (unit_plain (φ₁ := .bf16) (φ₂ := .bf16) _ (iblk m c 0 t) (shapeCast S512x512 (iblk m c 1 t) shapeCasts_S1x512x512_S512x512)) y).trans
    (Finset.sum_congr rfl fun j _ => congrArg₂ (· * ·) ?_ ((drop_apply _ (iblk m c 1 t) j (y 1)).trans ?_))
  · refine congrArg (m ((c : Thread nD τ).loc main_arg0)) (entry_eq ?_ ?_)
    · blk_simp [(place t).1, (place t).2.2]
    · blk_simp [(place t).1, (place t).2.2, col, grp]
      show t.val * 512 + j.val = 512 * ((t.val * 512 + (y 1).val) / 512) + j.val
      omega
  · refine congrArg (m ((c : Thread nD τ).loc main_arg1)) (entry3_eq ?_ ?_ ?_)
    · blk_simp [(place t).2.1, (place t).2.2, grp]
      show t.val = (t.val * 512 + (y 1).val) / 512
      omega
    · blk_simp [(place t).2.1, (place t).2.2]
    · blk_simp [(place t).2.1, (place t).2.2, Groups.sub]
      show (y 1).val = (t.val * 512 + (y 1).val) % 512
      omega

/-- The pooling mixer's product of each group of columns. -/
theorem equal : Cert.algebraic_Kernel20Ideal_Reference20Ideal (hKernel20Ideal := Gen.facts) (hReference20Ideal := Cert.Reference20Ideal.Gen.facts) := by
  intro m ρ m' ρ' _ agree
  refine ⟨fun c => times (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference20Ideal.defs _ _).mono (fun r h c => ⟨((h c).1).trans ?_, (h c).2⟩) (Cert.Reference20Ideal.Value.run (F := Ideal) m' ρ')
    rw [(agree c).1, (agree c).2]
    exact reference_times _ _ _ _ _ _

/-- The reference runs and leaves its arguments unchanged. -/
theorem reference_runs : Cert.quiescent_Reference20Ideal (hReference20Ideal := Cert.Reference20Ideal.Gen.facts) :=
  fun m ρ _ => (θ_run Cert.Reference20Ideal.defs _ _).mono (fun r h => ⟨fun c => (h c).2, sem_eq_zero_of_no_sems (by decide) r.2⟩)
    (Cert.Reference20Ideal.Value.run (F := Ideal) m ρ)

end Cert.Kernel20Ideal

namespace Cert.Kernel21Ideal

open Cert.Kernel21Ideal.Gen Cert.Groups

/-- Where the operands' blocks lie. -/
theorem place : ∀ t : Fin cfg0.N, win0_0.index t = ![0, t.val] ∧ win0_1.index t = ![t.val, 0, 0] ∧ win0_2.index t = ![0, t.val] :=
  (by decide +kernel : ∀ t : Fin grid0.N, win0_0.index t = ![0, t.val] ∧ win0_1.index t = ![t.val, 0, 0] ∧ win0_2.index t = ![0, t.val])

theorem result (m : (ℓ : Loc nD τ sig) → Buf (Elt Ideal) ℓ) (c : Dev nD) : (dats m 0 c).arrAt 2 cfg0.N
    = back (m ((c : Thread nD τ).loc main_arg0)) (m ((c : Thread nD τ).loc main_arg1)) := by
  refine (dats m 0 c).arrAt_eq_of_covers 2 _ (by decide +kernel) fun t hf y => ?_
  blk_simp
  rw [after0_2]
  frame_out
  have hy : (y 1).val < 512 := (y 1).isLt
  refine (congrFun (unit_overCols (φ₁ := .bf16) (φ₂ := .bf16) _ (iblk m c 0 t) (shapeCast S512x512 (iblk m c 1 t) shapeCasts_S1x512x512_S512x512)) y).trans
    (Finset.sum_congr rfl fun j _ => congrArg₂ (· * ·) ?_ ((drop_apply _ (iblk m c 1 t) (y 1) j).trans ?_))
  · refine congrArg (m ((c : Thread nD τ).loc main_arg0)) (entry_eq ?_ ?_)
    · blk_simp [(place t).1, (place t).2.2]
    · blk_simp [(place t).1, (place t).2.2, col, grp]
      show t.val * 512 + j.val = 512 * ((t.val * 512 + (y 1).val) / 512) + j.val
      omega
  · refine congrArg (m ((c : Thread nD τ).loc main_arg1)) (entry3_eq ?_ ?_ ?_)
    · blk_simp [(place t).2.1, (place t).2.2, grp]
      show t.val = (t.val * 512 + (y 1).val) / 512
      omega
    · blk_simp [(place t).2.1, (place t).2.2, Groups.sub]
      show (y 1).val = (t.val * 512 + (y 1).val) % 512
      omega
    · blk_simp [(place t).2.1, (place t).2.2]

/-- The gradient of what it reads. -/
theorem equal : Cert.algebraic_Kernel21Ideal_Reference21Ideal (hKernel21Ideal := Gen.facts) (hReference21Ideal := Cert.Reference21Ideal.Gen.facts) := by
  intro m ρ m' ρ' _ agree
  refine ⟨fun c => back (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference21Ideal.defs _ _).mono (fun r h c => ⟨((h c).1).trans ?_, (h c).2⟩) (Cert.Reference21Ideal.Value.run (F := Ideal) m' ρ')
    rw [(agree c).1, (agree c).2]
    exact reference_back _ _ _ _ _ _ _

/-- The reference runs and leaves its arguments unchanged. -/
theorem reference_runs : Cert.quiescent_Reference21Ideal (hReference21Ideal := Cert.Reference21Ideal.Gen.facts) :=
  fun m ρ _ => (θ_run Cert.Reference21Ideal.defs _ _).mono (fun r h => ⟨fun c => (h c).2, sem_eq_zero_of_no_sems (by decide) r.2⟩)
    (Cert.Reference21Ideal.Value.run (F := Ideal) m ρ)

end Cert.Kernel21Ideal

namespace Cert.Kernel22Ideal

open Cert.Kernel22Ideal.Gen Cert.Groups

variable (m : (ℓ : Loc nD τ sig) → Buf (Elt Ideal) ℓ)

/-- What the buffer gains at a point. -/
def gain (c : Dev nD) (t : Fin cfg0.N) : (Mat 512 512).Idx → EReal :=
  overRows (M := 512) (N := 512) (K := 2048) (iblk m c 0 t) (iblk m c 1 t)

theorem added (z : Vec Ideal S512x512 .f32) (x y : Vec Ideal S2048x512 .bf16) : k0_pay2 z x y = fun i => z i + overRows x y i :=
  (shapeCast_self _ _).trans (funext fun i => congrArg (z i + ·) (congrFun (unit_overRows (φ₁ := .bf16) (φ₂ := .bf16) _ x y) i))

/-- The first point of a run clears the buffer and adds its product, -/
theorem first (c : Dev nD) (t : Fin cfg0.N) (h : t.val % 2 = 0) (i : S512x512.Idx) :
    (outsAt0 m c t.val t.isLt).2 i = (0 : EReal) + gain m c t i := by
  refine (congrFun (congrArg Prod.snd (outsAt0_A m c t h (by omega))) i).trans ?_
  dsimp only
  frame_out
  refine (congrFun (added _ _ _) i).trans (congrArg (· + gain m c t i) ?_)
  exact Ideal.ofBits_zero_f32

/-- and the other adds its own. -/
theorem later (c : Dev nD) (t : Fin cfg0.N) (h : ¬t.val % 2 = 0) (i : S512x512.Idx) :
    (outsAt0 m c t.val t.isLt).2 i = (outsAt0 m c (t.val - 1) (Nat.lt_of_le_of_lt (Nat.sub_le _ _) t.isLt)).2 i + gain m c t i := by
  refine (congrFun (congrArg Prod.snd (outsAt0_B m c t h (by omega))) i).trans ?_
  generalize (outsAt0 m c (t.val - 1) (Nat.lt_of_le_of_lt (Nat.sub_le _ _) t.isLt)).2 = z
  dsimp only
  frame_out
  exact congrFun ((congrArg (k0_pay2 · (iblk m c 0 t) (iblk m c 1 t)) (Memref.IsWhole.read_unread (Memref.isWhole_whole cc0_scratch0) z)).trans (added z _ _)) i

theorem stored (z : Vec Ideal S512x512 .f32) (y : S1x512x512.Idx) : k0_pay3 z y = z (ix2 (y 1) (y 2)) :=
  Groups.add_apply (α := EReal) shapeCasts_S512x512_S1x512x512 z y

/-- The block written back is what the buffer holds, -/
theorem written (c : Dev nD) (t : Fin cfg0.N) (h : t.val % 2 = 1) (y : S1x512x512.Idx) :
    (outsAt0 m c t.val t.isLt).1 y = (outsAt0 m c t.val t.isLt).2 (ix2 (y 1) (y 2)) := by
  rw [outsAt0_B m c t (by omega) h]
  frame_out
  exact stored _ y

/-- the two points' products. -/
theorem total (c : Dev nD) (t : Fin cfg0.N) (h : t.val % 2 = 1) (y : S1x512x512.Idx) :
    (outsAt0 m c t.val t.isLt).1 y = ∑ s : Fin 2, gain m c ⟨2 * (t.val / 2) + s.val, Pipeline.run_point_lt_of_flush t h s⟩ (ix2 (y 1) (y 2)) := by
  rw [written m c t h, Pipeline.eq_sum_fin_of_reset_step_apply_of_flush (fun n h => (outsAt0 m c n h).2) 2 (fun _ => 0) (gain m c)
    (first m c) (later m c) t h (ix2 (y 1) (y 2)), zero_add]

/-- Where the operands' blocks lie. -/
theorem place : ∀ t : Fin cfg0.N, win0_0.index t = ![t.val % 2, t.val / 2] ∧ win0_1.index t = ![t.val % 2, t.val / 2] ∧ win0_2.index t = ![t.val / 2, 0, 0] :=
  (by decide +kernel : ∀ t : Fin grid0.N, win0_0.index t = ![t.val % 2, t.val / 2] ∧ win0_1.index t = ![t.val % 2, t.val / 2] ∧ win0_2.index t = ![t.val / 2, 0, 0])

theorem result (c : Dev nD) : (dats m 0 c).arrAt 2 cfg0.N
    = pairs (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  refine (total m c t ht y).trans (overRows_runs rfl (fun s j h => ?_) fun s j h => ?_)
  · have e : (2 * (t.val / 2) + s.val) / 2 = t.val / 2 ∧ (2 * (t.val / 2) + s.val) % 2 = s.val := by omega
    refine congrArg (m ((c : Thread nD τ).loc main_arg0)) (entry_eq ?_ ?_)
    · blk_simp [(place _).1, e.1, e.2]
    · blk_simp [(place _).1, (place t).2.2, e.1, e.2, col]
      show t.val / 2 * 512 + (y 1).val = 512 * (t.val / 2) + (y 1).val
      omega
  · have e : (2 * (t.val / 2) + s.val) / 2 = t.val / 2 ∧ (2 * (t.val / 2) + s.val) % 2 = s.val := by omega
    refine congrArg (m ((c : Thread nD τ).loc main_arg1)) (entry_eq ?_ ?_)
    · blk_simp [(place _).2.1, e.1, e.2]
    · blk_simp [(place _).2.1, (place t).2.2, e.1, e.2, col]
      show t.val / 2 * 512 + (y 2).val = 512 * (t.val / 2) + (y 2).val
      omega

/-- The gradient of the groups' matrices. -/
theorem equal : Cert.algebraic_Kernel22Ideal_Reference22Ideal (hKernel22Ideal := Gen.facts) (hReference22Ideal := Cert.Reference22Ideal.Gen.facts) := by
  intro m ρ m' ρ' _ agree
  refine ⟨fun c => pairs (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference22Ideal.defs _ _).mono (fun r h c => ⟨((h c).1).trans ?_, (h c).2⟩) (Cert.Reference22Ideal.Value.run (F := Ideal) m' ρ')
    rw [(agree c).1, (agree c).2]
    exact reference_pairs _ _ _ _ _ _ _

/-- The reference runs and leaves its arguments unchanged. -/
theorem reference_runs : Cert.quiescent_Reference22Ideal (hReference22Ideal := Cert.Reference22Ideal.Gen.facts) :=
  fun m ρ _ => (θ_run Cert.Reference22Ideal.defs _ _).mono (fun r h => ⟨fun c => (h c).2, sem_eq_zero_of_no_sems (by decide) r.2⟩)
    (Cert.Reference22Ideal.Value.run (F := Ideal) m ρ)

end Cert.Kernel22Ideal

end
-- ==== Proof.Update.Kit.lean ====
/-
  One step of the optimiser at one entry, and a gradient as the sum of the parts that eight devices send.
-/
module

public import proofs.«01_k».proof.Proof.Products.Kit
public import proofs.«01_k».proof.Proof.Flash.HostRead

@[expose] public section

noncomputable section

open Idealize.ShloMosaic hiding ix1 ix2 ix3 ix4 ix5 eq_ix1 eq_ix2 eq_ix3 eq_ix4
open Idealize.ShloMosaic.ValueIdx Cert.Products

namespace Cert.Update

open Cert.Attention (B3 B0)

/-- A single-precision constant. -/
def word (b : BitVec 32) : EReal := Ideal.ofBits .f32 b

/-- The running mean of the gradient, -/
def mean (m g : EReal) : EReal := word 0x3F666666#32 * m + word 0x3DCCCCCD#32 * g
/-- the running mean of its square, -/
def square (v g : EReal) : EReal := word 0x3F7FBE77#32 * v + word 0x3A83126F#32 * (g * g)
/-- and what the weight moves by. -/
def move (w g m v : EReal) : EReal :=
  word 0xBA83126F#32 * (Ideal.div (Ideal.div (mean m g) (word 0x3F26BD02#32))
    (Ideal.sqrt (Ideal.div (square v g) (word 0x3C231ACC#32)) + word 0x322BCC77#32) + word 0x3C23D70A#32 * w)

variable {R C : ℕ}

/-- The four parts of one array, added up, -/
def four (x : (B3 4 R C).Idx → EReal) : (Mat R C).Idx → EReal := fun i => ∑ s : Fin 4, x (ix3 s (i 0) (i 1))
/-- and the two arrays' together: the gradient. -/
def grad (x y : (B3 4 R C).Idx → EReal) : (Mat R C).Idx → EReal := fun i => four x i + four y i

/-- An index of three coordinates by its coordinates. -/
theorem entry3_eq {a b c : ℕ} {i : (B3 a b c).Idx} {r : Fin a} {s : Fin b} {t : Fin c}
    (h0 : (i 0).val = r.val) (h1 : (i 1).val = s.val) (h2 : (i 2).val = t.val) : i = ix3 r s t :=
  funext fun d => Fin.ext (match d with | ⟨0, _⟩ => h0 | ⟨1, _⟩ => h1 | ⟨2, _⟩ => h2)

/-- One part without its leading axis. -/
theorem part_apply (h) (x : (B3 1 R C).Idx → EReal) (i : (Mat R C).Idx) : shapeCast (Mat R C) x h i = x (ix3 0 (i 0) (i 1)) := by
  refine shapeCast_apply _ _ _ _ ?_
  rw [Shape.rowMajor_val_two, Shape.rowMajor_val_three]
  show ((0 : ℕ) * R + (i 0).val) * C + (i 1).val = (i 0).val * C + (i 1).val
  rw [Nat.zero_mul, Nat.zero_add]

/-- Four parts read one after another, added from the left. -/
theorem parts_apply (h) {x : (B3 4 R C).Idx → EReal} {p0 p1 p2 p3 : (B3 1 R C).Idx → EReal} (i : (Mat R C).Idx)
    (h0 : p0 (ix3 0 (i 0) (i 1)) = x (ix3 0 (i 0) (i 1))) (h1 : p1 (ix3 0 (i 0) (i 1)) = x (ix3 1 (i 0) (i 1)))
    (h2 : p2 (ix3 0 (i 0) (i 1)) = x (ix3 2 (i 0) (i 1))) (h3 : p3 (ix3 0 (i 0) (i 1)) = x (ix3 3 (i 0) (i 1))) :
    shapeCast (Mat R C) p0 h i + shapeCast (Mat R C) p1 h i + shapeCast (Mat R C) p2 h i + shapeCast (Mat R C) p3 h i = four x i := by
  rw [part_apply, part_apply, part_apply, part_apply, h0, h1, h2, h3, four, Fin.sum_univ_four]

/-- The host's sum of the four parts. -/
theorem host_four (hr' : (B3 4 R C).Reduces [0] (Mat R C)) (hr : (B3 4 R C).ReducesTo [0] (Mat R C)) (hu) (x : (B3 4 R C).Idx → EReal) (i : (Mat R C).Idx) :
    (Host.reduceAdd (F := Ideal) (φ := .f32) x (constant B0 .f32 0x00000000#32) hr hu : FVec Ideal (Mat R C) .f32) i = four x i := by
  rw [hostReduceAdd_apply, Ideal.hostReduceAdd_single hr hr']
  show Ideal.ofBits .f32 0x00000000#32 + _ = _
  rw [Ideal.ofBits_zero_f32, zero_add]
  refine Finset.sum_congr rfl fun c _ => congrArg x (funext fun a => Fin.ext ?_)
  match a with
  | ⟨0, _⟩ => rfl
  | ⟨1, _⟩ => rfl
  | ⟨2, _⟩ => rfl

/-- The gradient as the host adds it up. -/
theorem host_grad (hr' : (B3 4 R C).Reduces [0] (Mat R C)) (hr : (B3 4 R C).ReducesTo [0] (Mat R C)) (hu) (x y : (B3 4 R C).Idx → EReal) :
    addf (Host.reduceAdd (F := Ideal) (φ := .f32) x (constant B0 .f32 0x00000000#32) hr hu : FVec Ideal (Mat R C) .f32)
      (Host.reduceAdd (F := Ideal) (φ := .f32) y (constant B0 .f32 0x00000000#32) hr hu) = grad x y :=
  funext fun i => congrArg₂ (· + ·) (host_four hr' hr hu x i) (host_four hr' hr hu y i)

end Cert.Update

end
-- ==== Proof.Update.Weights.lean ====
/-
  The optimiser's launches on one-layer weights: every block of the four results is the step at the block's entries.
-/
module

public import proofs.«01_k».proof.Defs
public import proofs.«01_k».proof.Proof.Update.Kit
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run

@[expose] public section

noncomputable section

open Idealize.ShloMosaic hiding ix1 ix2 ix3 ix4 ix5 eq_ix1 eq_ix2 eq_ix3 eq_ix4
open Idealize.ShloMosaic.TcCoe Idealize.ShloMosaic.ValueIdx Idealize.SL.Sem Cert.Products

namespace Cert.Kernel23Ideal

open Cert.Kernel23Ideal.Gen Cert.Update

variable (m : (ℓ : Loc nD τ sig) → Buf (Elt Ideal) ℓ)

/-- The blocks lie side by side in rows. -/
theorem place : ∀ t : Fin cfg0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])

/-- The body's sum of the eight parts. -/
theorem gained (x0 : Vec Ideal S512x1024 .f32) (x1 x2 : Vec Ideal S4x512x1024 .bf16) (x3 x4 : Vec Ideal S512x1024 .f32) (y : S512x1024.Idx) :
    k0_pay5 x0 x1 x2 x3 x4 y = grad x1 x2 y := by
  refine congrArg₂ (· + ·) (parts_apply (x := x1) (p0 := View.ld x1 r0_0) (p1 := View.ld x1 r0_1) (p2 := View.ld x1 r0_2) (p3 := View.ld x1 r0_3) shapeCasts_S1x512x1024_S512x1024 y ?_ ?_ ?_ ?_) (parts_apply (x := x2) (p0 := View.ld x2 r0_0) (p1 := View.ld x2 r0_1) (p2 := View.ld x2 r0_2) (p3 := View.ld x2 r0_3) shapeCasts_S1x512x1024_S512x1024 y ?_ ?_ ?_ ?_) <;>
    first
    | exact congrArg x1 (entry3_eq rfl ((Nat.zero_add _).trans (Nat.one_mul _)) ((Nat.zero_add _).trans (Nat.one_mul _)))
    | exact congrArg x2 (entry3_eq rfl ((Nat.zero_add _).trans (Nat.one_mul _)) ((Nat.zero_add _).trans (Nat.one_mul _)))

/-- A block's entry of each operand, -/
theorem operands (c : Dev nD) (t : Fin cfg0.N) (y : S512x1024.Idx) (i : S512x1024.Idx) (h0 : (i 0).val = t.val * 512 + (y 0).val) (h1 : (i 1).val = (y 1).val) :
    iblk m c 0 t y = m ((c : Thread nD τ).loc main_arg0) i ∧ iblk m c 3 t y = m ((c : Thread nD τ).loc main_arg3) i ∧ iblk m c 4 t y = m ((c : Thread nD τ).loc main_arg4) i
      ∧ grad (iblk m c 1 t) (iblk m c 2 t) y = grad (m ((c : Thread nD τ).loc main_arg1)) (m ((c : Thread nD τ).loc main_arg2)) i := by
  refine ⟨congrArg (m ((c : Thread nD τ).loc main_arg0)) (Shape.idx_ext₂ ?_ ?_), congrArg (m ((c : Thread nD τ).loc main_arg3)) (Shape.idx_ext₂ ?_ ?_),
    congrArg (m ((c : Thread nD τ).loc main_arg4)) (Shape.idx_ext₂ ?_ ?_), congrArg₂ (· + ·) (Finset.sum_congr rfl fun s _ => ?_) (Finset.sum_congr rfl fun s _ => ?_)⟩
  · blk_simp [(place t).1, h0]
  · blk_simp [(place t).1, h1]
  · blk_simp [(place t).2.2.2.1, h0]
  · blk_simp [(place t).2.2.2.1, h1]
  · blk_simp [(place t).2.2.2.2.1, h0]
  · blk_simp [(place t).2.2.2.2.1, h1]
  · refine congrArg (m ((c : Thread nD τ).loc main_arg1)) (entry3_eq ?_ ?_ ?_)
    · blk_simp [(place t).2.1]
    · blk_simp [(place t).2.1, h0]
    · blk_simp [(place t).2.1, h1]
  · refine congrArg (m ((c : Thread nD τ).loc main_arg2)) (entry3_eq ?_ ?_ ?_)
    · blk_simp [(place t).2.2.1]
    · blk_simp [(place t).2.2.1, h0]
    · blk_simp [(place t).2.2.1, h1]

/-- The gradient. -/
theorem gradient (c : Dev nD) : (dats m 0 c).arrAt 5 cfg0.N = fun i => grad (m ((c : Thread nD τ).loc main_arg1)) (m ((c : Thread nD τ).loc main_arg2)) i := by
  refine (dats m 0 c).arrAt_eq_of_covers 5 _ (by decide +kernel) fun t hf y => ?_
  have o := operands m c t y (((cfg0.win 5).blk t).view.emb y) (by blk_simp [(place t).2.2.2.2.2.1]) (by blk_simp [(place t).2.2.2.2.2.1])
  blk_simp
  rw [after0_5]
  frame_out
  exact (gained _ _ _ _ _ y).trans o.2.2.2

/-- The weight's move. -/
theorem moved (c : Dev nD) : (dats m 0 c).arrAt 6 cfg0.N = fun i => move (m ((c : Thread nD τ).loc main_arg0) i) (grad (m ((c : Thread nD τ).loc main_arg1)) (m ((c : Thread nD τ).loc main_arg2)) i) (m ((c : Thread nD τ).loc main_arg3) i) (m ((c : Thread nD τ).loc main_arg4) i) := by
  refine (dats m 0 c).arrAt_eq_of_covers 6 _ (by decide +kernel) fun t hf y => ?_
  have o := operands m c t y (((cfg0.win 6).blk t).view.emb y) (by blk_simp [(place t).2.2.2.2.2.2.1]) (by blk_simp [(place t).2.2.2.2.2.2.1])
  blk_simp
  rw [after0_6]
  frame_out
  show move (iblk m c 0 t y) (k0_pay5 (iblk m c 0 t) (iblk m c 1 t) (iblk m c 2 t) (iblk m c 3 t) (iblk m c 4 t) y) (iblk m c 3 t y) (iblk m c 4 t y) = _
  rw [gained, o.1, o.2.1, o.2.2.1, o.2.2.2]

/-- The running mean. -/
theorem averaged (c : Dev nD) : (dats m 0 c).arrAt 7 cfg0.N = fun i => mean (m ((c : Thread nD τ).loc main_arg3) i) (grad (m ((c : Thread nD τ).loc main_arg1)) (m ((c : Thread nD τ).loc main_arg2)) i) := by
  refine (dats m 0 c).arrAt_eq_of_covers 7 _ (by decide +kernel) fun t hf y => ?_
  have o := operands m c t y (((cfg0.win 7).blk t).view.emb y) (by blk_simp [(place t).2.2.2.2.2.2.2.1]) (by blk_simp [(place t).2.2.2.2.2.2.2.1])
  blk_simp
  rw [after0_7]
  frame_out
  show mean (iblk m c 3 t y) (k0_pay5 (iblk m c 0 t) (iblk m c 1 t) (iblk m c 2 t) (iblk m c 3 t) (iblk m c 4 t) y) = _
  rw [gained, o.2.1, o.2.2.2]

/-- The running square. -/
theorem squared (c : Dev nD) : (dats m 0 c).arrAt 8 cfg0.N = fun i => square (m ((c : Thread nD τ).loc main_arg4) i) (grad (m ((c : Thread nD τ).loc main_arg1)) (m ((c : Thread nD τ).loc main_arg2)) i) := by
  refine (dats m 0 c).arrAt_eq_of_covers 8 _ (by decide +kernel) fun t hf y => ?_
  have o := operands m c t y (((cfg0.win 8).blk t).view.emb y) (by blk_simp [(place t).2.2.2.2.2.2.2.2]) (by blk_simp [(place t).2.2.2.2.2.2.2.2])
  blk_simp
  rw [after0_8]
  frame_out
  show square (iblk m c 4 t y) (k0_pay5 (iblk m c 0 t) (iblk m c 1 t) (iblk m c 2 t) (iblk m c 3 t) (iblk m c 4 t) y) = _
  rw [gained, o.2.2.1, o.2.2.2]

/-- The update of an output projection or of the key and value up-projection. -/
theorem equal : Cert.algebraic_Kernel23Ideal_Reference23Ideal (hKernel23Ideal := Gen.facts) (hReference23Ideal := Cert.Reference23Ideal.Gen.facts) := by
  intro m ρ m' ρ' _ agree
  refine ⟨fun c => _, fun c => _, fun c => _, fun c => _, (θ_run defs _ _).mono (fun r h c => ⟨((h c).1).trans (gradient m c), ((h c).2.1).trans (moved m c),
    ((h c).2.2.1).trans (averaged m c), ((h c).2.2.2.1).trans (squared m c), (h c).2.2.2.2⟩) (Value.run_blocks m ρ), ?_⟩
  refine (θ_run Cert.Reference23Ideal.defs _ _).mono (fun r h c => ?_) (Cert.Reference23Ideal.Value.run (F := Ideal) m' ρ')
  obtain ⟨h0, h1, h2, h3, kept⟩ := h c
  rw [(agree c).1, (agree c).2.1, (agree c).2.2.1, (agree c).2.2.2.1, (agree c).2.2.2.2] at *
  have e := host_grad (R := 512) (C := 1024) (by decide) Cert.Reference23Ideal.Gen.reducesTo_S4x512x1024_S512x1024_d0 Cert.Reference23Ideal.Gen.h_S_
    (m ((c.tc : Thread nD τ).loc main_arg1)) (m ((c.tc : Thread nD τ).loc main_arg2))
  exact ⟨h0.trans e,
    h1.trans (congrArg (fun (g : (Mat 512 1024).Idx → EReal) i => move (m ((c.tc : Thread nD τ).loc main_arg0) i) (g i) (m ((c.tc : Thread nD τ).loc main_arg3) i) (m ((c.tc : Thread nD τ).loc main_arg4) i)) e),
    h2.trans (congrArg (fun (g : (Mat 512 1024).Idx → EReal) i => mean (m ((c.tc : Thread nD τ).loc main_arg3) i) (g i)) e),
    h3.trans (congrArg (fun (g : (Mat 512 1024).Idx → EReal) i => square (m ((c.tc : Thread nD τ).loc main_arg4) i) (g i)) e), kept⟩

/-- The reference runs and leaves its arguments unchanged. -/
theorem reference_runs : Cert.quiescent_Reference23Ideal (hReference23Ideal := Cert.Reference23Ideal.Gen.facts) :=
  fun m ρ _ => (θ_run Cert.Reference23Ideal.defs _ _).mono (fun r h => ⟨fun c => (h c).2.2.2.2, sem_eq_zero_of_no_sems (by decide) r.2⟩)
    (Cert.Reference23Ideal.Value.run (F := Ideal) m ρ)

end Cert.Kernel23Ideal

namespace Cert.Kernel24Ideal

open Cert.Kernel24Ideal.Gen Cert.Update

variable (m : (ℓ : Loc nD τ sig) → Buf (Elt Ideal) ℓ)

/-- The blocks lie side by side in rows. -/
theorem place : ∀ t : Fin cfg0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])

/-- The body's sum of the eight parts. -/
theorem gained (x0 : Vec Ideal S256x1540 .f32) (x1 x2 : Vec Ideal S4x256x1540 .bf16) (x3 x4 : Vec Ideal S256x1540 .f32) (y : S256x1540.Idx) :
    k0_pay5 x0 x1 x2 x3 x4 y = grad x1 x2 y := by
  refine congrArg₂ (· + ·) (parts_apply (x := x1) (p0 := View.ld x1 r0_0) (p1 := View.ld x1 r0_1) (p2 := View.ld x1 r0_2) (p3 := View.ld x1 r0_3) shapeCasts_S1x256x1540_S256x1540 y ?_ ?_ ?_ ?_) (parts_apply (x := x2) (p0 := View.ld x2 r0_0) (p1 := View.ld x2 r0_1) (p2 := View.ld x2 r0_2) (p3 := View.ld x2 r0_3) shapeCasts_S1x256x1540_S256x1540 y ?_ ?_ ?_ ?_) <;>
    first
    | exact congrArg x1 (entry3_eq rfl ((Nat.zero_add _).trans (Nat.one_mul _)) ((Nat.zero_add _).trans (Nat.one_mul _)))
    | exact congrArg x2 (entry3_eq rfl ((Nat.zero_add _).trans (Nat.one_mul _)) ((Nat.zero_add _).trans (Nat.one_mul _)))

/-- A block's entry of each operand, -/
theorem operands (c : Dev nD) (t : Fin cfg0.N) (y : S256x1540.Idx) (i : S1024x1540.Idx) (h0 : (i 0).val = t.val * 256 + (y 0).val) (h1 : (i 1).val = (y 1).val) :
    iblk m c 0 t y = m ((c : Thread nD τ).loc main_arg0) i ∧ iblk m c 3 t y = m ((c : Thread nD τ).loc main_arg3) i ∧ iblk m c 4 t y = m ((c : Thread nD τ).loc main_arg4) i
      ∧ grad (iblk m c 1 t) (iblk m c 2 t) y = grad (m ((c : Thread nD τ).loc main_arg1)) (m ((c : Thread nD τ).loc main_arg2)) i := by
  refine ⟨congrArg (m ((c : Thread nD τ).loc main_arg0)) (Shape.idx_ext₂ ?_ ?_), congrArg (m ((c : Thread nD τ).loc main_arg3)) (Shape.idx_ext₂ ?_ ?_),
    congrArg (m ((c : Thread nD τ).loc main_arg4)) (Shape.idx_ext₂ ?_ ?_), congrArg₂ (· + ·) (Finset.sum_congr rfl fun s _ => ?_) (Finset.sum_congr rfl fun s _ => ?_)⟩
  · blk_simp [(place t).1, h0]
  · blk_simp [(place t).1, h1]
  · blk_simp [(place t).2.2.2.1, h0]
  · blk_simp [(place t).2.2.2.1, h1]
  · blk_simp [(place t).2.2.2.2.1, h0]
  · blk_simp [(place t).2.2.2.2.1, h1]
  · refine congrArg (m ((c : Thread nD τ).loc main_arg1)) (entry3_eq ?_ ?_ ?_)
    · blk_simp [(place t).2.1]
    · blk_simp [(place t).2.1, h0]
    · blk_simp [(place t).2.1, h1]
  · refine congrArg (m ((c : Thread nD τ).loc main_arg2)) (entry3_eq ?_ ?_ ?_)
    · blk_simp [(place t).2.2.1]
    · blk_simp [(place t).2.2.1, h0]
    · blk_simp [(place t).2.2.1, h1]

/-- The gradient. -/
theorem gradient (c : Dev nD) : (dats m 0 c).arrAt 5 cfg0.N = fun i => grad (m ((c : Thread nD τ).loc main_arg1)) (m ((c : Thread nD τ).loc main_arg2)) i := by
  refine (dats m 0 c).arrAt_eq_of_covers 5 _ (by decide +kernel) fun t hf y => ?_
  have o := operands m c t y (((cfg0.win 5).blk t).view.emb y) (by blk_simp [(place t).2.2.2.2.2.1]) (by blk_simp [(place t).2.2.2.2.2.1])
  blk_simp
  rw [after0_5]
  frame_out
  exact (gained _ _ _ _ _ y).trans o.2.2.2

/-- The weight's move. -/
theorem moved (c : Dev nD) : (dats m 0 c).arrAt 6 cfg0.N = fun i => move (m ((c : Thread nD τ).loc main_arg0) i) (grad (m ((c : Thread nD τ).loc main_arg1)) (m ((c : Thread nD τ).loc main_arg2)) i) (m ((c : Thread nD τ).loc main_arg3) i) (m ((c : Thread nD τ).loc main_arg4) i) := by
  refine (dats m 0 c).arrAt_eq_of_covers 6 _ (by decide +kernel) fun t hf y => ?_
  have o := operands m c t y (((cfg0.win 6).blk t).view.emb y) (by blk_simp [(place t).2.2.2.2.2.2.1]) (by blk_simp [(place t).2.2.2.2.2.2.1])
  blk_simp
  rw [after0_6]
  frame_out
  show move (iblk m c 0 t y) (k0_pay5 (iblk m c 0 t) (iblk m c 1 t) (iblk m c 2 t) (iblk m c 3 t) (iblk m c 4 t) y) (iblk m c 3 t y) (iblk m c 4 t y) = _
  rw [gained, o.1, o.2.1, o.2.2.1, o.2.2.2]

/-- The running mean. -/
theorem averaged (c : Dev nD) : (dats m 0 c).arrAt 7 cfg0.N = fun i => mean (m ((c : Thread nD τ).loc main_arg3) i) (grad (m ((c : Thread nD τ).loc main_arg1)) (m ((c : Thread nD τ).loc main_arg2)) i) := by
  refine (dats m 0 c).arrAt_eq_of_covers 7 _ (by decide +kernel) fun t hf y => ?_
  have o := operands m c t y (((cfg0.win 7).blk t).view.emb y) (by blk_simp [(place t).2.2.2.2.2.2.2.1]) (by blk_simp [(place t).2.2.2.2.2.2.2.1])
  blk_simp
  rw [after0_7]
  frame_out
  show mean (iblk m c 3 t y) (k0_pay5 (iblk m c 0 t) (iblk m c 1 t) (iblk m c 2 t) (iblk m c 3 t) (iblk m c 4 t) y) = _
  rw [gained, o.2.1, o.2.2.2]

/-- The running square. -/
theorem squared (c : Dev nD) : (dats m 0 c).arrAt 8 cfg0.N = fun i => square (m ((c : Thread nD τ).loc main_arg4) i) (grad (m ((c : Thread nD τ).loc main_arg1)) (m ((c : Thread nD τ).loc main_arg2)) i) := by
  refine (dats m 0 c).arrAt_eq_of_covers 8 _ (by decide +kernel) fun t hf y => ?_
  have o := operands m c t y (((cfg0.win 8).blk t).view.emb y) (by blk_simp [(place t).2.2.2.2.2.2.2.2]) (by blk_simp [(place t).2.2.2.2.2.2.2.2])
  blk_simp
  rw [after0_8]
  frame_out
  show square (iblk m c 4 t y) (k0_pay5 (iblk m c 0 t) (iblk m c 1 t) (iblk m c 2 t) (iblk m c 3 t) (iblk m c 4 t) y) = _
  rw [gained, o.2.2.1, o.2.2.2]

/-- The update of the recurrent layer's input projection. -/
theorem equal : Cert.algebraic_Kernel24Ideal_Reference24Ideal (hKernel24Ideal := Gen.facts) (hReference24Ideal := Cert.Reference24Ideal.Gen.facts) := by
  intro m ρ m' ρ' _ agree
  refine ⟨fun c => _, fun c => _, fun c => _, fun c => _, (θ_run defs _ _).mono (fun r h c => ⟨((h c).1).trans (gradient m c), ((h c).2.1).trans (moved m c),
    ((h c).2.2.1).trans (averaged m c), ((h c).2.2.2.1).trans (squared m c), (h c).2.2.2.2⟩) (Value.run_blocks m ρ), ?_⟩
  refine (θ_run Cert.Reference24Ideal.defs _ _).mono (fun r h c => ?_) (Cert.Reference24Ideal.Value.run (F := Ideal) m' ρ')
  obtain ⟨h0, h1, h2, h3, kept⟩ := h c
  rw [(agree c).1, (agree c).2.1, (agree c).2.2.1, (agree c).2.2.2.1, (agree c).2.2.2.2] at *
  have e := host_grad (R := 1024) (C := 1540) (by decide) Cert.Reference24Ideal.Gen.reducesTo_S4x1024x1540_S1024x1540_d0 Cert.Reference24Ideal.Gen.h_S_
    (m ((c.tc : Thread nD τ).loc main_arg1)) (m ((c.tc : Thread nD τ).loc main_arg2))
  exact ⟨h0.trans e,
    h1.trans (congrArg (fun (g : (Mat 1024 1540).Idx → EReal) i => move (m ((c.tc : Thread nD τ).loc main_arg0) i) (g i) (m ((c.tc : Thread nD τ).loc main_arg3) i) (m ((c.tc : Thread nD τ).loc main_arg4) i)) e),
    h2.trans (congrArg (fun (g : (Mat 1024 1540).Idx → EReal) i => mean (m ((c.tc : Thread nD τ).loc main_arg3) i) (g i)) e),
    h3.trans (congrArg (fun (g : (Mat 1024 1540).Idx → EReal) i => square (m ((c.tc : Thread nD τ).loc main_arg4) i) (g i)) e), kept⟩

/-- The reference runs and leaves its arguments unchanged. -/
theorem reference_runs : Cert.quiescent_Reference24Ideal (hReference24Ideal := Cert.Reference24Ideal.Gen.facts) :=
  fun m ρ _ => (θ_run Cert.Reference24Ideal.defs _ _).mono (fun r h => ⟨fun c => (h c).2.2.2.2, sem_eq_zero_of_no_sems (by decide) r.2⟩)
    (Cert.Reference24Ideal.Value.run (F := Ideal) m ρ)

end Cert.Kernel24Ideal

namespace Cert.Kernel25Ideal

open Cert.Kernel25Ideal.Gen Cert.Update

variable (m : (ℓ : Loc nD τ sig) → Buf (Elt Ideal) ℓ)

/-- The blocks lie side by side in rows. -/
theorem place : ∀ t : Fin cfg0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])

/-- The body's sum of the eight parts. -/
theorem gained (x0 : Vec Ideal S512x848 .f32) (x1 x2 : Vec Ideal S4x512x848 .bf16) (x3 x4 : Vec Ideal S512x848 .f32) (y : S512x848.Idx) :
    k0_pay5 x0 x1 x2 x3 x4 y = grad x1 x2 y := by
  refine congrArg₂ (· + ·) (parts_apply (x := x1) (p0 := View.ld x1 r0_0) (p1 := View.ld x1 r0_1) (p2 := View.ld x1 r0_2) (p3 := View.ld x1 r0_3) shapeCasts_S1x512x848_S512x848 y ?_ ?_ ?_ ?_) (parts_apply (x := x2) (p0 := View.ld x2 r0_0) (p1 := View.ld x2 r0_1) (p2 := View.ld x2 r0_2) (p3 := View.ld x2 r0_3) shapeCasts_S1x512x848_S512x848 y ?_ ?_ ?_ ?_) <;>
    first
    | exact congrArg x1 (entry3_eq rfl ((Nat.zero_add _).trans (Nat.one_mul _)) ((Nat.zero_add _).trans (Nat.one_mul _)))
    | exact congrArg x2 (entry3_eq rfl ((Nat.zero_add _).trans (Nat.one_mul _)) ((Nat.zero_add _).trans (Nat.one_mul _)))

/-- A block's entry of each operand, -/
theorem operands (c : Dev nD) (t : Fin cfg0.N) (y : S512x848.Idx) (i : S1024x848.Idx) (h0 : (i 0).val = t.val * 512 + (y 0).val) (h1 : (i 1).val = (y 1).val) :
    iblk m c 0 t y = m ((c : Thread nD τ).loc main_arg0) i ∧ iblk m c 3 t y = m ((c : Thread nD τ).loc main_arg3) i ∧ iblk m c 4 t y = m ((c : Thread nD τ).loc main_arg4) i
      ∧ grad (iblk m c 1 t) (iblk m c 2 t) y = grad (m ((c : Thread nD τ).loc main_arg1)) (m ((c : Thread nD τ).loc main_arg2)) i := by
  refine ⟨congrArg (m ((c : Thread nD τ).loc main_arg0)) (Shape.idx_ext₂ ?_ ?_), congrArg (m ((c : Thread nD τ).loc main_arg3)) (Shape.idx_ext₂ ?_ ?_),
    congrArg (m ((c : Thread nD τ).loc main_arg4)) (Shape.idx_ext₂ ?_ ?_), congrArg₂ (· + ·) (Finset.sum_congr rfl fun s _ => ?_) (Finset.sum_congr rfl fun s _ => ?_)⟩
  · blk_simp [(place t).1, h0]
  · blk_simp [(place t).1, h1]
  · blk_simp [(place t).2.2.2.1, h0]
  · blk_simp [(place t).2.2.2.1, h1]
  · blk_simp [(place t).2.2.2.2.1, h0]
  · blk_simp [(place t).2.2.2.2.1, h1]
  · refine congrArg (m ((c : Thread nD τ).loc main_arg1)) (entry3_eq ?_ ?_ ?_)
    · blk_simp [(place t).2.1]
    · blk_simp [(place t).2.1, h0]
    · blk_simp [(place t).2.1, h1]
  · refine congrArg (m ((c : Thread nD τ).loc main_arg2)) (entry3_eq ?_ ?_ ?_)
    · blk_simp [(place t).2.2.1]
    · blk_simp [(place t).2.2.1, h0]
    · blk_simp [(place t).2.2.1, h1]

/-- The gradient. -/
theorem gradient (c : Dev nD) : (dats m 0 c).arrAt 5 cfg0.N = fun i => grad (m ((c : Thread nD τ).loc main_arg1)) (m ((c : Thread nD τ).loc main_arg2)) i := by
  refine (dats m 0 c).arrAt_eq_of_covers 5 _ (by decide +kernel) fun t hf y => ?_
  have o := operands m c t y (((cfg0.win 5).blk t).view.emb y) (by blk_simp [(place t).2.2.2.2.2.1]) (by blk_simp [(place t).2.2.2.2.2.1])
  blk_simp
  rw [after0_5]
  frame_out
  exact (gained _ _ _ _ _ y).trans o.2.2.2

/-- The weight's move. -/
theorem moved (c : Dev nD) : (dats m 0 c).arrAt 6 cfg0.N = fun i => move (m ((c : Thread nD τ).loc main_arg0) i) (grad (m ((c : Thread nD τ).loc main_arg1)) (m ((c : Thread nD τ).loc main_arg2)) i) (m ((c : Thread nD τ).loc main_arg3) i) (m ((c : Thread nD τ).loc main_arg4) i) := by
  refine (dats m 0 c).arrAt_eq_of_covers 6 _ (by decide +kernel) fun t hf y => ?_
  have o := operands m c t y (((cfg0.win 6).blk t).view.emb y) (by blk_simp [(place t).2.2.2.2.2.2.1]) (by blk_simp [(place t).2.2.2.2.2.2.1])
  blk_simp
  rw [after0_6]
  frame_out
  show move (iblk m c 0 t y) (k0_pay5 (iblk m c 0 t) (iblk m c 1 t) (iblk m c 2 t) (iblk m c 3 t) (iblk m c 4 t) y) (iblk m c 3 t y) (iblk m c 4 t y) = _
  rw [gained, o.1, o.2.1, o.2.2.1, o.2.2.2]

/-- The running mean. -/
theorem averaged (c : Dev nD) : (dats m 0 c).arrAt 7 cfg0.N = fun i => mean (m ((c : Thread nD τ).loc main_arg3) i) (grad (m ((c : Thread nD τ).loc main_arg1)) (m ((c : Thread nD τ).loc main_arg2)) i) := by
  refine (dats m 0 c).arrAt_eq_of_covers 7 _ (by decide +kernel) fun t hf y => ?_
  have o := operands m c t y (((cfg0.win 7).blk t).view.emb y) (by blk_simp [(place t).2.2.2.2.2.2.2.1]) (by blk_simp [(place t).2.2.2.2.2.2.2.1])
  blk_simp
  rw [after0_7]
  frame_out
  show mean (iblk m c 3 t y) (k0_pay5 (iblk m c 0 t) (iblk m c 1 t) (iblk m c 2 t) (iblk m c 3 t) (iblk m c 4 t) y) = _
  rw [gained, o.2.1, o.2.2.2]

/-- The running square. -/
theorem squared (c : Dev nD) : (dats m 0 c).arrAt 8 cfg0.N = fun i => square (m ((c : Thread nD τ).loc main_arg4) i) (grad (m ((c : Thread nD τ).loc main_arg1)) (m ((c : Thread nD τ).loc main_arg2)) i) := by
  refine (dats m 0 c).arrAt_eq_of_covers 8 _ (by decide +kernel) fun t hf y => ?_
  have o := operands m c t y (((cfg0.win 8).blk t).view.emb y) (by blk_simp [(place t).2.2.2.2.2.2.2.2]) (by blk_simp [(place t).2.2.2.2.2.2.2.2])
  blk_simp
  rw [after0_8]
  frame_out
  show square (iblk m c 4 t y) (k0_pay5 (iblk m c 0 t) (iblk m c 1 t) (iblk m c 2 t) (iblk m c 3 t) (iblk m c 4 t) y) = _
  rw [gained, o.2.2.1, o.2.2.2]

/-- The update of the attention layer's input projection. -/
theorem equal : Cert.algebraic_Kernel25Ideal_Reference25Ideal (hKernel25Ideal := Gen.facts) (hReference25Ideal := Cert.Reference25Ideal.Gen.facts) := by
  intro m ρ m' ρ' _ agree
  refine ⟨fun c => _, fun c => _, fun c => _, fun c => _, (θ_run defs _ _).mono (fun r h c => ⟨((h c).1).trans (gradient m c), ((h c).2.1).trans (moved m c),
    ((h c).2.2.1).trans (averaged m c), ((h c).2.2.2.1).trans (squared m c), (h c).2.2.2.2⟩) (Value.run_blocks m ρ), ?_⟩
  refine (θ_run Cert.Reference25Ideal.defs _ _).mono (fun r h c => ?_) (Cert.Reference25Ideal.Value.run (F := Ideal) m' ρ')
  obtain ⟨h0, h1, h2, h3, kept⟩ := h c
  rw [(agree c).1, (agree c).2.1, (agree c).2.2.1, (agree c).2.2.2.1, (agree c).2.2.2.2] at *
  have e := host_grad (R := 1024) (C := 848) (by decide) Cert.Reference25Ideal.Gen.reducesTo_S4x1024x848_S1024x848_d0 Cert.Reference25Ideal.Gen.h_S_
    (m ((c.tc : Thread nD τ).loc main_arg1)) (m ((c.tc : Thread nD τ).loc main_arg2))
  exact ⟨h0.trans e,
    h1.trans (congrArg (fun (g : (Mat 1024 848).Idx → EReal) i => move (m ((c.tc : Thread nD τ).loc main_arg0) i) (g i) (m ((c.tc : Thread nD τ).loc main_arg3) i) (m ((c.tc : Thread nD τ).loc main_arg4) i)) e),
    h2.trans (congrArg (fun (g : (Mat 1024 848).Idx → EReal) i => mean (m ((c.tc : Thread nD τ).loc main_arg3) i) (g i)) e),
    h3.trans (congrArg (fun (g : (Mat 1024 848).Idx → EReal) i => square (m ((c.tc : Thread nD τ).loc main_arg4) i) (g i)) e), kept⟩

/-- The reference runs and leaves its arguments unchanged. -/
theorem reference_runs : Cert.quiescent_Reference25Ideal (hReference25Ideal := Cert.Reference25Ideal.Gen.facts) :=
  fun m ρ _ => (θ_run Cert.Reference25Ideal.defs _ _).mono (fun r h => ⟨fun c => (h c).2.2.2.2, sem_eq_zero_of_no_sems (by decide) r.2⟩)
    (Cert.Reference25Ideal.Value.run (F := Ideal) m ρ)

end Cert.Kernel25Ideal

namespace Cert.Kernel26Ideal

open Cert.Kernel26Ideal.Gen Cert.Update

variable (m : (ℓ : Loc nD τ sig) → Buf (Elt Ideal) ℓ)

/-- The blocks lie side by side in rows. -/
theorem place : ∀ t : Fin cfg0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, t.val, 0] ∧ win0_2.index t = ![0, t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0])

/-- The body's sum of the eight parts. -/
theorem gained (x0 : Vec Ideal S256x768 .f32) (x1 x2 : Vec Ideal S4x256x768 .bf16) (x3 x4 : Vec Ideal S256x768 .f32) (y : S256x768.Idx) :
    k0_pay5 x0 x1 x2 x3 x4 y = grad x1 x2 y := by
  refine congrArg₂ (· + ·) (parts_apply (x := x1) (p0 := View.ld x1 r0_0) (p1 := View.ld x1 r0_1) (p2 := View.ld x1 r0_2) (p3 := View.ld x1 r0_3) shapeCasts_S1x256x768_S256x768 y ?_ ?_ ?_ ?_) (parts_apply (x := x2) (p0 := View.ld x2 r0_0) (p1 := View.ld x2 r0_1) (p2 := View.ld x2 r0_2) (p3 := View.ld x2 r0_3) shapeCasts_S1x256x768_S256x768 y ?_ ?_ ?_ ?_) <;>
    first
    | exact congrArg x1 (entry3_eq rfl ((Nat.zero_add _).trans (Nat.one_mul _)) ((Nat.zero_add _).trans (Nat.one_mul _)))
    | exact congrArg x2 (entry3_eq rfl ((Nat.zero_add _).trans (Nat.one_mul _)) ((Nat.zero_add _).trans (Nat.one_mul _)))

/-- A block's entry of each operand, -/
theorem operands (c : Dev nD) (t : Fin cfg0.N) (y : S256x768.Idx) (i : S768x768.Idx) (h0 : (i 0).val = t.val * 256 + (y 0).val) (h1 : (i 1).val = (y 1).val) :
    iblk m c 0 t y = m ((c : Thread nD τ).loc main_arg0) i ∧ iblk m c 3 t y = m ((c : Thread nD τ).loc main_arg3) i ∧ iblk m c 4 t y = m ((c : Thread nD τ).loc main_arg4) i
      ∧ grad (iblk m c 1 t) (iblk m c 2 t) y = grad (m ((c : Thread nD τ).loc main_arg1)) (m ((c : Thread nD τ).loc main_arg2)) i := by
  refine ⟨congrArg (m ((c : Thread nD τ).loc main_arg0)) (Shape.idx_ext₂ ?_ ?_), congrArg (m ((c : Thread nD τ).loc main_arg3)) (Shape.idx_ext₂ ?_ ?_),
    congrArg (m ((c : Thread nD τ).loc main_arg4)) (Shape.idx_ext₂ ?_ ?_), congrArg₂ (· + ·) (Finset.sum_congr rfl fun s _ => ?_) (Finset.sum_congr rfl fun s _ => ?_)⟩
  · blk_simp [(place t).1, h0]
  · blk_simp [(place t).1, h1]
  · blk_simp [(place t).2.2.2.1, h0]
  · blk_simp [(place t).2.2.2.1, h1]
  · blk_simp [(place t).2.2.2.2.1, h0]
  · blk_simp [(place t).2.2.2.2.1, h1]
  · refine congrArg (m ((c : Thread nD τ).loc main_arg1)) (entry3_eq ?_ ?_ ?_)
    · blk_simp [(place t).2.1]
    · blk_simp [(place t).2.1, h0]
    · blk_simp [(place t).2.1, h1]
  · refine congrArg (m ((c : Thread nD τ).loc main_arg2)) (entry3_eq ?_ ?_ ?_)
    · blk_simp [(place t).2.2.1]
    · blk_simp [(place t).2.2.1, h0]
    · blk_simp [(place t).2.2.1, h1]

/-- The gradient. -/
theorem gradient (c : Dev nD) : (dats m 0 c).arrAt 5 cfg0.N = fun i => grad (m ((c : Thread nD τ).loc main_arg1)) (m ((c : Thread nD τ).loc main_arg2)) i := by
  refine (dats m 0 c).arrAt_eq_of_covers 5 _ (by decide +kernel) fun t hf y => ?_
  have o := operands m c t y (((cfg0.win 5).blk t).view.emb y) (by blk_simp [(place t).2.2.2.2.2.1]) (by blk_simp [(place t).2.2.2.2.2.1])
  blk_simp
  rw [after0_5]
  frame_out
  exact (gained _ _ _ _ _ y).trans o.2.2.2

/-- The weight's move. -/
theorem moved (c : Dev nD) : (dats m 0 c).arrAt 6 cfg0.N = fun i => move (m ((c : Thread nD τ).loc main_arg0) i) (grad (m ((c : Thread nD τ).loc main_arg1)) (m ((c : Thread nD τ).loc main_arg2)) i) (m ((c : Thread nD τ).loc main_arg3) i) (m ((c : Thread nD τ).loc main_arg4) i) := by
  refine (dats m 0 c).arrAt_eq_of_covers 6 _ (by decide +kernel) fun t hf y => ?_
  have o := operands m c t y (((cfg0.win 6).blk t).view.emb y) (by blk_simp [(place t).2.2.2.2.2.2.1]) (by blk_simp [(place t).2.2.2.2.2.2.1])
  blk_simp
  rw [after0_6]
  frame_out
  show move (iblk m c 0 t y) (k0_pay5 (iblk m c 0 t) (iblk m c 1 t) (iblk m c 2 t) (iblk m c 3 t) (iblk m c 4 t) y) (iblk m c 3 t y) (iblk m c 4 t y) = _
  rw [gained, o.1, o.2.1, o.2.2.1, o.2.2.2]

/-- The running mean. -/
theorem averaged (c : Dev nD) : (dats m 0 c).arrAt 7 cfg0.N = fun i => mean (m ((c : Thread nD τ).loc main_arg3) i) (grad (m ((c : Thread nD τ).loc main_arg1)) (m ((c : Thread nD τ).loc main_arg2)) i) := by
  refine (dats m 0 c).arrAt_eq_of_covers 7 _ (by decide +kernel) fun t hf y => ?_
  have o := operands m c t y (((cfg0.win 7).blk t).view.emb y) (by blk_simp [(place t).2.2.2.2.2.2.2.1]) (by blk_simp [(place t).2.2.2.2.2.2.2.1])
  blk_simp
  rw [after0_7]
  frame_out
  show mean (iblk m c 3 t y) (k0_pay5 (iblk m c 0 t) (iblk m c 1 t) (iblk m c 2 t) (iblk m c 3 t) (iblk m c 4 t) y) = _
  rw [gained, o.2.1, o.2.2.2]

/-- The running square. -/
theorem squared (c : Dev nD) : (dats m 0 c).arrAt 8 cfg0.N = fun i => square (m ((c : Thread nD τ).loc main_arg4) i) (grad (m ((c : Thread nD τ).loc main_arg1)) (m ((c : Thread nD τ).loc main_arg2)) i) := by
  refine (dats m 0 c).arrAt_eq_of_covers 8 _ (by decide +kernel) fun t hf y => ?_
  have o := operands m c t y (((cfg0.win 8).blk t).view.emb y) (by blk_simp [(place t).2.2.2.2.2.2.2.2]) (by blk_simp [(place t).2.2.2.2.2.2.2.2])
  blk_simp
  rw [after0_8]
  frame_out
  show square (iblk m c 4 t y) (k0_pay5 (iblk m c 0 t) (iblk m c 1 t) (iblk m c 2 t) (iblk m c 3 t) (iblk m c 4 t) y) = _
  rw [gained, o.2.2.1, o.2.2.2]

/-- The update of the query up-projection. -/
theorem equal : Cert.algebraic_Kernel26Ideal_Reference26Ideal (hKernel26Ideal := Gen.facts) (hReference26Ideal := Cert.Reference26Ideal.Gen.facts) := by
  intro m ρ m' ρ' _ agree
  refine ⟨fun c => _, fun c => _, fun c => _, fun c => _, (θ_run defs _ _).mono (fun r h c => ⟨((h c).1).trans (gradient m c), ((h c).2.1).trans (moved m c),
    ((h c).2.2.1).trans (averaged m c), ((h c).2.2.2.1).trans (squared m c), (h c).2.2.2.2⟩) (Value.run_blocks m ρ), ?_⟩
  refine (θ_run Cert.Reference26Ideal.defs _ _).mono (fun r h c => ?_) (Cert.Reference26Ideal.Value.run (F := Ideal) m' ρ')
  obtain ⟨h0, h1, h2, h3, kept⟩ := h c
  rw [(agree c).1, (agree c).2.1, (agree c).2.2.1, (agree c).2.2.2.1, (agree c).2.2.2.2] at *
  have e := host_grad (R := 768) (C := 768) (by decide) Cert.Reference26Ideal.Gen.reducesTo_S4x768x768_S768x768_d0 Cert.Reference26Ideal.Gen.h_S_
    (m ((c.tc : Thread nD τ).loc main_arg1)) (m ((c.tc : Thread nD τ).loc main_arg2))
  exact ⟨h0.trans e,
    h1.trans (congrArg (fun (g : (Mat 768 768).Idx → EReal) i => move (m ((c.tc : Thread nD τ).loc main_arg0) i) (g i) (m ((c.tc : Thread nD τ).loc main_arg3) i) (m ((c.tc : Thread nD τ).loc main_arg4) i)) e),
    h2.trans (congrArg (fun (g : (Mat 768 768).Idx → EReal) i => mean (m ((c.tc : Thread nD τ).loc main_arg3) i) (g i)) e),
    h3.trans (congrArg (fun (g : (Mat 768 768).Idx → EReal) i => square (m ((c.tc : Thread nD τ).loc main_arg4) i) (g i)) e), kept⟩

/-- The reference runs and leaves its arguments unchanged. -/
theorem reference_runs : Cert.quiescent_Reference26Ideal (hReference26Ideal := Cert.Reference26Ideal.Gen.facts) :=
  fun m ρ _ => (θ_run Cert.Reference26Ideal.defs _ _).mono (fun r h => ⟨fun c => (h c).2.2.2.2, sem_eq_zero_of_no_sems (by decide) r.2⟩)
    (Cert.Reference26Ideal.Value.run (F := Ideal) m ρ)

end Cert.Kernel26Ideal

end
-- ==== Proof.Products.Inputs.lean ====
/-
  The gradients of what the layers' products read: every block a launch leaves is a block of the whole product over the columns.
-/
module

public import proofs.«01_k».proof.Defs
public import proofs.«01_k».proof.Proof.Products.Kit
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel15Ideal.Value
public import proofs.«01_k».proof.Proof.Gen.Reference15Ideal.Run

@[expose] public section

noncomputable section

open Idealize.ShloMosaic hiding ix1 ix2 ix3 ix4 ix5 eq_ix1 eq_ix2 eq_ix3 eq_ix4
open Idealize.ShloMosaic.TcCoe Idealize.ShloMosaic.ValueIdx Idealize.SL.Sem Cert.Products

namespace Cert.Kernel5Ideal

open Cert.Kernel5Ideal.Gen

/-- Where the operands' blocks lie, by the result's block. -/
theorem place : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem result (m : (ℓ : Loc nD τ sig) → Buf (Elt Ideal) ℓ) (c : Dev nD) : (dats m 0 c).arrAt 2 cfg0.N
    = overCols (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overCols (φ₁ := .bf16) (φ₂ := .bf16) _ (iblk m c 0 t) (iblk m c 1 t)) y).trans (overCols_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of what a pooling or attention layer's input projection reads. -/
theorem equal : Cert.algebraic_Kernel5Ideal_Reference5Ideal (hKernel5Ideal := Gen.facts) (hReference5Ideal := Cert.Reference5Ideal.Gen.facts) := by
  intro m ρ m' ρ' _ agree
  refine ⟨fun c => overCols (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference5Ideal.defs _ _).mono (fun r h c => ⟨((h c).1).trans ?_, (h c).2⟩) (Cert.Reference5Ideal.Value.run (F := Ideal) m' ρ')
    rw [(agree c).1, (agree c).2]
    exact input_gradient _ _ _

/-- The reference runs and leaves its arguments unchanged. -/
theorem reference_runs : Cert.quiescent_Reference5Ideal (hReference5Ideal := Cert.Reference5Ideal.Gen.facts) :=
  fun m ρ _ => (θ_run Cert.Reference5Ideal.defs _ _).mono (fun r h => ⟨fun c => (h c).2, sem_eq_zero_of_no_sems (by decide) r.2⟩)
    (Cert.Reference5Ideal.Value.run (F := Ideal) m ρ)

end Cert.Kernel5Ideal

namespace Cert.Kernel6Ideal

open Cert.Kernel6Ideal.Gen

/-- Where the operands' blocks lie, by the result's block. -/
theorem place : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem result (m : (ℓ : Loc nD τ sig) → Buf (Elt Ideal) ℓ) (c : Dev nD) : (dats m 0 c).arrAt 2 cfg0.N
    = overCols (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overCols (φ₁ := .bf16) (φ₂ := .bf16) _ (iblk m c 0 t) (iblk m c 1 t)) y).trans (overCols_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of what an output projection reads. -/
theorem equal : Cert.algebraic_Kernel6Ideal_Reference6Ideal (hKernel6Ideal := Gen.facts) (hReference6Ideal := Cert.Reference6Ideal.Gen.facts) := by
  intro m ρ m' ρ' _ agree
  refine ⟨fun c => overCols (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference6Ideal.defs _ _).mono (fun r h c => ⟨((h c).1).trans ?_, (h c).2⟩) (Cert.Reference6Ideal.Value.run (F := Ideal) m' ρ')
    rw [(agree c).1, (agree c).2]
    exact input_gradient_rounded _ _ _

/-- The reference runs and leaves its arguments unchanged. -/
theorem reference_runs : Cert.quiescent_Reference6Ideal (hReference6Ideal := Cert.Reference6Ideal.Gen.facts) :=
  fun m ρ _ => (θ_run Cert.Reference6Ideal.defs _ _).mono (fun r h => ⟨fun c => (h c).2, sem_eq_zero_of_no_sems (by decide) r.2⟩)
    (Cert.Reference6Ideal.Value.run (F := Ideal) m ρ)

end Cert.Kernel6Ideal

namespace Cert.Kernel12Ideal

open Cert.Kernel12Ideal.Gen

/-- Where the operands' blocks lie, by the result's block. -/
theorem place : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem result (m : (ℓ : Loc nD τ sig) → Buf (Elt Ideal) ℓ) (c : Dev nD) : (dats m 0 c).arrAt 2 cfg0.N
    = overCols (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overCols (φ₁ := .bf16) (φ₂ := .bf16) _ (iblk m c 0 t) (iblk m c 1 t)) y).trans (overCols_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of what the recurrent layer's output projection reads. -/
theorem equal : Cert.algebraic_Kernel12Ideal_Reference12Ideal (hKernel12Ideal := Gen.facts) (hReference12Ideal := Cert.Reference12Ideal.Gen.facts) := by
  intro m ρ m' ρ' _ agree
  refine ⟨fun c => overCols (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference12Ideal.defs _ _).mono (fun r h c => ⟨((h c).1).trans ?_, (h c).2⟩) (Cert.Reference12Ideal.Value.run (F := Ideal) m' ρ')
    rw [(agree c).1, (agree c).2]
    exact input_gradient' _ _ _

/-- The reference runs and leaves its arguments unchanged. -/
theorem reference_runs : Cert.quiescent_Reference12Ideal (hReference12Ideal := Cert.Reference12Ideal.Gen.facts) :=
  fun m ρ _ => (θ_run Cert.Reference12Ideal.defs _ _).mono (fun r h => ⟨fun c => (h c).2, sem_eq_zero_of_no_sems (by decide) r.2⟩)
    (Cert.Reference12Ideal.Value.run (F := Ideal) m ρ)

end Cert.Kernel12Ideal

namespace Cert.Kernel13Ideal

open Cert.Kernel13Ideal.Gen

/-- Where the operands' blocks lie, by the result's block. -/
theorem place : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem result (m : (ℓ : Loc nD τ sig) → Buf (Elt Ideal) ℓ) (c : Dev nD) : (dats m 0 c).arrAt 2 cfg0.N
    = overCols (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overCols (φ₁ := .bf16) (φ₂ := .bf16) _ (iblk m c 0 t) (iblk m c 1 t)) y).trans (overCols_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of the normalised query latent. -/
theorem equal : Cert.algebraic_Kernel13Ideal_Reference13Ideal (hKernel13Ideal := Gen.facts) (hReference13Ideal := Cert.Reference13Ideal.Gen.facts) := by
  intro m ρ m' ρ' _ agree
  refine ⟨fun c => overCols (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference13Ideal.defs _ _).mono (fun r h c => ⟨((h c).1).trans ?_, (h c).2⟩) (Cert.Reference13Ideal.Value.run (F := Ideal) m' ρ')
    rw [(agree c).1, (agree c).2]
    exact input_gradient _ _ _

/-- The reference runs and leaves its arguments unchanged. -/
theorem reference_runs : Cert.quiescent_Reference13Ideal (hReference13Ideal := Cert.Reference13Ideal.Gen.facts) :=
  fun m ρ _ => (θ_run Cert.Reference13Ideal.defs _ _).mono (fun r h => ⟨fun c => (h c).2, sem_eq_zero_of_no_sems (by decide) r.2⟩)
    (Cert.Reference13Ideal.Value.run (F := Ideal) m ρ)

end Cert.Kernel13Ideal

namespace Cert.Kernel15Ideal

open Cert.Kernel15Ideal.Gen

/-- Where the operands' blocks lie, by the result's block. -/
theorem place : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem result (m : (ℓ : Loc nD τ sig) → Buf (Elt Ideal) ℓ) (c : Dev nD) : (dats m 0 c).arrAt 2 cfg0.N
    = overCols (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_overCols (φ₁ := .bf16) (φ₂ := .bf16) _ (iblk m c 0 t) (iblk m c 1 t)) y).trans (overCols_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The gradient of the normalised key and value latent. -/
theorem equal : Cert.algebraic_Kernel15Ideal_Reference15Ideal (hKernel15Ideal := Gen.facts) (hReference15Ideal := Cert.Reference15Ideal.Gen.facts) := by
  intro m ρ m' ρ' _ agree
  refine ⟨fun c => overCols (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference15Ideal.defs _ _).mono (fun r h c => ⟨((h c).1).trans ?_, (h c).2⟩) (Cert.Reference15Ideal.Value.run (F := Ideal) m' ρ')
    rw [(agree c).1, (agree c).2]
    exact input_gradient _ _ _

/-- The reference runs and leaves its arguments unchanged. -/
theorem reference_runs : Cert.quiescent_Reference15Ideal (hReference15Ideal := Cert.Reference15Ideal.Gen.facts) :=
  fun m ρ _ => (θ_run Cert.Reference15Ideal.defs _ _).mono (fun r h => ⟨fun c => (h c).2, sem_eq_zero_of_no_sems (by decide) r.2⟩)
    (Cert.Reference15Ideal.Value.run (F := Ideal) m ρ)

end Cert.Kernel15Ideal

end
-- ==== Proof.Products.Layers.lean ====
/-
  The layers' products themselves: every block a launch leaves is a block of the whole product.
-/
module

public import proofs.«01_k».proof.Defs
public import proofs.«01_k».proof.Proof.Products.Kit
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run

@[expose] public section

noncomputable section

open Idealize.ShloMosaic hiding ix1 ix2 ix3 ix4 ix5 eq_ix1 eq_ix2 eq_ix3 eq_ix4
open Idealize.ShloMosaic.TcCoe Idealize.ShloMosaic.ValueIdx Idealize.SL.Sem Cert.Products

namespace Cert.Kernel9Ideal

open Cert.Kernel9Ideal.Gen

/-- Where the operands' blocks lie, by the result's block. -/
theorem place : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem result (m : (ℓ : Loc nD τ sig) → Buf (Elt Ideal) ℓ) (c : Dev nD) : (dats m 0 c).arrAt 2 cfg0.N
    = plain (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_plain (φ₁ := .bf16) (φ₂ := .bf16) _ (iblk m c 0 t) (iblk m c 1 t)) y).trans (plain_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- A pooling or attention layer's input projection. -/
theorem equal : Cert.algebraic_Kernel9Ideal_Reference9Ideal (hKernel9Ideal := Gen.facts) (hReference9Ideal := Cert.Reference9Ideal.Gen.facts) := by
  intro m ρ m' ρ' _ agree
  refine ⟨fun c => plain (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference9Ideal.defs _ _).mono (fun r h c => ⟨((h c).1).trans ?_, (h c).2⟩) (Cert.Reference9Ideal.Value.run (F := Ideal) m' ρ')
    rw [(agree c).1, (agree c).2]
    exact layer_rounded _ _ _

/-- The reference runs and leaves its arguments unchanged. -/
theorem reference_runs : Cert.quiescent_Reference9Ideal (hReference9Ideal := Cert.Reference9Ideal.Gen.facts) :=
  fun m ρ _ => (θ_run Cert.Reference9Ideal.defs _ _).mono (fun r h => ⟨fun c => (h c).2, sem_eq_zero_of_no_sems (by decide) r.2⟩)
    (Cert.Reference9Ideal.Value.run (F := Ideal) m ρ)

end Cert.Kernel9Ideal

namespace Cert.Kernel10Ideal

open Cert.Kernel10Ideal.Gen

/-- Where the operands' blocks lie, by the result's block. -/
theorem place : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem result (m : (ℓ : Loc nD τ sig) → Buf (Elt Ideal) ℓ) (c : Dev nD) : (dats m 0 c).arrAt 2 cfg0.N
    = plain (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_plain (φ₁ := .bf16) (φ₂ := .bf16) _ (iblk m c 0 t) (iblk m c 1 t)) y).trans (plain_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The recurrent layer's input projection. -/
theorem equal : Cert.algebraic_Kernel10Ideal_Reference10Ideal (hKernel10Ideal := Gen.facts) (hReference10Ideal := Cert.Reference10Ideal.Gen.facts) := by
  intro m ρ m' ρ' _ agree
  refine ⟨fun c => plain (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference10Ideal.defs _ _).mono (fun r h c => ⟨((h c).1).trans ?_, (h c).2⟩) (Cert.Reference10Ideal.Value.run (F := Ideal) m' ρ')
    rw [(agree c).1, (agree c).2]
    exact layer _ _ _

/-- The reference runs and leaves its arguments unchanged. -/
theorem reference_runs : Cert.quiescent_Reference10Ideal (hReference10Ideal := Cert.Reference10Ideal.Gen.facts) :=
  fun m ρ _ => (θ_run Cert.Reference10Ideal.defs _ _).mono (fun r h => ⟨fun c => (h c).2, sem_eq_zero_of_no_sems (by decide) r.2⟩)
    (Cert.Reference10Ideal.Value.run (F := Ideal) m ρ)

end Cert.Kernel10Ideal

namespace Cert.Kernel17Ideal

open Cert.Kernel17Ideal.Gen

/-- Where the operands' blocks lie, by the result's block. -/
theorem place : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem result (m : (ℓ : Loc nD τ sig) → Buf (Elt Ideal) ℓ) (c : Dev nD) : (dats m 0 c).arrAt 2 cfg0.N
    = plain (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_plain (φ₁ := .bf16) (φ₂ := .bf16) _ (iblk m c 0 t) (iblk m c 1 t)) y).trans (plain_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The query's up-projection. -/
theorem equal : Cert.algebraic_Kernel17Ideal_Reference17Ideal (hKernel17Ideal := Gen.facts) (hReference17Ideal := Cert.Reference17Ideal.Gen.facts) := by
  intro m ρ m' ρ' _ agree
  refine ⟨fun c => plain (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference17Ideal.defs _ _).mono (fun r h c => ⟨((h c).1).trans ?_, (h c).2⟩) (Cert.Reference17Ideal.Value.run (F := Ideal) m' ρ')
    rw [(agree c).1, (agree c).2]
    exact layer_rounded _ _ _

/-- The reference runs and leaves its arguments unchanged. -/
theorem reference_runs : Cert.quiescent_Reference17Ideal (hReference17Ideal := Cert.Reference17Ideal.Gen.facts) :=
  fun m ρ _ => (θ_run Cert.Reference17Ideal.defs _ _).mono (fun r h => ⟨fun c => (h c).2, sem_eq_zero_of_no_sems (by decide) r.2⟩)
    (Cert.Reference17Ideal.Value.run (F := Ideal) m ρ)

end Cert.Kernel17Ideal

namespace Cert.Kernel18Ideal

open Cert.Kernel18Ideal.Gen

/-- Where the operands' blocks lie, by the result's block. -/
theorem place : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

theorem result (m : (ℓ : Loc nD τ sig) → Buf (Elt Ideal) ℓ) (c : Dev nD) : (dats m 0 c).arrAt 2 cfg0.N
    = plain (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrFun (unit_plain (φ₁ := .bf16) (φ₂ := .bf16) _ (iblk m c 0 t) (iblk m c 1 t)) y).trans (plain_block (fun j => ?_) fun j => ?_)
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2] <;> rfl) (by blk_simp [(place t).2] <;> rfl))

/-- The keys' and values' up-projection. -/
theorem equal : Cert.algebraic_Kernel18Ideal_Reference18Ideal (hKernel18Ideal := Gen.facts) (hReference18Ideal := Cert.Reference18Ideal.Gen.facts) := by
  intro m ρ m' ρ' _ agree
  refine ⟨fun c => plain (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference18Ideal.defs _ _).mono (fun r h c => ⟨((h c).1).trans ?_, (h c).2⟩) (Cert.Reference18Ideal.Value.run (F := Ideal) m' ρ')
    rw [(agree c).1, (agree c).2]
    exact layer_rounded _ _ _

/-- The reference runs and leaves its arguments unchanged. -/
theorem reference_runs : Cert.quiescent_Reference18Ideal (hReference18Ideal := Cert.Reference18Ideal.Gen.facts) :=
  fun m ρ _ => (θ_run Cert.Reference18Ideal.defs _ _).mono (fun r h => ⟨fun c => (h c).2, sem_eq_zero_of_no_sems (by decide) r.2⟩)
    (Cert.Reference18Ideal.Value.run (F := Ideal) m ρ)

end Cert.Kernel18Ideal

end
-- ==== Proof.Products.Added.lean ====
/-
  A layer's output projection added onto what the model carries: every block a launch leaves is a block of the whole sum.
-/
module

public import proofs.«01_k».proof.Defs
public import proofs.«01_k».proof.Proof.Products.Kit
public import proofs.«01_k».proof.Proof.Gen.Kernel11Ideal.Value
public import proofs.«01_k».proof.Proof.Gen.Reference11Ideal.Run

@[expose] public section

noncomputable section

open Idealize.ShloMosaic hiding ix1 ix2 ix3 ix4 ix5 eq_ix1 eq_ix2 eq_ix3 eq_ix4
open Idealize.ShloMosaic.TcCoe Idealize.ShloMosaic.ValueIdx Idealize.SL.Sem Cert.Products

namespace Cert.Kernel11Ideal

open Cert.Kernel11Ideal.Gen

/-- Where the operands' blocks lie, by the result's block. -/
theorem place : ∀ t : Fin cfg0.N, win0_0.index t = ![win0_3.index t 0, 0] ∧ win0_1.index t = ![0, win0_3.index t 1] ∧ win0_2.index t = win0_3.index t :=
  (by decide +kernel : ∀ t : Fin grid0.N, win0_0.index t = ![win0_3.index t 0, 0] ∧ win0_1.index t = ![0, win0_3.index t 1] ∧ win0_2.index t = win0_3.index t)

theorem result (m : (ℓ : Loc nD τ sig) → Buf (Elt Ideal) ℓ) (c : Dev nD) : (dats m 0 c).arrAt 3 cfg0.N
    = fun i => plain (m ((c : Thread nD τ).loc main_arg0)) (m ((c : Thread nD τ).loc main_arg1)) i + m ((c : Thread nD τ).loc main_arg2) i := by
  refine (dats m 0 c).arrAt_eq_of_covers 3 _ (by decide +kernel) fun t hf y => ?_
  blk_simp
  rw [after0_3]
  frame_out
  refine congrArg₂ (· + ·) ((congrFun (unit_plain (φ₁ := .bf16) (φ₂ := .bf16) _ (iblk m c 0 t) (iblk m c 1 t)) y).trans (plain_block (fun j => ?_) fun j => ?_)) ?_
  · exact congrArg (m ((c : Thread nD τ).loc main_arg0)) (entry_eq (by blk_simp [(place t).1] <;> rfl) (by blk_simp [(place t).1] <;> rfl))
  · exact congrArg (m ((c : Thread nD τ).loc main_arg1)) (entry_eq (by blk_simp [(place t).2.1] <;> rfl) (by blk_simp [(place t).2.1] <;> rfl))
  · exact congrArg (m ((c : Thread nD τ).loc main_arg2)) (Shape.idx_ext₂ (by blk_simp [(place t).2.2] <;> rfl) (by blk_simp [(place t).2.2] <;> rfl))

theorem equal : Cert.algebraic_Kernel11Ideal_Reference11Ideal (hKernel11Ideal := Gen.facts) (hReference11Ideal := Cert.Reference11Ideal.Gen.facts) := by
  intro m ρ m' ρ' _ agree
  refine ⟨fun c => fun i => plain (m ((c.tc : Thread nD τ).loc main_arg0)) (m ((c.tc : Thread nD τ).loc main_arg1)) i + m ((c.tc : Thread nD τ).loc main_arg2) i, ?_, ?_⟩
  · exact (θ_run defs _ _).mono (fun r h c => ⟨((h c).1).trans (result m c), (h c).2⟩) (Value.run_blocks m ρ)
  · refine (θ_run Cert.Reference11Ideal.defs _ _).mono (fun r h c => ⟨((h c).1).trans ?_, (h c).2⟩) (Cert.Reference11Ideal.Value.run (F := Ideal) m' ρ')
    rw [(agree c).1, (agree c).2.1, (agree c).2.2]
    exact layer_added _ _ _ _

/-- The reference runs and leaves its arguments unchanged. -/
theorem reference_runs : Cert.quiescent_Reference11Ideal (hReference11Ideal := Cert.Reference11Ideal.Gen.facts) :=
  fun m ρ _ => (θ_run Cert.Reference11Ideal.defs _ _).mono (fun r h => ⟨fun c => (h c).2, sem_eq_zero_of_no_sems (by decide) r.2⟩)
    (Cert.Reference11Ideal.Value.run (F := Ideal) m ρ)

end Cert.Kernel11Ideal

end
-- ==== Proof.Products.Summed.lean ====
/-
  The gradient of what the recurrent layer's input projection reads: seven products over runs of columns are added up in the
  launch's own buffer, and the last of them is what each block leaves.
-/
module

public import proofs.«01_k».proof.Defs
public import proofs.«01_k».proof.Proof.Products.Kit
public import proofs.«01_k».proof.Proof.Gen.Kernel4Ideal.Value
public import proofs.«01_k».proof.Proof.Gen.Reference4Ideal.Run

@[expose] public section

noncomputable section

open Idealize.ShloMosaic hiding ix1 ix2 ix3 ix4 ix5 eq_ix1 eq_ix2 eq_ix3 eq_ix4
open Idealize.ShloMosaic.TcCoe Idealize.ShloMosaic.ValueIdx Idealize.SL.Sem Cert.Products

namespace Cert.Kernel4Ideal

open Cert.Kernel4Ideal.Gen

variable (m : (ℓ : Loc nD τ sig) → Buf (Elt Ideal) ℓ)

/-- What the buffer gains at a point. -/
def gain (c : Dev nD) (t : Fin cfg0.N) : (Mat 1024 1024).Idx → EReal :=
  overCols (M := 1024) (N := 1024) (K := 896) (iblk m c 0 t) (iblk m c 1 t)

theorem placed (x y : Vec Ideal S1024x896 .bf16) : k0_pay2 x y = overCols x y :=
  (shapeCast_self _ _).trans (unit_overCols (φ₁ := .bf16) (φ₂ := .bf16) _ x y)

theorem added (x y : Vec Ideal S1024x896 .bf16) (z : Vec Ideal S1024x1024 .f32) : k0_pay3 x y z = fun i => z i + overCols x y i :=
  (shapeCast_self _ _).trans (funext fun i => congrArg (z i + ·) (congrFun (unit_overCols (φ₁ := .bf16) (φ₂ := .bf16) _ x y) i))

/-- The first point of a run puts its product down, -/
theorem first (c : Dev nD) (t : Fin cfg0.N) (h : t.val % 7 = 0) (i : S1024x1024.Idx) :
    (outsAt0 m c t.val t.isLt).2 i = (0 : EReal) + gain m c t i := by
  refine (congrFun (congrArg Prod.snd (outsAt0_A m c t h (by omega) (by omega))) i).trans ?_
  dsimp only
  frame_out
  rw [zero_add, placed]
  rfl

/-- and the others add theirs. -/
theorem later (c : Dev nD) (t : Fin cfg0.N) (h : ¬t.val % 7 = 0) (i : S1024x1024.Idx) :
    (outsAt0 m c t.val t.isLt).2 i = (outsAt0 m c (t.val - 1) (Nat.lt_of_le_of_lt (Nat.sub_le _ _) t.isLt)).2 i + gain m c t i := by
  by_cases h2 : t.val % 7 = 6
  · refine (congrFun (congrArg Prod.snd (outsAt0_C m c t h (by omega) h2)) i).trans ?_
    generalize (outsAt0 m c (t.val - 1) (Nat.lt_of_le_of_lt (Nat.sub_le _ _) t.isLt)).2 = z
    dsimp only
    frame_out
    exact congrFun ((congrArg (k0_pay3 (iblk m c 0 t) (iblk m c 1 t)) (Memref.IsWhole.read_unread (Memref.isWhole_whole cc0_scratch0) z)).trans (added _ _ z)) i
  · refine (congrFun (congrArg Prod.snd (outsAt0_B m c t h (by omega) h2)) i).trans ?_
    generalize (outsAt0 m c (t.val - 1) (Nat.lt_of_le_of_lt (Nat.sub_le _ _) t.isLt)).2 = z
    dsimp only
    frame_out
    exact congrFun ((congrArg (k0_pay3 (iblk m c 0 t) (iblk m c 1 t)) (Memref.IsWhole.read_unread (Memref.isWhole_whole cc0_scratch0) z)).trans (added _ _ z)) i

/-- The block written back is what the buffer holds, -/
theorem written (c : Dev nD) (t : Fin cfg0.N) (h : t.val % 7 = 6) : (outsAt0 m c t.val t.isLt).1 = (outsAt0 m c t.val t.isLt).2 := by
  rw [outsAt0_C m c t (by omega) (by omega) h]
  frame_out

/-- the seven points' products. -/
theorem total (c : Dev nD) (t : Fin cfg0.N) (h : t.val % 7 = 6) (i : S1024x1024.Idx) :
    (outsAt0 m c t.val t.isLt).1 i = ∑ s : Fin 7, gain m c ⟨7 * (t.val / 7) + s.val, Pipeline.run_point_lt_of_flush t h s⟩ i := by
  rw [written m c t h, Pipeline.eq_sum_fin_of_reset_step_apply_of_flush (fun n h => (outsAt0 m c n h).2) 7 (fun _ => 0) (gain m c)
    (first m c) (later m c) t h i, zero_add]

/-- Where the operands' blocks lie. -/
theorem place : ∀ t : Fin cfg0.N, win0_0.index t = ![t.val / 7, t.val % 7] ∧ win0_1.index t = ![0, t.val % 7] ∧ win0_2.index t = ![t.val / 7, 0] :=
  (by decide +kernel : ∀ t : Fin grid0.N, win0_0.index t = ![t.val / 7, t.val % 7] ∧ win0_1.index t = ![0, t.val % 7] ∧ win0_2.index t = ![t.val / 7, 0])

theorem result (c : Dev nD) : (dats m 0 c).arrAt 2 cfg0.N
    = overCols (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  refine (total m c t ht y).trans (overCols_runs rfl (fun s j h => ?_) fun s j h => ?_)
  · have e : (7 * (t.val / 7) + s.val) / 7 = t.val / 7 ∧ (7 * (t.val / 7) + s.val) % 7 = s.val := by omega
    exact congrArg (m ((c : Thread nD τ).loc main_arg0)) (entry_eq (by blk_simp [(place _).1, (place t).2.2, e.1, e.2] <;> rfl) (by blk_simp [(place _).1, e.1, e.2] <;> rfl))
  · have e : (7 * (t.val / 7) + s.val) / 7 = t.val / 7 ∧ (7 * (t.val / 7) + s.val) % 7 = s.val := by omega
    exact congrArg (m ((c : Thread nD τ).loc main_arg1)) (entry_eq (by blk_simp [(place _).2.1, (place t).2.2, e.1, e.2] <;> rfl) (by blk_simp [(place _).2.1, e.1, e.2] <;> rfl))

theorem equal : Cert.algebraic_Kernel4Ideal_Reference4Ideal (hKernel4Ideal := Gen.facts) (hReference4Ideal := Cert.Reference4Ideal.Gen.facts) := by
  intro m ρ m' ρ' _ agree
  refine ⟨fun c => overCols (m ((c.tc : Thread nD τ).loc main_arg0)) (m ((c.tc : Thread nD τ).loc main_arg1)), ?_, ?_⟩
  · exact (θ_run defs _ _).mono (fun r h c => ⟨((h c).1).trans (result m c), (h c).2⟩) (Value.run_blocks m ρ)
  · refine (θ_run Cert.Reference4Ideal.defs _ _).mono (fun r h c => ⟨((h c).1).trans ?_, (h c).2⟩) (Cert.Reference4Ideal.Value.run (F := Ideal) m' ρ')
    rw [(agree c).1, (agree c).2]
    exact input_gradient _ _ _

/-- The reference runs and leaves its arguments unchanged. -/
theorem reference_runs : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩)
    (Cert.Reference4Ideal.Value.run (F := Ideal) m ρ)

end Cert.Kernel4Ideal

end
-- ==== Proof.Forward.Step.lean ====
/-
  One step of the forward attention over a tile of keys, as a value: the row's maximum so far, what was summed before
  scaled down to it, and the tile's exponentials and their products with the values added.
-/
module

public import proofs.«01_k».proof.Kernel19Ideal
public import proofs.«01_k».proof.Proof.Flash.Read

@[expose] public section

set_option maxRecDepth 16384

noncomputable section

namespace Cert.Kernel19Ideal.Forward

open Idealize.ShloMosaic
open Cert.KernelIdeal.Flash (mat unmat cast_col spread_col reduces_cols slices_rows win iotas scores)

variable {F : FTy → Type} [FloatOps F] [Named F] {α : Type}

theorem slices_first : (⟨2, ![1024, 128]⟩ : Shape).Slices ![0, 0] ⟨2, ![1024, 1]⟩ := by decide

/-- The scores with the mask's value above the diagonal. -/
def hidden (s : FVec F ⟨2, ![1024, 1024]⟩ .f32) : FVec F ⟨2, ![1024, 1024]⟩ .f32 :=
  select (cmpi .sle (iota .tc ⟨2, ![1024, 1024]⟩ 32 [1] (iotas 1024 1024 1)) (iota .tc ⟨2, ![1024, 1024]⟩ 32 [0] (iotas 1024 1024 0))) s
    (broadcast ⟨2, ![1024, 1024]⟩ (Named.named κ "mask" 0xF149F2CA#32))

/-- The rows' maxima so far, along the lanes. -/
def best (s : FVec F ⟨2, ![1024, 1024]⟩ .f32) (mo : FVec F ⟨3, ![1, 1024, 128]⟩ .f32) : FVec F ⟨2, ![1024, 128]⟩ .f32 :=
  maximumf (mat mo) (broadcastTo ⟨2, ![1024, 128]⟩ (shapeCast ⟨2, ![1024, 1]⟩
    (multiReduction .maximumf [1] ⟨1, ![1024]⟩ s 0xFF800000#32 (reduces_cols 1024 1024) (.inl rfl) rfl) (cast_col 1024)) (spread_col 1024 128))
/-- What scales the sums of the tiles before. -/
def fade (s : FVec F ⟨2, ![1024, 1024]⟩ .f32) (mo : FVec F ⟨3, ![1, 1024, 128]⟩ .f32) : FVec F ⟨2, ![1024, 128]⟩ .f32 :=
  exp (subf (mat mo) (best s mo))
/-- The tile's exponentials. -/
def powers (s : FVec F ⟨2, ![1024, 1024]⟩ .f32) (mo : FVec F ⟨3, ![1, 1024, 128]⟩ .f32) : FVec F ⟨2, ![1024, 1024]⟩ .f32 :=
  exp (subf s (broadcastTo ⟨2, ![1024, 1024]⟩ (extractStridedSlice ⟨2, ![1024, 1]⟩ ![0, 0] (best s mo) slices_first) (spread_col 1024 1024)))
def newM (s : FVec F ⟨2, ![1024, 1024]⟩ .f32) (mo : FVec F ⟨3, ![1, 1024, 128]⟩ .f32) : FVec F ⟨3, ![1, 1024, 128]⟩ .f32 := unmat (best s mo)
def newL (s : FVec F ⟨2, ![1024, 1024]⟩ .f32) (mo lo : FVec F ⟨3, ![1, 1024, 128]⟩ .f32) : FVec F ⟨3, ![1, 1024, 128]⟩ .f32 :=
  unmat (addf (mulf (fade s mo) (mat lo)) (broadcastTo ⟨2, ![1024, 128]⟩ (shapeCast ⟨2, ![1024, 1]⟩
    (multiReduction .add [1] ⟨1, ![1024]⟩ (powers s mo) 0x00000000#32 (reduces_cols 1024 1024) (.inl rfl) rfl) (cast_col 1024)) (spread_col 1024 128)))
def newA (s : FVec F ⟨2, ![1024, 1024]⟩ .f32) (mo : FVec F ⟨3, ![1, 1024, 128]⟩ .f32) (v : FVec F ⟨3, ![1, 1024, 128]⟩ .bf16)
    (ao : FVec F ⟨3, ![1, 1024, 128]⟩ .f32) : FVec F ⟨3, ![1, 1024, 128]⟩ .f32 :=
  unmat (addf (mulf (fade s mo) (mat ao)) (matmul (DotDims.plain 1024 1024 128) none (truncf .bf16 (powers s mo) (by decide)) (mat v)
    (constant ⟨2, ![1024, 128]⟩ .f32 0x00000000#32)))

/-- A head of a block of two. -/
def head {N K : ℕ} (x : (⟨3, ![2, N, K]⟩ : Shape).Idx → α) (a : Fin 2) : (⟨3, ![1, N, K]⟩ : Shape).Idx → α :=
  win x a 0 N K (by omega) le_rfl
/-- Two heads' blocks as one. -/
def both {N K : ℕ} (f : Fin 2 → (⟨3, ![1, N, K]⟩ : Shape).Idx → α) : (⟨3, ![2, N, K]⟩ : Shape).Idx → α :=
  fun y => f (y 0) (ValueIdx.ix3 (0 : Fin 1) (y 1) (y 2))

/-- A head's scores, below the diagonal or on it. -/
def tile (diag : Bool) (q k : FVec F ⟨3, ![2, 1024, 256]⟩ .bf16) (a : Fin 2) : FVec F ⟨2, ![1024, 1024]⟩ .f32 :=
  if diag then hidden (scores (head q a) (head k a)) else scores (head q a) (head k a)

end Cert.Kernel19Ideal.Forward

end
-- ==== Proof.Forward.Cases.lean ====
/-
  What each kind of grid step leaves in the running maxima, the running sums, the running products and the outputs, in terms
  of what it found there.
-/
module

public import proofs.«01_k».proof.Proof.Gen.Kernel19Ideal.Skeleton
public import proofs.«01_k».proof.Proof.Gen.Kernel19Ideal.Value
public import proofs.«01_k».proof.Proof.Forward.Step
public import proofs.«01_k».proof.Proof.Products.Kit

@[expose] public section

set_option maxRecDepth 16384

noncomputable section

namespace Cert.Kernel19Ideal.Forward

open Idealize.ShloMosaic Idealize.ShloMosaic.TcCoe
open Idealize.SL Idealize.SL.Sem
open Cert.Kernel19Ideal.Gen Cert.Kernel19Ideal.Value
open Cert.KernelIdeal.Flash (scores mat unmat)

abbrev Blk := Vec Ideal S2x1024x128 .f32

/-! ## Blocks of two heads -/

theorem both_at {N K : ℕ} {α : Type} (f : Fin 2 → (⟨3, ![1, N, K]⟩ : Shape).Idx → α) (a : Fin 2) (y : (⟨3, ![2, N, K]⟩ : Shape).Idx)
    (x : (⟨3, ![1, N, K]⟩ : Shape).Idx) (h0 : (y 0).val = a.val + (x 0).val) (h1 : (y 1).val = (x 1).val) (h2 : (y 2).val = (x 2).val) :
    f a x = both f y := by
  have hx : (x 0).val < 1 := (x 0).isLt
  have ea : y 0 = a := Fin.ext (by omega)
  show f a x = f (y 0) (ValueIdx.ix3 (0 : Fin 1) (y 1) (y 2))
  rw [ea]
  refine congrArg (f a) (funext fun b => Fin.ext ?_)
  match b with
  | ⟨0, _⟩ => show (x 0).val = 0; omega
  | ⟨1, _⟩ => exact h1.symm
  | ⟨2, _⟩ => exact h2.symm

theorem both_head {N K : ℕ} {α : Type} (z : (⟨3, ![2, N, K]⟩ : Shape).Idx → α) : both (head z) = z := funext fun y => by
  refine congrArg z (funext fun b => Fin.ext ?_)
  match b with
  | ⟨0, _⟩ => show (y 0).val + 1 * 0 = (y 0).val; omega
  | ⟨1, _⟩ => show 0 + 1 * (y 1).val = (y 1).val; omega
  | ⟨2, _⟩ => show 0 + 1 * (y 2).val = (y 2).val; omega

section Canon
variable {N K : ℕ}

theorem unit_val (a : ℕ) (i : ∀ d, (![a, 0, 0] : Fin 3 → ℕ) d + (![1, N, K] : Fin 3 → ℕ) d ≤ (⟨3, ![2, N, K]⟩ : Shape).size d)
    (x : (⟨3, ![1, N, K]⟩ : Shape).Idx) (y : (⟨3, ![2, N, K]⟩ : Shape).Idx) (h : (Rect.unit (s := ⟨3, ![2, N, K]⟩) ![a, 0, 0] ![1, N, K] i).idx x = y) :
    (y 0).val = a ∧ (y 1).val = (x 1).val ∧ (y 2).val = (x 2).val := by
  have h0 : a + 1 * (x 0).val = (y 0).val := congrArg (fun u : (⟨3, ![2, N, K]⟩ : Shape).Idx => (u 0).val) h
  have h1 : 0 + 1 * (x 1).val = (y 1).val := congrArg (fun u : (⟨3, ![2, N, K]⟩ : Shape).Idx => (u 1).val) h
  have h2 : 0 + 1 * (x 2).val = (y 2).val := congrArg (fun u : (⟨3, ![2, N, K]⟩ : Shape).Idx => (u 2).val) h
  have hx : (x 0).val < 1 := (x 0).isLt
  exact ⟨by omega, by omega, by omega⟩

/-- The two heads written one after the other, whatever was there before. -/
theorem canon_heads (i1 i0) (w1 w0 : (⟨3, ![1, N, K]⟩ : Shape).Idx → EReal) (L : List (View.Piece (Elt Ideal) ⟨3, ![2, N, K]⟩ .f32))
    (f : Fin 2 → (⟨3, ![1, N, K]⟩ : Shape).Idx → EReal) (h1 : ∀ x, w1 x = f 1 x) (h0 : ∀ x, w0 x = f 0 x) :
    View.canon (Val := Elt Ideal) (s := ⟨3, ![2, N, K]⟩) (e := .f32) (⟨Rect.unit ![1, 0, 0] ![1, N, K] i1, w1⟩ :: ⟨Rect.unit ![0, 0, 0] ![1, N, K] i0, w0⟩ :: L) = both f := funext fun y => by
  have hy : (y 0).val < 2 := (y 0).isLt
  have key : ∀ (a : ℕ) (i : ∀ d, (![a, 0, 0] : Fin 3 → ℕ) d + (![1, N, K] : Fin 3 → ℕ) d ≤ (⟨3, ![2, N, K]⟩ : Shape).size d), (y 0).val = a →
      ∃ x : (⟨3, ![1, N, K]⟩ : Shape).Idx, (Rect.unit (s := ⟨3, ![2, N, K]⟩) ![a, 0, 0] ![1, N, K] i).idx x = y := fun a i h =>
    ⟨ValueIdx.ix3 (0 : Fin 1) (y 1) (y 2), funext fun b => Fin.ext (match b with
      | ⟨0, _⟩ => (show a + 1 * 0 = (y 0).val by omega)
      | ⟨1, _⟩ => (show 0 + 1 * (y 1).val = (y 1).val by omega)
      | ⟨2, _⟩ => (show 0 + 1 * (y 2).val = (y 2).val by omega))⟩
  by_cases h : (y 0).val = 1
  · obtain ⟨x, hx⟩ := key 1 i1 h
    obtain ⟨e0, e1, e2⟩ := unit_val 1 i1 x y hx
    have hx0 : (x 0).val < 1 := (x 0).isLt
    refine Eq.trans ?_ ((h1 x).trans (both_at f 1 y x (by show _ = 1 + _; omega) e1 e2))
    rw [← hx]
    exact View.canon_cons_emb (Val := Elt Ideal) (e := .f32) (Rect.unit (s := ⟨3, ![2, N, K]⟩) ![1, 0, 0] ![1, N, K] i1) w1 _ x
  · obtain ⟨x, hx⟩ := key 0 i0 (by omega)
    obtain ⟨e0, e1, e2⟩ := unit_val 0 i0 x y hx
    have hx0 : (x 0).val < 1 := (x 0).isLt
    refine Eq.trans ?_ ((h0 x).trans (both_at f 0 y x (by show _ = 0 + _; omega) e1 e2))
    refine (View.canon_cons_of_not_mem (Val := Elt Ideal) _ _ ?_).trans ?_
    · intro hm
      obtain ⟨z, hz⟩ := LoadRect.exists_idx_of_mem _ hm
      exact h (unit_val 1 i1 z y hz).1
    · rw [← hx]
      exact View.canon_cons_emb (Val := Elt Ideal) (e := .f32) (Rect.unit (s := ⟨3, ![2, N, K]⟩) ![0, 0, 0] ![1, N, K] i0) w0 _ x

theorem canon_all (i) (z : (⟨3, ![2, N, K]⟩ : Shape).Idx → EReal) :
    View.canon (Val := Elt Ideal) (s := ⟨3, ![2, N, K]⟩) (e := .f32) [⟨Rect.unit ![0, 0, 0] ![2, N, K] i, z⟩] = z := funext fun y => by
  have hy : (Rect.unit (s := ⟨3, ![2, N, K]⟩) ![0, 0, 0] ![2, N, K] i).idx y = y := funext fun b => Fin.ext (match b with
    | ⟨0, _⟩ => (show 0 + 1 * (y 0).val = (y 0).val by omega)
    | ⟨1, _⟩ => (show 0 + 1 * (y 1).val = (y 1).val by omega)
    | ⟨2, _⟩ => (show 0 + 1 * (y 2).val = (y 2).val by omega))
  refine Eq.trans ?_ (View.canon_cons_emb (Val := Elt Ideal) (e := .f32) (Rect.unit (s := ⟨3, ![2, N, K]⟩) ![0, 0, 0] ![2, N, K] i) z [] y)
  exact congrArg _ hy.symm
end Canon

section Loads
variable {N K : ℕ} {sig : RefSig} {κ : Kind} {sp : Space} (v : View sig κ sp ⟨3, ![2, N, K]⟩ .f32)

theorem head_of_canon (L : List (View.Piece (Elt Ideal) ⟨3, ![2, N, K]⟩ .f32)) (f : (⟨3, ![2, N, K]⟩ : Shape).Idx → EReal) (h : View.canon L = f) (a : Fin 2) (i) :
    v.readCov L (Rect.unit (s := ⟨3, ![2, N, K]⟩) ![a.val, 0, 0] ![1, N, K] i).toLoadRect = head f a := by
  rw [View.readCov_eq_canon', h]; rfl
end Loads

section Loads
variable {sig : RefSig} {κ : Kind} {sp : Space} (v : View sig κ sp S2x1024x128 .f32)

theorem read_first (i j z) : v.readCov [(⟨Rect.unit ![0, 0, 0] ![2, 1024, 128] i, z⟩ : View.Piece (Elt Ideal) S2x1024x128 .f32)]
    (Rect.unit ![0, 0, 0] ![1, 1024, 128] j).toLoadRect = head (z : Blk) 0 := head_of_canon v _ _ (canon_all i z) 0 j
theorem read_second (i j z) : v.readCov [(⟨Rect.unit ![0, 0, 0] ![2, 1024, 128] i, z⟩ : View.Piece (Elt Ideal) S2x1024x128 .f32)]
    (Rect.unit ![1, 0, 0] ![1, 1024, 128] j).toLoadRect = head (z : Blk) 1 := head_of_canon v _ _ (canon_all i z) 1 j
/-- The second head read after the first was written over. -/
theorem read_past (i j k z) (w : (⟨3, ![1, 1024, 128]⟩ : Shape).Idx → EReal) :
    v.readCov [(⟨Rect.unit ![0, 0, 0] ![1, 1024, 128] k, w⟩ : View.Piece (Elt Ideal) S2x1024x128 .f32), ⟨Rect.unit ![0, 0, 0] ![2, 1024, 128] i, z⟩]
      (Rect.unit ![1, 0, 0] ![1, 1024, 128] j).toLoadRect = head (z : Blk) 1 := by
  rw [← read_second v i j z, View.readCov_eq_canon', View.readCov_eq_canon']
  funext x
  refine View.canon_cons_of_not_mem (Val := Elt Ideal) _ _ ?_
  intro hm
  obtain ⟨u, hu⟩ := LoadRect.exists_idx_of_mem _ hm
  have h0 := (unit_val 0 k u _ hu).1
  have h1 := (unit_val 1 j x _ rfl).1
  exact absurd (h1.symm.trans h0) (by decide)
theorem read_new0 (i1 i0 j) (w1 w0 : (⟨3, ![1, 1024, 128]⟩ : Shape).Idx → EReal) (L : List (View.Piece (Elt Ideal) S2x1024x128 .f32)) :
    v.readCov (⟨Rect.unit ![1, 0, 0] ![1, 1024, 128] i1, w1⟩ :: ⟨Rect.unit ![0, 0, 0] ![1, 1024, 128] i0, w0⟩ :: L)
      (Rect.unit (s := S2x1024x128) ![0, 0, 0] ![1, 1024, 128] j).toLoadRect = w0 := by
  refine (head_of_canon v _ _ (canon_heads i1 i0 w1 w0 L (fun a => if a = 1 then w1 else w0) (fun x => rfl) (fun x => rfl)) 0 j).trans ?_
  funext x
  obtain ⟨e0, e1, e2⟩ := unit_val 0 j x _ rfl
  have hx : (x 0).val < 1 := (x 0).isLt
  exact (both_at (fun a : Fin 2 => if a = 1 then w1 else w0) 0 _ x (e0.trans (by show 0 = 0 + (x 0).val; omega)) e1 e2).symm
theorem read_new1 (i1 i0 j) (w1 w0 : (⟨3, ![1, 1024, 128]⟩ : Shape).Idx → EReal) (L : List (View.Piece (Elt Ideal) S2x1024x128 .f32)) :
    v.readCov (⟨Rect.unit ![1, 0, 0] ![1, 1024, 128] i1, w1⟩ :: ⟨Rect.unit ![0, 0, 0] ![1, 1024, 128] i0, w0⟩ :: L)
      (Rect.unit (s := S2x1024x128) ![1, 0, 0] ![1, 1024, 128] j).toLoadRect = w1 := by
  refine (head_of_canon v _ _ (canon_heads i1 i0 w1 w0 L (fun a => if a = 1 then w1 else w0) (fun x => rfl) (fun x => rfl)) 1 j).trans ?_
  funext x
  obtain ⟨e0, e1, e2⟩ := unit_val 1 j x _ rfl
  have hx : (x 0).val < 1 := (x 0).isLt
  exact (both_at (fun a : Fin 2 => if a = 1 then w1 else w0) 1 _ x (e0.trans (by show 1 = 1 + (x 0).val; omega)) e1 e2).symm
end Loads

theorem back0 (z : Blk) : View.read (Elt Ideal) (View.whole cc0_scratch0) ((Memref.isWhole_whole cc0_scratch0).unread z) = z :=
  Memref.IsWhole.read_unread (Memref.isWhole_whole cc0_scratch0) z
theorem back1 (z : Blk) : View.read (Elt Ideal) (View.whole cc0_scratch1) ((Memref.isWhole_whole cc0_scratch1).unread z) = z :=
  Memref.IsWhole.read_unread (Memref.isWhole_whole cc0_scratch1) z
theorem back2 (z : Blk) : View.read (Elt Ideal) (View.whole cc0_scratch2) ((Memref.isWhole_whole cc0_scratch2).unread z) = z :=
  Memref.IsWhole.read_unread (Memref.isWhole_whole cc0_scratch2) z

/-! ## The steps -/

/-- What a step over a tile leaves, on the diagonal or below it. -/
def stepM (d : Bool) (q k : FVec Ideal ⟨3, ![2, 1024, 256]⟩ .bf16) (M : Blk) : Blk := both fun a => newM (F := Ideal) (tile d q k a) (head M a)
def stepL (d : Bool) (q k : FVec Ideal ⟨3, ![2, 1024, 256]⟩ .bf16) (M L : Blk) : Blk := both fun a => newL (F := Ideal) (tile d q k a) (head M a) (head L a)
def stepA (d : Bool) (q k : FVec Ideal ⟨3, ![2, 1024, 256]⟩ .bf16) (v : FVec Ideal ⟨3, ![2, 1024, 128]⟩ .bf16) (M A : Blk) : Blk :=
  both fun a => newA (F := Ideal) (tile d q k a) (head M a) (head v a) (head A a)
/-- The outputs: the products over the sums, and the maxima plus the sums' logarithms. -/
def quot (L A : (⟨3, ![1, 1024, 128]⟩ : Shape).Idx → EReal) : FVec Ideal ⟨2, ![1024, 128]⟩ .bf16 :=
  truncf (F := Ideal) .bf16 (divf (F := Ideal) (φ := .f32) (mat A) (mat L)) (by decide)
def logSum (M L : (⟨3, ![1, 1024, 128]⟩ : Shape).Idx → EReal) : (⟨3, ![1, 1024, 128]⟩ : Shape).Idx → EReal :=
  unmat (addf (F := Ideal) (φ := .f32) (mat M) (log (F := Ideal) (φ := .f32) (mat L)))

/-- What the first step starts from. -/
def firstM : Blk := k0_pay1 (F := Ideal)
def firstL : Blk := k0_pay2 (F := Ideal)
def firstA : Blk := k0_pay3 (F := Ideal)

/-- The two heads' columns side by side. -/
def sides {α : Type} (f : Fin 2 → (⟨2, ![1024, 128]⟩ : Shape).Idx → α) : (⟨2, ![1024, 256]⟩ : Shape).Idx → α :=
  fun y => f ⟨(y 1).val / 128, by have : (y 1).val < 256 := (y 1).isLt; omega⟩ (ValueIdx.ix2 (y 0) (⟨(y 1).val % 128, Nat.mod_lt _ (by decide)⟩ : Fin 128))
theorem sides_at {α : Type} (f : Fin 2 → (⟨2, ![1024, 128]⟩ : Shape).Idx → α) (a : Fin 2) (y : (⟨2, ![1024, 256]⟩ : Shape).Idx)
    (x : (⟨2, ![1024, 128]⟩ : Shape).Idx) (h0 : (y 0).val = (x 0).val) (h1 : (y 1).val = 128 * a.val + (x 1).val) : f a x = sides f y := by
  have hx : (x 1).val < 128 := (x 1).isLt
  have ea : (⟨(y 1).val / 128, by have : (y 1).val < 256 := (y 1).isLt; omega⟩ : Fin 2) = a := Fin.ext (by show (y 1).val / 128 = a.val; omega)
  unfold sides
  rw [ea]
  refine congrArg (f a) (funext fun b => Fin.ext ?_)
  match b with
  | ⟨0, _⟩ => exact h0.symm
  | ⟨1, _⟩ => show (x 1).val = (y 1).val % 128; omega

variable (m : (ℓ : Loc nD τ sig) → Buf (Elt Ideal) ℓ)

abbrev Carried := Vec Ideal S1024x256 .bf16 × Vec Ideal S2x1024x128 .f32 × Vec Ideal S2x1024x128 .f32 × Vec Ideal S2x1024x128 .f32 × Vec Ideal S2x1024x128 .f32
abbrev blkQ (c : Dev nD) (t : Fin cfg0.N) : FVec Ideal ⟨3, ![2, 1024, 256]⟩ .bf16 := iblk m c 0 t
abbrev blkK (c : Dev nD) (t : Fin cfg0.N) : FVec Ideal ⟨3, ![2, 1024, 256]⟩ .bf16 := iblk m c 1 t
abbrev blkV (c : Dev nD) (t : Fin cfg0.N) : FVec Ideal ⟨3, ![2, 1024, 128]⟩ .bf16 := iblk m c 2 t

theorem m_A (c : Dev nD) (t : Fin cfg0.N) (acc : Carried) (h0 : t.val % 4 = 0) (h1 : ¬t.val % 4 + 1 ≤ t.val / 4 % 4) (h2 : t.val / 4 % 4 = t.val % 4) (h3 : ¬t.val % 4 = 3) :
    (stAt0 m c t.val t.isLt acc).2.2.1 = stepM true (blkQ m c t) (blkK m c t) firstM := funext fun y => by
  refine (congrFun (congrArg (fun p => p.2.2.1) (stAt0_A m c t acc h0 h1 h2 h3)) y).trans ?_
  dsimp only
  frame_out
  simp only [back0, back1, back2, read_first, read_second, read_past]
  exact congrFun (canon_heads _ _ _ _ _ (fun a => newM (F := Ideal) (tile true (blkQ m c t) (blkK m c t) a) (head firstM a)) (fun x => rfl) (fun x => rfl)) y
theorem l_A (c : Dev nD) (t : Fin cfg0.N) (acc : Carried) (h0 : t.val % 4 = 0) (h1 : ¬t.val % 4 + 1 ≤ t.val / 4 % 4) (h2 : t.val / 4 % 4 = t.val % 4) (h3 : ¬t.val % 4 = 3) :
    (stAt0 m c t.val t.isLt acc).2.2.2.1 = stepL true (blkQ m c t) (blkK m c t) firstM firstL := funext fun y => by
  refine (congrFun (congrArg (fun p => p.2.2.2.1) (stAt0_A m c t acc h0 h1 h2 h3)) y).trans ?_
  dsimp only
  frame_out
  simp only [back0, back1, back2, read_first, read_second, read_past]
  exact congrFun (canon_heads _ _ _ _ _ (fun a => newL (F := Ideal) (tile true (blkQ m c t) (blkK m c t) a) (head firstM a) (head firstL a)) (fun x => rfl) (fun x => rfl)) y
theorem a_A (c : Dev nD) (t : Fin cfg0.N) (acc : Carried) (h0 : t.val % 4 = 0) (h1 : ¬t.val % 4 + 1 ≤ t.val / 4 % 4) (h2 : t.val / 4 % 4 = t.val % 4) (h3 : ¬t.val % 4 = 3) :
    (stAt0 m c t.val t.isLt acc).2.2.2.2 = stepA true (blkQ m c t) (blkK m c t) (blkV m c t) firstM firstA := funext fun y => by
  refine (congrFun (congrArg (fun p => p.2.2.2.2) (stAt0_A m c t acc h0 h1 h2 h3)) y).trans ?_
  dsimp only
  frame_out
  simp only [back0, back1, back2, read_first, read_second, read_past]
  exact congrFun (canon_heads _ _ _ _ _ (fun a => newA (F := Ideal) (tile true (blkQ m c t) (blkK m c t) a) (head firstM a) (head (blkV m c t) a) (head firstA a)) (fun x => rfl) (fun x => rfl)) y
theorem m_B (c : Dev nD) (t : Fin cfg0.N) (acc : Carried) (h0 : ¬t.val % 4 = 0) (h1 : ¬t.val % 4 + 1 ≤ t.val / 4 % 4) (h2 : ¬t.val / 4 % 4 = t.val % 4) (h3 : ¬t.val % 4 = 3) :
    (stAt0 m c t.val t.isLt acc).2.2.1 = acc.2.2.1 := funext fun y => by
  refine (congrFun (congrArg (fun p => p.2.2.1) (stAt0_B m c t acc h0 h1 h2 h3)) y).trans ?_
  dsimp only
  rfl
theorem l_B (c : Dev nD) (t : Fin cfg0.N) (acc : Carried) (h0 : ¬t.val % 4 = 0) (h1 : ¬t.val % 4 + 1 ≤ t.val / 4 % 4) (h2 : ¬t.val / 4 % 4 = t.val % 4) (h3 : ¬t.val % 4 = 3) :
    (stAt0 m c t.val t.isLt acc).2.2.2.1 = acc.2.2.2.1 := funext fun y => by
  refine (congrFun (congrArg (fun p => p.2.2.2.1) (stAt0_B m c t acc h0 h1 h2 h3)) y).trans ?_
  dsimp only
  rfl
theorem a_B (c : Dev nD) (t : Fin cfg0.N) (acc : Carried) (h0 : ¬t.val % 4 = 0) (h1 : ¬t.val % 4 + 1 ≤ t.val / 4 % 4) (h2 : ¬t.val / 4 % 4 = t.val % 4) (h3 : ¬t.val % 4 = 3) :
    (stAt0 m c t.val t.isLt acc).2.2.2.2 = acc.2.2.2.2 := funext fun y => by
  refine (congrFun (congrArg (fun p => p.2.2.2.2) (stAt0_B m c t acc h0 h1 h2 h3)) y).trans ?_
  dsimp only
  rfl
theorem m_C (c : Dev nD) (t : Fin cfg0.N) (acc : Carried) (h0 : ¬t.val % 4 = 0) (h1 : ¬t.val % 4 + 1 ≤ t.val / 4 % 4) (h2 : ¬t.val / 4 % 4 = t.val % 4) (h3 : t.val % 4 = 3) :
    (stAt0 m c t.val t.isLt acc).2.2.1 = acc.2.2.1 := funext fun y => by
  refine (congrFun (congrArg (fun p => p.2.2.1) (stAt0_C m c t acc h0 h1 h2 h3)) y).trans ?_
  dsimp only
  rfl
theorem l_C (c : Dev nD) (t : Fin cfg0.N) (acc : Carried) (h0 : ¬t.val % 4 = 0) (h1 : ¬t.val % 4 + 1 ≤ t.val / 4 % 4) (h2 : ¬t.val / 4 % 4 = t.val % 4) (h3 : t.val % 4 = 3) :
    (stAt0 m c t.val t.isLt acc).2.2.2.1 = acc.2.2.2.1 := funext fun y => by
  refine (congrFun (congrArg (fun p => p.2.2.2.1) (stAt0_C m c t acc h0 h1 h2 h3)) y).trans ?_
  dsimp only
  rfl
theorem a_C (c : Dev nD) (t : Fin cfg0.N) (acc : Carried) (h0 : ¬t.val % 4 = 0) (h1 : ¬t.val % 4 + 1 ≤ t.val / 4 % 4) (h2 : ¬t.val / 4 % 4 = t.val % 4) (h3 : t.val % 4 = 3) :
    (stAt0 m c t.val t.isLt acc).2.2.2.2 = acc.2.2.2.2 := funext fun y => by
  refine (congrFun (congrArg (fun p => p.2.2.2.2) (stAt0_C m c t acc h0 h1 h2 h3)) y).trans ?_
  dsimp only
  rfl
theorem m_D (c : Dev nD) (t : Fin cfg0.N) (acc : Carried) (h0 : t.val % 4 = 0) (h1 : t.val % 4 + 1 ≤ t.val / 4 % 4) (h2 : ¬t.val / 4 % 4 = t.val % 4) (h3 : ¬t.val % 4 = 3) :
    (stAt0 m c t.val t.isLt acc).2.2.1 = stepM false (blkQ m c t) (blkK m c t) firstM := funext fun y => by
  refine (congrFun (congrArg (fun p => p.2.2.1) (stAt0_D m c t acc h0 h1 h2 h3)) y).trans ?_
  dsimp only
  frame_out
  simp only [back0, back1, back2, read_first, read_second, read_past]
  exact congrFun (canon_heads _ _ _ _ _ (fun a => newM (F := Ideal) (tile false (blkQ m c t) (blkK m c t) a) (head firstM a)) (fun x => rfl) (fun x => rfl)) y
theorem l_D (c : Dev nD) (t : Fin cfg0.N) (acc : Carried) (h0 : t.val % 4 = 0) (h1 : t.val % 4 + 1 ≤ t.val / 4 % 4) (h2 : ¬t.val / 4 % 4 = t.val % 4) (h3 : ¬t.val % 4 = 3) :
    (stAt0 m c t.val t.isLt acc).2.2.2.1 = stepL false (blkQ m c t) (blkK m c t) firstM firstL := funext fun y => by
  refine (congrFun (congrArg (fun p => p.2.2.2.1) (stAt0_D m c t acc h0 h1 h2 h3)) y).trans ?_
  dsimp only
  frame_out
  simp only [back0, back1, back2, read_first, read_second, read_past]
  exact congrFun (canon_heads _ _ _ _ _ (fun a => newL (F := Ideal) (tile false (blkQ m c t) (blkK m c t) a) (head firstM a) (head firstL a)) (fun x => rfl) (fun x => rfl)) y
theorem a_D (c : Dev nD) (t : Fin cfg0.N) (acc : Carried) (h0 : t.val % 4 = 0) (h1 : t.val % 4 + 1 ≤ t.val / 4 % 4) (h2 : ¬t.val / 4 % 4 = t.val % 4) (h3 : ¬t.val % 4 = 3) :
    (stAt0 m c t.val t.isLt acc).2.2.2.2 = stepA false (blkQ m c t) (blkK m c t) (blkV m c t) firstM firstA := funext fun y => by
  refine (congrFun (congrArg (fun p => p.2.2.2.2) (stAt0_D m c t acc h0 h1 h2 h3)) y).trans ?_
  dsimp only
  frame_out
  simp only [back0, back1, back2, read_first, read_second, read_past]
  exact congrFun (canon_heads _ _ _ _ _ (fun a => newA (F := Ideal) (tile false (blkQ m c t) (blkK m c t) a) (head firstM a) (head (blkV m c t) a) (head firstA a)) (fun x => rfl) (fun x => rfl)) y
theorem m_E (c : Dev nD) (t : Fin cfg0.N) (acc : Carried) (h0 : ¬t.val % 4 = 0) (h1 : ¬t.val % 4 + 1 ≤ t.val / 4 % 4) (h2 : t.val / 4 % 4 = t.val % 4) (h3 : ¬t.val % 4 = 3) :
    (stAt0 m c t.val t.isLt acc).2.2.1 = stepM true (blkQ m c t) (blkK m c t) acc.2.2.1 := funext fun y => by
  refine (congrFun (congrArg (fun p => p.2.2.1) (stAt0_E m c t acc h0 h1 h2 h3)) y).trans ?_
  dsimp only
  frame_out
  simp only [back0, back1, back2, read_first, read_second, read_past]
  exact congrFun (canon_heads _ _ _ _ _ (fun a => newM (F := Ideal) (tile true (blkQ m c t) (blkK m c t) a) (head acc.2.2.1 a)) (fun x => rfl) (fun x => rfl)) y
theorem l_E (c : Dev nD) (t : Fin cfg0.N) (acc : Carried) (h0 : ¬t.val % 4 = 0) (h1 : ¬t.val % 4 + 1 ≤ t.val / 4 % 4) (h2 : t.val / 4 % 4 = t.val % 4) (h3 : ¬t.val % 4 = 3) :
    (stAt0 m c t.val t.isLt acc).2.2.2.1 = stepL true (blkQ m c t) (blkK m c t) acc.2.2.1 acc.2.2.2.1 := funext fun y => by
  refine (congrFun (congrArg (fun p => p.2.2.2.1) (stAt0_E m c t acc h0 h1 h2 h3)) y).trans ?_
  dsimp only
  frame_out
  simp only [back0, back1, back2, read_first, read_second, read_past]
  exact congrFun (canon_heads _ _ _ _ _ (fun a => newL (F := Ideal) (tile true (blkQ m c t) (blkK m c t) a) (head acc.2.2.1 a) (head acc.2.2.2.1 a)) (fun x => rfl) (fun x => rfl)) y
theorem a_E (c : Dev nD) (t : Fin cfg0.N) (acc : Carried) (h0 : ¬t.val % 4 = 0) (h1 : ¬t.val % 4 + 1 ≤ t.val / 4 % 4) (h2 : t.val / 4 % 4 = t.val % 4) (h3 : ¬t.val % 4 = 3) :
    (stAt0 m c t.val t.isLt acc).2.2.2.2 = stepA true (blkQ m c t) (blkK m c t) (blkV m c t) acc.2.2.1 acc.2.2.2.2 := funext fun y => by
  refine (congrFun (congrArg (fun p => p.2.2.2.2) (stAt0_E m c t acc h0 h1 h2 h3)) y).trans ?_
  dsimp only
  frame_out
  simp only [back0, back1, back2, read_first, read_second, read_past]
  exact congrFun (canon_heads _ _ _ _ _ (fun a => newA (F := Ideal) (tile true (blkQ m c t) (blkK m c t) a) (head acc.2.2.1 a) (head (blkV m c t) a) (head acc.2.2.2.2 a)) (fun x => rfl) (fun x => rfl)) y
theorem m_F (c : Dev nD) (t : Fin cfg0.N) (acc : Carried) (h0 : ¬t.val % 4 = 0) (h1 : t.val % 4 + 1 ≤ t.val / 4 % 4) (h2 : ¬t.val / 4 % 4 = t.val % 4) (h3 : ¬t.val % 4 = 3) :
    (stAt0 m c t.val t.isLt acc).2.2.1 = stepM false (blkQ m c t) (blkK m c t) acc.2.2.1 := funext fun y => by
  refine (congrFun (congrArg (fun p => p.2.2.1) (stAt0_F m c t acc h0 h1 h2 h3)) y).trans ?_
  dsimp only
  frame_out
  simp only [back0, back1, back2, read_first, read_second, read_past]
  exact congrFun (canon_heads _ _ _ _ _ (fun a => newM (F := Ideal) (tile false (blkQ m c t) (blkK m c t) a) (head acc.2.2.1 a)) (fun x => rfl) (fun x => rfl)) y
theorem l_F (c : Dev nD) (t : Fin cfg0.N) (acc : Carried) (h0 : ¬t.val % 4 = 0) (h1 : t.val % 4 + 1 ≤ t.val / 4 % 4) (h2 : ¬t.val / 4 % 4 = t.val % 4) (h3 : ¬t.val % 4 = 3) :
    (stAt0 m c t.val t.isLt acc).2.2.2.1 = stepL false (blkQ m c t) (blkK m c t) acc.2.2.1 acc.2.2.2.1 := funext fun y => by
  refine (congrFun (congrArg (fun p => p.2.2.2.1) (stAt0_F m c t acc h0 h1 h2 h3)) y).trans ?_
  dsimp only
  frame_out
  simp only [back0, back1, back2, read_first, read_second, read_past]
  exact congrFun (canon_heads _ _ _ _ _ (fun a => newL (F := Ideal) (tile false (blkQ m c t) (blkK m c t) a) (head acc.2.2.1 a) (head acc.2.2.2.1 a)) (fun x => rfl) (fun x => rfl)) y
theorem a_F (c : Dev nD) (t : Fin cfg0.N) (acc : Carried) (h0 : ¬t.val % 4 = 0) (h1 : t.val % 4 + 1 ≤ t.val / 4 % 4) (h2 : ¬t.val / 4 % 4 = t.val % 4) (h3 : ¬t.val % 4 = 3) :
    (stAt0 m c t.val t.isLt acc).2.2.2.2 = stepA false (blkQ m c t) (blkK m c t) (blkV m c t) acc.2.2.1 acc.2.2.2.2 := funext fun y => by
  refine (congrFun (congrArg (fun p => p.2.2.2.2) (stAt0_F m c t acc h0 h1 h2 h3)) y).trans ?_
  dsimp only
  frame_out
  simp only [back0, back1, back2, read_first, read_second, read_past]
  exact congrFun (canon_heads _ _ _ _ _ (fun a => newA (F := Ideal) (tile false (blkQ m c t) (blkK m c t) a) (head acc.2.2.1 a) (head (blkV m c t) a) (head acc.2.2.2.2 a)) (fun x => rfl) (fun x => rfl)) y
theorem m_G (c : Dev nD) (t : Fin cfg0.N) (acc : Carried) (h0 : ¬t.val % 4 = 0) (h1 : ¬t.val % 4 + 1 ≤ t.val / 4 % 4) (h2 : t.val / 4 % 4 = t.val % 4) (h3 : t.val % 4 = 3) :
    (stAt0 m c t.val t.isLt acc).2.2.1 = stepM true (blkQ m c t) (blkK m c t) acc.2.2.1 := funext fun y => by
  refine (congrFun (congrArg (fun p => p.2.2.1) (stAt0_G m c t acc h0 h1 h2 h3)) y).trans ?_
  dsimp only
  frame_out
  simp only [back0, back1, back2, read_first, read_second, read_past]
  exact congrFun (canon_heads _ _ _ _ _ (fun a => newM (F := Ideal) (tile true (blkQ m c t) (blkK m c t) a) (head acc.2.2.1 a)) (fun x => rfl) (fun x => rfl)) y
theorem l_G (c : Dev nD) (t : Fin cfg0.N) (acc : Carried) (h0 : ¬t.val % 4 = 0) (h1 : ¬t.val % 4 + 1 ≤ t.val / 4 % 4) (h2 : t.val / 4 % 4 = t.val % 4) (h3 : t.val % 4 = 3) :
    (stAt0 m c t.val t.isLt acc).2.2.2.1 = stepL true (blkQ m c t) (blkK m c t) acc.2.2.1 acc.2.2.2.1 := funext fun y => by
  refine (congrFun (congrArg (fun p => p.2.2.2.1) (stAt0_G m c t acc h0 h1 h2 h3)) y).trans ?_
  dsimp only
  frame_out
  simp only [back0, back1, back2, read_first, read_second, read_past]
  exact congrFun (canon_heads _ _ _ _ _ (fun a => newL (F := Ideal) (tile true (blkQ m c t) (blkK m c t) a) (head acc.2.2.1 a) (head acc.2.2.2.1 a)) (fun x => rfl) (fun x => rfl)) y
theorem a_G (c : Dev nD) (t : Fin cfg0.N) (acc : Carried) (h0 : ¬t.val % 4 = 0) (h1 : ¬t.val % 4 + 1 ≤ t.val / 4 % 4) (h2 : t.val / 4 % 4 = t.val % 4) (h3 : t.val % 4 = 3) :
    (stAt0 m c t.val t.isLt acc).2.2.2.2 = stepA true (blkQ m c t) (blkK m c t) (blkV m c t) acc.2.2.1 acc.2.2.2.2 := funext fun y => by
  refine (congrFun (congrArg (fun p => p.2.2.2.2) (stAt0_G m c t acc h0 h1 h2 h3)) y).trans ?_
  dsimp only
  frame_out
  simp only [back0, back1, back2, read_first, read_second, read_past]
  exact congrFun (canon_heads _ _ _ _ _ (fun a => newA (F := Ideal) (tile true (blkQ m c t) (blkK m c t) a) (head acc.2.2.1 a) (head (blkV m c t) a) (head acc.2.2.2.2 a)) (fun x => rfl) (fun x => rfl)) y
theorem o_C (c : Dev nD) (t : Fin cfg0.N) (acc : Carried) (h0 : ¬t.val % 4 = 0) (h1 : ¬t.val % 4 + 1 ≤ t.val / 4 % 4) (h2 : ¬t.val / 4 % 4 = t.val % 4) (h3 : t.val % 4 = 3) :
    (stAt0 m c t.val t.isLt acc).1 = sides fun a => quot (head acc.2.2.2.1 a) (head acc.2.2.2.2 a) := funext fun y => by
  refine (congrFun (congrArg (fun p => p.1) (stAt0_C m c t acc h0 h1 h2 h3)) y).trans ?_
  dsimp only
  frame_out
  simp only [back0, back1, back2, read_new0, read_new1]
  canon_tiles x h
  · exact sides_at (fun a => quot (head acc.2.2.2.1 a) (head acc.2.2.2.2 a)) 1 y x h0 h1
  · exact sides_at (fun a => quot (head acc.2.2.2.1 a) (head acc.2.2.2.2 a)) 0 y x h0 (h1.trans (by show (x 1).val = 128 * 0 + (x 1).val; omega))
theorem lse_C (c : Dev nD) (t : Fin cfg0.N) (acc : Carried) (h0 : ¬t.val % 4 = 0) (h1 : ¬t.val % 4 + 1 ≤ t.val / 4 % 4) (h2 : ¬t.val / 4 % 4 = t.val % 4) (h3 : t.val % 4 = 3) :
    (stAt0 m c t.val t.isLt acc).2.1 = both fun a => logSum (head acc.2.2.1 a) (head acc.2.2.2.1 a) := funext fun y => by
  refine (congrFun (congrArg (fun p => p.2.1) (stAt0_C m c t acc h0 h1 h2 h3)) y).trans ?_
  dsimp only
  frame_out
  simp only [back0, back1, back2, read_new0, read_new1]
  exact congrFun (canon_heads _ _ _ _ _ (fun a => logSum (head acc.2.2.1 a) (head acc.2.2.2.1 a)) (fun x => rfl) (fun x => rfl)) y
theorem o_G (c : Dev nD) (t : Fin cfg0.N) (acc : Carried) (h0 : ¬t.val % 4 = 0) (h1 : ¬t.val % 4 + 1 ≤ t.val / 4 % 4) (h2 : t.val / 4 % 4 = t.val % 4) (h3 : t.val % 4 = 3) :
    (stAt0 m c t.val t.isLt acc).1 = sides fun a => quot (newL (F := Ideal) (tile true (blkQ m c t) (blkK m c t) a) (head acc.2.2.1 a) (head acc.2.2.2.1 a)) (newA (F := Ideal) (tile true (blkQ m c t) (blkK m c t) a) (head acc.2.2.1 a) (head (blkV m c t) a) (head acc.2.2.2.2 a)) := funext fun y => by
  refine (congrFun (congrArg (fun p => p.1) (stAt0_G m c t acc h0 h1 h2 h3)) y).trans ?_
  dsimp only
  frame_out
  simp only [back0, back1, back2, read_new0, read_new1]
  canon_tiles x h
  · exact sides_at (fun a => quot (newL (F := Ideal) (tile true (blkQ m c t) (blkK m c t) a) (head acc.2.2.1 a) (head acc.2.2.2.1 a)) (newA (F := Ideal) (tile true (blkQ m c t) (blkK m c t) a) (head acc.2.2.1 a) (head (blkV m c t) a) (head acc.2.2.2.2 a))) 1 y x h0 h1
  · exact sides_at (fun a => quot (newL (F := Ideal) (tile true (blkQ m c t) (blkK m c t) a) (head acc.2.2.1 a) (head acc.2.2.2.1 a)) (newA (F := Ideal) (tile true (blkQ m c t) (blkK m c t) a) (head acc.2.2.1 a) (head (blkV m c t) a) (head acc.2.2.2.2 a))) 0 y x h0 (h1.trans (by show (x 1).val = 128 * 0 + (x 1).val; omega))
theorem lse_G (c : Dev nD) (t : Fin cfg0.N) (acc : Carried) (h0 : ¬t.val % 4 = 0) (h1 : ¬t.val % 4 + 1 ≤ t.val / 4 % 4) (h2 : t.val / 4 % 4 = t.val % 4) (h3 : t.val % 4 = 3) :
    (stAt0 m c t.val t.isLt acc).2.1 = both fun a => logSum (newM (F := Ideal) (tile true (blkQ m c t) (blkK m c t) a) (head acc.2.2.1 a)) (newL (F := Ideal) (tile true (blkQ m c t) (blkK m c t) a) (head acc.2.2.1 a) (head acc.2.2.2.1 a)) := funext fun y => by
  refine (congrFun (congrArg (fun p => p.2.1) (stAt0_G m c t acc h0 h1 h2 h3)) y).trans ?_
  dsimp only
  frame_out
  simp only [back0, back1, back2, read_new0, read_new1]
  exact congrFun (canon_heads _ _ _ _ _ (fun a => logSum (newM (F := Ideal) (tile true (blkQ m c t) (blkK m c t) a) (head acc.2.2.1 a)) (newL (F := Ideal) (tile true (blkQ m c t) (blkK m c t) a) (head acc.2.2.1 a) (head acc.2.2.2.1 a))) (fun x => rfl) (fun x => rfl)) y

end Cert.Kernel19Ideal.Forward

end
-- ==== Proof.Forward.Online.lean ====
/-
  A row's softmax taken tile by tile: the maximum so far, the sum of the exponentials less it, and the values weighted by
  them. Each tile rescales what was summed before; in the end the quotient and the logarithm do not depend on the maxima.
-/
module

public import proofs.«01_k».proof.Proof.Flash.Softmax

@[expose] public section

noncomputable section

namespace Cert.Attention

open Idealize.ShloMosaic
open Finset (range)

/-- A nonnegative real distributes over a sum of extended reals. -/
theorem coe_mul_sum {ι : Type*} {a : ℝ} (ha : 0 ≤ a) (s : Finset ι) (f : ι → EReal) : (a : EReal) * ∑ i ∈ s, f i = ∑ i ∈ s, (a : EReal) * f i := by
  induction s using Finset.cons_induction with
  | empty => simp
  | cons i s hi ih =>
    rw [Finset.sum_cons, Finset.sum_cons, EReal.left_distrib_of_nonneg_of_ne_top (EReal.coe_nonneg.mpr ha) (EReal.coe_ne_top a), ih]

section Row
variable (R : ℕ) (S : ℕ → ℝ) (v : ℕ → ℕ → EReal)

/-- Row `R`'s score of key `c`, minus infinity for the keys after it; -/
def held (c : ℕ) : EReal := if c ≤ R then ((S c : ℝ) : EReal) else ⊥
/-- its exponential less `μ`. -/
def pow (μ : ℝ) (c : ℕ) : ℝ := if c ≤ R then Real.exp (S c - μ) else 0

theorem pow_nonneg (μ : ℝ) (c : ℕ) : 0 ≤ pow R S μ c := by unfold pow; split <;> positivity
theorem exp_held (μ : ℝ) (c : ℕ) : Ideal.exp (held R S c - ((μ : ℝ) : EReal)) = ((pow R S μ c : ℝ) : EReal) := by
  unfold held pow
  by_cases h : c ≤ R
  · rw [if_pos h, if_pos h, ← EReal.coe_sub, Ideal.exp_coe]
  · rw [if_neg h, if_neg h]
    exact congrArg Ideal.exp (EReal.bot_sub _)
theorem pow_shift (μ μ' : ℝ) (c : ℕ) : Real.exp (μ - μ') * pow R S μ c = pow R S μ' c := by
  unfold pow
  by_cases h : c ≤ R
  · rw [if_pos h, if_pos h, ← Real.exp_add]; congr 1; ring
  · rw [if_neg h, if_neg h, mul_zero]

/-- What is carried after the first `K` keys, along 128 lanes; -/
def Sofar (K : ℕ) (M L A : ℕ → EReal) : Prop :=
  ∃ μ : ℝ, ∀ x < 128, M x = ((μ : ℝ) : EReal) ∧ L x = ((∑ c ∈ range K, pow R S μ c : ℝ) : EReal)
    ∧ A x = ∑ c ∈ range K, ((pow R S μ c : ℝ) : EReal) * v c x
/-- and before the first. -/
def Fresh (M L A : ℕ → EReal) : Prop := ∀ x < 128, M x = ⊥ ∧ L x = 0 ∧ A x = 0

variable {R S v}

/-- One tile of `n` keys. -/
theorem step {n K : ℕ} (hn : 0 < n) {M L A M' L' A' : ℕ → EReal} (h : Sofar R S v K M L A ∨ K = 0 ∧ Fresh M L A) (t : Fin n → EReal)
    (ht : ∀ j, t j = held R S (K + j.val)) (hM : ∀ x < 128, M' x = max (M x) (Finset.univ.fold max ⊥ t))
    (hL : ∀ x < 128, L' x = Ideal.exp (M x - M' x) * L x + ∑ j, Ideal.exp (t j - M' 0))
    (hA : ∀ x < 128, A' x = Ideal.exp (M x - M' x) * A x + ∑ j : Fin n, Ideal.exp (t j - M' 0) * v (K + j.val) x) :
    Sofar R S v (K + n) M' L' A' := by
  have htop : Finset.univ.fold max ⊥ t < ⊤ := (Finset.fold_max_lt _).mpr ⟨bot_lt_top, fun j _ => by
    rw [ht j]; unfold held; split
    · exact EReal.coe_lt_top _
    · exact bot_lt_top⟩
  have new : ∀ μ' : ℝ, M' 0 = μ' → (∑ j, Ideal.exp (t j - M' 0)) = ((∑ j ∈ range n, pow R S μ' (K + j) : ℝ) : EReal)
      ∧ ∀ x, (∑ j : Fin n, Ideal.exp (t j - M' 0) * v (K + j.val) x) = ∑ j ∈ range n, ((pow R S μ' (K + j) : ℝ) : EReal) * v (K + j) x := fun μ' e => by
    refine ⟨?_, fun x => ?_⟩
    · rw [← coe_sum, Finset.sum_range]
      exact Finset.sum_congr rfl fun j _ => by rw [e, ht j, exp_held]
    · rw [Finset.sum_range]
      exact Finset.sum_congr rfl fun j _ => by rw [e, ht j, exp_held]
  rcases h with ⟨μ, h⟩ | ⟨rfl, h⟩
  · obtain ⟨μ', e⟩ : ∃ μ' : ℝ, max (μ : EReal) (Finset.univ.fold max ⊥ t) = μ' :=
      ⟨_, (EReal.coe_toReal (max_lt (EReal.coe_lt_top μ) htop).ne ((EReal.bot_lt_coe μ).trans_le (le_max_left _ _)).ne').symm⟩
    have eM : ∀ x < 128, M' x = μ' := fun x hx => by rw [hM x hx, (h x hx).1, e]
    obtain ⟨n1, n2⟩ := new μ' (eM 0 (by decide))
    refine ⟨μ', fun x hx => ⟨eM x hx, ?_, ?_⟩⟩
    · rw [hL x hx, n1, eM x hx, (h x hx).1, (h x hx).2.1, ← EReal.coe_sub, Ideal.exp_coe, ← EReal.coe_mul, ← EReal.coe_add, Finset.mul_sum,
        Finset.sum_range_add]
      simp only [pow_shift]
    · rw [hA x hx, n2, eM x hx, (h x hx).1, (h x hx).2.2, ← EReal.coe_sub, Ideal.exp_coe, coe_mul_sum (Real.exp_pos _).le, Finset.sum_range_add]
      refine congrArg (· + _) (Finset.sum_congr rfl fun c _ => ?_)
      rw [← mul_assoc, ← EReal.coe_mul, pow_shift]
  · have hbot : ⊥ < Finset.univ.fold max ⊥ t := (Finset.lt_fold_max _).mpr (.inr ⟨⟨0, hn⟩, Finset.mem_univ _, by
      rw [ht]; unfold held; rw [if_pos (by simp)]; exact EReal.bot_lt_coe _⟩)
    obtain ⟨μ', e⟩ : ∃ μ' : ℝ, Finset.univ.fold max ⊥ t = μ' := ⟨_, (EReal.coe_toReal htop.ne hbot.ne').symm⟩
    have eM : ∀ x < 128, M' x = μ' := fun x hx => by rw [hM x hx, (h x hx).1, max_eq_right bot_le, e]
    obtain ⟨n1, n2⟩ := new μ' (eM 0 (by decide))
    refine ⟨μ', fun x hx => ⟨eM x hx, ?_, ?_⟩⟩
    · rw [hL x hx, n1, (h x hx).2.1, mul_zero, zero_add]
      simp only [Nat.zero_add]
    · rw [hA x hx, n2, (h x hx).2.2, mul_zero, zero_add]
      simp only [Nat.zero_add]

/-- Once every key up to the row's is in, more keys change nothing. -/
theorem sum_upto {α : Type*} [AddCommMonoid α] {K : ℕ} (hK : R < K) (f : ℕ → α) (hf : ∀ c, ¬ c ≤ R → f c = 0) :
    ∑ c ∈ range K, f c = ∑ c ∈ range (R + 1), f c :=
  (Finset.sum_subset (fun c hc => Finset.mem_range.mpr (lt_of_lt_of_le (Finset.mem_range.mp hc) hK))
    fun c _ hc => hf c fun hle => hc (Finset.mem_range.mpr (Nat.lt_succ_of_le hle))).symm

theorem Sofar.more {K K' : ℕ} (hK : R < K) (hK' : R < K') {M L A : ℕ → EReal} (h : Sofar R S v K M L A) : Sofar R S v K' M L A := by
  obtain ⟨μ, h⟩ := h
  have z : ∀ c, ¬ c ≤ R → pow R S μ c = 0 := fun c hc => if_neg hc
  refine ⟨μ, fun x hx => ⟨(h x hx).1, ?_, ?_⟩⟩
  · rw [(h x hx).2.1, sum_upto hK _ z, sum_upto hK' _ z]
  · rw [(h x hx).2.2, sum_upto hK _ (fun c hc => by rw [z c hc]; simp), sum_upto hK' _ (fun c hc => by rw [z c hc]; simp)]

end Row

/-! ## In the end -/

section Last
variable {n : ℕ} (R : Fin n) (s : Fin n → ℝ) {v : ℕ → ℕ → EReal} {M L A : ℕ → EReal}

/-- Scores continued by zero. -/
def ext (c : ℕ) : ℝ := if h : c < n then s ⟨c, h⟩ else 0
theorem ext_fin (c : Fin n) : ext s c.val = s c := dif_pos c.isLt

theorem sum_pow (μ : ℝ) : (∑ c ∈ range n, pow R.val (ext s) μ c) = ∑ c : Fin n, (if c.val ≤ R.val then Real.exp (s c - μ) else 0) := by
  rw [Finset.sum_range]
  exact Finset.sum_congr rfl fun c _ => by unfold pow; rw [ext_fin]

/-- The maximum plus the logarithm of the sum is the same for any other maximum, -/
theorem lse_last (h : Sofar R.val (ext s) v n M L A) (μ' : ℝ) {x : ℕ} (hx : x < 128) :
    M x + Ideal.log (L x) = ((μ' : ℝ) : EReal) + Ideal.log (∑ c, Ideal.exp (kept (fun c : Fin n => c.val ≤ R.val) s c - ((μ' : ℝ) : EReal))) := by
  obtain ⟨μ, h⟩ := h
  have key : ∀ μ : ℝ, ((μ : ℝ) : EReal) + Ideal.log (((∑ c : Fin n, (if c.val ≤ R.val then Real.exp (s c - μ) else 0) : ℝ) : EReal))
      = ((Real.log (∑ c : Fin n, (if c.val ≤ R.val then Real.exp (s c) else 0)) : ℝ) : EReal) := fun μ => by
    have hp := sum_shift_pos (fun c : Fin n => c.val ≤ R.val) s μ (k₀ := R) (le_refl _)
    have h0 := sum_pos (fun c : Fin n => c.val ≤ R.val) s (k₀ := R) (le_refl _)
    rw [Ideal.log_coe, if_neg (not_le.mpr hp), ← EReal.coe_add, sum_shift, Real.log_mul h0.ne' (Real.exp_pos _).ne', Real.log_exp]
    congr 1; ring
  rw [(h x hx).1, (h x hx).2.1, sum_pow, key, sum_exp, key]

/-- and the quotient is the values weighted by the probabilities. -/
theorem quot_last (h : Sofar R.val (ext s) v n M L A) {x : ℕ} (hx : x < 128) :
    Ideal.div (A x) (L x) = ∑ c : Fin n, v c.val x * ((weight (fun c : Fin n => c.val ≤ R.val) s c : ℝ) : EReal) := by
  obtain ⟨μ, h⟩ := h
  have hp := sum_shift_pos (fun c : Fin n => c.val ≤ R.val) s μ (k₀ := R) (le_refl _)
  rw [(h x hx).2.2, (h x hx).2.1, sum_pow, Ideal.div_coe hp.ne', mul_comm, coe_mul_sum (one_div_nonneg.mpr hp.le), Finset.sum_range]
  refine Finset.sum_congr rfl fun c _ => ?_
  rw [← mul_assoc, ← EReal.coe_mul, mul_comm]
  refine congrArg (fun w : ℝ => v c.val x * (w : EReal)) ?_
  rw [← quot_weight (fun c : Fin n => c.val ≤ R.val) s μ (k₀ := R) (le_refl _) c, one_div_mul_eq_div]
  unfold pow
  rw [ext_fin]
end Last

end Cert.Attention

end
-- ==== Proof.Forward.Entries.lean ====
/-
  A step's results at a head, a row and a lane: one tile of the row's softmax.
-/
module

public import proofs.«01_k».proof.Proof.Forward.Cases
public import proofs.«01_k».proof.Proof.Forward.Online
public import proofs.«01_k».proof.Proof.Flash.HostRead

@[expose] public section

set_option maxRecDepth 16384

noncomputable section

namespace Cert.Kernel19Ideal.Forward

open Idealize.ShloMosaic hiding ix1 ix2 ix3 ix4 ix5 eq_ix1 eq_ix2 eq_ix3 eq_ix4
open Idealize.ShloMosaic.ValueIdx
open Cert.KernelIdeal.Flash Cert.Attention Cert.Kernel19Ideal.Gen
open Finset (range)

abbrev Half := FVec Ideal ⟨3, ![1, 1024, 128]⟩ .f32
abbrev Sq := FVec Ideal ⟨2, ![1024, 1024]⟩ .f32

theorem at3_both {N K : ℕ} (f : Fin 2 → (⟨3, ![1, N, K]⟩ : Shape).Idx → EReal) (a : Fin 2) {r x : ℕ} (hr : r < N) (hx : x < K) :
    at3 (both f) a.val r x = at3 (f a) 0 r x := by
  rw [at3_pos _ a.isLt hr hx, at3_pos _ Nat.one_pos hr hx]; rfl
theorem at3_head {N K : ℕ} (z : (⟨3, ![2, N, K]⟩ : Shape).Idx → EReal) (a : Fin 2) {r x : ℕ} (hr : r < N) (hx : x < K) :
    at3 (head z a) 0 r x = at3 z a.val r x := by
  rw [head, at3_win _ _ _ _ _ _ _ hr hx, Nat.zero_add]

/-- The largest score of a row. -/
def top (s : Sq) (r : ℕ) : EReal := (Finset.univ : Finset (Fin 1024)).fold max ⊥ fun j => at2 s r j.val

theorem at2_best (s : Sq) (mo : Half) {r x : ℕ} (hr : r < 1024) (hx : x < 128) : at2 (best s mo) r x = max (at3 mo 0 r x) (top s r) := by
  have e : at2 (broadcastTo ⟨2, ![1024, 128]⟩ (shapeCast ⟨2, ![1024, 1]⟩
      (multiReduction .maximumf [1] ⟨1, ![1024]⟩ s 0xFF800000#32 (reduces_cols 1024 1024) (.inl rfl) rfl) (cast_col 1024)) (spread_col 1024 128)) r x = top s r := by
    rw [at2_spread _ hr hx, at2_pos _ hr Nat.one_pos]
    refine (shapeCast_a_a1_apply _ _ _ _).trans ?_
    refine (Ideal.multiReduction_maximumf_single (φ := .f32) _ _ _ _ _ _).trans ?_
    unfold top
    rw [show (FloatOps.ofBits (F := Ideal) .f32 0xFF800000#32) = (⊥ : EReal) from negInf]
    refine congrArg (Finset.fold max ⊥ · Finset.univ) (funext fun j => ?_)
    have ej : (reduces_cols 1024 1024).lift (ix1 ⟨r, hr⟩) j = ix2 ⟨r, hr⟩ j := funext fun b => Fin.ext (by
      match b with
      | ⟨0, _⟩ => rfl
      | ⟨1, _⟩ => rfl)
    exact (congrArg s ej).trans (at2_pos s hr j.isLt).symm
  rw [← e, ← at2_mat mo hr hx, at2_pos _ hr hx, at2_pos _ hr hx, at2_pos _ hr hx]
  rfl

theorem at2_fade (s : Sq) (mo : Half) {r x : ℕ} (hr : r < 1024) (hx : x < 128) :
    at2 (fade s mo) r x = Ideal.exp (at3 mo 0 r x - at2 (best s mo) r x) := by
  rw [← at2_mat mo hr hx, at2_pos _ hr hx, at2_pos _ hr hx, at2_pos _ hr hx]; rfl

theorem at2_powers (s : Sq) (mo : Half) {r j : ℕ} (hr : r < 1024) (hj : j < 1024) :
    at2 (powers s mo) r j = Ideal.exp (at2 s r j - at2 (best s mo) r 0) := by
  have e : at2 (extractStridedSlice ⟨2, ![1024, 1]⟩ ![0, 0] (best s mo) slices_first) r 0 = at2 (best s mo) r 0 := by
    rw [at2_pos _ hr Nat.one_pos, at2_pos _ hr (by decide)]
    refine congrArg (best s mo) (funext fun b => Fin.ext ?_)
    match b with
    | ⟨0, _⟩ => show 0 + r = r; omega
    | ⟨1, _⟩ => rfl
  rw [← e, ← at2_spread _ hr hj, at2_pos _ hr hj, at2_pos _ hr hj, at2_pos _ hr hj]; rfl

theorem at3_newM (s : Sq) (mo : Half) {r x : ℕ} (hr : r < 1024) (hx : x < 128) : at3 (newM s mo) 0 r x = max (at3 mo 0 r x) (top s r) := by
  rw [newM, at3_unmat _ hr hx, at2_best s mo hr hx]

theorem at3_newL (s : Sq) (mo lo : Half) {r x : ℕ} (hr : r < 1024) (hx : x < 128) :
    at3 (newL s mo lo) 0 r x = Ideal.exp (at3 mo 0 r x - at3 (newM s mo) 0 r x) * at3 lo 0 r x
      + ∑ j : Fin 1024, Ideal.exp (at2 s r j.val - at3 (newM s mo) 0 r 0) := by
  have e : at2 (broadcastTo ⟨2, ![1024, 128]⟩ (shapeCast ⟨2, ![1024, 1]⟩
      (multiReduction .add [1] ⟨1, ![1024]⟩ (powers s mo) 0x00000000#32 (reduces_cols 1024 1024) (.inl rfl) rfl) (cast_col 1024)) (spread_col 1024 128)) r x
      = ∑ j : Fin 1024, Ideal.exp (at2 s r j.val - at3 (newM s mo) 0 r 0) := by
    rw [at2_spread _ hr hx, at2_pos _ hr Nat.one_pos]
    refine (shapeCast_a_a1_apply _ _ _ _).trans ?_
    refine (Ideal.multiReduction_add_single _ _ _ _ _ _).trans ?_
    refine Finset.sum_congr rfl fun j _ => ?_
    have ej : (reduces_cols 1024 1024).lift (ix1 ⟨r, hr⟩) j = ix2 ⟨r, hr⟩ j := funext fun b => Fin.ext (by
      match b with
      | ⟨0, _⟩ => rfl
      | ⟨1, _⟩ => rfl)
    rw [newM, at3_unmat _ hr (by decide), ← at2_powers s mo hr j.isLt]
    exact (congrArg (powers s mo) ej).trans (at2_pos _ hr j.isLt).symm
  rw [← e, newL, at3_unmat _ hr hx, newM, at3_unmat _ hr hx, ← at2_fade s mo hr hx, ← at2_mat lo hr hx, at2_pos _ hr hx, at2_pos _ hr hx, at2_pos _ hr hx,
    at2_pos _ hr hx]
  rfl

theorem at3_newA (s : Sq) (mo : Half) (v : FVec Ideal ⟨3, ![1, 1024, 128]⟩ .bf16) (ao : Half) {r x : ℕ} (hr : r < 1024) (hx : x < 128) :
    at3 (newA s mo v ao) 0 r x = Ideal.exp (at3 mo 0 r x - at3 (newM s mo) 0 r x) * at3 ao 0 r x
      + ∑ j : Fin 1024, Ideal.exp (at2 s r j.val - at3 (newM s mo) 0 r 0) * at3 v 0 j.val x := by
  have e : at2 (matmul (DotDims.plain 1024 1024 128) none (truncf .bf16 (powers s mo) (by decide)) (mat v) (constant ⟨2, ![1024, 128]⟩ .f32 0x00000000#32)) r x
      = ∑ j : Fin 1024, Ideal.exp (at2 s r j.val - at3 (newM s mo) 0 r 0) * at3 v 0 j.val x := by
    refine (at2_matmul (φ₁ := .bf16) (φ₂ := .bf16) _ _ hr hx).trans ?_
    rw [Finset.sum_range]
    refine Finset.sum_congr rfl fun j _ => ?_
    rw [newM, at3_unmat _ hr (by decide), ← at2_powers s mo hr j.isLt, at2_mat v j.isLt hx]
    rfl
  rw [← e, newA, at3_unmat _ hr hx, newM, at3_unmat _ hr hx, ← at2_fade s mo hr hx, ← at2_mat ao hr hx, at2_pos _ hr hx, at2_pos _ hr hx, at2_pos _ hr hx,
    at2_pos _ hr hx]
  rfl

/-- One tile for one row of one head. -/
theorem row_step (d : Bool) (q k : FVec Ideal ⟨3, ![2, 1024, 256]⟩ .bf16) (v : FVec Ideal ⟨3, ![2, 1024, 128]⟩ .bf16) (M L A : Blk) (a : Fin 2) {r : ℕ} (hr : r < 1024)
    {R K : ℕ} {S : ℕ → ℝ} {V : ℕ → ℕ → EReal}
    (h : Sofar R S V K (at3 M a.val r) (at3 L a.val r) (at3 A a.val r) ∨ K = 0 ∧ Fresh (at3 M a.val r) (at3 L a.val r) (at3 A a.val r))
    (ht : ∀ j : Fin 1024, at2 (tile d q k a) r j.val = held R S (K + j.val)) (hV : ∀ j : Fin 1024, ∀ x < 128, at3 v a.val j.val x = V (K + j.val) x) :
    Sofar R S V (K + 1024) (at3 (stepM d q k M) a.val r) (at3 (stepL d q k M L) a.val r) (at3 (stepA d q k v M A) a.val r) := by
  have eM : ∀ x < 128, at3 (stepM d q k M) a.val r x = at3 (newM (F := Ideal) (tile d q k a) (head M a)) 0 r x := fun x hx => at3_both _ a hr hx
  refine step (by decide) h (fun j => at2 (tile d q k a) r j.val) ht (fun x hx => ?_) (fun x hx => ?_) (fun x hx => ?_)
  · rw [eM x hx, at3_newM _ _ hr hx, at3_head M a hr hx]; rfl
  · rw [eM x hx, eM 0 (by decide), ← at3_head M a hr hx, ← at3_head L a hr hx]
    exact (at3_both _ a hr hx).trans (at3_newL _ _ _ hr hx)
  · rw [eM x hx, eM 0 (by decide), ← at3_head M a hr hx, ← at3_head A a hr hx]
    refine (at3_both _ a hr hx).trans ((at3_newA _ _ _ _ hr hx).trans (congrArg (_ + ·) (Finset.sum_congr rfl fun j _ => ?_)))
    rw [at3_head v a j.isLt hx, hV j x hx]

/-! ## The scores, the start and the outputs -/

theorem keep_at {n m : ℕ} (hn : n ≤ 1024) (hm : m ≤ 1024) {r c : ℕ} (hr : r < n) (hc : c < m) :
    (cmpi .sle (iota .tc ⟨2, ![n, m]⟩ 32 [1] (iotas n m 1)) (iota .tc ⟨2, ![n, m]⟩ 32 [0] (iotas n m 0))) (ix2 ⟨r, hr⟩ ⟨c, hc⟩)
      = BitVec.ofBool (decide (c ≤ r)) := by
  show IntOp.cmpi .sle (BitVec.ofNat 32 (0 * m + c)) (BitVec.ofNat 32 (0 * n + r)) = _
  rw [Nat.zero_mul, Nat.zero_add, Nat.zero_mul, Nat.zero_add]
  show BitVec.ofBool ((BitVec.ofNat 32 c).sle (BitVec.ofNat 32 r)) = _
  rw [sle_ofNat (by omega) (by omega)]

theorem at2_hidden (s : Sq) {r c : ℕ} (hr : r < 1024) (hc : c < 1024) : at2 (hidden s) r c = if c ≤ r then at2 s r c else ⊥ := by
  rw [at2_pos _ hr hc, at2_pos _ hr hc]
  unfold hidden
  rw [select_apply, keep_at (le_refl _) (le_refl _) hr hc]
  by_cases h : c ≤ r
  · rw [if_pos h, decide_eq_true h]; rfl
  · rw [if_neg h, decide_eq_false h]
    exact IdealRules.named_const.ideal_named_scalar (φ := .f32) κ "mask" 0xF149F2CA#32 ⊥ rfl

theorem at2_tile (d : Bool) (q k : FVec Ideal ⟨3, ![2, 1024, 256]⟩ .bf16) (a : Fin 2) {r c : ℕ} (hr : r < 1024) (hc : c < 1024) :
    at2 (tile d q k a) r c = if d = true → c ≤ r then ∑ j ∈ range 256, at3 q a.val r j * at3 k a.val c j else ⊥ := by
  have e : at2 (scores (F := Ideal) (head q a) (head k a)) r c = ∑ j ∈ range 256, at3 q a.val r j * at3 k a.val c j := by
    refine (at2_scores _ _ hr hc).trans (Finset.sum_congr rfl fun j hj => ?_)
    rw [at3_head q a hr (Finset.mem_range.mp hj), at3_head k a hc (Finset.mem_range.mp hj)]
  rw [← e]
  cases d
  · rw [if_pos (by simp)]; rfl
  · refine (at2_hidden _ hr hc).trans ?_
    simp

theorem fresh_first (a : Fin 2) {r : ℕ} (hr : r < 1024) : Fresh (at3 firstM a.val r) (at3 firstL a.val r) (at3 firstA a.val r) := fun x hx => by
  rw [at3_pos _ a.isLt hr hx, at3_pos _ a.isLt hr hx, at3_pos _ a.isLt hr hx]
  refine ⟨?_, ?_, ?_⟩
  · unfold firstM k0_pay1
    exact (congrFun (shapeCast_self _ _) _).trans (IdealRules.named_const.ideal_named_scalar (φ := .f32) κ "mask" 0xF149F2CA#32 ⊥ rfl)
  · unfold firstL k0_pay2
    exact (congrFun (shapeCast_self _ _) _).trans Ideal.ofBits_zero_f32
  · unfold firstA k0_pay3
    exact (congrFun (shapeCast_self _ _) _).trans Ideal.ofBits_zero_f32

theorem at2_quot (L A : (⟨3, ![1, 1024, 128]⟩ : Shape).Idx → EReal) {r x : ℕ} (hr : r < 1024) (hx : x < 128) :
    at2 (quot L A) r x = Ideal.div (at3 A 0 r x) (at3 L 0 r x) := by
  rw [← at2_mat A hr hx, ← at2_mat L hr hx, at2_pos _ hr hx, at2_pos _ hr hx, at2_pos _ hr hx]; rfl
theorem at3_logSum (M L : (⟨3, ![1, 1024, 128]⟩ : Shape).Idx → EReal) {r x : ℕ} (hr : r < 1024) (hx : x < 128) :
    at3 (logSum M L) 0 r x = at3 M 0 r x + Ideal.log (at3 L 0 r x) := by
  rw [logSum, at3_unmat _ hr hx, ← at2_mat M hr hx, ← at2_mat L hr hx, at2_pos _ hr hx, at2_pos _ hr hx, at2_pos _ hr hx]; rfl
theorem at2_sides (f : Fin 2 → (⟨2, ![1024, 128]⟩ : Shape).Idx → EReal) (a : Fin 2) {r x : ℕ} (hr : r < 1024) (hx : x < 128) :
    at2 (sides f) r (128 * a.val + x) = at2 (f a) r x := by
  have := a.isLt
  rw [at2_pos _ hr (by omega), at2_pos _ hr hx]
  exact (sides_at f a _ (ix2 ⟨r, hr⟩ ⟨x, hx⟩) rfl rfl).symm

end Cert.Kernel19Ideal.Forward

end
-- ==== Proof.Forward.Walk.lean ====
/-
  The grid's walk: after each point the running numbers of its two heads' rows are those of the keys seen so far, and the
  last point of a row of tiles writes the attention's result and the log-sum-exp.
-/
module

public import proofs.«01_k».proof.Proof.Forward.Entries
public import proofs.«01_k».proof.Proof.Flash.KerHost
public import proofs.«01_k».proof.Proof.Flash.Value

@[expose] public section

set_option maxRecDepth 16384

noncomputable section

namespace Cert.Kernel19Ideal.Forward

open Idealize.ShloMosaic hiding ix1 ix2 ix3 ix4 ix5 eq_ix1 eq_ix2 eq_ix3 eq_ix4
open Idealize.ShloMosaic.ValueIdx Idealize.ShloMosaic.TcCoe
open Cert.Kernel19Ideal.Gen Cert.Kernel19Ideal.Value
open Cert.KernelIdeal.Flash (at2 at3 at3_pos at2_pos at3_idx at2_idx at3_co hLse hLse_apply hM_real)
open Cert.Attention
open Finset (range)

theorem lt_N (t : Fin cfg0.N) : t.val < 128 := Nat.lt_of_lt_of_eq t.isLt N_0

/-! ## Where the blocks lie -/

theorem idx0 : ∀ t : Fin cfg0.N, win0_0.index t = ![t.val / 16, t.val / 4 % 4, 0] := (by decide +kernel : ∀ t : Fin grid0.N, _)
theorem idx1 : ∀ t : Fin cfg0.N, win0_1.index t = ![t.val / 16, min (t.val / 4 % 4) (t.val % 4), 0] := (by decide +kernel : ∀ t : Fin grid0.N, _)
theorem idx2 : ∀ t : Fin cfg0.N, win0_2.index t = ![t.val / 16, min (t.val / 4 % 4) (t.val % 4), 0] := (by decide +kernel : ∀ t : Fin grid0.N, _)

theorem emb0 (t : Fin cfg0.N) (y : S2x1024x256.Idx) :
    (((win0_0.blk t).view.emb y : S16x4096x256.Idx) 0).val = 2 * (t.val / 16) + (y 0).val
    ∧ (((win0_0.blk t).view.emb y : S16x4096x256.Idx) 1).val = 1024 * (t.val / 4 % 4) + (y 1).val
    ∧ (((win0_0.blk t).view.emb y : S16x4096x256.Idx) 2).val = (y 2).val := by
  refine ⟨?_, ?_, ?_⟩
  · show win0_0.index t 0 * 2 + 1 * (y 0).val = _
    rw [idx0 t]; show t.val / 16 * 2 + 1 * (y 0).val = _; omega
  · show win0_0.index t 1 * 1024 + 1 * (y 1).val = _
    rw [idx0 t]; show (t.val / 4 % 4) * 1024 + 1 * (y 1).val = _; omega
  · show win0_0.index t 2 * 256 + 1 * (y 2).val = _
    rw [idx0 t]; show 0 * 256 + 1 * (y 2).val = _; omega
theorem emb1 (t : Fin cfg0.N) (y : S2x1024x256.Idx) :
    (((win0_1.blk t).view.emb y : S16x4096x256.Idx) 0).val = 2 * (t.val / 16) + (y 0).val
    ∧ (((win0_1.blk t).view.emb y : S16x4096x256.Idx) 1).val = 1024 * min (t.val / 4 % 4) (t.val % 4) + (y 1).val
    ∧ (((win0_1.blk t).view.emb y : S16x4096x256.Idx) 2).val = (y 2).val := by
  refine ⟨?_, ?_, ?_⟩
  · show win0_1.index t 0 * 2 + 1 * (y 0).val = _
    rw [idx1 t]; show t.val / 16 * 2 + 1 * (y 0).val = _; omega
  · show win0_1.index t 1 * 1024 + 1 * (y 1).val = _
    rw [idx1 t]; show min (t.val / 4 % 4) (t.val % 4) * 1024 + 1 * (y 1).val = _; omega
  · show win0_1.index t 2 * 256 + 1 * (y 2).val = _
    rw [idx1 t]; show 0 * 256 + 1 * (y 2).val = _; omega
theorem emb2 (t : Fin cfg0.N) (y : S2x1024x128.Idx) :
    (((win0_2.blk t).view.emb y : S16x4096x128.Idx) 0).val = 2 * (t.val / 16) + (y 0).val
    ∧ (((win0_2.blk t).view.emb y : S16x4096x128.Idx) 1).val = 1024 * min (t.val / 4 % 4) (t.val % 4) + (y 1).val
    ∧ (((win0_2.blk t).view.emb y : S16x4096x128.Idx) 2).val = (y 2).val := by
  refine ⟨?_, ?_, ?_⟩
  · show win0_2.index t 0 * 2 + 1 * (y 0).val = _
    rw [idx2 t]; show t.val / 16 * 2 + 1 * (y 0).val = _; omega
  · show win0_2.index t 1 * 1024 + 1 * (y 1).val = _
    rw [idx2 t]; show min (t.val / 4 % 4) (t.val % 4) * 1024 + 1 * (y 1).val = _; omega
  · show win0_2.index t 2 * 128 + 1 * (y 2).val = _
    rw [idx2 t]; show 0 * 128 + 1 * (y 2).val = _; omega

variable (m : (ℓ : Loc nD τ sig) → Buf (Elt Ideal) ℓ) (c : Dev nD)

theorem blk0 (B : (b : Ref sig .tc) → Buf (Elt Ideal) ((c : Thread nD τ).loc b)) (t : Fin cfg0.N) :
    ((cfg0.win 0).blk t).view.read (Elt Ideal) (B (Pipeline.arrRef spec0 0)) = fun y => B main_arg0 ((win0_0.blk t).view.emb y) := rfl
theorem blk1 (B : (b : Ref sig .tc) → Buf (Elt Ideal) ((c : Thread nD τ).loc b)) (t : Fin cfg0.N) :
    ((cfg0.win 1).blk t).view.read (Elt Ideal) (B (Pipeline.arrRef spec0 1)) = fun y => B main_arg1 ((win0_1.blk t).view.emb y) := rfl
theorem blk2 (B : (b : Ref sig .tc) → Buf (Elt Ideal) ((c : Thread nD τ).loc b)) (t : Fin cfg0.N) :
    ((cfg0.win 2).blk t).view.read (Elt Ideal) (B (Pipeline.arrRef spec0 2)) = fun y => B main_arg2 ((win0_2.blk t).view.emb y) := rfl

theorem read_q (t : Fin cfg0.N) (a : Fin 2) {r x : ℕ} (hr : r < 1024) (hx : x < 256) :
    at3 (blkQ m c t) a.val r x = at3 (A := 16) (B := 4096) (C := 256) (m ((c : Thread nD τ).loc main_arg0)) (2 * (t.val / 16) + a.val) (1024 * (t.val / 4 % 4) + r) x := by
  have e : blkQ m c t = fun y => (m ((c : Thread nD τ).loc main_arg0) : S16x4096x256.Idx → EReal) ((win0_0.blk t).view.emb y) := by
    unfold blkQ iblk
    exact (blk0 c (V m c) t).trans (by rw [V_main_arg0])
  rw [e]
  refine (at3_pos _ a.isLt hr hx).trans ((at3_idx (A := 16) (B := 4096) (C := 256) _ _).trans ?_)
  obtain ⟨h0, h1, h2⟩ := emb0 t (ix3 ⟨a.val, a.isLt⟩ ⟨r, hr⟩ ⟨x, hx⟩)
  rw [h0, h1, h2]
theorem read_k (t : Fin cfg0.N) (a : Fin 2) {r x : ℕ} (hr : r < 1024) (hx : x < 256) :
    at3 (blkK m c t) a.val r x = at3 (A := 16) (B := 4096) (C := 256) (m ((c : Thread nD τ).loc main_arg1)) (2 * (t.val / 16) + a.val) (1024 * min (t.val / 4 % 4) (t.val % 4) + r) x := by
  have e : blkK m c t = fun y => (m ((c : Thread nD τ).loc main_arg1) : S16x4096x256.Idx → EReal) ((win0_1.blk t).view.emb y) := by
    unfold blkK iblk
    exact (blk1 c (V m c) t).trans (by rw [V_main_arg1])
  rw [e]
  refine (at3_pos _ a.isLt hr hx).trans ((at3_idx (A := 16) (B := 4096) (C := 256) _ _).trans ?_)
  obtain ⟨h0, h1, h2⟩ := emb1 t (ix3 ⟨a.val, a.isLt⟩ ⟨r, hr⟩ ⟨x, hx⟩)
  rw [h0, h1, h2]
theorem read_v (t : Fin cfg0.N) (a : Fin 2) {r x : ℕ} (hr : r < 1024) (hx : x < 128) :
    at3 (blkV m c t) a.val r x = at3 (A := 16) (B := 4096) (C := 128) (m ((c : Thread nD τ).loc main_arg2)) (2 * (t.val / 16) + a.val) (1024 * min (t.val / 4 % 4) (t.val % 4) + r) x := by
  have e : blkV m c t = fun y => (m ((c : Thread nD τ).loc main_arg2) : S16x4096x128.Idx → EReal) ((win0_2.blk t).view.emb y) := by
    unfold blkV iblk
    exact (blk2 c (V m c) t).trans (by rw [V_main_arg2])
  rw [e]
  refine (at3_pos _ a.isLt hr hx).trans ((at3_idx (A := 16) (B := 4096) (C := 128) _ _).trans ?_)
  obtain ⟨h0, h1, h2⟩ := emb2 t (ix3 ⟨a.val, a.isLt⟩ ⟨r, hr⟩ ⟨x, hx⟩)
  rw [h0, h1, h2]

/-! ## The walk -/

section Walk
variable {q k : S16x4096x256.Idx → ℝ} {v : S16x4096x128.Idx → EReal}
  (hq : m ((c : Thread nD τ).loc main_arg0) = co q) (hk : m ((c : Thread nD τ).loc main_arg1) = co k) (hv : m ((c : Thread nD τ).loc main_arg2) = v)

/-- The values of a head. -/
def vals (v : S16x4096x128.Idx → EReal) (h : Fin 16) (j x : ℕ) : EReal := at3 (A := 16) (B := 4096) (C := 128) v h.val j x

/-- The running numbers after the keys seen at point `n`. -/
def Held (q k : S16x4096x256.Idx → ℝ) (v : S16x4096x128.Idx → EReal) (n : ℕ) (M L A : Blk) : Prop :=
  ∀ (a : Fin 2) (r : ℕ) (h : Fin 16) (R : Fin 4096), r < 1024 → h.val = 2 * (n / 16) + a.val → R.val = 1024 * (n / 4 % 4) + r →
    Sofar R.val (ext (score q k h R)) (vals v h) (1024 * (min (n / 4 % 4) (n % 4) + 1)) (at3 M a.val r) (at3 L a.val r) (at3 A a.val r)

include hq hk in
theorem tile_scores (t : Fin cfg0.N) (d : Bool) (hd : if d then t.val / 4 % 4 = t.val % 4 else t.val % 4 + 1 ≤ t.val / 4 % 4) (a : Fin 2) {r : ℕ} (hr : r < 1024)
    (h : Fin 16) (R : Fin 4096) (eh : h.val = 2 * (t.val / 16) + a.val) (eR : R.val = 1024 * (t.val / 4 % 4) + r) (j : Fin 1024) :
    at2 (tile d (blkQ m c t) (blkK m c t) a) r j.val = held R.val (ext (score q k h R)) (1024 * (t.val % 4) + j.val) := by
  have hj := j.isLt
  have hmin : min (t.val / 4 % 4) (t.val % 4) = t.val % 4 := by cases d <;> simp at hd <;> omega
  have hlt : 1024 * (t.val % 4) + j.val < 4096 := by omega
  rw [at2_tile d _ _ a hr hj]
  unfold held
  refine if_congr ?_ ?_ rfl
  · cases d <;> simp at hd ⊢ <;> omega
  · have e := ext_fin (score q k h R) ⟨1024 * (t.val % 4) + j.val, hlt⟩
    rw [show ext (score q k h R) (1024 * (t.val % 4) + j.val) = _ from e, score, ← coe_sum, Finset.sum_range]
    refine Finset.sum_congr rfl fun x _ => ?_
    rw [read_q m c t a hr x.isLt, read_k m c t a hj x.isLt, hq, hk, hmin, ← eh, ← eR, EReal.coe_mul]
    exact congrArg₂ (· * ·) (at3_co q h R x) (at3_co k h ⟨1024 * (t.val % 4) + j.val, hlt⟩ x)

include hq hk hv in
/-- A point whose tile is added. -/
theorem held_step (t : Fin cfg0.N) (d : Bool) (hd : if d then t.val / 4 % 4 = t.val % 4 else t.val % 4 + 1 ≤ t.val / 4 % 4) (M L A : Blk)
    (hp : (t.val % 4 = 0 ∧ M = firstM ∧ L = firstL ∧ A = firstA) ∨ (t.val % 4 ≠ 0 ∧ Held q k v (t.val - 1) M L A)) :
    Held q k v t.val (stepM d (blkQ m c t) (blkK m c t) M) (stepL d (blkQ m c t) (blkK m c t) M L) (stepA d (blkQ m c t) (blkK m c t) (blkV m c t) M A) := by
  intro a r h R hr eh eR
  have hmin : min (t.val / 4 % 4) (t.val % 4) = t.val % 4 := by cases d <;> simp at hd <;> omega
  rw [hmin, Nat.mul_add, Nat.mul_one]
  refine row_step d _ _ _ M L A a hr ?_ (tile_scores m c hq hk t d hd a hr h R eh eR) (fun j x hx => ?_)
  · rcases hp with ⟨h0, rfl, rfl, rfl⟩ | ⟨h0, hp⟩
    · exact .inr ⟨by omega, fresh_first a hr⟩
    · refine .inl ?_
      have := hp a r h R hr (by omega) (by omega)
      have e1 : (t.val - 1) / 4 = t.val / 4 := by omega
      have e2 : (t.val - 1) % 4 + 1 = t.val % 4 := by omega
      rwa [show 1024 * (min ((t.val - 1) / 4 % 4) ((t.val - 1) % 4) + 1) = 1024 * (t.val % 4) by rw [e1]; omega] at this
  · rw [read_v m c t a j.isLt hx, hv, hmin, ← eh]; rfl

theorem held_idle {n : ℕ} (h0 : n % 4 ≠ 0) (h1 : ¬ n % 4 + 1 ≤ n / 4 % 4) (h2 : ¬ n / 4 % 4 = n % 4) {M L A : Blk} (hp : Held q k v (n - 1) M L A) : Held q k v n M L A := by
  intro a r h R hr eh eR
  have := hp a r h R hr (by omega) (by omega)
  rwa [show 1024 * (min ((n - 1) / 4 % 4) ((n - 1) % 4) + 1) = 1024 * (min (n / 4 % 4) (n % 4) + 1) by omega] at this

include hq hk hv in
theorem walk_step (t : Fin cfg0.N) (acc : Carried) (hp : t.val % 4 ≠ 0 → Held q k v (t.val - 1) acc.2.2.1 acc.2.2.2.1 acc.2.2.2.2) :
    Held q k v t.val (stAt0 m c t.val t.isLt acc).2.2.1 (stAt0 m c t.val t.isLt acc).2.2.2.1 (stAt0 m c t.val t.isLt acc).2.2.2.2 := by
  by_cases h0 : t.val % 4 = 0
  · have h3 : ¬ t.val % 4 = 3 := by omega
    by_cases h1 : t.val % 4 + 1 ≤ t.val / 4 % 4
    · have h2 : ¬ t.val / 4 % 4 = t.val % 4 := by omega
      rw [m_D m c t acc h0 h1 h2 h3, l_D m c t acc h0 h1 h2 h3, a_D m c t acc h0 h1 h2 h3]
      exact held_step m c hq hk hv t false h1 _ _ _ (.inl ⟨h0, rfl, rfl, rfl⟩)
    · have h2 : t.val / 4 % 4 = t.val % 4 := by omega
      rw [m_A m c t acc h0 h1 h2 h3, l_A m c t acc h0 h1 h2 h3, a_A m c t acc h0 h1 h2 h3]
      exact held_step m c hq hk hv t true h2 _ _ _ (.inl ⟨h0, rfl, rfl, rfl⟩)
  · by_cases h1 : t.val % 4 + 1 ≤ t.val / 4 % 4
    · have h2 : ¬ t.val / 4 % 4 = t.val % 4 := by omega
      have h3 : ¬ t.val % 4 = 3 := by omega
      rw [m_F m c t acc h0 h1 h2 h3, l_F m c t acc h0 h1 h2 h3, a_F m c t acc h0 h1 h2 h3]
      exact held_step m c hq hk hv t false h1 _ _ _ (.inr ⟨h0, hp h0⟩)
    · by_cases h2 : t.val / 4 % 4 = t.val % 4
      · by_cases h3 : t.val % 4 = 3
        · rw [m_G m c t acc h0 h1 h2 h3, l_G m c t acc h0 h1 h2 h3, a_G m c t acc h0 h1 h2 h3]
          exact held_step m c hq hk hv t true h2 _ _ _ (.inr ⟨h0, hp h0⟩)
        · rw [m_E m c t acc h0 h1 h2 h3, l_E m c t acc h0 h1 h2 h3, a_E m c t acc h0 h1 h2 h3]
          exact held_step m c hq hk hv t true h2 _ _ _ (.inr ⟨h0, hp h0⟩)
      · by_cases h3 : t.val % 4 = 3
        · rw [m_C m c t acc h0 h1 h2 h3, l_C m c t acc h0 h1 h2 h3, a_C m c t acc h0 h1 h2 h3]
          exact held_idle h0 h1 h2 (hp h0)
        · rw [m_B m c t acc h0 h1 h2 h3, l_B m c t acc h0 h1 h2 h3, a_B m c t acc h0 h1 h2 h3]
          exact held_idle h0 h1 h2 (hp h0)

include hq hk hv in
theorem walk_at (n : ℕ) (hn : n < cfg0.N) (acc : Carried) (hp : n % 4 ≠ 0 → Held q k v (n - 1) acc.2.2.1 acc.2.2.2.1 acc.2.2.2.2) :
    Held q k v n (stAt0 m c n hn acc).2.2.1 (stAt0 m c n hn acc).2.2.2.1 (stAt0 m c n hn acc).2.2.2.2 :=
  walk_step m c hq hk hv ⟨n, hn⟩ acc hp

include hq hk hv in
theorem walk (n : ℕ) (hn : n < cfg0.N) : Held q k v n (outsAt0 m c n hn).2.2.1 (outsAt0 m c n hn).2.2.2.1 (outsAt0 m c n hn).2.2.2.2 := by
  induction n with
  | zero => rw [outsAt0_zero]; exact walk_at m c hq hk hv 0 hn _ (fun h => absurd (Nat.zero_mod 4) h)
  | succ n ih =>
    have e := ih (Nat.lt_of_succ_lt hn)
    rw [outsAt0_succ]
    generalize outsAt0 m c n (Nat.lt_of_succ_lt hn) = acc at e ⊢
    refine walk_at m c hq hk hv (n + 1) hn acc (fun _ => ?_)
    rw [Nat.add_sub_cancel]
    exact e

end Walk

/-! ## What the last point of a row of tiles writes -/

theorem wrote_o (t : Fin cfg0.N) (acc : Carried) (h3 : t.val % 4 = 3) (a : Fin 2) {r x : ℕ} (hr : r < 1024) (hx : x < 128) :
    at2 (A := 1024) (B := 256) (stAt0 m c t.val t.isLt acc).1 r (128 * a.val + x)
      = Ideal.div (at3 (A := 2) (B := 1024) (C := 128) (stAt0 m c t.val t.isLt acc).2.2.2.2 a.val r x) (at3 (A := 2) (B := 1024) (C := 128) (stAt0 m c t.val t.isLt acc).2.2.2.1 a.val r x) := by
  have h0 : ¬ t.val % 4 = 0 := by omega
  have h1 : ¬ t.val % 4 + 1 ≤ t.val / 4 % 4 := by omega
  by_cases h2 : t.val / 4 % 4 = t.val % 4
  · rw [o_G m c t acc h0 h1 h2 h3, l_G m c t acc h0 h1 h2 h3, a_G m c t acc h0 h1 h2 h3, at2_sides _ a hr hx, at2_quot _ _ hr hx]
    unfold stepL stepA
    rw [at3_both _ a hr hx, at3_both _ a hr hx]
  · rw [o_C m c t acc h0 h1 h2 h3, l_C m c t acc h0 h1 h2 h3, a_C m c t acc h0 h1 h2 h3, at2_sides _ a hr hx, at2_quot _ _ hr hx, at3_head _ a hr hx, at3_head _ a hr hx]

theorem wrote_lse (t : Fin cfg0.N) (acc : Carried) (h3 : t.val % 4 = 3) (a : Fin 2) {r x : ℕ} (hr : r < 1024) (hx : x < 128) :
    at3 (A := 2) (B := 1024) (C := 128) (stAt0 m c t.val t.isLt acc).2.1 a.val r x
      = at3 (A := 2) (B := 1024) (C := 128) (stAt0 m c t.val t.isLt acc).2.2.1 a.val r x + Ideal.log (at3 (A := 2) (B := 1024) (C := 128) (stAt0 m c t.val t.isLt acc).2.2.2.1 a.val r x) := by
  have h0 : ¬ t.val % 4 = 0 := by omega
  have h1 : ¬ t.val % 4 + 1 ≤ t.val / 4 % 4 := by omega
  by_cases h2 : t.val / 4 % 4 = t.val % 4
  · rw [lse_G m c t acc h0 h1 h2 h3, l_G m c t acc h0 h1 h2 h3, m_G m c t acc h0 h1 h2 h3, at3_both _ a hr hx, at3_logSum _ _ hr hx]
    unfold stepL stepM
    rw [at3_both _ a hr hx, at3_both _ a hr hx]
  · rw [lse_C m c t acc h0 h1 h2 h3, l_C m c t acc h0 h1 h2 h3, m_C m c t acc h0 h1 h2 h3, at3_both _ a hr hx, at3_logSum _ _ hr hx, at3_head _ a hr hx, at3_head _ a hr hx]

/-! ## The arrays in the end -/

section Arrays
variable {q k : S16x4096x256.Idx → ℝ} {v : S16x4096x128.Idx → EReal}
  (hq : m ((c : Thread nD τ).loc main_arg0) = co q) (hk : m ((c : Thread nD τ).loc main_arg1) = co k) (hv : m ((c : Thread nD τ).loc main_arg2) = v)
include hq hk hv

/-- The point that writes a row's results, and what it holds then. -/
theorem at_last (h : Fin 16) (R : Fin 4096) (n : ℕ) (en : n = 4 * (R.val / 1024 + 4 * (h.val / 2)) + 3) (hn : n < cfg0.N) :
    Sofar R.val (ext (score q k h R)) (vals v h) 4096 (at3 (A := 2) (B := 1024) (C := 128) (outsAt0 m c n hn).2.2.1 (h.val % 2) (R.val % 1024))
      (at3 (A := 2) (B := 1024) (C := 128) (outsAt0 m c n hn).2.2.2.1 (h.val % 2) (R.val % 1024)) (at3 (A := 2) (B := 1024) (C := 128) (outsAt0 m c n hn).2.2.2.2 (h.val % 2) (R.val % 1024)) := by
  have hh := h.isLt
  have hR := R.isLt
  have e := walk m c hq hk hv n hn ⟨h.val % 2, Nat.mod_lt _ (by decide)⟩ (R.val % 1024) h R (Nat.mod_lt _ (by decide)) (by show h.val = 2 * (n / 16) + h.val % 2; omega) (by omega)
  exact e.more (by omega) (by omega)

theorem outs_last (n : ℕ) (hn : n < cfg0.N) : ∃ acc : Carried, outsAt0 m c n hn = stAt0 m c n hn acc := by
  cases n with
  | zero => exact ⟨_, outsAt0_zero m c hn⟩
  | succ n => exact ⟨_, outsAt0_succ m c n hn⟩

theorem out_o (h : Fin 16) (R : Fin 4096) (x : Fin 128) :
    (G3 m c : S4096x2048.Idx → EReal) (ix2 R (headCol h x)) = ∑ j : Fin 4096, v (ix3 h j x) * ((soft q k h R j : ℝ) : EReal) := by
  have hh := h.isLt
  have hR := R.isLt
  have hx := x.isLt
  have ep : pt3Of (ix2 R (headCol h x)) = 4 * (R.val / 1024 + 4 * (h.val / 2)) + 3 := by
    show 4 * (1 * (R.val / 1024 - 0) + 4 * ((128 * h.val + x.val) / 256 - 0)) + 3 = _
    omega
  have hn : pt3Of (ix2 R (headCol h x)) < cfg0.N := by rw [show cfg0.N = 128 from N_0, ep]; omega
  unfold G3
  rw [dif_pos hn, ← outsAt0_sweep m c _ hn]
  generalize pt3Of (ix2 R (headCol h x)) = n at ep hn
  obtain ⟨acc, e⟩ := outs_last m c hq hk hv n hn
  have key := at_last m c hq hk hv h R n ep hn
  have ew := wrote_o m c ⟨n, hn⟩ acc (by show n % 4 = 3; omega) ⟨h.val % 2, Nat.mod_lt _ (by decide)⟩ (r := R.val % 1024) (x := x.val) (Nat.mod_lt _ (by decide)) hx
  refine (at2_idx (A := 1024) (B := 256) _ (loc3Of (ix2 R (headCol h x)))).trans ?_
  have e1 : ((loc3Of (ix2 R (headCol h x)) : S1024x256.Idx) 1).val = 128 * (h.val % 2) + x.val := by
    show (128 * h.val + x.val) % 256 = _; omega
  rw [e1]
  rw [e] at key ⊢
  refine ew.trans ((quot_last R (score q k h R) key hx).trans (Finset.sum_congr rfl fun j _ => ?_))
  exact congrArg (· * ((soft q k h R j : ℝ) : EReal)) (at3_idx (A := 16) (B := 4096) (C := 128) v (ix3 h j x)).symm

theorem out_lse (h : Fin 16) (R : Fin 4096) (x : Fin 128) :
    (G4 m c : S16x4096x128.Idx → EReal) (ix3 h R x) = hLse (F := Ideal) (co q) (co k) (ix3 h R x) := by
  have hh := h.isLt
  have hR := R.isLt
  have hx := x.isLt
  have ep : pt4Of (ix3 h R x) = 4 * (R.val / 1024 + 4 * (h.val / 2)) + 3 := by
    show 4 * (4 * (h.val / 2 - 0) + 1 * (R.val / 1024 - 0) + 1 * (x.val / 128 - 0)) + 3 = _
    omega
  have hn : pt4Of (ix3 h R x) < cfg0.N := by rw [show cfg0.N = 128 from N_0, ep]; omega
  unfold G4
  rw [dif_pos hn, ← outsAt0_sweep m c _ hn]
  generalize pt4Of (ix3 h R x) = n at ep hn
  obtain ⟨acc, e⟩ := outs_last m c hq hk hv n hn
  have key := at_last m c hq hk hv h R n ep hn
  have ew := wrote_lse m c ⟨n, hn⟩ acc (by show n % 4 = 3; omega) ⟨h.val % 2, Nat.mod_lt _ (by decide)⟩ (r := R.val % 1024) (x := x.val) (Nat.mod_lt _ (by decide)) hx
  refine (at3_idx (A := 2) (B := 1024) (C := 128) _ (loc4Of (ix3 h R x))).trans ?_
  have e2 : ((loc4Of (ix3 h R x) : S2x1024x128.Idx) 2).val = x.val := by
    show x.val % 128 = _; omega
  rw [e2]
  rw [e] at key ⊢
  obtain ⟨μ, hμ⟩ := hM_real q k h R
  refine ew.trans ((lse_last R (score q k h R) key μ hx).trans (hLse_apply q k h R x hμ).symm)
end Arrays

end Cert.Kernel19Ideal.Forward

end
-- ==== Proof.Forward.Final.lean ====
/-
  Both programs of the forward attention from finite scores: equal results, whatever the values are.
-/
module

public import proofs.«01_k».proof.Defs
public import proofs.«01_k».proof.Proof.Gen.Kernel19Ideal
public import proofs.«01_k».proof.Proof.Gen.Reference19Ideal
public import proofs.«01_k».proof.Proof.Gen.Reference19Ideal.Run
public import proofs.«01_k».proof.Proof.Gen.Pre_finite_scores
public import proofs.«01_k».proof.Proof.Forward.Walk
public import proofs.«01_k».proof.Proof.Flash.Finite

@[expose] public section

set_option maxRecDepth 16384

noncomputable section

namespace Cert.Pre_finite_scores

open Idealize.ShloMosaic Cert.Attention

variable [Facts]
open Facts

/-- The precondition makes the queries and keys real. -/
theorem real_args (q k : FVec Ideal S16x4096x256 .bf16) (v : FVec Ideal S16x4096x128 .bf16) (h : fn (F := Ideal) q k v = fun _ => 1#1) :
    (∃ q' : S16x4096x256.Idx → ℝ, q = co q') ∧ ∃ k' : S16x4096x256.Idx → ℝ, k = co k' := by
  have e := congrFun h (fun d => d.elim0)
  unfold fn at e
  obtain ⟨e0, e1⟩ := IntOp.andi_eq_one.1 e
  exact ⟨⟨_, Cert.Pre_finite.real_of_all q _ _ _ _ _ e0⟩, ⟨_, Cert.Pre_finite.real_of_all k _ _ _ _ _ e1⟩⟩

end Cert.Pre_finite_scores

namespace Cert.KernelIdeal.Flash

open Cert.KernelIdeal.Gen Cert.Attention
open Idealize.ShloMosaic hiding ix1 ix2 ix3 ix4 ix5 eq_ix1 eq_ix2 eq_ix3 eq_ix4
open Idealize.ShloMosaic.TcCoe Idealize.ShloMosaic.ValueIdx

/-- The attention's result with values of any kind. -/
theorem hO_any (q k : S16x4096x256.Idx → ℝ) (v : S16x4096x128.Idx → EReal) (h : Fin 16) (r : Fin 4096) (x : Fin 128) :
    hO (F := Ideal) (co q) (co k) v (ix2 r (headCol h x)) = ∑ c : Fin 4096, v (ix3 h c x) * ((soft q k h r c : ℝ) : EReal) := by
  unfold hO
  rw [truncf_apply]
  refine (unheads_apply (H := 16) (M := 4096) (W := 128) _ _ _ h x r (headCol h x).isLt).trans ?_
  refine (dot_122100 _ v _ h x r).trans ?_
  refine Finset.sum_congr rfl fun c _ => ?_
  obtain ⟨μ, hμ⟩ := hN_real q k h r
  refine congrArg (v (ix3 h c x) * ·) ?_
  refine Eq.trans ?_ (div_weight (fun c : Fin 4096 => c.val ≤ r.val) (score q k h r) μ (k₀ := r) (le_refl _) c)
  show Ideal.div (hE (F := Ideal) (co q) (co k) _ (ix3 h r c)) _ = _
  rw [hE_apply q k _ h r c hμ, spread_apply _ _ _ (by decide) (by decide), hL_apply q k _ h r hμ]

end Cert.KernelIdeal.Flash

namespace Cert.Kernel19Ideal

open Cert.Kernel19Ideal.Gen Cert.Kernel19Ideal.Value Cert.Attention Idealize.SL.Sem
open Idealize.ShloMosaic hiding ix1 ix2 ix3 ix4 ix5 eq_ix1 eq_ix2 eq_ix3 eq_ix4
open Idealize.ShloMosaic.TcCoe Idealize.ShloMosaic.ValueIdx
open Cert.KernelIdeal.Flash (hO hLse hO_any hL hE hN hM hS keepMask)

/-- The reference's two results by name. -/
theorem reference_values (m : (ℓ : Loc Cert.Reference19Ideal.nD Cert.Reference19Ideal.τ Cert.Reference19Ideal.sig) → Buf (Elt Ideal) ℓ) (ρ : Dev Cert.Reference19Ideal.nD → PrngReg) :
    θ_run Cert.Reference19Ideal.defs (onTc (τ := Cert.Reference19Ideal.τ) (Cert.Reference19Ideal.main (F := Ideal))) ⟨m, fun _ => 0, ρ⟩ fun r => ∀ c : Dev Cert.Reference19Ideal.nD,
      r.2.mem ((c.tc : Thread _ _).loc Cert.Reference19Ideal.main_v43) = hO (F := Ideal) (m ((c.tc : Thread _ _).loc Cert.Reference19Ideal.main_arg0)) (m ((c.tc : Thread _ _).loc Cert.Reference19Ideal.main_arg1)) (m ((c.tc : Thread _ _).loc Cert.Reference19Ideal.main_arg2))
      ∧ r.2.mem ((c.tc : Thread _ _).loc Cert.Reference19Ideal.main_v42) = hLse (F := Ideal) (m ((c.tc : Thread _ _).loc Cert.Reference19Ideal.main_arg0)) (m ((c.tc : Thread _ _).loc Cert.Reference19Ideal.main_arg1))
      ∧ r.2.mem ((c.tc : Thread _ _).loc Cert.Reference19Ideal.main_arg0) = m ((c.tc : Thread _ _).loc Cert.Reference19Ideal.main_arg0)
      ∧ r.2.mem ((c.tc : Thread _ _).loc Cert.Reference19Ideal.main_arg1) = m ((c.tc : Thread _ _).loc Cert.Reference19Ideal.main_arg1)
      ∧ r.2.mem ((c.tc : Thread _ _).loc Cert.Reference19Ideal.main_arg2) = m ((c.tc : Thread _ _).loc Cert.Reference19Ideal.main_arg2) := by
  refine (θ_run Cert.Reference19Ideal.defs _ _).mono (fun r h c => ⟨((h c).1).trans ?_, ((h c).2.1).trans ?_, (h c).2.2⟩) (Cert.Reference19Ideal.Value.run (F := Ideal) m ρ)
  · unfold Cert.Reference19Ideal.Value.res_main_v43 hO hL hE hN hM hS keepMask
    rfl
  · unfold hLse hL hE hM hS keepMask
    rfl

section
variable {q k : S16x4096x256.Idx → ℝ} {v : S16x4096x128.Idx → EReal} (m : (ℓ : Loc nD τ sig) → Buf (Elt Ideal) ℓ) (c : Dev nD)
  (hq : m ((c : Thread nD τ).loc main_arg0) = co q) (hk : m ((c : Thread nD τ).loc main_arg1) = co k) (hv : m ((c : Thread nD τ).loc main_arg2) = v)
include hq hk hv

theorem same_o : (G3 m c : S4096x2048.Idx → EReal) = hO (F := Ideal) (co q) (co k) v := by
  funext i
  have h0 : (i 0).val < 4096 := (i 0).isLt
  have h1 : (i 1).val < 2048 := (i 1).isLt
  have hh : (i 1).val / 128 < 16 := by omega
  have hx : (i 1).val % 128 < 128 := Nat.mod_lt _ (by decide)
  have e : i = ix2 (n0 := 4096) (n1 := 2048) ⟨(i 0).val, h0⟩ (headCol ⟨(i 1).val / 128, hh⟩ ⟨(i 1).val % 128, hx⟩) := by
    refine (eq_ix2 i).trans (congrArg (ix2 (i 0)) (Fin.ext ?_))
    show (i 1).val = 128 * ((i 1).val / 128) + (i 1).val % 128
    omega
  exact (congrArg (G3 m c : S4096x2048.Idx → EReal) e).trans (((Forward.out_o m c hq hk hv _ _ _).trans (hO_any q k v _ _ _).symm).trans (congrArg (hO (F := Ideal) (co q) (co k) v) e).symm)

theorem same_lse : (G4 m c : S16x4096x128.Idx → EReal) = hLse (F := Ideal) (co q) (co k) := by
  funext i
  rw [eq_ix3 i]
  exact Forward.out_lse m c hq hk hv _ _ _
end

/-- From finite queries and keys both programs end with the same result and the same log-sum-exp. -/
theorem equal : Cert.algebraic_Kernel19Ideal_Reference19Ideal_pre_finite_scores (hKernel19Ideal := Gen.facts) (hReference19Ideal := Cert.Reference19Ideal.Gen.facts)
    (hPre_finite_scores := Cert.Pre_finite_scores.Gen.facts) := by
  intro m ρ m' ρ' pre agree
  refine ⟨fun c => hO (F := Ideal) (m ((c.tc : Thread nD τ).loc main_arg0)) (m ((c.tc : Thread nD τ).loc main_arg1)) (m ((c.tc : Thread nD τ).loc main_arg2)),
    fun c => hLse (F := Ideal) (m ((c.tc : Thread nD τ).loc main_arg0)) (m ((c.tc : Thread nD τ).loc main_arg1)), ?_, ?_⟩
  · refine (θ_run defs _ _).mono (fun r h c => ?_) (Value.run (F := Ideal) m ρ)
    obtain ⟨⟨q, hq⟩, ⟨k, hk⟩⟩ := Cert.Pre_finite_scores.real_args _ _ _ (pre c)
    refine ⟨((h c).1).trans ?_, ((h c).2.1).trans ?_, (h c).2.2⟩
    · beta_reduce; rw [hq, hk]; exact same_o m c hq hk rfl
    · beta_reduce; rw [hq, hk]; exact same_lse m c hq hk rfl
  · refine (θ_run Cert.Reference19Ideal.defs _ _).mono (fun r h c => ⟨((h c).1).trans ?_, ((h c).2.1).trans ?_, (h c).2.2⟩) (reference_values m' ρ')
    · beta_reduce; rw [(agree c).1, (agree c).2.1, (agree c).2.2]
    · beta_reduce; rw [(agree c).1, (agree c).2.1]

/-- The reference runs and leaves its arguments unchanged. -/
theorem reference_runs : Cert.quiescent_Reference19Ideal (hReference19Ideal := Cert.Reference19Ideal.Gen.facts) :=
  fun m ρ _ => (θ_run Cert.Reference19Ideal.defs _ _).mono (fun r h => ⟨fun c => (h c).2.2, sem_eq_zero_of_no_sems (by decide) r.2⟩)
    (Cert.Reference19Ideal.Value.run (F := Ideal) m ρ)

end Cert.Kernel19Ideal

end
-- ==== Proof.lean ====
/- The proof of the certificate: each program runs and leaves its arguments as they were, the idealized program keeps
   the value its one named constant is given, and from finite arguments it ends with the reference's results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Flash.Run
public import proofs.«01_k».proof.Proof.Flash.Twin
public import proofs.«01_k».proof.Proof.Flash.Final
public import proofs.«01_k».proof.Proof.Flash.Finite
public import proofs.«01_k».proof.Proof.Products.Weights
public import proofs.«01_k».proof.Proof.Products.Groups
public import proofs.«01_k».proof.Proof.Update.Weights
public import proofs.«01_k».proof.Proof.Products.Inputs
public import proofs.«01_k».proof.Proof.Products.Layers
public import proofs.«01_k».proof.Proof.Products.Added
public import proofs.«01_k».proof.Proof.Products.Summed
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Pre_finite_scores
public import proofs.«01_k».proof.Proof.Forward.Final
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run

@[expose] public section

noncomputable section

namespace Cert.Proof

open Idealize.ShloMosaic Idealize.SL.Sem

/-- The reference runs and leaves its arguments unchanged. -/
theorem frame_reference : Cert.quiescent_ReferenceIdeal (hReferenceIdeal := Cert.ReferenceIdeal.Gen.facts) :=
  fun m ρ _ => (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

/-- From finite arguments the kernel and the reference end with the same gradients of the queries, keys and values. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' pre agree
  refine ⟨fun c => Cert.ReferenceIdeal.Value.rDq (F := Ideal) (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)),
    fun c => Cert.ReferenceIdeal.Value.rDk (F := Ideal) (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)),
    fun c => Cert.ReferenceIdeal.Value.rDv (F := Ideal) (m ((c.tc : Thread _ _).loc Cert.KernelIdeal.main_arg0)) (m ((c.tc : Thread _ _).loc Cert.KernelIdeal.main_arg1)) (m ((c.tc : Thread _ _).loc Cert.KernelIdeal.main_arg3)), ?_, ?_⟩
  · refine (θ_run Cert.KernelIdeal.defs _ _).mono (fun r h c => ?_) (θ_run_and (Cert.KernelIdeal.Flash.run_values m ρ) (Cert.KernelIdeal.Flash.frame m ρ))
    obtain ⟨⟨q, hq⟩, ⟨k, hk⟩, ⟨v, hv⟩, ⟨g, hg⟩⟩ := Cert.Pre_finite.real_args _ _ _ _ (pre c)
    refine ⟨((h.1 c).1).trans ?_, ((h.1 c).2.1).trans ?_, ((h.1 c).2.2).trans ?_, h.2.1 c⟩
    · beta_reduce; rw [hq, hk, hv, hg]; exact Cert.KernelIdeal.Flash.same_dq m c hq hk hv hg
    · beta_reduce; rw [hq, hk, hv, hg]; exact Cert.KernelIdeal.Flash.same_dk m c hq hk hv hg
    · beta_reduce; rw [hq, hk, hg]; exact Cert.KernelIdeal.Flash.same_dv m c hq hk hv hg
  · refine (θ_run Cert.ReferenceIdeal.defs _ _).mono (fun r h c => ?_) (Cert.ReferenceIdeal.Value.run (F := Ideal) m' ρ')
    obtain ⟨e0, e1, e2, e3⟩ := agree c
    refine ⟨((h c).1).trans ?_, ((h c).2.1).trans ?_, ((h c).2.2.1).trans ?_, (h c).2.2.2⟩
    · exact (Cert.ReferenceIdeal.Value.res0_eq m' c).trans (by rw [e0, e1, e2, e3])
    · exact (Cert.ReferenceIdeal.Value.res1_eq m' c).trans (by rw [e0, e1, e2, e3])
    · exact (Cert.ReferenceIdeal.Value.res2_eq m' c).trans (by rw [e0, e1, e3])

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_finite.Gen.facts, Cert.Pre_finite_scores.Gen.facts,
  fun m ρ _ => Cert.KernelIdeal.Flash.frame_words m ρ,
  fun m ρ _ => Cert.KernelIdeal.Flash.frame m ρ,
  fun m ρ _ => Cert.KernelIdeal.Flash.frame m ρ,
  frame_reference,
  fun m ρ _ => frame_reference m ρ trivial,
  fun m ρ _ => Cert.Kernel3.Gen.frame m ρ, fun m ρ _ => Cert.Kernel3Ideal.Gen.frame m ρ, Cert.Kernel3Ideal.reference_runs,
  fun m ρ _ => Cert.Kernel4.Gen.frame m ρ, fun m ρ _ => Cert.Kernel4Ideal.Gen.frame m ρ, Cert.Kernel4Ideal.reference_runs,
  fun m ρ _ => Cert.Kernel5.Gen.frame m ρ, fun m ρ _ => Cert.Kernel5Ideal.Gen.frame m ρ, Cert.Kernel5Ideal.reference_runs,
  fun m ρ _ => Cert.Kernel6.Gen.frame m ρ, fun m ρ _ => Cert.Kernel6Ideal.Gen.frame m ρ, Cert.Kernel6Ideal.reference_runs,
  fun m ρ _ => Cert.Kernel7.Gen.frame m ρ, fun m ρ _ => Cert.Kernel7Ideal.Gen.frame m ρ, Cert.Kernel7Ideal.reference_runs,
  fun m ρ _ => Cert.Kernel8.Gen.frame m ρ, fun m ρ _ => Cert.Kernel8Ideal.Gen.frame m ρ, Cert.Kernel8Ideal.reference_runs,
  fun m ρ _ => Cert.Kernel9.Gen.frame m ρ, fun m ρ _ => Cert.Kernel9Ideal.Gen.frame m ρ, Cert.Kernel9Ideal.reference_runs,
  fun m ρ _ => Cert.Kernel10.Gen.frame m ρ, fun m ρ _ => Cert.Kernel10Ideal.Gen.frame m ρ, Cert.Kernel10Ideal.reference_runs,
  fun m ρ _ => Cert.Kernel11.Gen.frame m ρ, fun m ρ _ => Cert.Kernel11Ideal.Gen.frame m ρ, Cert.Kernel11Ideal.reference_runs,
  fun m ρ _ => Cert.Kernel12.Gen.frame m ρ, fun m ρ _ => Cert.Kernel12Ideal.Gen.frame m ρ, Cert.Kernel12Ideal.reference_runs,
  fun m ρ _ => Cert.Kernel13.Gen.frame m ρ, fun m ρ _ => Cert.Kernel13Ideal.Gen.frame m ρ, Cert.Kernel13Ideal.reference_runs,
  fun m ρ _ => Cert.Kernel14.Gen.frame m ρ, fun m ρ _ => Cert.Kernel14Ideal.Gen.frame m ρ, Cert.Kernel14Ideal.reference_runs,
  fun m ρ _ => Cert.Kernel15.Gen.frame m ρ, fun m ρ _ => Cert.Kernel15Ideal.Gen.frame m ρ, Cert.Kernel15Ideal.reference_runs,
  fun m ρ _ => Cert.Kernel16.Gen.frame m ρ, fun m ρ _ => Cert.Kernel16Ideal.Gen.frame m ρ, Cert.Kernel16Ideal.reference_runs,
  fun m ρ _ => Cert.Kernel17.Gen.frame m ρ, fun m ρ _ => Cert.Kernel17Ideal.Gen.frame m ρ, Cert.Kernel17Ideal.reference_runs,
  fun m ρ _ => Cert.Kernel18.Gen.frame m ρ, fun m ρ _ => Cert.Kernel18Ideal.Gen.frame m ρ, Cert.Kernel18Ideal.reference_runs,
  fun m ρ _ => Cert.Kernel19.Gen.frame m ρ, fun m ρ _ => Cert.Kernel19Ideal.Gen.frame m ρ, fun m ρ _ => Cert.Kernel19Ideal.Gen.frame m ρ,
  Cert.Kernel19Ideal.reference_runs, fun m ρ _ => Cert.Kernel19Ideal.reference_runs m ρ trivial,
  fun m ρ _ => Cert.Kernel20.Gen.frame m ρ, fun m ρ _ => Cert.Kernel20Ideal.Gen.frame m ρ, Cert.Kernel20Ideal.reference_runs,
  fun m ρ _ => Cert.Kernel21.Gen.frame m ρ, fun m ρ _ => Cert.Kernel21Ideal.Gen.frame m ρ, Cert.Kernel21Ideal.reference_runs,
  fun m ρ _ => Cert.Kernel22.Gen.frame m ρ, fun m ρ _ => Cert.Kernel22Ideal.Gen.frame m ρ, Cert.Kernel22Ideal.reference_runs,
  fun m ρ _ => Cert.Kernel23.Gen.frame m ρ, fun m ρ _ => Cert.Kernel23Ideal.Gen.frame m ρ,
  Cert.Kernel23Ideal.reference_runs,
  fun m ρ _ => Cert.Kernel24.Gen.frame m ρ, fun m ρ _ => Cert.Kernel24Ideal.Gen.frame m ρ,
  Cert.Kernel24Ideal.reference_runs,
  fun m ρ _ => Cert.Kernel25.Gen.frame m ρ, fun m ρ _ => Cert.Kernel25Ideal.Gen.frame m ρ,
  Cert.Kernel25Ideal.reference_runs,
  fun m ρ _ => Cert.Kernel26.Gen.frame m ρ, fun m ρ _ => Cert.Kernel26Ideal.Gen.frame m ρ,
  Cert.Kernel26Ideal.reference_runs,
  IdealRules.named_const.statement Cert.KernelIdeal.κ "mask" .f32 0xF149F2CA#32 ⊥ rfl,
  equal,
  trivial, Cert.Kernel3Ideal.equal,
  trivial, Cert.Kernel4Ideal.equal,
  trivial, Cert.Kernel5Ideal.equal,
  trivial, Cert.Kernel6Ideal.equal,
  trivial, Cert.Kernel7Ideal.equal,
  trivial, Cert.Kernel8Ideal.equal,
  trivial, Cert.Kernel9Ideal.equal,
  trivial, Cert.Kernel10Ideal.equal,
  trivial, Cert.Kernel11Ideal.equal,
  trivial, Cert.Kernel12Ideal.equal,
  trivial, Cert.Kernel13Ideal.equal,
  trivial, Cert.Kernel14Ideal.equal,
  trivial, Cert.Kernel15Ideal.equal,
  trivial, Cert.Kernel16Ideal.equal,
  trivial, Cert.Kernel17Ideal.equal,
  trivial, Cert.Kernel18Ideal.equal,
  IdealRules.named_const.statement Cert.Kernel19Ideal.κ "mask" .f32 0xF149F2CA#32 ⊥ rfl,
  Cert.Kernel19Ideal.equal,
  trivial, Cert.Kernel20Ideal.equal,
  trivial, Cert.Kernel21Ideal.equal,
  trivial, Cert.Kernel22Ideal.equal,
  trivial, Cert.Kernel23Ideal.equal,
  trivial, Cert.Kernel24Ideal.equal,
  trivial, Cert.Kernel25Ideal.equal,
  trivial, Cert.Kernel26Ideal.equal⟩

end Cert.Proof

end
